-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite19 [hPre_finite19 : Cert.Pre_finite19.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).2.2.1 = (fun _ => 1#1)
    ∧ (Cert.Pre_finite19.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3))).2.2.2 = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite19 [hPre_finite19 : Cert.Pre_finite19.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).2.2.1 = (fun _ => 1#1)
    ∧ (Cert.Pre_finite19.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3))).2.2.2 = (fun _ => 1#1)

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))).1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))).2.1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))).2.2.1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))).2.2.2.1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))).2.2.2.2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))).1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))).2.1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))).2.2.1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))).2.2.2.1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))).2.2.2.2 = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite24 [hPre_finite24 : Cert.Pre_finite24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4))).1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4))).2.1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4))).2.2.1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4))).2.2.2.1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1)) (m ((c.tc : Thread Cert.Kernel24Ideal.nD Cert.Kernel24Ideal.τ).loc Cert.Kernel24Ideal.main_arg2)) (m ((c.tc : Thread Cert.Kernel24Ideal.nD Cert.Kernel24Ideal.τ).loc Cert.Kernel24Ideal.main_arg3)) (m ((c.tc : Thread Cert.Kernel24Ideal.nD Cert.Kernel24Ideal.τ).loc Cert.Kernel24Ideal.main_arg4))).2.2.2.2 = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite24 [hPre_finite24 : Cert.Pre_finite24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4))).1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4))).2.1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4))).2.2.1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4))).2.2.2.1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1)) (m ((c.tc : Thread Cert.Reference24Ideal.nD Cert.Reference24Ideal.τ).loc Cert.Reference24Ideal.main_arg2)) (m ((c.tc : Thread Cert.Reference24Ideal.nD Cert.Reference24Ideal.τ).loc Cert.Reference24Ideal.main_arg3)) (m ((c.tc : Thread Cert.Reference24Ideal.nD Cert.Reference24Ideal.τ).loc Cert.Reference24Ideal.main_arg4))).2.2.2.2 = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Kernel25Ideal_finite25 [hPre_finite25 : Cert.Pre_finite25.Facts] (m : (ℓ : Loc Cert.Kernel25Ideal.nD Cert.Kernel25Ideal.τ Cert.Kernel25Ideal.sig) → Buf (Elt Ideal) ℓ) : Prop :=
  ∀ c : Dev Cert.Kernel25Ideal.nD,
    (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1))).1 = (fun _ => 1#1)
    ∧ (Cert.Pre_finite25.fn (F := Ideal) (m ((c.tc : Thread Cert.Kernel25Ideal.nD Cert.Kernel25Ideal.τ).loc Cert.Kernel25Ideal.main_arg0)) (m ((c.tc : Thread Cert.Kernel25Ideal.nD Cert.Kernel25Ideal.τ).loc Cert.Kernel25Ideal.main_arg1))).2 = (fun _ => 1#1)

def Pre_Reference25Ideal (m : (ℓ : Loc Cert.Reference25Ideal.nD Cert.Reference25Ideal.τ Cert.Reference25Ideal.sig) → Buf (Elt Ideal) ℓ) : Prop :=
  True

def Pre_Reference25Ideal_finite25 [hPre_finite25 : Cert.Pre_finite25.Facts] (m : (ℓ : Loc Cert.Reference25Ideal.nD Cert.Reference25Ideal.τ Cert.Reference25Ideal.sig) → Buf (Elt Ideal) ℓ) : Prop :=
  ∀ c : Dev Cert.Reference25Ideal.nD,
    (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1))).1 = (fun _ => 1#1)
    ∧ (Cert.Pre_finite25.fn (F := Ideal) (m ((c.tc : Thread Cert.Reference25Ideal.nD Cert.Reference25Ideal.τ).loc Cert.Reference25Ideal.main_arg0)) (m ((c.tc : Thread Cert.Reference25Ideal.nD Cert.Reference25Ideal.τ).loc Cert.Reference25Ideal.main_arg1))).2 = (fun _ => 1#1)

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Kernel28Ideal_finite28 [hPre_finite28 : Cert.Pre_finite28.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))).1 = (fun _ => 1#1)
    ∧ (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))).2.1 = (fun _ => 1#1)
    ∧ (Cert.Pre_finite28.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))).2.2 = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_finite28 [hPre_finite28 : Cert.Pre_finite28.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2))).1 = (fun _ => 1#1)
    ∧ (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2))).2.1 = (fun _ => 1#1)
    ∧ (Cert.Pre_finite28.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2))).2.2 = (fun _ => 1#1)

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Kernel35Ideal_finite35 [hPre_finite35 : Cert.Pre_finite35.Facts] (m : (ℓ : Loc Cert.Kernel35Ideal.nD Cert.Kernel35Ideal.τ Cert.Kernel35Ideal.sig) → Buf (Elt Ideal) ℓ) : Prop :=
  ∀ c : Dev Cert.Kernel35Ideal.nD,
    (Cert.Pre_finite35.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3))).1 = (fun _ => 1#1)
    ∧ (Cert.Pre_finite35.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3))).2.1 = (fun _ => 1#1)
    ∧ (Cert.Pre_finite35.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3))).2.2.1 = (fun _ => 1#1)
    ∧ (Cert.Pre_finite35.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3))).2.2.2 = (fun _ => 1#1)

def Pre_Reference35Ideal (m : (ℓ : Loc Cert.Reference35Ideal.nD Cert.Reference35Ideal.τ Cert.Reference35Ideal.sig) → Buf (Elt Ideal) ℓ) : Prop :=
  True

def Pre_Reference35Ideal_finite35 [hPre_finite35 : Cert.Pre_finite35.Facts] (m : (ℓ : Loc Cert.Reference35Ideal.nD Cert.Reference35Ideal.τ Cert.Reference35Ideal.sig) → Buf (Elt Ideal) ℓ) : Prop :=
  ∀ c : Dev Cert.Reference35Ideal.nD,
    (Cert.Pre_finite35.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2)) (m ((c.tc : Thread Cert.Reference35Ideal.nD Cert.Reference35Ideal.τ).loc Cert.Reference35Ideal.main_arg3))).1 = (fun _ => 1#1)
    ∧ (Cert.Pre_finite35.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2)) (m ((c.tc : Thread Cert.Reference35Ideal.nD Cert.Reference35Ideal.τ).loc Cert.Reference35Ideal.main_arg3))).2.1 = (fun _ => 1#1)
    ∧ (Cert.Pre_finite35.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2)) (m ((c.tc : Thread Cert.Reference35Ideal.nD Cert.Reference35Ideal.τ).loc Cert.Reference35Ideal.main_arg3))).2.2.1 = (fun _ => 1#1)
    ∧ (Cert.Pre_finite35.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2)) (m ((c.tc : Thread Cert.Reference35Ideal.nD Cert.Reference35Ideal.τ).loc Cert.Reference35Ideal.main_arg3))).2.2.2 = (fun _ => 1#1)

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Kernel36Ideal_finite36 [hPre_finite36 : Cert.Pre_finite36.Facts] (m : (ℓ : Loc Cert.Kernel36Ideal.nD Cert.Kernel36Ideal.τ Cert.Kernel36Ideal.sig) → Buf (Elt Ideal) ℓ) : Prop :=
  ∀ c : Dev Cert.Kernel36Ideal.nD,
    (Cert.Pre_finite36.fn (F := Ideal) (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg1)) (m ((c.tc : Thread Cert.Kernel36Ideal.nD Cert.Kernel36Ideal.τ).loc Cert.Kernel36Ideal.main_arg2))).1 = (fun _ => 1#1)
    ∧ (Cert.Pre_finite36.fn (F := Ideal) (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg1)) (m ((c.tc : Thread Cert.Kernel36Ideal.nD Cert.Kernel36Ideal.τ).loc Cert.Kernel36Ideal.main_arg2))).2.1 = (fun _ => 1#1)
    ∧ (Cert.Pre_finite36.fn (F := Ideal) (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg1)) (m ((c.tc : Thread Cert.Kernel36Ideal.nD Cert.Kernel36Ideal.τ).loc Cert.Kernel36Ideal.main_arg2))).2.2 = (fun _ => 1#1)

def Pre_Reference36Ideal (m : (ℓ : Loc Cert.Reference36Ideal.nD Cert.Reference36Ideal.τ Cert.Reference36Ideal.sig) → Buf (Elt Ideal) ℓ) : Prop :=
  True

def Pre_Reference36Ideal_finite36 [hPre_finite36 : Cert.Pre_finite36.Facts] (m : (ℓ : Loc Cert.Reference36Ideal.nD Cert.Reference36Ideal.τ Cert.Reference36Ideal.sig) → Buf (Elt Ideal) ℓ) : Prop :=
  ∀ c : Dev Cert.Reference36Ideal.nD,
    (Cert.Pre_finite36.fn (F := Ideal) (m ((c.tc : Thread Cert.Reference36Ideal.nD Cert.Reference36Ideal.τ).loc Cert.Reference36Ideal.main_arg0)) (m ((c.tc : Thread Cert.Reference36Ideal.nD Cert.Reference36Ideal.τ).loc Cert.Reference36Ideal.main_arg1)) (m ((c.tc : Thread Cert.Reference36Ideal.nD Cert.Reference36Ideal.τ).loc Cert.Reference36Ideal.main_arg2))).1 = (fun _ => 1#1)
    ∧ (Cert.Pre_finite36.fn (F := Ideal) (m ((c.tc : Thread Cert.Reference36Ideal.nD Cert.Reference36Ideal.τ).loc Cert.Reference36Ideal.main_arg0)) (m ((c.tc : Thread Cert.Reference36Ideal.nD Cert.Reference36Ideal.τ).loc Cert.Reference36Ideal.main_arg1)) (m ((c.tc : Thread Cert.Reference36Ideal.nD Cert.Reference36Ideal.τ).loc Cert.Reference36Ideal.main_arg2))).2.1 = (fun _ => 1#1)
    ∧ (Cert.Pre_finite36.fn (F := Ideal) (m ((c.tc : Thread Cert.Reference36Ideal.nD Cert.Reference36Ideal.τ).loc Cert.Reference36Ideal.main_arg0)) (m ((c.tc : Thread Cert.Reference36Ideal.nD Cert.Reference36Ideal.τ).loc Cert.Reference36Ideal.main_arg1)) (m ((c.tc : Thread Cert.Reference36Ideal.nD Cert.Reference36Ideal.τ).loc Cert.Reference36Ideal.main_arg2))).2.2 = (fun _ => 1#1)

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Kernel19Ideal_pre_finite19 [hKernel19Ideal : Cert.Kernel19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite19 m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Reference19Ideal_pre_finite19 [hReference19Ideal : Cert.Reference19Ideal.Facts] [hPre_finite19 : Cert.Pre_finite19.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite19 m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Kernel24Ideal_pre_finite24 [hKernel24Ideal : Cert.Kernel24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite24 m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Reference24Ideal_pre_finite24 [hReference24Ideal : Cert.Reference24Ideal.Facts] [hPre_finite24 : Cert.Pre_finite24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Kernel25Ideal_pre_finite25 [hKernel25Ideal : Cert.Kernel25Ideal.Facts] [hPre_finite25 : Cert.Pre_finite25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal_finite25 m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Reference25Ideal_pre_finite25 [hReference25Ideal : Cert.Reference25Ideal.Facts] [hPre_finite25 : Cert.Pre_finite25.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal_finite25 m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Kernel28Ideal_pre_finite28 [hKernel28Ideal : Cert.Kernel28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal_finite28 m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Reference28Ideal_pre_finite28 [hReference28Ideal : Cert.Reference28Ideal.Facts] [hPre_finite28 : Cert.Pre_finite28.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_finite28 m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Kernel35Ideal_pre_finite35 [hKernel35Ideal : Cert.Kernel35Ideal.Facts] [hPre_finite35 : Cert.Pre_finite35.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal_finite35 m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Reference35Ideal_pre_finite35 [hReference35Ideal : Cert.Reference35Ideal.Facts] [hPre_finite35 : Cert.Pre_finite35.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal_finite35 m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Kernel36Ideal_pre_finite36 [hKernel36Ideal : Cert.Kernel36Ideal.Facts] [hPre_finite36 : Cert.Pre_finite36.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal_finite36 m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Reference36Ideal_pre_finite36 [hReference36Ideal : Cert.Reference36Ideal.Facts] [hPre_finite36 : Cert.Pre_finite36.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal_finite36 m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def preserves_Kernel_KernelIdeal : Prop :=
  IdealRules.named_const.Statement Cert.KernelIdeal.κ "cubic" .f32 0x3D372713#32 ((8943 / 200000 : ℝ) : EReal)
  ∧ IdealRules.named_const.Statement Cert.KernelIdeal.κ "cubic3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v127) = v1 c
          ∧ r.2.mem ((c.tc : Thread Cert.ReferenceIdeal.nD Cert.ReferenceIdeal.τ).loc Cert.ReferenceIdeal.main_v126) = v2 c
          ∧ r.2.mem ((c.tc : Thread Cert.ReferenceIdeal.nD Cert.ReferenceIdeal.τ).loc Cert.ReferenceIdeal.main_v91) = v3 c
          ∧ r.2.mem ((c.tc : Thread Cert.ReferenceIdeal.nD Cert.ReferenceIdeal.τ).loc Cert.ReferenceIdeal.main_v145) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v70) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_v10) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v5)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v5) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal_pre_finite19 [hKernel19Ideal : Cert.Kernel19Ideal.Facts] [hReference19Ideal : Cert.Reference19Ideal.Facts] [hPre_finite19 : Cert.Pre_finite19.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite19 m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v3_0)) (v1 : (c : Dev Cert.Kernel19Ideal.nD) → Buf (Elt Ideal) ((c.tc : Thread Cert.Kernel19Ideal.nD Cert.Kernel19Ideal.τ).loc Cert.Kernel19Ideal.main_v3_1)) (v2 : (c : Dev Cert.Kernel19Ideal.nD) → Buf (Elt Ideal) ((c.tc : Thread Cert.Kernel19Ideal.nD Cert.Kernel19Ideal.τ).loc Cert.Kernel19Ideal.main_v3_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3_0) = v0 c
          ∧ r.2.mem ((c.tc : Thread Cert.Kernel19Ideal.nD Cert.Kernel19Ideal.τ).loc Cert.Kernel19Ideal.main_v3_1) = v1 c
          ∧ r.2.mem ((c.tc : Thread Cert.Kernel19Ideal.nD Cert.Kernel19Ideal.τ).loc Cert.Kernel19Ideal.main_v3_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v37) = v0 c
          ∧ r.2.mem ((c.tc : Thread Cert.Reference19Ideal.nD Cert.Reference19Ideal.τ).loc Cert.Reference19Ideal.main_v40) = v1 c
          ∧ r.2.mem ((c.tc : Thread Cert.Reference19Ideal.nD Cert.Reference19Ideal.τ).loc Cert.Reference19Ideal.main_v20) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v5_0)) (v1 : (c : Dev Cert.Kernel20Ideal.nD) → Buf (Elt Ideal) ((c.tc : Thread Cert.Kernel20Ideal.nD Cert.Kernel20Ideal.τ).loc Cert.Kernel20Ideal.main_v5_1)) (v2 : (c : Dev Cert.Kernel20Ideal.nD) → Buf (Elt Ideal) ((c.tc : Thread Cert.Kernel20Ideal.nD Cert.Kernel20Ideal.τ).loc Cert.Kernel20Ideal.main_v5_2)) (v3 : (c : Dev Cert.Kernel20Ideal.nD) → Buf (Elt Ideal) ((c.tc : Thread Cert.Kernel20Ideal.nD Cert.Kernel20Ideal.τ).loc Cert.Kernel20Ideal.main_v5_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5_0) = v0 c
          ∧ r.2.mem ((c.tc : Thread Cert.Kernel20Ideal.nD Cert.Kernel20Ideal.τ).loc Cert.Kernel20Ideal.main_v5_1) = v1 c
          ∧ r.2.mem ((c.tc : Thread Cert.Kernel20Ideal.nD Cert.Kernel20Ideal.τ).loc Cert.Kernel20Ideal.main_v5_2) = v2 c
          ∧ r.2.mem ((c.tc : Thread Cert.Kernel20Ideal.nD Cert.Kernel20Ideal.τ).loc Cert.Kernel20Ideal.main_v5_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v73) = v0 c
          ∧ r.2.mem ((c.tc : Thread Cert.Reference20Ideal.nD Cert.Reference20Ideal.τ).loc Cert.Reference20Ideal.main_v75) = v1 c
          ∧ r.2.mem ((c.tc : Thread Cert.Reference20Ideal.nD Cert.Reference20Ideal.τ).loc Cert.Reference20Ideal.main_v57) = v2 c
          ∧ r.2.mem ((c.tc : Thread Cert.Reference20Ideal.nD Cert.Reference20Ideal.τ).loc Cert.Reference20Ideal.main_v38) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v5)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v5) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v4)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v4) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v8) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v5)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v5) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  IdealRules.named_const.Statement Cert.Kernel24Ideal.κ "cubic" .f32 0x3D372713#32 ((8943 / 200000 : ℝ) : EReal)

def algebraic_Kernel24Ideal_Reference24Ideal_pre_finite24 [hKernel24Ideal : Cert.Kernel24Ideal.Facts] [hReference24Ideal : Cert.Reference24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite24 m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v63) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal_pre_finite25 [hKernel25Ideal : Cert.Kernel25Ideal.Facts] [hReference25Ideal : Cert.Reference25Ideal.Facts] [hPre_finite25 : Cert.Pre_finite25.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal_finite25 m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v6)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v6) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v13) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v4)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v4) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v27) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal_pre_finite28 [hKernel28Ideal : Cert.Kernel28Ideal.Facts] [hReference28Ideal : Cert.Reference28Ideal.Facts] [hPre_finite28 : Cert.Pre_finite28.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal_finite28 m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v2_0)) (v1 : (c : Dev Cert.Kernel28Ideal.nD) → Buf (Elt Ideal) ((c.tc : Thread Cert.Kernel28Ideal.nD Cert.Kernel28Ideal.τ).loc Cert.Kernel28Ideal.main_v2_1)) (v2 : (c : Dev Cert.Kernel28Ideal.nD) → Buf (Elt Ideal) ((c.tc : Thread Cert.Kernel28Ideal.nD Cert.Kernel28Ideal.τ).loc Cert.Kernel28Ideal.main_v2_2)) (v3 : (c : Dev Cert.Kernel28Ideal.nD) → Buf (Elt Ideal) ((c.tc : Thread Cert.Kernel28Ideal.nD Cert.Kernel28Ideal.τ).loc Cert.Kernel28Ideal.main_v2_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2_0) = v0 c
          ∧ r.2.mem ((c.tc : Thread Cert.Kernel28Ideal.nD Cert.Kernel28Ideal.τ).loc Cert.Kernel28Ideal.main_v2_1) = v1 c
          ∧ r.2.mem ((c.tc : Thread Cert.Kernel28Ideal.nD Cert.Kernel28Ideal.τ).loc Cert.Kernel28Ideal.main_v2_2) = v2 c
          ∧ r.2.mem ((c.tc : Thread Cert.Kernel28Ideal.nD Cert.Kernel28Ideal.τ).loc Cert.Kernel28Ideal.main_v2_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v51) = v0 c
          ∧ r.2.mem ((c.tc : Thread Cert.Reference28Ideal.nD Cert.Reference28Ideal.τ).loc Cert.Reference28Ideal.main_v50) = v1 c
          ∧ r.2.mem ((c.tc : Thread Cert.Reference28Ideal.nD Cert.Reference28Ideal.τ).loc Cert.Reference28Ideal.main_v54) = v2 c
          ∧ r.2.mem ((c.tc : Thread Cert.Reference28Ideal.nD Cert.Reference28Ideal.τ).loc Cert.Reference28Ideal.main_v34) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v4_0)) (v1 : (c : Dev Cert.Kernel29Ideal.nD) → Buf (Elt Ideal) ((c.tc : Thread Cert.Kernel29Ideal.nD Cert.Kernel29Ideal.τ).loc Cert.Kernel29Ideal.main_v4_1)) (v2 : (c : Dev Cert.Kernel29Ideal.nD) → Buf (Elt Ideal) ((c.tc : Thread Cert.Kernel29Ideal.nD Cert.Kernel29Ideal.τ).loc Cert.Kernel29Ideal.main_v4_2)) (v3 : (c : Dev Cert.Kernel29Ideal.nD) → Buf (Elt Ideal) ((c.tc : Thread Cert.Kernel29Ideal.nD Cert.Kernel29Ideal.τ).loc Cert.Kernel29Ideal.main_v4_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v4_0) = v0 c
          ∧ r.2.mem ((c.tc : Thread Cert.Kernel29Ideal.nD Cert.Kernel29Ideal.τ).loc Cert.Kernel29Ideal.main_v4_1) = v1 c
          ∧ r.2.mem ((c.tc : Thread Cert.Kernel29Ideal.nD Cert.Kernel29Ideal.τ).loc Cert.Kernel29Ideal.main_v4_2) = v2 c
          ∧ r.2.mem ((c.tc : Thread Cert.Kernel29Ideal.nD Cert.Kernel29Ideal.τ).loc Cert.Kernel29Ideal.main_v4_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_v27) = v1 c
          ∧ r.2.mem ((c.tc : Thread Cert.Reference29Ideal.nD Cert.Reference29Ideal.τ).loc Cert.Reference29Ideal.main_v8) = v2 c
          ∧ r.2.mem ((c.tc : Thread Cert.Reference29Ideal.nD Cert.Reference29Ideal.τ).loc Cert.Reference29Ideal.main_v14) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v4_0)) (v1 : (c : Dev Cert.Kernel30Ideal.nD) → Buf (Elt Ideal) ((c.tc : Thread Cert.Kernel30Ideal.nD Cert.Kernel30Ideal.τ).loc Cert.Kernel30Ideal.main_v4_1)) (v2 : (c : Dev Cert.Kernel30Ideal.nD) → Buf (Elt Ideal) ((c.tc : Thread Cert.Kernel30Ideal.nD Cert.Kernel30Ideal.τ).loc Cert.Kernel30Ideal.main_v4_2)) (v3 : (c : Dev Cert.Kernel30Ideal.nD) → Buf (Elt Ideal) ((c.tc : Thread Cert.Kernel30Ideal.nD Cert.Kernel30Ideal.τ).loc Cert.Kernel30Ideal.main_v4_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v4_0) = v0 c
          ∧ r.2.mem ((c.tc : Thread Cert.Kernel30Ideal.nD Cert.Kernel30Ideal.τ).loc Cert.Kernel30Ideal.main_v4_1) = v1 c
          ∧ r.2.mem ((c.tc : Thread Cert.Kernel30Ideal.nD Cert.Kernel30Ideal.τ).loc Cert.Kernel30Ideal.main_v4_2) = v2 c
          ∧ r.2.mem ((c.tc : Thread Cert.Kernel30Ideal.nD Cert.Kernel30Ideal.τ).loc Cert.Kernel30Ideal.main_v4_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v3) = v0 c
          ∧ r.2.mem ((c.tc : Thread Cert.Reference30Ideal.nD Cert.Reference30Ideal.τ).loc Cert.Reference30Ideal.main_v27) = v1 c
          ∧ r.2.mem ((c.tc : Thread Cert.Reference30Ideal.nD Cert.Reference30Ideal.τ).loc Cert.Reference30Ideal.main_v8) = v2 c
          ∧ r.2.mem ((c.tc : Thread Cert.Reference30Ideal.nD Cert.Reference30Ideal.τ).loc Cert.Reference30Ideal.main_v14) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v4_0)) (v1 : (c : Dev Cert.Kernel31Ideal.nD) → Buf (Elt Ideal) ((c.tc : Thread Cert.Kernel31Ideal.nD Cert.Kernel31Ideal.τ).loc Cert.Kernel31Ideal.main_v4_1)) (v2 : (c : Dev Cert.Kernel31Ideal.nD) → Buf (Elt Ideal) ((c.tc : Thread Cert.Kernel31Ideal.nD Cert.Kernel31Ideal.τ).loc Cert.Kernel31Ideal.main_v4_2)) (v3 : (c : Dev Cert.Kernel31Ideal.nD) → Buf (Elt Ideal) ((c.tc : Thread Cert.Kernel31Ideal.nD Cert.Kernel31Ideal.τ).loc Cert.Kernel31Ideal.main_v4_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v4_0) = v0 c
          ∧ r.2.mem ((c.tc : Thread Cert.Kernel31Ideal.nD Cert.Kernel31Ideal.τ).loc Cert.Kernel31Ideal.main_v4_1) = v1 c
          ∧ r.2.mem ((c.tc : Thread Cert.Kernel31Ideal.nD Cert.Kernel31Ideal.τ).loc Cert.Kernel31Ideal.main_v4_2) = v2 c
          ∧ r.2.mem ((c.tc : Thread Cert.Kernel31Ideal.nD Cert.Kernel31Ideal.τ).loc Cert.Kernel31Ideal.main_v4_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_v27) = v1 c
          ∧ r.2.mem ((c.tc : Thread Cert.Reference31Ideal.nD Cert.Reference31Ideal.τ).loc Cert.Reference31Ideal.main_v8) = v2 c
          ∧ r.2.mem ((c.tc : Thread Cert.Reference31Ideal.nD Cert.Reference31Ideal.τ).loc Cert.Reference31Ideal.main_v14) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v4_0)) (v1 : (c : Dev Cert.Kernel32Ideal.nD) → Buf (Elt Ideal) ((c.tc : Thread Cert.Kernel32Ideal.nD Cert.Kernel32Ideal.τ).loc Cert.Kernel32Ideal.main_v4_1)) (v2 : (c : Dev Cert.Kernel32Ideal.nD) → Buf (Elt Ideal) ((c.tc : Thread Cert.Kernel32Ideal.nD Cert.Kernel32Ideal.τ).loc Cert.Kernel32Ideal.main_v4_2)) (v3 : (c : Dev Cert.Kernel32Ideal.nD) → Buf (Elt Ideal) ((c.tc : Thread Cert.Kernel32Ideal.nD Cert.Kernel32Ideal.τ).loc Cert.Kernel32Ideal.main_v4_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v4_0) = v0 c
          ∧ r.2.mem ((c.tc : Thread Cert.Kernel32Ideal.nD Cert.Kernel32Ideal.τ).loc Cert.Kernel32Ideal.main_v4_1) = v1 c
          ∧ r.2.mem ((c.tc : Thread Cert.Kernel32Ideal.nD Cert.Kernel32Ideal.τ).loc Cert.Kernel32Ideal.main_v4_2) = v2 c
          ∧ r.2.mem ((c.tc : Thread Cert.Kernel32Ideal.nD Cert.Kernel32Ideal.τ).loc Cert.Kernel32Ideal.main_v4_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v3) = v0 c
          ∧ r.2.mem ((c.tc : Thread Cert.Reference32Ideal.nD Cert.Reference32Ideal.τ).loc Cert.Reference32Ideal.main_v27) = v1 c
          ∧ r.2.mem ((c.tc : Thread Cert.Reference32Ideal.nD Cert.Reference32Ideal.τ).loc Cert.Reference32Ideal.main_v8) = v2 c
          ∧ r.2.mem ((c.tc : Thread Cert.Reference32Ideal.nD Cert.Reference32Ideal.τ).loc Cert.Reference32Ideal.main_v14) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v4_0)) (v1 : (c : Dev Cert.Kernel33Ideal.nD) → Buf (Elt Ideal) ((c.tc : Thread Cert.Kernel33Ideal.nD Cert.Kernel33Ideal.τ).loc Cert.Kernel33Ideal.main_v4_1)) (v2 : (c : Dev Cert.Kernel33Ideal.nD) → Buf (Elt Ideal) ((c.tc : Thread Cert.Kernel33Ideal.nD Cert.Kernel33Ideal.τ).loc Cert.Kernel33Ideal.main_v4_2)) (v3 : (c : Dev Cert.Kernel33Ideal.nD) → Buf (Elt Ideal) ((c.tc : Thread Cert.Kernel33Ideal.nD Cert.Kernel33Ideal.τ).loc Cert.Kernel33Ideal.main_v4_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v4_0) = v0 c
          ∧ r.2.mem ((c.tc : Thread Cert.Kernel33Ideal.nD Cert.Kernel33Ideal.τ).loc Cert.Kernel33Ideal.main_v4_1) = v1 c
          ∧ r.2.mem ((c.tc : Thread Cert.Kernel33Ideal.nD Cert.Kernel33Ideal.τ).loc Cert.Kernel33Ideal.main_v4_2) = v2 c
          ∧ r.2.mem ((c.tc : Thread Cert.Kernel33Ideal.nD Cert.Kernel33Ideal.τ).loc Cert.Kernel33Ideal.main_v4_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v3) = v0 c
          ∧ r.2.mem ((c.tc : Thread Cert.Reference33Ideal.nD Cert.Reference33Ideal.τ).loc Cert.Reference33Ideal.main_v27) = v1 c
          ∧ r.2.mem ((c.tc : Thread Cert.Reference33Ideal.nD Cert.Reference33Ideal.τ).loc Cert.Reference33Ideal.main_v8) = v2 c
          ∧ r.2.mem ((c.tc : Thread Cert.Reference33Ideal.nD Cert.Reference33Ideal.τ).loc Cert.Reference33Ideal.main_v14) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v0) = v0 c
          ∧ r.2.mem ((c.tc : Thread Cert.Reference34Ideal.nD Cert.Reference34Ideal.τ).loc Cert.Reference34Ideal.main_v24) = v1 c
          ∧ r.2.mem ((c.tc : Thread Cert.Reference34Ideal.nD Cert.Reference34Ideal.τ).loc Cert.Reference34Ideal.main_v5) = v2 c
          ∧ r.2.mem ((c.tc : Thread Cert.Reference34Ideal.nD Cert.Reference34Ideal.τ).loc Cert.Reference34Ideal.main_v11) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal_pre_finite35 [hKernel35Ideal : Cert.Kernel35Ideal.Facts] [hReference35Ideal : Cert.Reference35Ideal.Facts] [hPre_finite35 : Cert.Pre_finite35.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal_finite35 m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v3_0)) (v1 : (c : Dev Cert.Kernel35Ideal.nD) → Buf (Elt Ideal) ((c.tc : Thread Cert.Kernel35Ideal.nD Cert.Kernel35Ideal.τ).loc Cert.Kernel35Ideal.main_v3_1)) (v2 : (c : Dev Cert.Kernel35Ideal.nD) → Buf (Elt Ideal) ((c.tc : Thread Cert.Kernel35Ideal.nD Cert.Kernel35Ideal.τ).loc Cert.Kernel35Ideal.main_v3_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v3_0) = v0 c
          ∧ r.2.mem ((c.tc : Thread Cert.Kernel35Ideal.nD Cert.Kernel35Ideal.τ).loc Cert.Kernel35Ideal.main_v3_1) = v1 c
          ∧ r.2.mem ((c.tc : Thread Cert.Kernel35Ideal.nD Cert.Kernel35Ideal.τ).loc Cert.Kernel35Ideal.main_v3_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v37) = v0 c
          ∧ r.2.mem ((c.tc : Thread Cert.Reference35Ideal.nD Cert.Reference35Ideal.τ).loc Cert.Reference35Ideal.main_v38) = v1 c
          ∧ r.2.mem ((c.tc : Thread Cert.Reference35Ideal.nD Cert.Reference35Ideal.τ).loc Cert.Reference35Ideal.main_v20) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal_pre_finite36 [hKernel36Ideal : Cert.Kernel36Ideal.Facts] [hReference36Ideal : Cert.Reference36Ideal.Facts] [hPre_finite36 : Cert.Pre_finite36.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal_finite36 m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v2_0)) (v1 : (c : Dev Cert.Kernel36Ideal.nD) → Buf (Elt Ideal) ((c.tc : Thread Cert.Kernel36Ideal.nD Cert.Kernel36Ideal.τ).loc Cert.Kernel36Ideal.main_v2_1)) (v2 : (c : Dev Cert.Kernel36Ideal.nD) → Buf (Elt Ideal) ((c.tc : Thread Cert.Kernel36Ideal.nD Cert.Kernel36Ideal.τ).loc Cert.Kernel36Ideal.main_v2_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v2_0) = v0 c
          ∧ r.2.mem ((c.tc : Thread Cert.Kernel36Ideal.nD Cert.Kernel36Ideal.τ).loc Cert.Kernel36Ideal.main_v2_1) = v1 c
          ∧ r.2.mem ((c.tc : Thread Cert.Kernel36Ideal.nD Cert.Kernel36Ideal.τ).loc Cert.Kernel36Ideal.main_v2_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v35) = v0 c
          ∧ r.2.mem ((c.tc : Thread Cert.Reference36Ideal.nD Cert.Reference36Ideal.τ).loc Cert.Reference36Ideal.main_v36) = v1 c
          ∧ r.2.mem ((c.tc : Thread Cert.Reference36Ideal.nD Cert.Reference36Ideal.τ).loc Cert.Reference36Ideal.main_v19) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v1) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v13) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hPre_finite : Cert.Pre_finite.Facts) (hPre_finite2 : Cert.Pre_finite2.Facts) (hPre_finite3 : Cert.Pre_finite3.Facts) (hPre_finite19 : Cert.Pre_finite19.Facts) (hPre_finite20 : Cert.Pre_finite20.Facts) (hPre_finite24 : Cert.Pre_finite24.Facts) (hPre_finite25 : Cert.Pre_finite25.Facts) (hPre_finite28 : Cert.Pre_finite28.Facts) (hPre_finite35 : Cert.Pre_finite35.Facts) (hPre_finite36 : Cert.Pre_finite36.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite19 (hKernel19Ideal := hKernel19Ideal) (hPre_finite19 := hPre_finite19)
    ∧ quiescent_Reference19Ideal (hReference19Ideal := hReference19Ideal)
    ∧ quiescent_Reference19Ideal_pre_finite19 (hReference19Ideal := hReference19Ideal) (hPre_finite19 := hPre_finite19)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Kernel24Ideal_pre_finite24 (hKernel24Ideal := hKernel24Ideal) (hPre_finite24 := hPre_finite24)
    ∧ quiescent_Reference24Ideal (hReference24Ideal := hReference24Ideal)
    ∧ quiescent_Reference24Ideal_pre_finite24 (hReference24Ideal := hReference24Ideal) (hPre_finite24 := hPre_finite24)
    ∧ quiescent_Kernel25 (hKernel25 := hKernel25)
    ∧ quiescent_Kernel25Ideal (hKernel25Ideal := hKernel25Ideal)
    ∧ quiescent_Kernel25Ideal_pre_finite25 (hKernel25Ideal := hKernel25Ideal) (hPre_finite25 := hPre_finite25)
    ∧ quiescent_Reference25Ideal (hReference25Ideal := hReference25Ideal)
    ∧ quiescent_Reference25Ideal_pre_finite25 (hReference25Ideal := hReference25Ideal) (hPre_finite25 := hPre_finite25)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Kernel28Ideal_pre_finite28 (hKernel28Ideal := hKernel28Ideal) (hPre_finite28 := hPre_finite28)
    ∧ quiescent_Reference28Ideal (hReference28Ideal := hReference28Ideal)
    ∧ quiescent_Reference28Ideal_pre_finite28 (hReference28Ideal := hReference28Ideal) (hPre_finite28 := hPre_finite28)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Kernel35Ideal_pre_finite35 (hKernel35Ideal := hKernel35Ideal) (hPre_finite35 := hPre_finite35)
    ∧ quiescent_Reference35Ideal (hReference35Ideal := hReference35Ideal)
    ∧ quiescent_Reference35Ideal_pre_finite35 (hReference35Ideal := hReference35Ideal) (hPre_finite35 := hPre_finite35)
    ∧ quiescent_Kernel36 (hKernel36 := hKernel36)
    ∧ quiescent_Kernel36Ideal (hKernel36Ideal := hKernel36Ideal)
    ∧ quiescent_Kernel36Ideal_pre_finite36 (hKernel36Ideal := hKernel36Ideal) (hPre_finite36 := hPre_finite36)
    ∧ quiescent_Reference36Ideal (hReference36Ideal := hReference36Ideal)
    ∧ quiescent_Reference36Ideal_pre_finite36 (hReference36Ideal := hReference36Ideal) (hPre_finite36 := hPre_finite36)
    ∧ quiescent_Kernel37 (hKernel37 := hKernel37)
    ∧ quiescent_Kernel37Ideal (hKernel37Ideal := hKernel37Ideal)
    ∧ quiescent_Reference37Ideal (hReference37Ideal := hReference37Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite19 (hKernel19Ideal := hKernel19Ideal) (hReference19Ideal := hReference19Ideal) (hPre_finite19 := hPre_finite19)
    ∧ preserves_Kernel20_Kernel20Ideal
    ∧ algebraic_Kernel20Ideal_Reference20Ideal_pre_finite20 (hKernel20Ideal := hKernel20Ideal) (hReference20Ideal := hReference20Ideal) (hPre_finite20 := hPre_finite20)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_pre_finite24 (hKernel24Ideal := hKernel24Ideal) (hReference24Ideal := hReference24Ideal) (hPre_finite24 := hPre_finite24)
    ∧ preserves_Kernel25_Kernel25Ideal
    ∧ algebraic_Kernel25Ideal_Reference25Ideal_pre_finite25 (hKernel25Ideal := hKernel25Ideal) (hReference25Ideal := hReference25Ideal) (hPre_finite25 := hPre_finite25)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal_pre_finite28 (hKernel28Ideal := hKernel28Ideal) (hReference28Ideal := hReference28Ideal) (hPre_finite28 := hPre_finite28)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal_pre_finite35 (hKernel35Ideal := hKernel35Ideal) (hReference35Ideal := hReference35Ideal) (hPre_finite35 := hPre_finite35)
    ∧ preserves_Kernel36_Kernel36Ideal
    ∧ algebraic_Kernel36Ideal_Reference36Ideal_pre_finite36 (hKernel36Ideal := hKernel36Ideal) (hReference36Ideal := hReference36Ideal) (hPre_finite36 := hPre_finite36)
    ∧ preserves_Kernel37_Kernel37Ideal
    ∧ algebraic_Kernel37Ideal_Reference37Ideal (hKernel37Ideal := hKernel37Ideal) (hReference37Ideal := hReference37Ideal)
-- ==== Pre_finite.lean ====
abbrev S1x2048x2048 : Shape := ⟨3, ![1, 2048, 2048]⟩
abbrev S1x2048x1024 : Shape := ⟨3, ![1, 2048, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩

class Facts : Prop where
  bcast_S_S1x2048x2048 : S_.BroadcastsInDim S1x2048x2048 (![] : Fin 0 → Fin S1x2048x2048.rank)
  bcast_S_S1x2048x1024 : S_.BroadcastsInDim S1x2048x1024 (![] : Fin 0 → Fin S1x2048x1024.rank)
  bcast_S_S1x1024 : S_.BroadcastsInDim S1x1024 (![] : Fin 0 → Fin S1x1024.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn {F : FTy → Type} [FloatOps F] (main_arg0 : FVec F S1x2048x2048 .f32) (main_arg1 : FVec F S1x2048x1024 .f32) (main_arg2 : FVec F S1x1024 .f32) (main_arg3 : FVec F S1x1024 .f32) (main_arg4 : FVec F S8x128x128 .f32) (main_arg5 : FVec F S8x128 .f32) : IVec S1x2048x2048 1 × IVec S1x2048x1024 1 × IVec S1x1024 1 × IVec S1x1024 1 × IVec S8x128x128 1 × IVec S8x128 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S8x128x128 .f32 := Host.absf main_arg4
  let main_cst_3 : FVec F S_ .f32 := constant S_ .f32 0x7F800000#32
  let main_v13 : FVec F S8x128x128 .f32 := broadcastInDim S8x128x128 ![] bcast_S_S8x128x128 main_cst_3
  let main_v14 : IVec S8x128x128 1 := cmpf .olt main_v12 main_v13
  let main_v15 : FVec F S8x128 .f32 := Host.absf main_arg5
  let main_cst_4 : FVec F S_ .f32 := constant S_ .f32 0x7F800000#32
  let main_v16 : FVec F S8x128 .f32 := broadcastInDim S8x128 ![] bcast_S_S8x128 main_cst_4
  let main_v17 : IVec S8x128 1 := cmpf .olt main_v15 main_v16
  (main_v2, main_v5, main_v8, main_v11, main_v14, main_v17)
-- ==== Pre_finite19.lean ====
abbrev S1x2048x2048 : Shape := ⟨3, ![1, 2048, 2048]⟩
abbrev S1x2048 : Shape := ⟨2, ![1, 2048]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)

variable [Facts]

def fn {F : FTy → Type} [FloatOps F] (main_arg0 : FVec F S1x2048x2048 .f32) (main_arg1 : FVec F S1x2048x2048 .f32) (main_arg2 : FVec F S1x2048 .f32) (main_arg3 : FVec F S1x2048x2048 .f32) : IVec S1x2048x2048 1 × IVec S1x2048x2048 1 × IVec S1x2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048x2048 .f32 := Host.absf main_arg1
  let main_cst_0 : FVec F S_ .f32 := constant S_ .f32 0x7F800000#32
  let main_v4 : FVec F S1x2048x2048 .f32 := broadcastInDim S1x2048x2048 ![] bcast_S_S1x2048x2048 main_cst_0
  let main_v5 : IVec S1x2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048x2048 .f32 := Host.absf main_arg3
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  (main_v2, main_v5, main_v8, main_v11)
-- ==== Pre_finite2.lean ====
abbrev S1x2048x2048 : Shape := ⟨3, ![1, 2048, 2048]⟩
abbrev S1x256x4096 : Shape := ⟨3, ![1, 256, 4096]⟩
abbrev S_ : Shape := ⟨0, ![]⟩

class Facts : Prop where
  bcast_S_S1x2048x2048 : S_.BroadcastsInDim S1x2048x2048 (![] : Fin 0 → Fin S1x2048x2048.rank)
  bcast_S_S1x256x4096 : S_.BroadcastsInDim S1x256x4096 (![] : Fin 0 → Fin S1x256x4096.rank)

variable [Facts]

def fn {F : FTy → Type} [FloatOps F] (main_arg0 : FVec F S1x2048x2048 .f32) (main_arg1 : FVec F S1x256x4096 .f32) (main_arg2 : FVec F S1x2048x2048 .f32) : IVec S1x2048x2048 1 × IVec S1x256x4096 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x256x4096 .f32 := Host.absf main_arg1
  let main_cst_0 : FVec F S_ .f32 := constant S_ .f32 0x7F800000#32
  let main_v4 : FVec F S1x256x4096 .f32 := broadcastInDim S1x256x4096 ![] bcast_S_S1x256x4096 main_cst_0
  let main_v5 : IVec S1x256x4096 1 := cmpf .olt main_v3 main_v4
  let main_v6 : FVec F S1x2048x2048 .f32 := Host.absf main_arg2
  let main_cst_1 : FVec F S_ .f32 := constant S_ .f32 0x7F800000#32
  let main_v7 : FVec F S1x2048x2048 .f32 := broadcastInDim S1x2048x2048 ![] bcast_S_S1x2048x2048 main_cst_1
  let main_v8 : IVec S1x2048x2048 1 := cmpf .olt main_v6 main_v7
  (main_v2, main_v5, main_v8)
-- ==== Pre_finite20.lean ====
abbrev S1x2048x2048 : Shape := ⟨3, ![1, 2048, 2048]⟩
abbrev S1x2048x1024 : Shape := ⟨3, ![1, 2048, 1024]⟩
abbrev S1x1024 : Shape := ⟨2, ![1, 1024]⟩
abbrev S_ : Shape := ⟨0, ![]⟩

class Facts : Prop where
  bcast_S_S1x2048x2048 : S_.BroadcastsInDim S1x2048x2048 (![] : Fin 0 → Fin S1x2048x2048.rank)
  bcast_S_S1x2048x1024 : S_.BroadcastsInDim S1x2048x1024 (![] : Fin 0 → Fin S1x2048x1024.rank)
  bcast_S_S1x1024 : S_.BroadcastsInDim S1x1024 (![] : Fin 0 → Fin S1x1024.rank)

variable [Facts]

def fn {F : FTy → Type} [FloatOps F] (main_arg0 : FVec F S1x2048x2048 .f32) (main_arg1 : FVec F S1x2048x1024 .f32) (main_arg2 : FVec F S1x2048x1024 .f32) (main_arg3 : FVec F S1x1024 .f32) (main_arg4 : FVec F S1x1024 .f32) : IVec S1x2048x2048 1 × IVec S1x2048x1024 1 × IVec S1x2048x1024 1 × IVec S1x1024 1 × IVec S1x1024 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048x1024 .f32 := Host.absf main_arg1
  let main_cst_0 : FVec F S_ .f32 := constant S_ .f32 0x7F800000#32
  let main_v4 : FVec F S1x2048x1024 .f32 := broadcastInDim S1x2048x1024 ![] bcast_S_S1x2048x1024 main_cst_0
  let main_v5 : IVec S1x2048x1024 1 := cmpf .olt main_v3 main_v4
  let main_v6 : FVec F S1x2048x1024 .f32 := Host.absf main_arg2
  let main_cst_1 : FVec F S_ .f32 := constant S_ .f32 0x7F800000#32
  let main_v7 : FVec F S1x2048x1024 .f32 := broadcastInDim S1x2048x1024 ![] bcast_S_S1x2048x1024 main_cst_1
  let main_v8 : IVec S1x2048x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_finite24.lean ====
abbrev S1x2048x2048 : Shape := ⟨3, ![1, 2048, 2048]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩

class Facts : Prop where
  bcast_S_S1x2048x2048 : S_.BroadcastsInDim S1x2048x2048 (![] : Fin 0 → Fin S1x2048x2048.rank)
  bcast_S_S1x1024 : S_.BroadcastsInDim S1x1024 (![] : Fin 0 → Fin S1x1024.rank)
  bcast_S_S8x128x128 : S_.BroadcastsInDim S8x128x128 (![] : Fin 0 → Fin S8x128x128.rank)
  bcast_S_S8x128 : S_.BroadcastsInDim S8x128 (![] : Fin 0 → Fin S8x128.rank)

variable [Facts]

def fn {F : FTy → Type} [FloatOps F] (main_arg0 : FVec F S1x2048x2048 .f32) (main_arg1 : FVec F S1x1024 .f32) (main_arg2 : FVec F S1x1024 .f32) (main_arg3 : FVec F S8x128x128 .f32) (main_arg4 : FVec F S8x128 .f32) : IVec S1x2048x2048 1 × IVec S1x1024 1 × IVec S1x1024 1 × IVec S8x128x128 1 × IVec S8x128 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S8x128x128 .f32 := Host.absf main_arg3
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_v12 : FVec F S8x128 .f32 := Host.absf main_arg4
  let main_cst_3 : FVec F S_ .f32 := constant S_ .f32 0x7F800000#32
  let main_v13 : FVec F S8x128 .f32 := broadcastInDim S8x128 ![] bcast_S_S8x128 main_cst_3
  let main_v14 : IVec S8x128 1 := cmpf .olt main_v12 main_v13
  (main_v2, main_v5, main_v8, main_v11, main_v14)
-- ==== Pre_finite25.lean ====
abbrev S1x2048x2048 : Shape := ⟨3, ![1, 2048, 2048]⟩
abbrev S1x256x4096 : Shape := ⟨3, ![1, 256, 4096]⟩
abbrev S_ : Shape := ⟨0, ![]⟩

class Facts : Prop where
  bcast_S_S1x2048x2048 : S_.BroadcastsInDim S1x2048x2048 (![] : Fin 0 → Fin S1x2048x2048.rank)
  bcast_S_S1x256x4096 : S_.BroadcastsInDim S1x256x4096 (![] : Fin 0 → Fin S1x256x4096.rank)

variable [Facts]

def fn {F : FTy → Type} [FloatOps F] (main_arg0 : FVec F S1x2048x2048 .f32) (main_arg1 : FVec F S1x256x4096 .f32) : IVec S1x2048x2048 1 × IVec S1x256x4096 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x256x4096 .f32 := Host.absf main_arg1
  let main_cst_0 : FVec F S_ .f32 := constant S_ .f32 0x7F800000#32
  let main_v4 : FVec F S1x256x4096 .f32 := broadcastInDim S1x256x4096 ![] bcast_S_S1x256x4096 main_cst_0
  let main_v5 : IVec S1x256x4096 1 := cmpf .olt main_v3 main_v4
  (main_v2, main_v5)
-- ==== Pre_finite28.lean ====
abbrev S1x2048x2048 : Shape := ⟨3, ![1, 2048, 2048]⟩
abbrev S1x2048 : Shape := ⟨2, ![1, 2048]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)

variable [Facts]

def fn {F : FTy → Type} [FloatOps F] (main_arg0 : FVec F S1x2048x2048 .f32) (main_arg1 : FVec F S1x2048x2048 .f32) (main_arg2 : FVec F S1x2048 .f32) : IVec S1x2048x2048 1 × IVec S1x2048x2048 1 × IVec S1x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048x2048 .f32 := Host.absf main_arg1
  let main_cst_0 : FVec F S_ .f32 := constant S_ .f32 0x7F800000#32
  let main_v4 : FVec F S1x2048x2048 .f32 := broadcastInDim S1x2048x2048 ![] bcast_S_S1x2048x2048 main_cst_0
  let main_v5 : IVec S1x2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  (main_v2, main_v5, main_v8)
-- ==== Pre_finite3.lean ====
abbrev S1x2048x2048 : Shape := ⟨3, ![1, 2048, 2048]⟩
abbrev S5632x2048 : Shape := ⟨2, ![5632, 2048]⟩
abbrev S2x2048x5632 : Shape := ⟨3, ![2, 2048, 5632]⟩
abbrev S_ : Shape := ⟨0, ![]⟩

class Facts : Prop where
  bcast_S_S1x2048x2048 : S_.BroadcastsInDim S1x2048x2048 (![] : Fin 0 → Fin S1x2048x2048.rank)
  bcast_S_S5632x2048 : S_.BroadcastsInDim S5632x2048 (![] : Fin 0 → Fin S5632x2048.rank)
  bcast_S_S2x2048x5632 : S_.BroadcastsInDim S2x2048x5632 (![] : Fin 0 → Fin S2x2048x5632.rank)

variable [Facts]

def fn {F : FTy → Type} [FloatOps F] (main_arg0 : FVec F S1x2048x2048 .f32) (main_arg1 : FVec F S5632x2048 .f32) (main_arg2 : FVec F S2x2048x5632 .f32) : IVec S1x2048x2048 1 × IVec S5632x2048 1 × IVec S2x2048x5632 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S5632x2048 .f32 := Host.absf main_arg1
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S2x2048x5632 .f32 := Host.absf main_arg2
  let main_cst_1 : FVec F S_ .f32 := constant S_ .f32 0x7F800000#32
  let main_v7 : FVec F S2x2048x5632 .f32 := broadcastInDim S2x2048x5632 ![] bcast_S_S2x2048x5632 main_cst_1
  let main_v8 : IVec S2x2048x5632 1 := cmpf .olt main_v6 main_v7
  (main_v2, main_v5, main_v8)
-- ==== Pre_finite35.lean ====
abbrev S1x2048x2048 : Shape := ⟨3, ![1, 2048, 2048]⟩
abbrev S1x2048 : Shape := ⟨2, ![1, 2048]⟩
abbrev S_ : Shape := ⟨0, ![]⟩

class Facts : Prop where
  bcast_S_S1x2048x2048 : S_.BroadcastsInDim S1x2048x2048 (![] : Fin 0 → Fin S1x2048x2048.rank)
  bcast_S_S1x2048 : S_.BroadcastsInDim S1x2048 (![] : Fin 0 → Fin S1x2048.rank)

variable [Facts]

def fn {F : FTy → Type} [FloatOps F] (main_arg0 : FVec F S1x2048x2048 .f32) (main_arg1 : FVec F S1x2048x2048 .f32) (main_arg2 : FVec F S1x2048 .f32) (main_arg3 : FVec F S1x2048x2048 .f32) : IVec S1x2048x2048 1 × IVec S1x2048x2048 1 × IVec S1x2048 1 × IVec S1x2048x2048 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_v3 : FVec F S1x2048x2048 .f32 := Host.absf main_arg1
  let main_cst_0 : FVec F S_ .f32 := constant S_ .f32 0x7F800000#32
  let main_v4 : FVec F S1x2048x2048 .f32 := broadcastInDim S1x2048x2048 ![] bcast_S_S1x2048x2048 main_cst_0
  let main_v5 : IVec S1x2048x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048x2048 .f32 := Host.absf main_arg3
  let main_cst_2 : FVec F S_ .f32 := constant S_ .f32 0x7F800000#32
  let main_v10 : FVec F S1x2048x2048 .f32 := broadcastInDim S1x2048x2048 ![] bcast_S_S1x2048x2048 main_cst_2
  let main_v11 : IVec S1x2048x2048 1 := cmpf .olt main_v9 main_v10
  (main_v2, main_v5, main_v8, main_v11)
-- ==== Pre_finite36.lean ====
abbrev S1x256x2048 : Shape := ⟨3, ![1, 256, 2048]⟩
abbrev S1x2048 : Shape := ⟨2, ![1, 2048]⟩
abbrev S_ : Shape := ⟨0, ![]⟩

class Facts : Prop where
  bcast_S_S1x256x2048 : S_.BroadcastsInDim S1x256x2048 (![] : Fin 0 → Fin S1x256x2048.rank)
  bcast_S_S1x2048 : S_.BroadcastsInDim S1x2048 (![] : Fin 0 → Fin S1x2048.rank)

variable [Facts]

def fn {F : FTy → Type} [FloatOps F] (main_arg0 : FVec F S1x256x2048 .f32) (main_arg1 : FVec F S1x256x2048 .f32) (main_arg2 : FVec F S1x2048 .f32) : IVec S1x256x2048 1 × IVec S1x256x2048 1 × IVec S1x2048 1 :=
  let main_v0 : FVec F S1x256x2048 .f32 := Host.absf main_arg0
  let main_cst : FVec F S_ .f32 := constant S_ .f32 0x7F800000#32
  let main_v1 : FVec F S1x256x2048 .f32 := broadcastInDim S1x256x2048 ![] bcast_S_S1x256x2048 main_cst
  let main_v2 : IVec S1x256x2048 1 := cmpf .olt main_v0 main_v1
  let main_v3 : FVec F S1x256x2048 .f32 := Host.absf main_arg1
  let main_cst_0 : FVec F S_ .f32 := constant S_ .f32 0x7F800000#32
  let main_v4 : FVec F S1x256x2048 .f32 := broadcastInDim S1x256x2048 ![] bcast_S_S1x256x2048 main_cst_0
  let main_v5 : IVec S1x256x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  (main_v2, main_v5, main_v8)
-- ==== Kernel.lean ====
abbrev S1x2048x2048 : Shape := ⟨3, ![1, 2048, 2048]⟩
abbrev S1x2048x1024 : Shape := ⟨3, ![1, 2048, 1024]⟩
abbrev S1x1024 : Shape := ⟨2, ![1, 1024]⟩
abbrev S8x128x128 : Shape := ⟨3, ![8, 128, 128]⟩
abbrev S8x128 : Shape := ⟨2, ![8, 128]⟩
abbrev S2048x2048 : Shape := ⟨2, ![2048, 2048]⟩
abbrev S2048x1024 : Shape := ⟨2, ![2048, 1024]⟩
abbrev S128x8 : Shape := ⟨2, ![128, 8]⟩
abbrev S8x128x1 : Shape := ⟨3, ![8, 128, 1]⟩
abbrev S128x1024 : Shape := ⟨2, ![128, 1024]⟩
abbrev S128x2048 : Shape := ⟨2, ![128, 2048]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩
abbrev S1x128x1 : Shape := ⟨3, ![1, 128, 1]⟩

abbrev nBuf : Space → Nat
  | .hbm => 14
  | .vmem => 17
  | .smem => 0
  | _ => 0

abbrev bufTy : (tb : Table) → Fin (tcTables nBuf tb) → BufTy
  | .hbm, ⟨0, _⟩ => ⟨S1x2048x2048, .f32⟩
  | .hbm, ⟨1, _⟩ => ⟨S1x2048x1024, .f32⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S2048x2048, .f32⟩
  | .hbm, ⟨7, _⟩ => ⟨S2048x1024, .f32⟩
  | .hbm, ⟨8, _⟩ => ⟨S128x8, .f32⟩
  | .hbm, ⟨9, _⟩ => ⟨S2048x2048, .bf16⟩
  | .hbm, ⟨10, _⟩ => ⟨S1x1024, .f32⟩
  | .hbm, ⟨11, _⟩ => ⟨S1x1024, .f32⟩
  | .hbm, ⟨12, _⟩ => ⟨S8x128x128, .f32⟩
  | .hbm, ⟨13, _⟩ => ⟨S8x128x1, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S128x2048, .bf16⟩
  | .local _ .vmem, ⟨11, _⟩ => ⟨S128x2048, .bf16⟩
  | .local _ .vmem, ⟨12, _⟩ => ⟨S1x1024, .f32⟩
  | .local _ .vmem, ⟨13, _⟩ => ⟨S1x1024, .f32⟩
  | .local _ .vmem, ⟨14, _⟩ => ⟨S8x128x128, .f32⟩
  | .local _ .vmem, ⟨15, _⟩ => ⟨S8x128x1, .f32⟩
  | .local _ .vmem, ⟨16, _⟩ => ⟨S8x128x128, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v1470 : BitVec 1 := Scalar.cmpi .eq arg0 c15_i32
  let v1471 : BitVec 32 := Scalar.extui v1470
  let c0_i32_637 : BitVec 32 := 0#32
  let v1472 : BitVec 1 := Scalar.cmpi .ne v1471 c0_i32_637
  v1472

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== ReferenceIdeal.lean ====
abbrev S1x2048x2048 : Shape := ⟨3, ![1, 2048, 2048]⟩
abbrev S1x2048x1024 : Shape := ⟨3, ![1, 2048, 1024]⟩
abbrev S1x1024 : Shape := ⟨2, ![1, 1024]⟩
abbrev S8x128x128 : Shape := ⟨3, ![8, 128, 128]⟩
abbrev S8x128 : Shape := ⟨2, ![8, 128]⟩
abbrev S2048x2048 : Shape := ⟨2, ![2048, 2048]⟩
abbrev S_ : Shape := ⟨0, ![]⟩
abbrev S2048x1024 : Shape := ⟨2, ![2048, 1024]⟩
abbrev S2048x8x128 : Shape := ⟨3, ![2048, 8, 128]⟩
abbrev S2048x8 : Shape := ⟨2, ![2048, 8]⟩
abbrev S2048x8x1 : Shape := ⟨3, ![2048, 8, 1]⟩
abbrev S1x8x128 : Shape := ⟨3, ![1, 8, 128]⟩
abbrev S16x128x8x128 : Shape := ⟨4, ![16, 128, 8, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x16x128x128 : Shape := ⟨4, ![8, 16, 128, 128]⟩
abbrev S128x8 : Shape := ⟨2, ![128, 8]⟩
abbrev S128x8x1 : Shape := ⟨3, ![128, 8, 1]⟩
abbrev S1x128x8x1 : Shape := ⟨4, ![1, 128, 8, 1]⟩
abbrev S8x128x1 : Shape := ⟨3, ![8, 128, 1]⟩

abbrev nBuf : Space → Nat
  | .hbm => 209
  | .vmem => 0
  | .smem => 0
  | _ => 0

abbrev hbmTy0_0 (i : Nat) : BufTy := match i % 128 with
  | 0 => ⟨S1x2048x2048, .f32⟩
  | 1 => ⟨S1x2048x1024, .f32⟩
  | 2 => ⟨S1x1024, .f32⟩
  | 3 => ⟨S1x1024, .f32⟩
  | 4 => ⟨S8x128x128, .f32⟩
  | 5 => ⟨S8x128, .f32⟩
  | 6 => ⟨S2048x2048, .f32⟩
  | 7 => ⟨S2048x2048, .f32⟩
  | 8 => ⟨S2048x2048, .f32⟩
  | 9 => ⟨S2048x2048, .f32⟩
  | 10 => ⟨S_, .f32⟩
  | 11 => ⟨S2048x2048, .f32⟩
  | 12 => ⟨S2048x2048, .f32⟩
  | 13 => ⟨S_, .f32⟩
  | 14 => ⟨S2048x2048, .f32⟩
  | 15 => ⟨S2048x2048, .f32⟩
  | 16 => ⟨S_, .f32⟩
  | 17 => ⟨S2048x2048, .f32⟩
  | 18 => ⟨S2048x2048, .f32⟩
  | 19 => ⟨S2048x2048, .f32⟩
  | 20 => ⟨S_, .f32⟩
  | 21 => ⟨S2048x2048, .f32⟩
  | 22 => ⟨S2048x2048, .f32⟩
  | 23 => ⟨S2048x2048, .f32⟩
  | 24 => ⟨S_, .f32⟩
  | 25 => ⟨S2048x2048, .f32⟩
  | 26 => ⟨S2048x2048, .f32⟩
  | 27 => ⟨S_, .f32⟩
  | 28 => ⟨S2048x2048, .f32⟩
  | 29 => ⟨S2048x2048, .f32⟩
  | 30 => ⟨S2048x2048, .f32⟩
  | 31 => ⟨S_, .f32⟩
  | 32 => ⟨S2048x2048, .f32⟩
  | 33 => ⟨S2048x2048, .f32⟩
  | 34 => ⟨S_, .f32⟩
  | 35 => ⟨S2048x2048, .f32⟩
  | 36 => ⟨S2048x2048, .f32⟩
  | 37 => ⟨S2048x2048, .f32⟩
  | 38 => ⟨S2048x1024, .f32⟩
  | 39 => ⟨S2048x1024, .f32⟩
  | 40 => ⟨S2048x8x128, .f32⟩
  | 41 => ⟨S8x128, .f32⟩
  | 42 => ⟨S8x128, .f32⟩
  | 43 => ⟨S_, .f32⟩
  | 44 => ⟨S2048x8, .f32⟩
  | 45 => ⟨S2048x8x1, .f32⟩
  | 46 => ⟨S_, .f32⟩
  | 47 => ⟨S2048x8x1, .f32⟩
  | 48 => ⟨S2048x8x1, .f32⟩
  | 49 => ⟨S2048x8x128, .f32⟩
  | 50 => ⟨S2048x8x128, .f32⟩
  | 51 => ⟨S2048x8x128, .f32⟩
  | 52 => ⟨S_, .f32⟩
  | 53 => ⟨S2048x8x128, .f32⟩
  | 54 => ⟨S2048x8x128, .f32⟩
  | 55 => ⟨S_, .f32⟩
  | 56 => ⟨S2048x8, .f32⟩
  | 57 => ⟨S2048x8x1, .f32⟩
  | 58 => ⟨S_, .f32⟩
  | 59 => ⟨S2048x8x1, .f32⟩
  | 60 => ⟨S2048x8x1, .f32⟩
  | 61 => ⟨S2048x8x128, .f32⟩
  | 62 => ⟨S2048x8x128, .f32⟩
  | 63 => ⟨S_, .f32⟩
  | 64 => ⟨S2048x8x1, .f32⟩
  | 65 => ⟨S2048x8x1, .f32⟩
  | 66 => ⟨S2048x8x1, .f32⟩
  | 67 => ⟨S2048x8x1, .f32⟩
  | 68 => ⟨S_, .f32⟩
  | 69 => ⟨S2048x8x1, .f32⟩
  | 70 => ⟨S2048x8x1, .f32⟩
  | 71 => ⟨S2048x8x128, .f32⟩
  | 72 => ⟨S2048x8x128, .f32⟩
  | 73 => ⟨S1x8x128, .f32⟩
  | 74 => ⟨S2048x8x128, .f32⟩
  | 75 => ⟨S2048x8x128, .f32⟩
  | 76 => ⟨S1x8x128, .f32⟩
  | 77 => ⟨S2048x8x128, .f32⟩
  | 78 => ⟨S2048x8x128, .f32⟩
  | 79 => ⟨S16x128x8x128, .f32⟩
  | 80 => ⟨S128, .i32⟩
  | 81 => ⟨S_, .i32⟩
  | 82 => ⟨S_, .i32⟩
  | 83 => ⟨S128, .i32⟩
  | 84 => ⟨S128, .i32⟩
  | 85 => ⟨S128, .i32⟩
  | 86 => ⟨S_, .i32⟩
  | 87 => ⟨S128, .i32⟩
  | 88 => ⟨S128, .i1⟩
  | 89 => ⟨S128, .i32⟩
  | 90 => ⟨S128, .i32⟩
  | 91 => ⟨S_, .i32⟩
  | 92 => ⟨S128, .i32⟩
  | 93 => ⟨S128, .i1⟩
  | 94 => ⟨S128, .i1⟩
  | 95 => ⟨S_, .i32⟩
  | 96 => ⟨S128, .i32⟩
  | 97 => ⟨S128, .i32⟩
  | 98 => ⟨S128, .i32⟩
  | 99 => ⟨S1x128, .i32⟩
  | 100 => ⟨S128x1, .i32⟩
  | 101 => ⟨S128x128, .i32⟩
  | 102 => ⟨S128x128, .i32⟩
  | 103 => ⟨S128x128, .i1⟩
  | 104 => ⟨S1x128x128, .i1⟩
  | 105 => ⟨S_, .f32⟩
  | 106 => ⟨S8x128x128, .i1⟩
  | 107 => ⟨S8x128x128, .f32⟩
  | 108 => ⟨S8x128x128, .f32⟩
  | 109 => ⟨S_, .f32⟩
  | 110 => ⟨S8x128x128, .f32⟩
  | 111 => ⟨S8x16x128x128, .f32⟩
  | 112 => ⟨S16x128x8x128, .f32⟩
  | 113 => ⟨S128x8, .f32⟩
  | 114 => ⟨S128x8x1, .f32⟩
  | 115 => ⟨S1x128x8x1, .f32⟩
  | 116 => ⟨S16x128x8x128, .f32⟩
  | 117 => ⟨S16x128x8x128, .f32⟩
  | 118 => ⟨S2048x1024, .f32⟩
  | 119 => ⟨S2048x1024, .f32⟩
  | 120 => ⟨S2048x1024, .f32⟩
  | 121 => ⟨S2048x1024, .f32⟩
  | 122 => ⟨S2048x1024, .f32⟩
  | 123 => ⟨S16x128x8x128, .f32⟩
  | 124 => ⟨S_, .f32⟩
  | 125 => ⟨S128x8, .f32⟩
  | 126 => ⟨S1x128x8x1, .f32⟩
  | 127 => ⟨S_, .f32⟩
  | _ => ⟨S1x2048x2048, .f32⟩

abbrev hbmTy0_1 (i : Nat) : BufTy := match i % 128 with
  | 0 => ⟨S128x8, .f32⟩
  | 1 => ⟨S128x8x1, .f32⟩
  | 2 => ⟨S_, .f32⟩
  | 3 => ⟨S128x8, .f32⟩
  | 4 => ⟨S8x128, .f32⟩
  | 5 => ⟨S8x16x128x128, .f32⟩
  | 6 => ⟨S8x128x128, .f32⟩
  | 7 => ⟨S8x16x128x128, .f32⟩
  | 8 => ⟨S16x128x8x128, .f32⟩
  | 9 => ⟨S_, .f32⟩
  | 10 => ⟨S8x128x128, .f32⟩
  | 11 => ⟨S8x128x128, .f32⟩
  | 12 => ⟨S2048x8x128, .f32⟩
  | 13 => ⟨S_, .f32⟩
  | 14 => ⟨S8x128, .f32⟩
  | 15 => ⟨S1x8x128, .f32⟩
  | 16 => ⟨S_, .f32⟩
  | 17 => ⟨S8x128, .f32⟩
  | 18 => ⟨S2048x8x128, .f32⟩
  | 19 => ⟨S_, .f32⟩
  | 20 => ⟨S8x128, .f32⟩
  | 21 => ⟨S1x8x128, .f32⟩
  | 22 => ⟨S2048x8x128, .f32⟩
  | 23 => ⟨S2048x8x128, .f32⟩
  | 24 => ⟨S_, .f32⟩
  | 25 => ⟨S8x128, .f32⟩
  | 26 => ⟨S2048x8x128, .f32⟩
  | 27 => ⟨S_, .f32⟩
  | 28 => ⟨S2048x8, .f32⟩
  | 29 => ⟨S2048x8x1, .f32⟩
  | 30 => ⟨S2048x8x128, .f32⟩
  | 31 => ⟨S2048x8x128, .f32⟩
  | 32 => ⟨S2048x8x1, .f32⟩
  | 33 => ⟨S2048x8x128, .f32⟩
  | 34 => ⟨S_, .f32⟩
  | 35 => ⟨S2048x8, .f32⟩
  | 36 => ⟨S2048x8x1, .f32⟩
  | 37 => ⟨S_, .f32⟩
  | 38 => ⟨S2048x8x1, .f32⟩
  | 39 => ⟨S2048x8x1, .f32⟩
  | 40 => ⟨S_, .f32⟩
  | 41 => ⟨S2048x8, .f32⟩
  | 42 => ⟨S2048x8x128, .f32⟩
  | 43 => ⟨S2048x8x128, .f32⟩
  | 44 => ⟨S2048x8x128, .f32⟩
  | 45 => ⟨S_, .f32⟩
  | 46 => ⟨S2048x8, .f32⟩
  | 47 => ⟨S2048x8x1, .f32⟩
  | 48 => ⟨S2048x8x128, .f32⟩
  | 49 => ⟨S2048x8x1, .f32⟩
  | 50 => ⟨S_, .f32⟩
  | 51 => ⟨S2048x8x1, .f32⟩
  | 52 => ⟨S2048x8x1, .f32⟩
  | 53 => ⟨S_, .f32⟩
  | 54 => ⟨S2048x8, .f32⟩
  | 55 => ⟨S2048x8x128, .f32⟩
  | 56 => ⟨S2048x8x128, .f32⟩
  | 57 => ⟨S1x1024, .f32⟩
  | 58 => ⟨S1x1024, .f32⟩
  | 59 => ⟨S2048x1024, .f32⟩
  | 60 => ⟨S2048x2048, .f32⟩
  | 61 => ⟨S2048x2048, .f32⟩
  | 62 => ⟨S2048x2048, .f32⟩
  | 63 => ⟨S_, .f32⟩
  | 64 => ⟨S2048x2048, .f32⟩
  | 65 => ⟨S2048x2048, .f32⟩
  | 66 => ⟨S2048x2048, .f32⟩
  | 67 => ⟨S_, .f32⟩
  | 68 => ⟨S2048x2048, .f32⟩
  | 69 => ⟨S2048x2048, .f32⟩
  | 70 => ⟨S2048x2048, .f32⟩
  | 71 => ⟨S_, .f32⟩
  | 72 => ⟨S2048x2048, .f32⟩
  | 73 => ⟨S2048x2048, .f32⟩
  | 74 => ⟨S_, .f32⟩
  | 75 => ⟨S2048x2048, .f32⟩
  | 76 => ⟨S2048x2048, .f32⟩
  | 77 => ⟨S2048x2048, .f32⟩
  | 78 => ⟨S2048x2048, .f32⟩
  | 79 => ⟨S2048x2048, .bf16⟩
  | 80 => ⟨S8x128x1, .f32⟩
  | _ => ⟨S1x2048x2048, .f32⟩

abbrev hbmTy (i : Nat) : BufTy := match i / 128 with
  | 0 => hbmTy0_0 i
  | 1 => hbmTy0_1 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_c : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_c_0 : Ref sig .tc := ⟨.hbm, 95, rfl⟩
abbrev main_call0_v12 : Ref sig .tc := ⟨.hbm, 96, rfl⟩
abbrev main_call0_v13 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_14 : Ref sig .tc := ⟨.hbm, 105, rfl⟩
abbrev main_v67_1 : Ref sig .tc := ⟨.hbm, 106, rfl⟩
abbrev main_call1_v1 : Ref sig .tc := ⟨.hbm, 107, rfl⟩
abbrev main_v67_0 : Ref sig .tc := ⟨.hbm, 108, rfl⟩
abbrev main_call1_cst : Ref sig .tc := ⟨.hbm, 109, rfl⟩
abbrev main_v67_2 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_15 : Ref sig .tc := ⟨.hbm, 124, rfl⟩
abbrev main_v81 : Ref sig .tc := ⟨.hbm, 125, rfl⟩
abbrev main_v82 : Ref sig .tc := ⟨.hbm, 126, rfl⟩
abbrev main_cst_16 : Ref sig .tc := ⟨.hbm, 127, rfl⟩
abbrev main_v83 : Ref sig .tc := ⟨.hbm, 128, rfl⟩
abbrev main_v84 : Ref sig .tc := ⟨.hbm, 129, rfl⟩
abbrev main_cst_17 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_call2_cst : Ref sig .tc := ⟨.hbm, 137, rfl⟩
abbrev main_call2_v0 : Ref sig .tc := ⟨.hbm, 138, rfl⟩
abbrev main_v91 : Ref sig .tc := ⟨.hbm, 139, rfl⟩
abbrev main_v92 : Ref sig .tc := ⟨.hbm, 140, rfl⟩
abbrev main_cst_18 : Ref sig .tc := ⟨.hbm, 141, rfl⟩
abbrev main_v93 : Ref sig .tc := ⟨.hbm, 142, rfl⟩
abbrev main_v94 : Ref sig .tc := ⟨.hbm, 143, rfl⟩
abbrev main_cst_19 : Ref sig .tc := ⟨.hbm, 144, rfl⟩
abbrev main_v95 : Ref sig .tc := ⟨.hbm, 145, rfl⟩
abbrev main_v96 : Ref sig .tc := ⟨.hbm, 146, rfl⟩
abbrev main_cst_20 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_cst_21 : Ref sig .tc := ⟨.hbm, 152, rfl⟩
abbrev main_v101 : Ref sig .tc := ⟨.hbm, 153, rfl⟩
abbrev main_v102 : Ref sig .tc := ⟨.hbm, 154, rfl⟩
abbrev main_cst_22 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_23 : Ref sig .tc := ⟨.hbm, 162, rfl⟩
abbrev main_v109 : Ref sig .tc := ⟨.hbm, 163, rfl⟩
abbrev main_v110 : Ref sig .tc := ⟨.hbm, 164, rfl⟩
abbrev main_cst_24 : Ref sig .tc := ⟨.hbm, 165, rfl⟩
abbrev main_v111 : Ref sig .tc := ⟨.hbm, 166, rfl⟩
abbrev main_v112 : Ref sig .tc := ⟨.hbm, 167, rfl⟩
abbrev main_cst_25 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_cst_26 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_cst_27 : Ref sig .tc := ⟨.hbm, 178, rfl⟩
abbrev main_v121 : Ref sig .tc := ⟨.hbm, 179, rfl⟩
abbrev main_v122 : Ref sig .tc := ⟨.hbm, 180, rfl⟩
abbrev main_cst_28 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_cst_29 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_cst_30 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_cst_31 : Ref sig .tc := ⟨.hbm, 199, rfl⟩
abbrev main_v138 : Ref sig .tc := ⟨.hbm, 200, rfl⟩
abbrev main_v139 : Ref sig .tc := ⟨.hbm, 201, rfl⟩
abbrev main_cst_32 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩

abbrev nD : Nat := 1
abbrev τ : Topo := Topo.v7x

variable {F : FTy → Type} [FloatOps F]
-- ==== Kernel2.lean ====
abbrev S1x2048x2048 : Shape := ⟨3, ![1, 2048, 2048]⟩
abbrev S1x256x4096 : Shape := ⟨3, ![1, 256, 4096]⟩
abbrev S2048x2048 : Shape := ⟨2, ![2048, 2048]⟩
abbrev S_ : Shape := ⟨0, ![]⟩
abbrev S256x4096 : Shape := ⟨2, ![256, 4096]⟩
abbrev S256x2048 : Shape := ⟨2, ![256, 2048]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 14
  | .vmem => 9
  | .smem => 0
  | _ => 0

abbrev bufTy : (tb : Table) → Fin (tcTables nBuf tb) → BufTy
  | .hbm, ⟨0, _⟩ => ⟨S1x2048x2048, .f32⟩
  | .hbm, ⟨1, _⟩ => ⟨S1x256x4096, .f32⟩
  | .hbm, ⟨2, _⟩ => ⟨S1x2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S256x4096, .f32⟩
  | .hbm, ⟨9, _⟩ => ⟨S256x4096, .bf16⟩
  | .hbm, ⟨10, _⟩ => ⟨S2048x2048, .f32⟩
  | .hbm, ⟨11, _⟩ => ⟨S2048x2048, .bf16⟩
  | .hbm, ⟨12, _⟩ => ⟨S2048x2048, .bf16⟩
  | .hbm, ⟨13, _⟩ => ⟨S256x4096, .bf16⟩
  | .local _ .vmem, ⟨0, _⟩ => ⟨S256x2048, .bf16⟩
  | .local _ .vmem, ⟨1, _⟩ => ⟨S256x2048, .bf16⟩
  | .local _ .vmem, ⟨2, _⟩ => ⟨S256x4096, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x4096, .bf16⟩
  | .local _ .vmem, ⟨8, _⟩ => ⟨S256x4096, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v179 : BitVec 1 := Scalar.cmpi .eq arg0 c7_i32
  let v180 : BitVec 32 := Scalar.extui v179
  let c0_i32_100 : BitVec 32 := 0#32
  let v181 : BitVec 1 := Scalar.cmpi .ne v180 c0_i32_100
  v181

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference2Ideal.lean ====
abbrev S1x2048x2048 : Shape := ⟨3, ![1, 2048, 2048]⟩
abbrev S1x256x4096 : Shape := ⟨3, ![1, 256, 4096]⟩
abbrev S1x2048x4x512 : Shape := ⟨4, ![1, 2048, 4, 512]⟩
abbrev S_ : Shape := ⟨0, ![]⟩
abbrev S1x256x2048 : Shape := ⟨3, ![1, 256, 2048]⟩
abbrev S1x256x4x512 : Shape := ⟨4, ![1, 256, 4, 512]⟩
abbrev S1x4x2048x256 : Shape := ⟨4, ![1, 4, 2048, 256]⟩
abbrev S1x4x2048 : Shape := ⟨3, ![1, 4, 2048]⟩
abbrev S1x4x2048x1 : Shape := ⟨4, ![1, 4, 2048, 1]⟩
abbrev S1x4x512x2048 : Shape := ⟨4, ![1, 4, 512, 2048]⟩
abbrev S1x4x512x256 : Shape := ⟨4, ![1, 4, 512, 256]⟩
abbrev S4x2048 : Shape := ⟨2, ![4, 2048]⟩
abbrev S1x4x256x512 : Shape := ⟨4, ![1, 4, 256, 512]⟩
abbrev S1x4x2048x512 : Shape := ⟨4, ![1, 4, 2048, 512]⟩
abbrev S2048x2048 : Shape := ⟨2, ![2048, 2048]⟩
abbrev S256x4096 : Shape := ⟨2, ![256, 4096]⟩

abbrev nBuf : Space → Nat
  | .hbm => 88
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x256x4096, .f32⟩
  | .hbm, ⟨2, _⟩ => ⟨S1x2048x2048, .f32⟩
  | .hbm, ⟨3, _⟩ => ⟨S1x2048x4x512, .f32⟩
  | .hbm, ⟨4, _⟩ => ⟨S_, .f32⟩
  | .hbm, ⟨5, _⟩ => ⟨S1x2048x4x512, .f32⟩
  | .hbm, ⟨6, _⟩ => ⟨S1x2048x4x512, .f32⟩
  | .hbm, ⟨7, _⟩ => ⟨S1x256x2048, .f32⟩
  | .hbm, ⟨8, _⟩ => ⟨S1x256x2048, .f32⟩
  | .hbm, ⟨9, _⟩ => ⟨S1x256x4x512, .f32⟩
  | .hbm, ⟨10, _⟩ => ⟨S1x256x4x512, .f32⟩
  | .hbm, ⟨11, _⟩ => ⟨S1x4x2048x256, .f32⟩
  | .hbm, ⟨12, _⟩ => ⟨S_, .f32⟩
  | .hbm, ⟨13, _⟩ => ⟨S1x4x2048, .f32⟩
  | .hbm, ⟨14, _⟩ => ⟨S1x4x2048x1, .f32⟩
  | .hbm, ⟨15, _⟩ => ⟨S1x4x2048x256, .f32⟩
  | .hbm, ⟨16, _⟩ => ⟨S1x4x2048x256, .i1⟩
  | .hbm, ⟨17, _⟩ => ⟨S1x4x2048x256, .f32⟩
  | .hbm, ⟨18, _⟩ => ⟨S_, .f32⟩
  | .hbm, ⟨19, _⟩ => ⟨S1x4x2048, .f32⟩
  | .hbm, ⟨20, _⟩ => ⟨S_, .f32⟩
  | .hbm, ⟨21, _⟩ => ⟨S1x4x2048, .f32⟩
  | .hbm, ⟨22, _⟩ => ⟨S1x4x2048, .f32⟩
  | .hbm, ⟨23, _⟩ => ⟨S_, .f32⟩
  | .hbm, ⟨24, _⟩ => ⟨S1x4x2048, .f32⟩
  | .hbm, ⟨25, _⟩ => ⟨S1x4x2048, .i1⟩
  | .hbm, ⟨26, _⟩ => ⟨S_, .f32⟩
  | .hbm, ⟨27, _⟩ => ⟨S1x4x2048, .f32⟩
  | .hbm, ⟨28, _⟩ => ⟨S1x4x2048, .i1⟩
  | .hbm, ⟨29, _⟩ => ⟨S_, .f32⟩
  | .hbm, ⟨30, _⟩ => ⟨S1x4x2048, .f32⟩
  | .hbm, ⟨31, _⟩ => ⟨S_, .f32⟩
  | .hbm, ⟨32, _⟩ => ⟨S1x4x2048, .f32⟩
  | .hbm, ⟨33, _⟩ => ⟨S_, .f32⟩
  | .hbm, ⟨34, _⟩ => ⟨S1x4x2048, .f32⟩
  | .hbm, ⟨35, _⟩ => ⟨S1x4x2048, .f32⟩
  | .hbm, ⟨36, _⟩ => ⟨S1x4x2048, .f32⟩
  | .hbm, ⟨37, _⟩ => ⟨S1x4x2048x1, .f32⟩
  | .hbm, ⟨38, _⟩ => ⟨S1x4x2048x256, .f32⟩
  | .hbm, ⟨39, _⟩ => ⟨S1x4x2048x256, .f32⟩
  | .hbm, ⟨40, _⟩ => ⟨S1x4x2048x256, .f32⟩
  | .hbm, ⟨41, _⟩ => ⟨S_, .f32⟩
  | .hbm, ⟨42, _⟩ => ⟨S1x4x2048, .f32⟩
  | .hbm, ⟨43, _⟩ => ⟨S1x4x2048x1, .f32⟩
  | .hbm, ⟨44, _⟩ => ⟨S1x4x2048x256, .f32⟩
  | .hbm, ⟨45, _⟩ => ⟨S1x4x2048x256, .f32⟩
  | .hbm, ⟨46, _⟩ => ⟨S1x4x2048x1, .f32⟩
  | .hbm, ⟨47, _⟩ => ⟨S_, .f32⟩
  | .hbm, ⟨48, _⟩ => ⟨S1x4x2048x1, .f32⟩
  | .hbm, ⟨49, _⟩ => ⟨S1x4x2048x1, .f32⟩
  | .hbm, ⟨50, _⟩ => ⟨S1x4x512x2048, .f32⟩
  | .hbm, ⟨51, _⟩ => ⟨S1x2048x4x512, .f32⟩
  | .hbm, ⟨52, _⟩ => ⟨S1x2048x2048, .f32⟩
  | .hbm, ⟨53, _⟩ => ⟨S1x2048x4x512, .f32⟩
  | .hbm, ⟨54, _⟩ => ⟨S1x4x512x2048, .f32⟩
  | .hbm, ⟨55, _⟩ => ⟨S1x4x2048x256, .f32⟩
  | .hbm, ⟨56, _⟩ => ⟨S1x4x512x256, .f32⟩
  | .hbm, ⟨57, _⟩ => ⟨S1x256x4x512, .f32⟩
  | .hbm, ⟨58, _⟩ => ⟨S1x4x2048x256, .f32⟩
  | .hbm, ⟨59, _⟩ => ⟨S1x4x2048x256, .f32⟩
  | .hbm, ⟨60, _⟩ => ⟨S1x4x2048x256, .f32⟩
  | .hbm, ⟨61, _⟩ => ⟨S_, .f32⟩
  | .hbm, ⟨62, _⟩ => ⟨S1x4x2048, .f32⟩
  | .hbm, ⟨63, _⟩ => ⟨S1x4x2048x1, .f32⟩
  | .hbm, ⟨64, _⟩ => ⟨S1x4x2048x1, .f32⟩
  | .hbm, ⟨65, _⟩ => ⟨S1x4x2048x256, .f32⟩
  | .hbm, ⟨66, _⟩ => ⟨S1x4x2048x256, .f32⟩
  | .hbm, ⟨67, _⟩ => ⟨S_, .f32⟩
  | .hbm, ⟨68, _⟩ => ⟨S4x2048, .f32⟩
  | .hbm, ⟨69, _⟩ => ⟨S1x4x2048, .f32⟩
  | .hbm, ⟨70, _⟩ => ⟨S1x4x2048x256, .f32⟩
  | .hbm, ⟨71, _⟩ => ⟨S1x4x2048x256, .f32⟩
  | .hbm, ⟨72, _⟩ => ⟨S1x4x2048x256, .f32⟩
  | .hbm, ⟨73, _⟩ => ⟨S1x4x256x512, .f32⟩
  | .hbm, ⟨74, _⟩ => ⟨S1x256x4x512, .f32⟩
  | .hbm, ⟨75, _⟩ => ⟨S1x4x2048x512, .f32⟩
  | .hbm, ⟨76, _⟩ => ⟨S1x2048x4x512, .f32⟩
  | .hbm, ⟨77, _⟩ => ⟨S1x256x2048, .f32⟩
  | .hbm, ⟨78, _⟩ => ⟨S1x256x2048, .f32⟩
  | .hbm, ⟨79, _⟩ => ⟨S1x256x4096, .f32⟩
  | .hbm, ⟨80, _⟩ => ⟨S_, .f32⟩
  | .hbm, ⟨81, _⟩ => ⟨S1x2048x4x512, .f32⟩
  | .hbm, ⟨82, _⟩ => ⟨S1x2048x4x512, .f32⟩
  | .hbm, ⟨83, _⟩ => ⟨S1x2048x2048, .f32⟩
  | .hbm, ⟨84, _⟩ => ⟨S2048x2048, .f32⟩
  | .hbm, ⟨85, _⟩ => ⟨S2048x2048, .bf16⟩
  | .hbm, ⟨86, _⟩ => ⟨S256x4096, .f32⟩
  | .hbm, ⟨87, _⟩ => ⟨S256x4096, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel3.lean ====
abbrev S1x2048x2048 : Shape := ⟨3, ![1, 2048, 2048]⟩
abbrev S5632x2048 : Shape := ⟨2, ![5632, 2048]⟩
abbrev S2x2048x5632 : Shape := ⟨3, ![2, 2048, 5632]⟩
abbrev S2048x2048 : Shape := ⟨2, ![2048, 2048]⟩
abbrev S512x2048 : Shape := ⟨2, ![512, 2048]⟩
abbrev S2x2048x512 : Shape := ⟨3, ![2, 2048, 512]⟩
abbrev S2048x512 : Shape := ⟨2, ![2048, 512]⟩
abbrev S1x2048x512 : Shape := ⟨3, ![1, 2048, 512]⟩

abbrev nBuf : Space → Nat
  | .hbm => 8
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S5632x2048, .f32⟩
  | .hbm, ⟨2, _⟩ => ⟨S2x2048x5632, .f32⟩
  | .hbm, ⟨3, _⟩ => ⟨S2048x2048, .f32⟩
  | .hbm, ⟨4, _⟩ => ⟨S2048x2048, .bf16⟩
  | .hbm, ⟨5, _⟩ => ⟨S5632x2048, .bf16⟩
  | .hbm, ⟨6, _⟩ => ⟨S2x2048x5632, .bf16⟩
  | .hbm, ⟨7, _⟩ => ⟨S2x2048x5632, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2x2048x512, .bf16⟩
  | .local _ .vmem, ⟨4, _⟩ => ⟨S2x2048x512, .bf16⟩
  | .local _ .vmem, ⟨5, _⟩ => ⟨S2x2048x512, .bf16⟩
  | .local _ .vmem, ⟨6, _⟩ => ⟨S2x2048x512, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S1x2048x2048 : Shape := ⟨3, ![1, 2048, 2048]⟩
abbrev S5632x2048 : Shape := ⟨2, ![5632, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S_ : Shape := ⟨0, ![]⟩
abbrev S2048x2048 : Shape := ⟨2, ![2048, 2048]⟩

abbrev nBuf : Space → Nat
  | .hbm => 34
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S5632x2048, .f32⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S1x2048x5632, .f32⟩
  | .hbm, ⟨6, _⟩ => ⟨S2048x5632, .f32⟩
  | .hbm, ⟨7, _⟩ => ⟨S2048x5632, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S2048x2048, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S1x2048x5632, .f32⟩
  | .hbm, ⟨31, _⟩ => ⟨S1x2048x5632, .f32⟩
  | .hbm, ⟨32, _⟩ => ⟨S2x2048x5632, .f32⟩
  | .hbm, ⟨33, _⟩ => ⟨S2x2048x5632, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== Kernel4.lean ====
abbrev S1x2048x2048 : Shape := ⟨3, ![1, 2048, 2048]⟩
abbrev S2x2048x5632 : Shape := ⟨3, ![2, 2048, 5632]⟩
abbrev S2048x2048 : Shape := ⟨2, ![2048, 2048]⟩
abbrev S8x2048x1408 : Shape := ⟨3, ![8, 2048, 1408]⟩
abbrev S2048x512 : Shape := ⟨2, ![2048, 512]⟩
abbrev S1x2048x1408 : Shape := ⟨3, ![1, 2048, 1408]⟩
abbrev S1x512x1408 : Shape := ⟨3, ![1, 512, 1408]⟩
abbrev S2048x1408 : Shape := ⟨2, ![2048, 1408]⟩
abbrev S512x1408 : Shape := ⟨2, ![512, 1408]⟩

abbrev nBuf : Space → Nat
  | .hbm => 6
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S2x2048x5632, .f32⟩
  | .hbm, ⟨2, _⟩ => ⟨S2048x2048, .f32⟩
  | .hbm, ⟨3, _⟩ => ⟨S2048x2048, .bf16⟩
  | .hbm, ⟨4, _⟩ => ⟨S2x2048x5632, .bf16⟩
  | .hbm, ⟨5, _⟩ => ⟨S8x2048x1408, .bf16⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .bf16⟩
  | .local _ .vmem, ⟨5, _⟩ => ⟨S1x512x1408, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S1x2048x2048 : Shape := ⟨3, ![1, 2048, 2048]⟩
abbrev S2x2048x5632 : Shape := ⟨3, ![2, 2048, 5632]⟩
abbrev S_ : Shape := ⟨0, ![]⟩
abbrev S2048x11264 : Shape := ⟨2, ![2048, 11264]⟩
abbrev S2048x2048 : Shape := ⟨2, ![2048, 2048]⟩
abbrev S2048x5632 : Shape := ⟨2, ![2048, 5632]⟩
abbrev S1x2048x5632 : Shape := ⟨3, ![1, 2048, 5632]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 18
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2x2048x5632, .f32⟩
  | .hbm, ⟨2, _⟩ => ⟨S_, .f32⟩
  | .hbm, ⟨3, _⟩ => ⟨S2048x11264, .f32⟩
  | .hbm, ⟨4, _⟩ => ⟨S2048x2048, .f32⟩
  | .hbm, ⟨5, _⟩ => ⟨S2048x11264, .f32⟩
  | .hbm, ⟨6, _⟩ => ⟨S2048x5632, .f32⟩
  | .hbm, ⟨7, _⟩ => ⟨S2048x5632, .f32⟩
  | .hbm, ⟨8, _⟩ => ⟨S1x2048x5632, .f32⟩
  | .hbm, ⟨9, _⟩ => ⟨S2048x5632, .f32⟩
  | .hbm, ⟨10, _⟩ => ⟨S1x2048x5632, .f32⟩
  | .hbm, ⟨11, _⟩ => ⟨S2048x5632, .f32⟩
  | .hbm, ⟨12, _⟩ => ⟨S2048x11264, .f32⟩
  | .hbm, ⟨13, _⟩ => ⟨S11264x2048, .f32⟩
  | .hbm, ⟨14, _⟩ => ⟨S2048x11264, .f32⟩
  | .hbm, ⟨15, _⟩ => ⟨S2048x8x1408, .f32⟩
  | .hbm, ⟨16, _⟩ => ⟨S8x2048x1408, .f32⟩
  | .hbm, ⟨17, _⟩ => ⟨S8x2048x1408, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel5.lean ====
abbrev S2x2048x5632 : Shape := ⟨3, ![2, 2048, 5632]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S2048x2048 : Shape := ⟨2, ![2048, 2048]⟩
abbrev S1x1024x1408 : Shape := ⟨3, ![1, 1024, 1408]⟩
abbrev S1x2048x1408 : Shape := ⟨3, ![1, 2048, 1408]⟩
abbrev S1024x2048 : Shape := ⟨2, ![1024, 2048]⟩
abbrev S1024x1408 : Shape := ⟨2, ![1024, 1408]⟩
abbrev S2048x1408 : Shape := ⟨2, ![2048, 1408]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x5632, .f32⟩
  | .hbm, ⟨1, _⟩ => ⟨S2048x11264, .f32⟩
  | .hbm, ⟨2, _⟩ => ⟨S2x2048x5632, .bf16⟩
  | .hbm, ⟨3, _⟩ => ⟨S2048x8x1408, .f32⟩
  | .hbm, ⟨4, _⟩ => ⟨S8x2048x1408, .f32⟩
  | .hbm, ⟨5, _⟩ => ⟨S8x2048x1408, .bf16⟩
  | .hbm, ⟨6, _⟩ => ⟨S2048x2048, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S2x2048x5632 : Shape := ⟨3, ![2, 2048, 5632]⟩
abbrev S2048x11264 : Shape := ⟨2, ![2048, 11264]⟩
abbrev S_ : Shape := ⟨0, ![]⟩
abbrev S2048x2048 : Shape := ⟨2, ![2048, 2048]⟩
abbrev S2048x5632 : Shape := ⟨2, ![2048, 5632]⟩
abbrev S1x2048x5632 : Shape := ⟨3, ![1, 2048, 5632]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x5632, .f32⟩
  | .hbm, ⟨1, _⟩ => ⟨S2048x11264, .f32⟩
  | .hbm, ⟨2, _⟩ => ⟨S_, .f32⟩
  | .hbm, ⟨3, _⟩ => ⟨S2048x2048, .f32⟩
  | .hbm, ⟨4, _⟩ => ⟨S2048x11264, .f32⟩
  | .hbm, ⟨5, _⟩ => ⟨S2048x5632, .f32⟩
  | .hbm, ⟨6, _⟩ => ⟨S2048x5632, .f32⟩
  | .hbm, ⟨7, _⟩ => ⟨S1x2048x5632, .f32⟩
  | .hbm, ⟨8, _⟩ => ⟨S2048x5632, .f32⟩
  | .hbm, ⟨9, _⟩ => ⟨S1x2048x5632, .f32⟩
  | .hbm, ⟨10, _⟩ => ⟨S2048x5632, .f32⟩
  | .hbm, ⟨11, _⟩ => ⟨S2048x11264, .f32⟩
  | .hbm, ⟨12, _⟩ => ⟨S2048x2048, .f32⟩
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S1x2048x5632 : Shape := ⟨3, ![1, 2048, 5632]⟩
abbrev S1x2048x2048 : Shape := ⟨3, ![1, 2048, 2048]⟩
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S512x2048 : Shape := ⟨2, ![512, 2048]⟩

abbrev nBuf : Space → Nat
  | .hbm => 7
  | .vmem => 5
  | .smem => 0
  | _ => 0

abbrev bufTy : (tb : Table) → Fin (tcTables nBuf tb) → BufTy
  | .hbm, ⟨0, _⟩ => ⟨S1x2048x5632, .f32⟩
  | .hbm, ⟨1, _⟩ => ⟨S1x2048x2048, .f32⟩
  | .hbm, ⟨2, _⟩ => ⟨S2048x5632, .f32⟩
  | .hbm, ⟨3, _⟩ => ⟨S2048x5632, .bf16⟩
  | .hbm, ⟨4, _⟩ => ⟨S2048x2048, .f32⟩
  | .hbm, ⟨5, _⟩ => ⟨S2048x2048, .bf16⟩
  | .hbm, ⟨6, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S1x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S1x2048x5632 : Shape := ⟨3, ![1, 2048, 5632]⟩
abbrev S1x2048x2048 : Shape := ⟨3, ![1, 2048, 2048]⟩
abbrev S_ : Shape := ⟨0, ![]⟩
abbrev S5632x2048 : Shape := ⟨2, ![5632, 2048]⟩
abbrev S2048x5632 : Shape := ⟨2, ![2048, 5632]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S1x2048x5632, .f32⟩
  | .hbm, ⟨1, _⟩ => ⟨S1x2048x2048, .f32⟩
  | .hbm, ⟨2, _⟩ => ⟨S_, .f32⟩
  | .hbm, ⟨3, _⟩ => ⟨S5632x2048, .f32⟩
  | .hbm, ⟨4, _⟩ => ⟨S2048x5632, .f32⟩
  | .hbm, ⟨5, _⟩ => ⟨S2048x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S1x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S1x2048x2048 : Shape := ⟨3, ![1, 2048, 2048]⟩
abbrev S2048x11264 : Shape := ⟨2, ![2048, 11264]⟩
abbrev S2048x2048 : Shape := ⟨2, ![2048, 2048]⟩
abbrev S2048x8x1408 : Shape := ⟨3, ![2048, 8, 1408]⟩
abbrev S8x2048x1408 : Shape := ⟨3, ![8, 2048, 1408]⟩
abbrev S2x2048x5632 : Shape := ⟨3, ![2, 2048, 5632]⟩
abbrev S2048x5632 : Shape := ⟨2, ![2048, 5632]⟩
abbrev S512x2048 : Shape := ⟨2, ![512, 2048]⟩
abbrev S1x2048x1408 : Shape := ⟨3, ![1, 2048, 1408]⟩
abbrev S2x512x1408 : Shape := ⟨3, ![2, 512, 1408]⟩
abbrev S512x1408 : Shape := ⟨2, ![512, 1408]⟩
abbrev S2048x1408 : Shape := ⟨2, ![2048, 1408]⟩
abbrev S1x512x1408 : Shape := ⟨3, ![1, 512, 1408]⟩

abbrev nBuf : Space → Nat
  | .hbm => 9
  | .vmem => 10
  | .smem => 0
  | _ => 0

abbrev bufTy : (tb : Table) → Fin (tcTables nBuf tb) → BufTy
  | .hbm, ⟨0, _⟩ => ⟨S1x2048x2048, .f32⟩
  | .hbm, ⟨1, _⟩ => ⟨S2048x11264, .f32⟩
  | .hbm, ⟨2, _⟩ => ⟨S2048x2048, .f32⟩
  | .hbm, ⟨3, _⟩ => ⟨S2048x2048, .bf16⟩
  | .hbm, ⟨4, _⟩ => ⟨S2048x8x1408, .f32⟩
  | .hbm, ⟨5, _⟩ => ⟨S8x2048x1408, .f32⟩
  | .hbm, ⟨6, _⟩ => ⟨S8x2048x1408, .bf16⟩
  | .hbm, ⟨7, _⟩ => ⟨S2x2048x5632, .bf16⟩
  | .hbm, ⟨8, _⟩ => ⟨S2048x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S1x2048x2048 : Shape := ⟨3, ![1, 2048, 2048]⟩
abbrev S2048x11264 : Shape := ⟨2, ![2048, 11264]⟩
abbrev S2048x2048 : Shape := ⟨2, ![2048, 2048]⟩
abbrev S2048x5632 : Shape := ⟨2, ![2048, 5632]⟩
abbrev S1x2048x5632 : Shape := ⟨3, ![1, 2048, 5632]⟩
abbrev S2x2048x5632 : Shape := ⟨3, ![2, 2048, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x11264, .f32⟩
  | .hbm, ⟨2, _⟩ => ⟨S2048x2048, .f32⟩
  | .hbm, ⟨3, _⟩ => ⟨S2048x11264, .f32⟩
  | .hbm, ⟨4, _⟩ => ⟨S2048x5632, .f32⟩
  | .hbm, ⟨5, _⟩ => ⟨S2048x5632, .f32⟩
  | .hbm, ⟨6, _⟩ => ⟨S1x2048x5632, .f32⟩
  | .hbm, ⟨7, _⟩ => ⟨S1x2048x5632, .f32⟩
  | .hbm, ⟨8, _⟩ => ⟨S2x2048x5632, .f32⟩
  | .hbm, ⟨9, _⟩ => ⟨S2x2048x5632, .bf16⟩
  | .hbm, ⟨10, _⟩ => ⟨S2048x5632, .f32⟩
  | .hbm, ⟨11, _⟩ => ⟨S2048x5632, .f32⟩
  | .hbm, ⟨12, _⟩ => ⟨S_, .f32⟩
  | .hbm, ⟨13, _⟩ => ⟨S2048x5632, .f32⟩
  | .hbm, ⟨14, _⟩ => ⟨S2048x5632, .f32⟩
  | .hbm, ⟨15, _⟩ => ⟨S_, .f32⟩
  | .hbm, ⟨16, _⟩ => ⟨S2048x5632, .f32⟩
  | .hbm, ⟨17, _⟩ => ⟨S2048x5632, .f32⟩
  | .hbm, ⟨18, _⟩ => ⟨S2048x5632, .f32⟩
  | .hbm, ⟨19, _⟩ => ⟨S2048x5632, .f32⟩
  | .hbm, ⟨20, _⟩ => ⟨S2048x5632, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩

abbrev nD : Nat := 1
abbrev τ : Topo := Topo.v7x

variable {F : FTy → Type} [FloatOps F]
-- ==== Kernel8.lean ====
abbrev S1x2048x5632 : Shape := ⟨3, ![1, 2048, 5632]⟩
abbrev S5632x2048 : Shape := ⟨2, ![5632, 2048]⟩
abbrev S1x2048x2048 : Shape := ⟨3, ![1, 2048, 2048]⟩
abbrev S2048x5632 : Shape := ⟨2, ![2048, 5632]⟩
abbrev S2048x2048 : Shape := ⟨2, ![2048, 2048]⟩
abbrev S512x5632 : Shape := ⟨2, ![512, 5632]⟩
abbrev S5632x1024 : Shape := ⟨2, ![5632, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x2048x5632, .f32⟩
  | .hbm, ⟨1, _⟩ => ⟨S5632x2048, .f32⟩
  | .hbm, ⟨2, _⟩ => ⟨S1x2048x2048, .f32⟩
  | .hbm, ⟨3, _⟩ => ⟨S2048x5632, .f32⟩
  | .hbm, ⟨4, _⟩ => ⟨S2048x5632, .bf16⟩
  | .hbm, ⟨5, _⟩ => ⟨S5632x2048, .bf16⟩
  | .hbm, ⟨6, _⟩ => ⟨S2048x2048, .f32⟩
  | .hbm, ⟨7, _⟩ => ⟨S2048x2048, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S5632x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S1x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S1x2048x5632 : Shape := ⟨3, ![1, 2048, 5632]⟩
abbrev S5632x2048 : Shape := ⟨2, ![5632, 2048]⟩
abbrev S1x2048x2048 : Shape := ⟨3, ![1, 2048, 2048]⟩
abbrev S2048x2048 : Shape := ⟨2, ![2048, 2048]⟩
abbrev S2048x5632 : Shape := ⟨2, ![2048, 5632]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S1x2048x5632, .f32⟩
  | .hbm, ⟨1, _⟩ => ⟨S5632x2048, .f32⟩
  | .hbm, ⟨2, _⟩ => ⟨S1x2048x2048, .f32⟩
  | .hbm, ⟨3, _⟩ => ⟨S2048x2048, .f32⟩
  | .hbm, ⟨4, _⟩ => ⟨S2048x5632, .f32⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S1x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S1x2048x2048 : Shape := ⟨3, ![1, 2048, 2048]⟩
abbrev S2x2048x5632 : Shape := ⟨3, ![2, 2048, 5632]⟩
abbrev S2048x2048 : Shape := ⟨2, ![2048, 2048]⟩
abbrev S8x1024x1408 : Shape := ⟨3, ![8, 1024, 1408]⟩
abbrev S2048x512 : Shape := ⟨2, ![2048, 512]⟩
abbrev S1x2048x1408 : Shape := ⟨3, ![1, 2048, 1408]⟩
abbrev S1x512x1408 : Shape := ⟨3, ![1, 512, 1408]⟩
abbrev S2048x1408 : Shape := ⟨2, ![2048, 1408]⟩
abbrev S512x1408 : Shape := ⟨2, ![512, 1408]⟩

abbrev nBuf : Space → Nat
  | .hbm => 6
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S2x2048x5632, .f32⟩
  | .hbm, ⟨2, _⟩ => ⟨S2048x2048, .f32⟩
  | .hbm, ⟨3, _⟩ => ⟨S2048x2048, .bf16⟩
  | .hbm, ⟨4, _⟩ => ⟨S2x2048x5632, .bf16⟩
  | .hbm, ⟨5, _⟩ => ⟨S8x1024x1408, .bf16⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .bf16⟩
  | .local _ .vmem, ⟨5, _⟩ => ⟨S1x512x1408, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S1x2048x2048 : Shape := ⟨3, ![1, 2048, 2048]⟩
abbrev S2x2048x5632 : Shape := ⟨3, ![2, 2048, 5632]⟩
abbrev S_ : Shape := ⟨0, ![]⟩
abbrev S2048x11264 : Shape := ⟨2, ![2048, 11264]⟩
abbrev S2048x2048 : Shape := ⟨2, ![2048, 2048]⟩
abbrev S2048x5632 : Shape := ⟨2, ![2048, 5632]⟩
abbrev S1x2048x5632 : Shape := ⟨3, ![1, 2048, 5632]⟩
abbrev S11264x2048 : Shape := ⟨2, ![11264, 2048]⟩
abbrev S1024x11264 : Shape := ⟨2, ![1024, 11264]⟩
abbrev S1024x8x1408 : Shape := ⟨3, ![1024, 8, 1408]⟩
abbrev S8x1024x1408 : Shape := ⟨3, ![8, 1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2x2048x5632, .f32⟩
  | .hbm, ⟨2, _⟩ => ⟨S_, .f32⟩
  | .hbm, ⟨3, _⟩ => ⟨S2048x11264, .f32⟩
  | .hbm, ⟨4, _⟩ => ⟨S2048x2048, .f32⟩
  | .hbm, ⟨5, _⟩ => ⟨S2048x11264, .f32⟩
  | .hbm, ⟨6, _⟩ => ⟨S2048x5632, .f32⟩
  | .hbm, ⟨7, _⟩ => ⟨S2048x5632, .f32⟩
  | .hbm, ⟨8, _⟩ => ⟨S1x2048x5632, .f32⟩
  | .hbm, ⟨9, _⟩ => ⟨S2048x5632, .f32⟩
  | .hbm, ⟨10, _⟩ => ⟨S1x2048x5632, .f32⟩
  | .hbm, ⟨11, _⟩ => ⟨S2048x5632, .f32⟩
  | .hbm, ⟨12, _⟩ => ⟨S2048x11264, .f32⟩
  | .hbm, ⟨13, _⟩ => ⟨S11264x2048, .f32⟩
  | .hbm, ⟨14, _⟩ => ⟨S2048x11264, .f32⟩
  | .hbm, ⟨15, _⟩ => ⟨S1024x11264, .f32⟩
  | .hbm, ⟨16, _⟩ => ⟨S1024x8x1408, .f32⟩
  | .hbm, ⟨17, _⟩ => ⟨S8x1024x1408, .f32⟩
  | .hbm, ⟨18, _⟩ => ⟨S8x1024x1408, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel10.lean ====
abbrev S1x2048x2048 : Shape := ⟨3, ![1, 2048, 2048]⟩
abbrev S2x2048x5632 : Shape := ⟨3, ![2, 2048, 5632]⟩
abbrev S2048x2048 : Shape := ⟨2, ![2048, 2048]⟩
abbrev S8x1024x1408 : Shape := ⟨3, ![8, 1024, 1408]⟩
abbrev S2048x512 : Shape := ⟨2, ![2048, 512]⟩
abbrev S1x2048x1408 : Shape := ⟨3, ![1, 2048, 1408]⟩
abbrev S1x512x1408 : Shape := ⟨3, ![1, 512, 1408]⟩
abbrev S2048x1408 : Shape := ⟨2, ![2048, 1408]⟩
abbrev S512x1408 : Shape := ⟨2, ![512, 1408]⟩

abbrev nBuf : Space → Nat
  | .hbm => 6
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S2x2048x5632, .f32⟩
  | .hbm, ⟨2, _⟩ => ⟨S2048x2048, .f32⟩
  | .hbm, ⟨3, _⟩ => ⟨S2048x2048, .bf16⟩
  | .hbm, ⟨4, _⟩ => ⟨S2x2048x5632, .bf16⟩
  | .hbm, ⟨5, _⟩ => ⟨S8x1024x1408, .bf16⟩
  | .local _ .vmem, ⟨0, _⟩ => ⟨S2048x512, .bf16⟩
  | .local _ .vmem, ⟨1, _⟩ => ⟨S2048x512, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x512x1408, .bf16⟩
  | .local _ .vmem, ⟨5, _⟩ => ⟨S1x512x1408, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S1x2048x2048 : Shape := ⟨3, ![1, 2048, 2048]⟩
abbrev S2x2048x5632 : Shape := ⟨3, ![2, 2048, 5632]⟩
abbrev S_ : Shape := ⟨0, ![]⟩
abbrev S2048x11264 : Shape := ⟨2, ![2048, 11264]⟩
abbrev S2048x2048 : Shape := ⟨2, ![2048, 2048]⟩
abbrev S2048x5632 : Shape := ⟨2, ![2048, 5632]⟩
abbrev S1x2048x5632 : Shape := ⟨3, ![1, 2048, 5632]⟩
abbrev S11264x2048 : Shape := ⟨2, ![11264, 2048]⟩
abbrev S1024x11264 : Shape := ⟨2, ![1024, 11264]⟩
abbrev S1024x8x1408 : Shape := ⟨3, ![1024, 8, 1408]⟩
abbrev S8x1024x1408 : Shape := ⟨3, ![8, 1024, 1408]⟩

abbrev nBuf : Space → Nat
  | .hbm => 19
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2x2048x5632, .f32⟩
  | .hbm, ⟨2, _⟩ => ⟨S_, .f32⟩
  | .hbm, ⟨3, _⟩ => ⟨S2048x11264, .f32⟩
  | .hbm, ⟨4, _⟩ => ⟨S2048x2048, .f32⟩
  | .hbm, ⟨5, _⟩ => ⟨S2048x11264, .f32⟩
  | .hbm, ⟨6, _⟩ => ⟨S2048x5632, .f32⟩
  | .hbm, ⟨7, _⟩ => ⟨S2048x5632, .f32⟩
  | .hbm, ⟨8, _⟩ => ⟨S1x2048x5632, .f32⟩
  | .hbm, ⟨9, _⟩ => ⟨S2048x5632, .f32⟩
  | .hbm, ⟨10, _⟩ => ⟨S1x2048x5632, .f32⟩
  | .hbm, ⟨11, _⟩ => ⟨S2048x5632, .f32⟩
  | .hbm, ⟨12, _⟩ => ⟨S2048x11264, .f32⟩
  | .hbm, ⟨13, _⟩ => ⟨S11264x2048, .f32⟩
  | .hbm, ⟨14, _⟩ => ⟨S2048x11264, .f32⟩
  | .hbm, ⟨15, _⟩ => ⟨S1024x11264, .f32⟩
  | .hbm, ⟨16, _⟩ => ⟨S1024x8x1408, .f32⟩
  | .hbm, ⟨17, _⟩ => ⟨S8x1024x1408, .f32⟩
  | .hbm, ⟨18, _⟩ => ⟨S8x1024x1408, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel11.lean ====
abbrev S1x2048x2048 : Shape := ⟨3, ![1, 2048, 2048]⟩
abbrev S2048x5120 : Shape := ⟨2, ![2048, 5120]⟩
abbrev S2048x2048 : Shape := ⟨2, ![2048, 2048]⟩
abbrev S2048x8x640 : Shape := ⟨3, ![2048, 8, 640]⟩
abbrev S8x2048x640 : Shape := ⟨3, ![8, 2048, 640]⟩
abbrev S512x2048 : Shape := ⟨2, ![512, 2048]⟩
abbrev S1x2048x640 : Shape := ⟨3, ![1, 2048, 640]⟩
abbrev S512x640 : Shape := ⟨2, ![512, 640]⟩
abbrev S2048x640 : Shape := ⟨2, ![2048, 640]⟩

abbrev nBuf : Space → Nat
  | .hbm => 8
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S2048x5120, .f32⟩
  | .hbm, ⟨2, _⟩ => ⟨S2048x2048, .f32⟩
  | .hbm, ⟨3, _⟩ => ⟨S2048x2048, .bf16⟩
  | .hbm, ⟨4, _⟩ => ⟨S2048x8x640, .f32⟩
  | .hbm, ⟨5, _⟩ => ⟨S8x2048x640, .f32⟩
  | .hbm, ⟨6, _⟩ => ⟨S8x2048x640, .bf16⟩
  | .hbm, ⟨7, _⟩ => ⟨S2048x5120, .f32⟩
  | .local _ .vmem, ⟨0, _⟩ => ⟨S512x2048, .bf16⟩
  | .local _ .vmem, ⟨1, _⟩ => ⟨S512x2048, .bf16⟩
  | .local _ .vmem, ⟨2, _⟩ => ⟨S1x2048x640, .bf16⟩
  | .local _ .vmem, ⟨3, _⟩ => ⟨S1x2048x640, .bf16⟩
  | .local _ .vmem, ⟨4, _⟩ => ⟨S512x640, .f32⟩
  | .local _ .vmem, ⟨5, _⟩ => ⟨S512x640, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S1x2048x2048 : Shape := ⟨3, ![1, 2048, 2048]⟩
abbrev S2048x5120 : Shape := ⟨2, ![2048, 5120]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x5120, .f32⟩
  | .hbm, ⟨2, _⟩ => ⟨S2048x2048, .f32⟩
  | .hbm, ⟨3, _⟩ => ⟨S2048x5120, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S1x2048x2048 : Shape := ⟨3, ![1, 2048, 2048]⟩
abbrev S1x2048x5120 : Shape := ⟨3, ![1, 2048, 5120]⟩
abbrev S2048x2048 : Shape := ⟨2, ![2048, 2048]⟩
abbrev S2048x5120 : Shape := ⟨2, ![2048, 5120]⟩
abbrev S8x2048x640 : Shape := ⟨3, ![8, 2048, 640]⟩
abbrev S2048x512 : Shape := ⟨2, ![2048, 512]⟩
abbrev S2048x640 : Shape := ⟨2, ![2048, 640]⟩
abbrev S1x512x640 : Shape := ⟨3, ![1, 512, 640]⟩
abbrev S512x640 : Shape := ⟨2, ![512, 640]⟩

abbrev nBuf : Space → Nat
  | .hbm => 7
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S1x2048x5120, .f32⟩
  | .hbm, ⟨2, _⟩ => ⟨S2048x2048, .f32⟩
  | .hbm, ⟨3, _⟩ => ⟨S2048x2048, .bf16⟩
  | .hbm, ⟨4, _⟩ => ⟨S2048x5120, .f32⟩
  | .hbm, ⟨5, _⟩ => ⟨S2048x5120, .bf16⟩
  | .hbm, ⟨6, _⟩ => ⟨S8x2048x640, .bf16⟩
  | .local _ .vmem, ⟨0, _⟩ => ⟨S2048x512, .bf16⟩
  | .local _ .vmem, ⟨1, _⟩ => ⟨S2048x512, .bf16⟩
  | .local _ .vmem, ⟨2, _⟩ => ⟨S2048x640, .bf16⟩
  | .local _ .vmem, ⟨3, _⟩ => ⟨S2048x640, .bf16⟩
  | .local _ .vmem, ⟨4, _⟩ => ⟨S1x512x640, .bf16⟩
  | .local _ .vmem, ⟨5, _⟩ => ⟨S1x512x640, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S1x2048x2048 : Shape := ⟨3, ![1, 2048, 2048]⟩
abbrev S1x2048x5120 : Shape := ⟨3, ![1, 2048, 5120]⟩
abbrev S_ : Shape := ⟨0, ![]⟩
abbrev S2048x5120 : Shape := ⟨2, ![2048, 5120]⟩
abbrev S2048x2048 : Shape := ⟨2, ![2048, 2048]⟩
abbrev S5120x2048 : Shape := ⟨2, ![5120, 2048]⟩
abbrev S2048x8x640 : Shape := ⟨3, ![2048, 8, 640]⟩
abbrev S8x2048x640 : Shape := ⟨3, ![8, 2048, 640]⟩

abbrev nBuf : Space → Nat
  | .hbm => 12
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x5120, .f32⟩
  | .hbm, ⟨2, _⟩ => ⟨S_, .f32⟩
  | .hbm, ⟨3, _⟩ => ⟨S2048x5120, .f32⟩
  | .hbm, ⟨4, _⟩ => ⟨S2048x2048, .f32⟩
  | .hbm, ⟨5, _⟩ => ⟨S2048x5120, .f32⟩
  | .hbm, ⟨6, _⟩ => ⟨S2048x5120, .f32⟩
  | .hbm, ⟨7, _⟩ => ⟨S5120x2048, .f32⟩
  | .hbm, ⟨8, _⟩ => ⟨S2048x5120, .f32⟩
  | .hbm, ⟨9, _⟩ => ⟨S2048x8x640, .f32⟩
  | .hbm, ⟨10, _⟩ => ⟨S8x2048x640, .f32⟩
  | .hbm, ⟨11, _⟩ => ⟨S8x2048x640, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel13.lean ====
abbrev S1x2048x5120 : Shape := ⟨3, ![1, 2048, 5120]⟩
abbrev S2048x5120 : Shape := ⟨2, ![2048, 5120]⟩
abbrev S2048x8x640 : Shape := ⟨3, ![2048, 8, 640]⟩
abbrev S8x2048x640 : Shape := ⟨3, ![8, 2048, 640]⟩
abbrev S2048x2048 : Shape := ⟨2, ![2048, 2048]⟩
abbrev S1024x640 : Shape := ⟨2, ![1024, 640]⟩
abbrev S1x2048x640 : Shape := ⟨3, ![1, 2048, 640]⟩
abbrev S1024x2048 : Shape := ⟨2, ![1024, 2048]⟩
abbrev S2048x640 : Shape := ⟨2, ![2048, 640]⟩

abbrev nBuf : Space → Nat
  | .hbm => 8
  | .vmem => 6
  | .smem => 0
  | _ => 0

abbrev bufTy : (tb : Table) → Fin (tcTables nBuf tb) → BufTy
  | .hbm, ⟨0, _⟩ => ⟨S1x2048x5120, .f32⟩
  | .hbm, ⟨1, _⟩ => ⟨S2048x5120, .f32⟩
  | .hbm, ⟨2, _⟩ => ⟨S2048x5120, .f32⟩
  | .hbm, ⟨3, _⟩ => ⟨S2048x5120, .bf16⟩
  | .hbm, ⟨4, _⟩ => ⟨S2048x8x640, .f32⟩
  | .hbm, ⟨5, _⟩ => ⟨S8x2048x640, .f32⟩
  | .hbm, ⟨6, _⟩ => ⟨S8x2048x640, .bf16⟩
  | .hbm, ⟨7, _⟩ => ⟨S2048x2048, .f32⟩
  | .local _ .vmem, ⟨0, _⟩ => ⟨S1024x640, .bf16⟩
  | .local _ .vmem, ⟨1, _⟩ => ⟨S1024x640, .bf16⟩
  | .local _ .vmem, ⟨2, _⟩ => ⟨S1x2048x640, .bf16⟩
  | .local _ .vmem, ⟨3, _⟩ => ⟨S1x2048x640, .bf16⟩
  | .local _ .vmem, ⟨4, _⟩ => ⟨S1024x2048, .f32⟩
  | .local _ .vmem, ⟨5, _⟩ => ⟨S1024x2048, .f32⟩
  | _, _ => ⟨S1x2048x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S1x2048x5120 : Shape := ⟨3, ![1, 2048, 5120]⟩
abbrev S2048x5120 : Shape := ⟨2, ![2048, 5120]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x5120, .f32⟩
  | .hbm, ⟨1, _⟩ => ⟨S2048x5120, .f32⟩
  | .hbm, ⟨2, _⟩ => ⟨S_, .f32⟩
  | .hbm, ⟨3, _⟩ => ⟨S2048x2048, .f32⟩
  | .hbm, ⟨4, _⟩ => ⟨S2048x5120, .f32⟩
  | .hbm, ⟨5, _⟩ => ⟨S2048x5120, .f32⟩
  | .hbm, ⟨6, _⟩ => ⟨S2048x2048, .f32⟩
  | _, _ => ⟨S1x2048x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S1x2048x2048 : Shape := ⟨3, ![1, 2048, 2048]⟩
abbrev S2048x2048 : Shape := ⟨2, ![2048, 2048]⟩
abbrev S2048x512 : Shape := ⟨2, ![2048, 512]⟩
abbrev S512x2048 : Shape := ⟨2, ![512, 2048]⟩

abbrev nBuf : Space → Nat
  | .hbm => 7
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S2048x2048, .f32⟩
  | .hbm, ⟨3, _⟩ => ⟨S2048x2048, .bf16⟩
  | .hbm, ⟨4, _⟩ => ⟨S2048x2048, .f32⟩
  | .hbm, ⟨5, _⟩ => ⟨S2048x2048, .bf16⟩
  | .hbm, ⟨6, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S1x2048x2048 : Shape := ⟨3, ![1, 2048, 2048]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .f32⟩
  | .local _ .vmem, ⟨4, _⟩ => ⟨S2048x512, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S1x2048x2048 : Shape := ⟨3, ![1, 2048, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S1x2048x2048, .f32⟩
  | .hbm, ⟨3, _⟩ => ⟨S2048x2048, .f32⟩
  | .hbm, ⟨4, _⟩ => ⟨S2048x2048, .bf16⟩
  | .hbm, ⟨5, _⟩ => ⟨S2048x2048, .bf16⟩
  | .hbm, ⟨6, _⟩ => ⟨S2048x2048, .f32⟩
  | .hbm, ⟨7, _⟩ => ⟨S2048x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference16Ideal.lean ====
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S1x2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S1x2048x2048 : Shape := ⟨3, ![1, 2048, 2048]⟩
abbrev S2048x2048 : Shape := ⟨2, ![2048, 2048]⟩
abbrev S512x2048 : Shape := ⟨2, ![512, 2048]⟩
abbrev S2048x1024 : Shape := ⟨2, ![2048, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel18.lean ====
abbrev S1x2048x2048 : Shape := ⟨3, ![1, 2048, 2048]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 6
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .bf16⟩
  | .local _ .vmem, ⟨0, _⟩ => ⟨S2048x2048, .bf16⟩
  | .local _ .vmem, ⟨1, _⟩ => ⟨S512x2048, .bf16⟩
  | .local _ .vmem, ⟨2, _⟩ => ⟨S512x2048, .bf16⟩
  | .local _ .vmem, ⟨3, _⟩ => ⟨S2048x512, .bf16⟩
  | .local _ .vmem, ⟨4, _⟩ => ⟨S2048x512, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S1x2048x2048 : Shape := ⟨3, ![1, 2048, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S1x2048x2048 : Shape := ⟨3, ![1, 2048, 2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 12
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32_7 : BitVec 32 := 0#32
  let v20 : BitVec 1 := Scalar.cmpi .sgt arg0 c0_i32_7
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19Ideal.lean ====
abbrev S1x2048x2048 : Shape := ⟨3, ![1, 2048, 2048]⟩
abbrev S1x2048 : Shape := ⟨2, ![1, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩

abbrev nBuf : Space → Nat
  | .hbm => 54
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S2048x2048, .f32⟩
  | .hbm, ⟨52, _⟩ => ⟨S2048x2048, .f32⟩
  | .hbm, ⟨53, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel20.lean ====
abbrev S1x2048x2048 : Shape := ⟨3, ![1, 2048, 2048]⟩
abbrev S1x2048x1024 : Shape := ⟨3, ![1, 2048, 1024]⟩
abbrev S1x1024 : Shape := ⟨2, ![1, 1024]⟩
abbrev S2048x2048 : Shape := ⟨2, ![2048, 2048]⟩
abbrev S2048x1024 : Shape := ⟨2, ![2048, 1024]⟩
abbrev S2048x8x128 : Shape := ⟨3, ![2048, 8, 128]⟩
abbrev S8x2048x128 : Shape := ⟨3, ![8, 2048, 128]⟩
abbrev S256x2048 : Shape := ⟨2, ![256, 2048]⟩
abbrev S256x1024 : Shape := ⟨2, ![256, 1024]⟩
abbrev S8x256x128 : Shape := ⟨3, ![8, 256, 128]⟩
abbrev S256 : Shape := ⟨1, ![256]⟩
abbrev S256x1 : Shape := ⟨2, ![256, 1]⟩
abbrev S1024 : Shape := ⟨1, ![1024]⟩
abbrev S1x256x128 : Shape := ⟨3, ![1, 256, 128]⟩
abbrev S256x128 : Shape := ⟨2, ![256, 128]⟩

abbrev nBuf : Space → Nat
  | .hbm => 14
  | .vmem => 14
  | .smem => 0
  | _ => 0

abbrev bufTy : (tb : Table) → Fin (tcTables nBuf tb) → BufTy
  | .hbm, ⟨0, _⟩ => ⟨S1x2048x2048, .f32⟩
  | .hbm, ⟨1, _⟩ => ⟨S1x2048x1024, .f32⟩
  | .hbm, ⟨2, _⟩ => ⟨S1x2048x1024, .f32⟩
  | .hbm, ⟨3, _⟩ => ⟨S1x1024, .f32⟩
  | .hbm, ⟨4, _⟩ => ⟨S1x1024, .f32⟩
  | .hbm, ⟨5, _⟩ => ⟨S2048x2048, .f32⟩
  | .hbm, ⟨6, _⟩ => ⟨S2048x1024, .f32⟩
  | .hbm, ⟨7, _⟩ => ⟨S2048x1024, .f32⟩
  | .hbm, ⟨8, _⟩ => ⟨S2048x8x128, .f32⟩
  | .hbm, ⟨9, _⟩ => ⟨S8x2048x128, .f32⟩
  | .hbm, ⟨10, _⟩ => ⟨S2048x1024, .f32⟩
  | .hbm, ⟨11, _⟩ => ⟨S8x2048x128, .f32⟩
  | .hbm, ⟨12, _⟩ => ⟨S1x1024, .f32⟩
  | .hbm, ⟨13, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S8x256x128, .f32⟩
  | .local _ .vmem, ⟨5, _⟩ => ⟨S8x256x128, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S8x256x128, .f32⟩
  | .local _ .vmem, ⟨11, _⟩ => ⟨S8x256x128, .f32⟩
  | .local _ .vmem, ⟨12, _⟩ => ⟨S1x1024, .f32⟩
  | .local _ .vmem, ⟨13, _⟩ => ⟨S1x1024, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v18 : BitVec 32 := Scalar.extui v0
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v20 : BitVec 1 := Scalar.xori v0 v_true
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v69 : BitVec 32 := Scalar.extui v0
  let c0_i32_36 : BitVec 32 := 0#32
  let v70 : BitVec 1 := Scalar.cmpi .ne v69 c0_i32_36
  v70

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_37 : BitVec 1 := 1#1
  let v71 : BitVec 1 := Scalar.xori v0 true_37
  let v72 : BitVec 32 := Scalar.extui v71
  let c0_i32_38 : BitVec 32 := 0#32
  let v73 : BitVec 1 := Scalar.cmpi .ne v72 c0_i32_38
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference20Ideal.lean ====
abbrev S1x2048x2048 : Shape := ⟨3, ![1, 2048, 2048]⟩
abbrev S1x2048x1024 : Shape := ⟨3, ![1, 2048, 1024]⟩
abbrev S1x1024 : Shape := ⟨2, ![1, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩
abbrev S1024 : Shape := ⟨1, ![1024]⟩
abbrev S2048x8x128 : Shape := ⟨3, ![2048, 8, 128]⟩
abbrev S8x2048x128 : Shape := ⟨3, ![8, 2048, 128]⟩

abbrev nBuf : Space → Nat
  | .hbm => 97
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x1024, .f32⟩
  | .hbm, ⟨2, _⟩ => ⟨S1x2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x2048, .f32⟩
  | .hbm, ⟨46, _⟩ => ⟨S2048x2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S2048, .f32⟩
  | .hbm, ⟨81, _⟩ => ⟨S2048x1, .f32⟩
  | .hbm, ⟨82, _⟩ => ⟨S2048x1024, .f32⟩
  | .hbm, ⟨83, _⟩ => ⟨S2048x1024, .f32⟩
  | .hbm, ⟨84, _⟩ => ⟨S2048x1, .f32⟩
  | .hbm, ⟨85, _⟩ => ⟨S_, .f32⟩
  | .hbm, ⟨86, _⟩ => ⟨S2048x1, .f32⟩
  | .hbm, ⟨87, _⟩ => ⟨S2048x1, .f32⟩
  | .hbm, ⟨88, _⟩ => ⟨S_, .f32⟩
  | .hbm, ⟨89, _⟩ => ⟨S2048, .f32⟩
  | .hbm, ⟨90, _⟩ => ⟨S2048x1024, .f32⟩
  | .hbm, ⟨91, _⟩ => ⟨S2048x1024, .f32⟩
  | .hbm, ⟨92, _⟩ => ⟨S2048x1024, .f32⟩
  | .hbm, ⟨93, _⟩ => ⟨S2048x1024, .f32⟩
  | .hbm, ⟨94, _⟩ => ⟨S2048x1024, .f32⟩
  | .hbm, ⟨95, _⟩ => ⟨S2048x8x128, .f32⟩
  | .hbm, ⟨96, _⟩ => ⟨S8x2048x128, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_v48 : Ref sig .tc := ⟨.hbm, 64, rfl⟩
abbrev main_cst_10 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_11 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_cst_14 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩

abbrev nD : Nat := 1
abbrev τ : Topo := Topo.v7x

variable {F : FTy → Type} [FloatOps F]
-- ==== Kernel21.lean ====
abbrev S1x256x2048 : Shape := ⟨3, ![1, 256, 2048]⟩
abbrev S2048x4096 : Shape := ⟨2, ![2048, 4096]⟩
abbrev S256x2048 : Shape := ⟨2, ![256, 2048]⟩
abbrev S2048x8x512 : Shape := ⟨3, ![2048, 8, 512]⟩
abbrev S8x2048x512 : Shape := ⟨3, ![8, 2048, 512]⟩
abbrev S256x4096 : Shape := ⟨2, ![256, 4096]⟩
abbrev S1x2048x512 : Shape := ⟨3, ![1, 2048, 512]⟩
abbrev S256x512 : Shape := ⟨2, ![256, 512]⟩
abbrev S2048x512 : Shape := ⟨2, ![2048, 512]⟩

abbrev nBuf : Space → Nat
  | .hbm => 8
  | .vmem => 5
  | .smem => 0
  | _ => 0

abbrev bufTy : (tb : Table) → Fin (tcTables nBuf tb) → BufTy
  | .hbm, ⟨0, _⟩ => ⟨S1x256x2048, .f32⟩
  | .hbm, ⟨1, _⟩ => ⟨S2048x4096, .f32⟩
  | .hbm, ⟨2, _⟩ => ⟨S256x2048, .f32⟩
  | .hbm, ⟨3, _⟩ => ⟨S256x2048, .bf16⟩
  | .hbm, ⟨4, _⟩ => ⟨S2048x8x512, .f32⟩
  | .hbm, ⟨5, _⟩ => ⟨S8x2048x512, .f32⟩
  | .hbm, ⟨6, _⟩ => ⟨S8x2048x512, .bf16⟩
  | .hbm, ⟨7, _⟩ => ⟨S256x4096, .bf16⟩
  | .local _ .vmem, ⟨0, _⟩ => ⟨S256x2048, .bf16⟩
  | .local _ .vmem, ⟨1, _⟩ => ⟨S1x2048x512, .bf16⟩
  | .local _ .vmem, ⟨2, _⟩ => ⟨S1x2048x512, .bf16⟩
  | .local _ .vmem, ⟨3, _⟩ => ⟨S256x512, .bf16⟩
  | .local _ .vmem, ⟨4, _⟩ => ⟨S256x512, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S1x256x2048 : Shape := ⟨3, ![1, 256, 2048]⟩
abbrev S2048x4096 : Shape := ⟨2, ![2048, 4096]⟩
abbrev S256x2048 : Shape := ⟨2, ![256, 2048]⟩
abbrev S256x4096 : Shape := ⟨2, ![256, 4096]⟩

abbrev nBuf : Space → Nat
  | .hbm => 5
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S2048x4096, .f32⟩
  | .hbm, ⟨2, _⟩ => ⟨S256x2048, .f32⟩
  | .hbm, ⟨3, _⟩ => ⟨S256x4096, .f32⟩
  | .hbm, ⟨4, _⟩ => ⟨S256x4096, .bf16⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S1x256x2048 : Shape := ⟨3, ![1, 256, 2048]⟩
abbrev S1x256x4096 : Shape := ⟨3, ![1, 256, 4096]⟩
abbrev S256x2048 : Shape := ⟨2, ![256, 2048]⟩
abbrev S256x4096 : Shape := ⟨2, ![256, 4096]⟩
abbrev S8x2048x512 : Shape := ⟨3, ![8, 2048, 512]⟩
abbrev S256x512 : Shape := ⟨2, ![256, 512]⟩
abbrev S1x512x512 : Shape := ⟨3, ![1, 512, 512]⟩
abbrev S512x512 : Shape := ⟨2, ![512, 512]⟩

abbrev nBuf : Space → Nat
  | .hbm => 7
  | .vmem => 6
  | .smem => 0
  | _ => 0

abbrev bufTy : (tb : Table) → Fin (tcTables nBuf tb) → BufTy
  | .hbm, ⟨0, _⟩ => ⟨S1x256x2048, .f32⟩
  | .hbm, ⟨1, _⟩ => ⟨S1x256x4096, .f32⟩
  | .hbm, ⟨2, _⟩ => ⟨S256x2048, .f32⟩
  | .hbm, ⟨3, _⟩ => ⟨S256x2048, .bf16⟩
  | .hbm, ⟨4, _⟩ => ⟨S256x4096, .f32⟩
  | .hbm, ⟨5, _⟩ => ⟨S256x4096, .bf16⟩
  | .hbm, ⟨6, _⟩ => ⟨S8x2048x512, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S1x512x512, .bf16⟩
  | .local _ .vmem, ⟨5, _⟩ => ⟨S1x512x512, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S1x256x2048 : Shape := ⟨3, ![1, 256, 2048]⟩
abbrev S1x256x4096 : Shape := ⟨3, ![1, 256, 4096]⟩
abbrev S_ : Shape := ⟨0, ![]⟩
abbrev S2048x4096 : Shape := ⟨2, ![2048, 4096]⟩
abbrev S256x2048 : Shape := ⟨2, ![256, 2048]⟩
abbrev S256x4096 : Shape := ⟨2, ![256, 4096]⟩
abbrev S4096x2048 : Shape := ⟨2, ![4096, 2048]⟩
abbrev S2048x8x512 : Shape := ⟨3, ![2048, 8, 512]⟩
abbrev S8x2048x512 : Shape := ⟨3, ![8, 2048, 512]⟩

abbrev nBuf : Space → Nat
  | .hbm => 12
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x256x4096, .f32⟩
  | .hbm, ⟨2, _⟩ => ⟨S_, .f32⟩
  | .hbm, ⟨3, _⟩ => ⟨S2048x4096, .f32⟩
  | .hbm, ⟨4, _⟩ => ⟨S256x2048, .f32⟩
  | .hbm, ⟨5, _⟩ => ⟨S256x4096, .f32⟩
  | .hbm, ⟨6, _⟩ => ⟨S256x4096, .f32⟩
  | .hbm, ⟨7, _⟩ => ⟨S4096x2048, .f32⟩
  | .hbm, ⟨8, _⟩ => ⟨S2048x4096, .f32⟩
  | .hbm, ⟨9, _⟩ => ⟨S2048x8x512, .f32⟩
  | .hbm, ⟨10, _⟩ => ⟨S8x2048x512, .f32⟩
  | .hbm, ⟨11, _⟩ => ⟨S8x2048x512, .bf16⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel23.lean ====
abbrev S1x256x4096 : Shape := ⟨3, ![1, 256, 4096]⟩
abbrev S2048x4096 : Shape := ⟨2, ![2048, 4096]⟩
abbrev S256x4096 : Shape := ⟨2, ![256, 4096]⟩
abbrev S2048x8x512 : Shape := ⟨3, ![2048, 8, 512]⟩
abbrev S8x2048x512 : Shape := ⟨3, ![8, 2048, 512]⟩
abbrev S256x2048 : Shape := ⟨2, ![256, 2048]⟩
abbrev S256x512 : Shape := ⟨2, ![256, 512]⟩
abbrev S1x2048x512 : Shape := ⟨3, ![1, 2048, 512]⟩
abbrev S2048x512 : Shape := ⟨2, ![2048, 512]⟩

abbrev nBuf : Space → Nat
  | .hbm => 8
  | .vmem => 5
  | .smem => 0
  | _ => 0

abbrev bufTy : (tb : Table) → Fin (tcTables nBuf tb) → BufTy
  | .hbm, ⟨0, _⟩ => ⟨S1x256x4096, .f32⟩
  | .hbm, ⟨1, _⟩ => ⟨S2048x4096, .f32⟩
  | .hbm, ⟨2, _⟩ => ⟨S256x4096, .f32⟩
  | .hbm, ⟨3, _⟩ => ⟨S256x4096, .bf16⟩
  | .hbm, ⟨4, _⟩ => ⟨S2048x8x512, .f32⟩
  | .hbm, ⟨5, _⟩ => ⟨S8x2048x512, .f32⟩
  | .hbm, ⟨6, _⟩ => ⟨S8x2048x512, .bf16⟩
  | .hbm, ⟨7, _⟩ => ⟨S256x2048, .f32⟩
  | .local _ .vmem, ⟨0, _⟩ => ⟨S256x512, .bf16⟩
  | .local _ .vmem, ⟨1, _⟩ => ⟨S256x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S256x2048, .f32⟩
  | _, _ => ⟨S1x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32_5 : BitVec 32 := 0#32
  let v8 : BitVec 1 := Scalar.cmpi .sgt arg1 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference23Ideal.lean ====
abbrev S1x256x4096 : Shape := ⟨3, ![1, 256, 4096]⟩
abbrev S2048x4096 : Shape := ⟨2, ![2048, 4096]⟩
abbrev S_ : Shape := ⟨0, ![]⟩
abbrev S256x2048 : Shape := ⟨2, ![256, 2048]⟩
abbrev S256x4096 : Shape := ⟨2, ![256, 4096]⟩

abbrev nBuf : Space → Nat
  | .hbm => 7
  | .vmem => 0
  | .smem => 0
  | _ => 0

abbrev bufTy : (tb : Table) → Fin (tcTables nBuf tb) → BufTy
  | .hbm, ⟨0, _⟩ => ⟨S1x256x4096, .f32⟩
  | .hbm, ⟨1, _⟩ => ⟨S2048x4096, .f32⟩
  | .hbm, ⟨2, _⟩ => ⟨S_, .f32⟩
  | .hbm, ⟨3, _⟩ => ⟨S256x2048, .f32⟩
  | .hbm, ⟨4, _⟩ => ⟨S256x4096, .f32⟩
  | .hbm, ⟨5, _⟩ => ⟨S256x4096, .f32⟩
  | .hbm, ⟨6, _⟩ => ⟨S256x2048, .f32⟩
  | _, _ => ⟨S1x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel24.lean ====
abbrev S1x2048x2048 : Shape := ⟨3, ![1, 2048, 2048]⟩
abbrev S1x1024 : Shape := ⟨2, ![1, 1024]⟩
abbrev S8x128x128 : Shape := ⟨3, ![8, 128, 128]⟩
abbrev S8x128 : Shape := ⟨2, ![8, 128]⟩
abbrev S2048x2048 : Shape := ⟨2, ![2048, 2048]⟩
abbrev S128x8 : Shape := ⟨2, ![128, 8]⟩
abbrev S2048x1024 : Shape := ⟨2, ![2048, 1024]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x128x128 : Shape := ⟨3, ![1, 128, 128]⟩

abbrev nBuf : Space → Nat
  | .hbm => 8
  | .vmem => 10
  | .smem => 0
  | _ => 0

abbrev bufTy : (tb : Table) → Fin (tcTables nBuf tb) → BufTy
  | .hbm, ⟨0, _⟩ => ⟨S1x2048x2048, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S2048x2048, .f32⟩
  | .hbm, ⟨6, _⟩ => ⟨S128x8, .f32⟩
  | .hbm, ⟨7, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S128x1024, .f32⟩
  | .local _ .vmem, ⟨9, _⟩ => ⟨S128x1024, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel24Ideal.lean ====
variable {F : FTy → Type} [FloatOps F] [Named F]
def κ : String → Option EReal := fun
  | "cubic" => some ((8943 / 200000 : ℝ) : EReal)
  | _ => none
-- ==== Reference24Ideal.lean ====
abbrev S1x2048x2048 : Shape := ⟨3, ![1, 2048, 2048]⟩
abbrev S1x1024 : Shape := ⟨2, ![1, 1024]⟩
abbrev S8x128x128 : Shape := ⟨3, ![8, 128, 128]⟩
abbrev S8x128 : Shape := ⟨2, ![8, 128]⟩
abbrev S2048x2048 : Shape := ⟨2, ![2048, 2048]⟩
abbrev S_ : Shape := ⟨0, ![]⟩
abbrev S2048x1024 : Shape := ⟨2, ![2048, 1024]⟩
abbrev S2048x8x128 : Shape := ⟨3, ![2048, 8, 128]⟩
abbrev S2048x8 : Shape := ⟨2, ![2048, 8]⟩
abbrev S2048x8x1 : Shape := ⟨3, ![2048, 8, 1]⟩
abbrev S1x8x128 : Shape := ⟨3, ![1, 8, 128]⟩
abbrev S16x128x8x128 : Shape := ⟨4, ![16, 128, 8, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S8x16x128x128 : Shape := ⟨4, ![8, 16, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 99
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x1024, .f32⟩
  | .hbm, ⟨27, _⟩ => ⟨S2048x1024, .f32⟩
  | .hbm, ⟨28, _⟩ => ⟨S2048x8x128, .f32⟩
  | .hbm, ⟨29, _⟩ => ⟨S8x128, .f32⟩
  | .hbm, ⟨30, _⟩ => ⟨S8x128, .f32⟩
  | .hbm, ⟨31, _⟩ => ⟨S_, .f32⟩
  | .hbm, ⟨32, _⟩ => ⟨S2048x8, .f32⟩
  | .hbm, ⟨33, _⟩ => ⟨S2048x8x1, .f32⟩
  | .hbm, ⟨34, _⟩ => ⟨S_, .f32⟩
  | .hbm, ⟨35, _⟩ => ⟨S2048x8x1, .f32⟩
  | .hbm, ⟨36, _⟩ => ⟨S2048x8x1, .f32⟩
  | .hbm, ⟨37, _⟩ => ⟨S2048x8x128, .f32⟩
  | .hbm, ⟨38, _⟩ => ⟨S2048x8x128, .f32⟩
  | .hbm, ⟨39, _⟩ => ⟨S2048x8x128, .f32⟩
  | .hbm, ⟨40, _⟩ => ⟨S_, .f32⟩
  | .hbm, ⟨41, _⟩ => ⟨S2048x8, .f32⟩
  | .hbm, ⟨42, _⟩ => ⟨S2048x8x1, .f32⟩
  | .hbm, ⟨43, _⟩ => ⟨S_, .f32⟩
  | .hbm, ⟨44, _⟩ => ⟨S2048x8x1, .f32⟩
  | .hbm, ⟨45, _⟩ => ⟨S2048x8x1, .f32⟩
  | .hbm, ⟨46, _⟩ => ⟨S2048x8x128, .f32⟩
  | .hbm, ⟨47, _⟩ => ⟨S2048x8x128, .f32⟩
  | .hbm, ⟨48, _⟩ => ⟨S_, .f32⟩
  | .hbm, ⟨49, _⟩ => ⟨S2048x8x1, .f32⟩
  | .hbm, ⟨50, _⟩ => ⟨S2048x8x1, .f32⟩
  | .hbm, ⟨51, _⟩ => ⟨S2048x8x1, .f32⟩
  | .hbm, ⟨52, _⟩ => ⟨S2048x8x128, .f32⟩
  | .hbm, ⟨53, _⟩ => ⟨S2048x8x128, .f32⟩
  | .hbm, ⟨54, _⟩ => ⟨S1x8x128, .f32⟩
  | .hbm, ⟨55, _⟩ => ⟨S2048x8x128, .f32⟩
  | .hbm, ⟨56, _⟩ => ⟨S2048x8x128, .f32⟩
  | .hbm, ⟨57, _⟩ => ⟨S1x8x128, .f32⟩
  | .hbm, ⟨58, _⟩ => ⟨S2048x8x128, .f32⟩
  | .hbm, ⟨59, _⟩ => ⟨S2048x8x128, .f32⟩
  | .hbm, ⟨60, _⟩ => ⟨S16x128x8x128, .f32⟩
  | .hbm, ⟨61, _⟩ => ⟨S128, .i32⟩
  | .hbm, ⟨62, _⟩ => ⟨S_, .i32⟩
  | .hbm, ⟨63, _⟩ => ⟨S_, .i32⟩
  | .hbm, ⟨64, _⟩ => ⟨S128, .i32⟩
  | .hbm, ⟨65, _⟩ => ⟨S128, .i32⟩
  | .hbm, ⟨66, _⟩ => ⟨S128, .i32⟩
  | .hbm, ⟨67, _⟩ => ⟨S_, .i32⟩
  | .hbm, ⟨68, _⟩ => ⟨S128, .i32⟩
  | .hbm, ⟨69, _⟩ => ⟨S128, .i1⟩
  | .hbm, ⟨70, _⟩ => ⟨S128, .i32⟩
  | .hbm, ⟨71, _⟩ => ⟨S128, .i32⟩
  | .hbm, ⟨72, _⟩ => ⟨S_, .i32⟩
  | .hbm, ⟨73, _⟩ => ⟨S128, .i32⟩
  | .hbm, ⟨74, _⟩ => ⟨S128, .i1⟩
  | .hbm, ⟨75, _⟩ => ⟨S128, .i1⟩
  | .hbm, ⟨76, _⟩ => ⟨S_, .i32⟩
  | .hbm, ⟨77, _⟩ => ⟨S128, .i32⟩
  | .hbm, ⟨78, _⟩ => ⟨S128, .i32⟩
  | .hbm, ⟨79, _⟩ => ⟨S128, .i32⟩
  | .hbm, ⟨80, _⟩ => ⟨S1x128, .i32⟩
  | .hbm, ⟨81, _⟩ => ⟨S128x1, .i32⟩
  | .hbm, ⟨82, _⟩ => ⟨S128x128, .i32⟩
  | .hbm, ⟨83, _⟩ => ⟨S128x128, .i32⟩
  | .hbm, ⟨84, _⟩ => ⟨S128x128, .i1⟩
  | .hbm, ⟨85, _⟩ => ⟨S1x128x128, .i1⟩
  | .hbm, ⟨86, _⟩ => ⟨S_, .f32⟩
  | .hbm, ⟨87, _⟩ => ⟨S8x128x128, .i1⟩
  | .hbm, ⟨88, _⟩ => ⟨S8x128x128, .f32⟩
  | .hbm, ⟨89, _⟩ => ⟨S8x128x128, .f32⟩
  | .hbm, ⟨90, _⟩ => ⟨S8x16x128x128, .f32⟩
  | .hbm, ⟨91, _⟩ => ⟨S16x128x8x128, .f32⟩
  | .hbm, ⟨92, _⟩ => ⟨S128x8, .f32⟩
  | .hbm, ⟨93, _⟩ => ⟨S128x8x1, .f32⟩
  | .hbm, ⟨94, _⟩ => ⟨S1x128x8x1, .f32⟩
  | .hbm, ⟨95, _⟩ => ⟨S16x128x8x128, .f32⟩
  | .hbm, ⟨96, _⟩ => ⟨S16x128x8x128, .f32⟩
  | .hbm, ⟨97, _⟩ => ⟨S2048x1024, .f32⟩
  | .hbm, ⟨98, _⟩ => ⟨S2048x1024, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_v6 : Ref sig .tc := ⟨.hbm, 69, rfl⟩
abbrev main_call0_v7 : Ref sig .tc := ⟨.hbm, 70, rfl⟩
abbrev main_call0_v8 : Ref sig .tc := ⟨.hbm, 71, rfl⟩
abbrev main_call0_c : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_0 : Ref sig .tc := ⟨.hbm, 76, rfl⟩
abbrev main_call0_v12 : Ref sig .tc := ⟨.hbm, 77, rfl⟩
abbrev main_call0_v13 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_9 : Ref sig .tc := ⟨.hbm, 86, rfl⟩
abbrev main_call1_v0 : Ref sig .tc := ⟨.hbm, 87, rfl⟩
abbrev main_call1_v1 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩

abbrev nD : Nat := 1
abbrev τ : Topo := Topo.v7x

variable {F : FTy → Type} [FloatOps F]
-- ==== Kernel25.lean ====
abbrev S1x2048x2048 : Shape := ⟨3, ![1, 2048, 2048]⟩
abbrev S1x256x4096 : Shape := ⟨3, ![1, 256, 4096]⟩
abbrev S2048x2048 : Shape := ⟨2, ![2048, 2048]⟩
abbrev S_ : Shape := ⟨0, ![]⟩
abbrev S256x4096 : Shape := ⟨2, ![256, 4096]⟩
abbrev S256x2048 : Shape := ⟨2, ![256, 2048]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 10
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S1x256x4096, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .bf16⟩
  | .hbm, ⟨7, _⟩ => ⟨S256x4096, .f32⟩
  | .hbm, ⟨8, _⟩ => ⟨S256x4096, .bf16⟩
  | .hbm, ⟨9, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S256x4096, .bf16⟩
  | .local _ .vmem, ⟨3, _⟩ => ⟨S256x2048, .bf16⟩
  | .local _ .vmem, ⟨4, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference25Ideal.lean ====
abbrev S1x2048x2048 : Shape := ⟨3, ![1, 2048, 2048]⟩
abbrev S1x256x4096 : Shape := ⟨3, ![1, 256, 4096]⟩
abbrev S1x2048x4x512 : Shape := ⟨4, ![1, 2048, 4, 512]⟩
abbrev S_ : Shape := ⟨0, ![]⟩
abbrev S1x256x2048 : Shape := ⟨3, ![1, 256, 2048]⟩
abbrev S1x256x4x512 : Shape := ⟨4, ![1, 256, 4, 512]⟩
abbrev S1x4x2048x256 : Shape := ⟨4, ![1, 4, 2048, 256]⟩
abbrev S1x4x2048 : Shape := ⟨3, ![1, 4, 2048]⟩
abbrev S1x4x2048x1 : Shape := ⟨4, ![1, 4, 2048, 1]⟩
abbrev S1x4x512x2048 : Shape := ⟨4, ![1, 4, 512, 2048]⟩
abbrev S2048x2048 : Shape := ⟨2, ![2048, 2048]⟩

abbrev nBuf : Space → Nat
  | .hbm => 30
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x256x4096, .f32⟩
  | .hbm, ⟨2, _⟩ => ⟨S1x2048x4x512, .f32⟩
  | .hbm, ⟨3, _⟩ => ⟨S_, .f32⟩
  | .hbm, ⟨4, _⟩ => ⟨S1x2048x4x512, .f32⟩
  | .hbm, ⟨5, _⟩ => ⟨S1x2048x4x512, .f32⟩
  | .hbm, ⟨6, _⟩ => ⟨S1x256x2048, .f32⟩
  | .hbm, ⟨7, _⟩ => ⟨S1x256x2048, .f32⟩
  | .hbm, ⟨8, _⟩ => ⟨S1x256x4x512, .f32⟩
  | .hbm, ⟨9, _⟩ => ⟨S1x256x4x512, .f32⟩
  | .hbm, ⟨10, _⟩ => ⟨S1x4x2048x256, .f32⟩
  | .hbm, ⟨11, _⟩ => ⟨S_, .f32⟩
  | .hbm, ⟨12, _⟩ => ⟨S1x4x2048, .f32⟩
  | .hbm, ⟨13, _⟩ => ⟨S_, .f32⟩
  | .hbm, ⟨14, _⟩ => ⟨S1x4x2048, .f32⟩
  | .hbm, ⟨15, _⟩ => ⟨S1x4x2048, .f32⟩
  | .hbm, ⟨16, _⟩ => ⟨S1x4x2048x1, .f32⟩
  | .hbm, ⟨17, _⟩ => ⟨S1x4x2048x256, .f32⟩
  | .hbm, ⟨18, _⟩ => ⟨S1x4x2048x256, .f32⟩
  | .hbm, ⟨19, _⟩ => ⟨S1x4x2048x256, .f32⟩
  | .hbm, ⟨20, _⟩ => ⟨S_, .f32⟩
  | .hbm, ⟨21, _⟩ => ⟨S1x4x2048, .f32⟩
  | .hbm, ⟨22, _⟩ => ⟨S1x4x2048x1, .f32⟩
  | .hbm, ⟨23, _⟩ => ⟨S1x4x2048x256, .f32⟩
  | .hbm, ⟨24, _⟩ => ⟨S1x4x2048x256, .f32⟩
  | .hbm, ⟨25, _⟩ => ⟨S1x4x512x2048, .f32⟩
  | .hbm, ⟨26, _⟩ => ⟨S1x2048x4x512, .f32⟩
  | .hbm, ⟨27, _⟩ => ⟨S1x2048x2048, .f32⟩
  | .hbm, ⟨28, _⟩ => ⟨S2048x2048, .f32⟩
  | .hbm, ⟨29, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== Kernel26.lean ====
abbrev S1x2048x2048 : Shape := ⟨3, ![1, 2048, 2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S2048x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S1x2048x2048 : Shape := ⟨3, ![1, 2048, 2048]⟩
abbrev S1x2048 : Shape := ⟨2, ![1, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel27.lean ====
abbrev S1x2048x1024 : Shape := ⟨3, ![1, 2048, 1024]⟩
abbrev S1x1024 : Shape := ⟨2, ![1, 1024]⟩
abbrev S2048x1024 : Shape := ⟨2, ![2048, 1024]⟩
abbrev S2048x8x128 : Shape := ⟨3, ![2048, 8, 128]⟩
abbrev S8x2048x128 : Shape := ⟨3, ![8, 2048, 128]⟩
abbrev S2048x2048 : Shape := ⟨2, ![2048, 2048]⟩
abbrev S256x1024 : Shape := ⟨2, ![256, 1024]⟩
abbrev S8x256x128 : Shape := ⟨3, ![8, 256, 128]⟩
abbrev S256x2048 : Shape := ⟨2, ![256, 2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 9
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x8x128, .f32⟩
  | .hbm, ⟨7, _⟩ => ⟨S8x2048x128, .f32⟩
  | .hbm, ⟨8, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S8x256x128, .f32⟩
  | .local _ .vmem, ⟨3, _⟩ => ⟨S8x256x128, .f32⟩
  | .local _ .vmem, ⟨4, _⟩ => ⟨S1x1024, .f32⟩
  | .local _ .vmem, ⟨5, _⟩ => ⟨S1x1024, .f32⟩
  | .local _ .vmem, ⟨6, _⟩ => ⟨S256x2048, .bf16⟩
  | .local _ .vmem, ⟨7, _⟩ => ⟨S256x2048, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference27Ideal.lean ====
abbrev S1x2048x1024 : Shape := ⟨3, ![1, 2048, 1024]⟩
abbrev S1x1024 : Shape := ⟨2, ![1, 1024]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S2048x2048 : Shape := ⟨2, ![2048, 2048]⟩

abbrev nBuf : Space → Nat
  | .hbm => 38
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x2048, .f32⟩
  | .hbm, ⟨37, _⟩ => ⟨S2048x2048, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel28.lean ====
abbrev S1x2048x2048 : Shape := ⟨3, ![1, 2048, 2048]⟩
abbrev S1x2048 : Shape := ⟨2, ![1, 2048]⟩
abbrev S2048x2048 : Shape := ⟨2, ![2048, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 9
  | .vmem => 11
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S8x128, .f32⟩
  | .hbm, ⟨6, _⟩ => ⟨S2048x2048, .f32⟩
  | .hbm, ⟨7, _⟩ => ⟨S2048x2048, .bf16⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S8x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v31 : BitVec 32 := Scalar.extui v30
  let c0_i32_12 : BitVec 32 := 0#32
  let v32 : BitVec 1 := Scalar.cmpi .ne v31 c0_i32_12
  v32

def k0_cond2 (i : grid0.Coords) : BitVec 1 :=
  let arg0 : BitVec 32 := BitVec.ofNat 32 (i 0).val
  let c0_i32_13 : BitVec 32 := 0#32
  let v33 : BitVec 1 := Scalar.cmpi .sgt arg0 c0_i32_13
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference28Ideal.lean ====
abbrev S1x2048x2048 : Shape := ⟨3, ![1, 2048, 2048]⟩
abbrev S1x2048 : Shape := ⟨2, ![1, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S8x128 : Shape := ⟨2, ![8, 128]⟩

abbrev nBuf : Space → Nat
  | .hbm => 75
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2048, .f32⟩
  | .hbm, ⟨42, _⟩ => ⟨S_, .f32⟩
  | .hbm, ⟨43, _⟩ => ⟨S2048, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S_, .f32⟩
  | .hbm, ⟨55, _⟩ => ⟨S2048, .f32⟩
  | .hbm, ⟨56, _⟩ => ⟨S2048x1, .f32⟩
  | .hbm, ⟨57, _⟩ => ⟨S2048x2048, .f32⟩
  | .hbm, ⟨58, _⟩ => ⟨S2048x2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S8x128, .f32⟩
  | .hbm, ⟨71, _⟩ => ⟨S_, .f32⟩
  | .hbm, ⟨72, _⟩ => ⟨S2048x2048, .f32⟩
  | .hbm, ⟨73, _⟩ => ⟨S2048x2048, .f32⟩
  | .hbm, ⟨74, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_12 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_15 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel29.lean ====
abbrev S4x2048x1408 : Shape := ⟨3, ![4, 2048, 1408]⟩
abbrev S1x2048x1408 : Shape := ⟨3, ![1, 2048, 1408]⟩
abbrev S2048x1408 : Shape := ⟨2, ![2048, 1408]⟩
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x1408, .f32⟩
  | .hbm, ⟨1, _⟩ => ⟨S1x2048x1408, .f32⟩
  | .hbm, ⟨2, _⟩ => ⟨S1x2048x1408, .f32⟩
  | .hbm, ⟨3, _⟩ => ⟨S1x2048x1408, .f32⟩
  | .hbm, ⟨4, _⟩ => ⟨S4x2048x1408, .bf16⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S2048x1408, .f32⟩
  | .local _ .vmem, ⟨0, _⟩ => ⟨S4x256x1408, .bf16⟩
  | .local _ .vmem, ⟨1, _⟩ => ⟨S4x256x1408, .bf16⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S4x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference29Ideal.lean ====
abbrev S4x2048x1408 : Shape := ⟨3, ![4, 2048, 1408]⟩
abbrev S1x2048x1408 : Shape := ⟨3, ![1, 2048, 1408]⟩
abbrev S2048x1408 : Shape := ⟨2, ![2048, 1408]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x1408, .f32⟩
  | .hbm, ⟨1, _⟩ => ⟨S1x2048x1408, .f32⟩
  | .hbm, ⟨2, _⟩ => ⟨S1x2048x1408, .f32⟩
  | .hbm, ⟨3, _⟩ => ⟨S1x2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S_, .f32⟩
  | .hbm, ⟨13, _⟩ => ⟨S2048x1408, .f32⟩
  | .hbm, ⟨14, _⟩ => ⟨S2048x1408, .f32⟩
  | .hbm, ⟨15, _⟩ => ⟨S2048x1408, .f32⟩
  | .hbm, ⟨16, _⟩ => ⟨S_, .f32⟩
  | .hbm, ⟨17, _⟩ => ⟨S2048x1408, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S_, .f32⟩
  | .hbm, ⟨28, _⟩ => ⟨S2048x1408, .f32⟩
  | .hbm, ⟨29, _⟩ => ⟨S2048x1408, .f32⟩
  | .hbm, ⟨30, _⟩ => ⟨S2048x1408, .f32⟩
  | .hbm, ⟨31, _⟩ => ⟨S_, .f32⟩
  | .hbm, ⟨32, _⟩ => ⟨S2048x1408, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | .hbm, ⟨38, _⟩ => ⟨S2048x1408, .f32⟩
  | .hbm, ⟨39, _⟩ => ⟨S_, .f32⟩
  | .hbm, ⟨40, _⟩ => ⟨S2048x1408, .f32⟩
  | .hbm, ⟨41, _⟩ => ⟨S2048x1408, .f32⟩
  | _, _ => ⟨S4x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel30.lean ====
abbrev S4x704x2048 : Shape := ⟨3, ![4, 704, 2048]⟩
abbrev S1x704x2048 : Shape := ⟨3, ![1, 704, 2048]⟩
abbrev S704x2048 : Shape := ⟨2, ![704, 2048]⟩
abbrev S4x176x2048 : Shape := ⟨3, ![4, 176, 2048]⟩
abbrev S176x2048 : Shape := ⟨2, ![176, 2048]⟩
abbrev S1x176x2048 : Shape := ⟨3, ![1, 176, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x704x2048, .f32⟩
  | .hbm, ⟨1, _⟩ => ⟨S1x704x2048, .f32⟩
  | .hbm, ⟨2, _⟩ => ⟨S1x704x2048, .f32⟩
  | .hbm, ⟨3, _⟩ => ⟨S1x704x2048, .f32⟩
  | .hbm, ⟨4, _⟩ => ⟨S4x704x2048, .bf16⟩
  | .hbm, ⟨5, _⟩ => ⟨S704x2048, .f32⟩
  | .hbm, ⟨6, _⟩ => ⟨S704x2048, .f32⟩
  | .hbm, ⟨7, _⟩ => ⟨S704x2048, .f32⟩
  | .hbm, ⟨8, _⟩ => ⟨S704x2048, .f32⟩
  | .hbm, ⟨9, _⟩ => ⟨S704x2048, .f32⟩
  | .hbm, ⟨10, _⟩ => ⟨S704x2048, .f32⟩
  | .hbm, ⟨11, _⟩ => ⟨S704x2048, .f32⟩
  | .local _ .vmem, ⟨0, _⟩ => ⟨S4x176x2048, .bf16⟩
  | .local _ .vmem, ⟨1, _⟩ => ⟨S4x176x2048, .bf16⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | _, _ => ⟨S4x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference30Ideal.lean ====
abbrev S4x704x2048 : Shape := ⟨3, ![4, 704, 2048]⟩
abbrev S1x704x2048 : Shape := ⟨3, ![1, 704, 2048]⟩
abbrev S704x2048 : Shape := ⟨2, ![704, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4x704x2048, .f32⟩
  | .hbm, ⟨1, _⟩ => ⟨S1x704x2048, .f32⟩
  | .hbm, ⟨2, _⟩ => ⟨S1x704x2048, .f32⟩
  | .hbm, ⟨3, _⟩ => ⟨S1x704x2048, .f32⟩
  | .hbm, ⟨4, _⟩ => ⟨S704x2048, .f32⟩
  | .hbm, ⟨5, _⟩ => ⟨S704x2048, .f32⟩
  | .hbm, ⟨6, _⟩ => ⟨S704x2048, .f32⟩
  | .hbm, ⟨7, _⟩ => ⟨S_, .f32⟩
  | .hbm, ⟨8, _⟩ => ⟨S704x2048, .f32⟩
  | .hbm, ⟨9, _⟩ => ⟨S_, .f32⟩
  | .hbm, ⟨10, _⟩ => ⟨S704x2048, .f32⟩
  | .hbm, ⟨11, _⟩ => ⟨S704x2048, .f32⟩
  | .hbm, ⟨12, _⟩ => ⟨S_, .f32⟩
  | .hbm, ⟨13, _⟩ => ⟨S704x2048, .f32⟩
  | .hbm, ⟨14, _⟩ => ⟨S704x2048, .f32⟩
  | .hbm, ⟨15, _⟩ => ⟨S704x2048, .f32⟩
  | .hbm, ⟨16, _⟩ => ⟨S_, .f32⟩
  | .hbm, ⟨17, _⟩ => ⟨S704x2048, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S_, .f32⟩
  | .hbm, ⟨28, _⟩ => ⟨S704x2048, .f32⟩
  | .hbm, ⟨29, _⟩ => ⟨S704x2048, .f32⟩
  | .hbm, ⟨30, _⟩ => ⟨S704x2048, .f32⟩
  | .hbm, ⟨31, _⟩ => ⟨S_, .f32⟩
  | .hbm, ⟨32, _⟩ => ⟨S704x2048, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | _, _ => ⟨S4x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel31.lean ====
abbrev S4x2048x640 : Shape := ⟨3, ![4, 2048, 640]⟩
abbrev S1x2048x640 : Shape := ⟨3, ![1, 2048, 640]⟩
abbrev S2048x640 : Shape := ⟨2, ![2048, 640]⟩
abbrev S4x256x640 : Shape := ⟨3, ![4, 256, 640]⟩
abbrev S256x640 : Shape := ⟨2, ![256, 640]⟩
abbrev S1x256x640 : Shape := ⟨3, ![1, 256, 640]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x640, .f32⟩
  | .hbm, ⟨1, _⟩ => ⟨S1x2048x640, .f32⟩
  | .hbm, ⟨2, _⟩ => ⟨S1x2048x640, .f32⟩
  | .hbm, ⟨3, _⟩ => ⟨S1x2048x640, .f32⟩
  | .hbm, ⟨4, _⟩ => ⟨S4x2048x640, .bf16⟩
  | .hbm, ⟨5, _⟩ => ⟨S2048x640, .f32⟩
  | .hbm, ⟨6, _⟩ => ⟨S2048x640, .f32⟩
  | .hbm, ⟨7, _⟩ => ⟨S2048x640, .f32⟩
  | .hbm, ⟨8, _⟩ => ⟨S2048x640, .f32⟩
  | .hbm, ⟨9, _⟩ => ⟨S2048x640, .f32⟩
  | .hbm, ⟨10, _⟩ => ⟨S2048x640, .f32⟩
  | .hbm, ⟨11, _⟩ => ⟨S2048x640, .f32⟩
  | .local _ .vmem, ⟨0, _⟩ => ⟨S4x256x640, .bf16⟩
  | .local _ .vmem, ⟨1, _⟩ => ⟨S4x256x640, .bf16⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S256x640, .f32⟩
  | .local _ .vmem, ⟨7, _⟩ => ⟨S256x640, .f32⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | _, _ => ⟨S4x2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference31Ideal.lean ====
abbrev S4x2048x640 : Shape := ⟨3, ![4, 2048, 640]⟩
abbrev S1x2048x640 : Shape := ⟨3, ![1, 2048, 640]⟩
abbrev S2048x640 : Shape := ⟨2, ![2048, 640]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x640, .f32⟩
  | .hbm, ⟨1, _⟩ => ⟨S1x2048x640, .f32⟩
  | .hbm, ⟨2, _⟩ => ⟨S1x2048x640, .f32⟩
  | .hbm, ⟨3, _⟩ => ⟨S1x2048x640, .f32⟩
  | .hbm, ⟨4, _⟩ => ⟨S2048x640, .f32⟩
  | .hbm, ⟨5, _⟩ => ⟨S2048x640, .f32⟩
  | .hbm, ⟨6, _⟩ => ⟨S2048x640, .f32⟩
  | .hbm, ⟨7, _⟩ => ⟨S_, .f32⟩
  | .hbm, ⟨8, _⟩ => ⟨S2048x640, .f32⟩
  | .hbm, ⟨9, _⟩ => ⟨S_, .f32⟩
  | .hbm, ⟨10, _⟩ => ⟨S2048x640, .f32⟩
  | .hbm, ⟨11, _⟩ => ⟨S2048x640, .f32⟩
  | .hbm, ⟨12, _⟩ => ⟨S_, .f32⟩
  | .hbm, ⟨13, _⟩ => ⟨S2048x640, .f32⟩
  | .hbm, ⟨14, _⟩ => ⟨S2048x640, .f32⟩
  | .hbm, ⟨15, _⟩ => ⟨S2048x640, .f32⟩
  | .hbm, ⟨16, _⟩ => ⟨S_, .f32⟩
  | .hbm, ⟨17, _⟩ => ⟨S2048x640, .f32⟩
  | .hbm, ⟨18, _⟩ => ⟨S2048x640, .f32⟩
  | .hbm, ⟨19, _⟩ => ⟨S2048x640, .f32⟩
  | .hbm, ⟨20, _⟩ => ⟨S_, .f32⟩
  | .hbm, ⟨21, _⟩ => ⟨S2048x640, .f32⟩
  | .hbm, ⟨22, _⟩ => ⟨S2048x640, .f32⟩
  | .hbm, ⟨23, _⟩ => ⟨S2048x640, .f32⟩
  | .hbm, ⟨24, _⟩ => ⟨S_, .f32⟩
  | .hbm, ⟨25, _⟩ => ⟨S2048x640, .f32⟩
  | .hbm, ⟨26, _⟩ => ⟨S2048x640, .f32⟩
  | .hbm, ⟨27, _⟩ => ⟨S_, .f32⟩
  | .hbm, ⟨28, _⟩ => ⟨S2048x640, .f32⟩
  | .hbm, ⟨29, _⟩ => ⟨S2048x640, .f32⟩
  | .hbm, ⟨30, _⟩ => ⟨S2048x640, .f32⟩
  | .hbm, ⟨31, _⟩ => ⟨S_, .f32⟩
  | .hbm, ⟨32, _⟩ => ⟨S2048x640, .f32⟩
  | .hbm, ⟨33, _⟩ => ⟨S2048x640, .f32⟩
  | .hbm, ⟨34, _⟩ => ⟨S2048x640, .f32⟩
  | .hbm, ⟨35, _⟩ => ⟨S_, .f32⟩
  | .hbm, ⟨36, _⟩ => ⟨S2048x640, .f32⟩
  | .hbm, ⟨37, _⟩ => ⟨S2048x640, .f32⟩
  | .hbm, ⟨38, _⟩ => ⟨S2048x640, .f32⟩
  | .hbm, ⟨39, _⟩ => ⟨S_, .f32⟩
  | .hbm, ⟨40, _⟩ => ⟨S2048x640, .f32⟩
  | .hbm, ⟨41, _⟩ => ⟨S2048x640, .f32⟩
  | _, _ => ⟨S4x2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel32.lean ====
abbrev S4x256x2048 : Shape := ⟨3, ![4, 256, 2048]⟩
abbrev S1x256x2048 : Shape := ⟨3, ![1, 256, 2048]⟩
abbrev S256x2048 : Shape := ⟨2, ![256, 2048]⟩

abbrev nBuf : Space → Nat
  | .hbm => 12
  | .vmem => 8
  | .smem => 0
  | _ => 0

abbrev bufTy : (tb : Table) → Fin (tcTables nBuf tb) → BufTy
  | .hbm, ⟨0, _⟩ => ⟨S4x256x2048, .f32⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S4x256x2048, .bf16⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S256x2048, .f32⟩
  | .local _ .vmem, ⟨0, _⟩ => ⟨S4x256x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference32Ideal.lean ====
abbrev S4x256x2048 : Shape := ⟨3, ![4, 256, 2048]⟩
abbrev S1x256x2048 : Shape := ⟨3, ![1, 256, 2048]⟩
abbrev S256x2048 : Shape := ⟨2, ![256, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x256x2048, .f32⟩
  | .hbm, ⟨2, _⟩ => ⟨S1x256x2048, .f32⟩
  | .hbm, ⟨3, _⟩ => ⟨S1x256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S_, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S_, .f32⟩
  | .hbm, ⟨17, _⟩ => ⟨S256x2048, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256x2048, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel33.lean ====
abbrev S4x2048x512 : Shape := ⟨3, ![4, 2048, 512]⟩
abbrev S1x2048x512 : Shape := ⟨3, ![1, 2048, 512]⟩
abbrev S2048x512 : Shape := ⟨2, ![2048, 512]⟩
abbrev S4x256x512 : Shape := ⟨3, ![4, 256, 512]⟩
abbrev S256x512 : Shape := ⟨2, ![256, 512]⟩
abbrev S1x256x512 : Shape := ⟨3, ![1, 256, 512]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x512, .f32⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S4x2048x512, .bf16⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S2048x512, .f32⟩
  | .hbm, ⟨11, _⟩ => ⟨S2048x512, .f32⟩
  | .local _ .vmem, ⟨0, _⟩ => ⟨S4x256x512, .bf16⟩
  | .local _ .vmem, ⟨1, _⟩ => ⟨S4x256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference33Ideal.lean ====
abbrev S4x2048x512 : Shape := ⟨3, ![4, 2048, 512]⟩
abbrev S1x2048x512 : Shape := ⟨3, ![1, 2048, 512]⟩
abbrev S2048x512 : Shape := ⟨2, ![2048, 512]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S1x2048x512, .f32⟩
  | .hbm, ⟨2, _⟩ => ⟨S1x2048x512, .f32⟩
  | .hbm, ⟨3, _⟩ => ⟨S1x2048x512, .f32⟩
  | .hbm, ⟨4, _⟩ => ⟨S2048x512, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048x512, .f32⟩
  | .hbm, ⟨9, _⟩ => ⟨S_, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S2048x512, .f32⟩
  | .hbm, ⟨16, _⟩ => ⟨S_, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S_, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S_, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S_, .f32⟩
  | .hbm, ⟨40, _⟩ => ⟨S2048x512, .f32⟩
  | .hbm, ⟨41, _⟩ => ⟨S2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel34.lean ====
abbrev S4x1296x128 : Shape := ⟨3, ![4, 1296, 128]⟩
abbrev S1296x128 : Shape := ⟨2, ![1296, 128]⟩
abbrev S4x144x128 : Shape := ⟨3, ![4, 144, 128]⟩
abbrev S144x128 : Shape := ⟨2, ![144, 128]⟩
abbrev S1x144x128 : Shape := ⟨3, ![1, 144, 128]⟩

abbrev nBuf : Space → Nat
  | .hbm => 8
  | .vmem => 16
  | .smem => 0
  | _ => 0

abbrev bufTy : (tb : Table) → Fin (tcTables nBuf tb) → BufTy
  | .hbm, ⟨0, _⟩ => ⟨S4x1296x128, .f32⟩
  | .hbm, ⟨1, _⟩ => ⟨S1296x128, .f32⟩
  | .hbm, ⟨2, _⟩ => ⟨S1296x128, .f32⟩
  | .hbm, ⟨3, _⟩ => ⟨S1296x128, .f32⟩
  | .hbm, ⟨4, _⟩ => ⟨S1296x128, .f32⟩
  | .hbm, ⟨5, _⟩ => ⟨S1296x128, .f32⟩
  | .hbm, ⟨6, _⟩ => ⟨S1296x128, .f32⟩
  | .hbm, ⟨7, _⟩ => ⟨S1296x128, .f32⟩
  | .local _ .vmem, ⟨0, _⟩ => ⟨S4x144x128, .f32⟩
  | .local _ .vmem, ⟨1, _⟩ => ⟨S4x144x128, .f32⟩
  | .local _ .vmem, ⟨2, _⟩ => ⟨S144x128, .f32⟩
  | .local _ .vmem, ⟨3, _⟩ => ⟨S144x128, .f32⟩
  | .local _ .vmem, ⟨4, _⟩ => ⟨S144x128, .f32⟩
  | .local _ .vmem, ⟨5, _⟩ => ⟨S144x128, .f32⟩
  | .local _ .vmem, ⟨6, _⟩ => ⟨S144x128, .f32⟩
  | .local _ .vmem, ⟨7, _⟩ => ⟨S144x128, .f32⟩
  | .local _ .vmem, ⟨8, _⟩ => ⟨S144x128, .f32⟩
  | .local _ .vmem, ⟨9, _⟩ => ⟨S144x128, .f32⟩
  | .local _ .vmem, ⟨10, _⟩ => ⟨S144x128, .f32⟩
  | .local _ .vmem, ⟨11, _⟩ => ⟨S144x128, .f32⟩
  | .local _ .vmem, ⟨12, _⟩ => ⟨S144x128, .f32⟩
  | .local _ .vmem, ⟨13, _⟩ => ⟨S144x128, .f32⟩
  | .local _ .vmem, ⟨14, _⟩ => ⟨S144x128, .f32⟩
  | .local _ .vmem, ⟨15, _⟩ => ⟨S144x128, .f32⟩
  | _, _ => ⟨S4x1296x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x144x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S144x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S144x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S144x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference34Ideal.lean ====
abbrev S4x1296x128 : Shape := ⟨3, ![4, 1296, 128]⟩
abbrev S1296x128 : Shape := ⟨2, ![1296, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x1296x128, .f32⟩
  | .hbm, ⟨1, _⟩ => ⟨S1296x128, .f32⟩
  | .hbm, ⟨2, _⟩ => ⟨S1296x128, .f32⟩
  | .hbm, ⟨3, _⟩ => ⟨S1296x128, .f32⟩
  | .hbm, ⟨4, _⟩ => ⟨S_, .f32⟩
  | .hbm, ⟨5, _⟩ => ⟨S1296x128, .f32⟩
  | .hbm, ⟨6, _⟩ => ⟨S_, .f32⟩
  | .hbm, ⟨7, _⟩ => ⟨S1296x128, .f32⟩
  | .hbm, ⟨8, _⟩ => ⟨S1296x128, .f32⟩
  | .hbm, ⟨9, _⟩ => ⟨S_, .f32⟩
  | .hbm, ⟨10, _⟩ => ⟨S1296x128, .f32⟩
  | .hbm, ⟨11, _⟩ => ⟨S1296x128, .f32⟩
  | .hbm, ⟨12, _⟩ => ⟨S1296x128, .f32⟩
  | .hbm, ⟨13, _⟩ => ⟨S_, .f32⟩
  | .hbm, ⟨14, _⟩ => ⟨S1296x128, .f32⟩
  | .hbm, ⟨15, _⟩ => ⟨S1296x128, .f32⟩
  | .hbm, ⟨16, _⟩ => ⟨S1296x128, .f32⟩
  | .hbm, ⟨17, _⟩ => ⟨S_, .f32⟩
  | .hbm, ⟨18, _⟩ => ⟨S1296x128, .f32⟩
  | .hbm, ⟨19, _⟩ => ⟨S1296x128, .f32⟩
  | .hbm, ⟨20, _⟩ => ⟨S1296x128, .f32⟩
  | .hbm, ⟨21, _⟩ => ⟨S_, .f32⟩
  | .hbm, ⟨22, _⟩ => ⟨S1296x128, .f32⟩
  | .hbm, ⟨23, _⟩ => ⟨S1296x128, .f32⟩
  | .hbm, ⟨24, _⟩ => ⟨S_, .f32⟩
  | .hbm, ⟨25, _⟩ => ⟨S1296x128, .f32⟩
  | .hbm, ⟨26, _⟩ => ⟨S1296x128, .f32⟩
  | .hbm, ⟨27, _⟩ => ⟨S1296x128, .f32⟩
  | .hbm, ⟨28, _⟩ => ⟨S_, .f32⟩
  | .hbm, ⟨29, _⟩ => ⟨S1296x128, .f32⟩
  | .hbm, ⟨30, _⟩ => ⟨S1296x128, .f32⟩
  | .hbm, ⟨31, _⟩ => ⟨S1296x128, .f32⟩
  | .hbm, ⟨32, _⟩ => ⟨S_, .f32⟩
  | .hbm, ⟨33, _⟩ => ⟨S1296x128, .f32⟩
  | .hbm, ⟨34, _⟩ => ⟨S1296x128, .f32⟩
  | .hbm, ⟨35, _⟩ => ⟨S1296x128, .f32⟩
  | .hbm, ⟨36, _⟩ => ⟨S_, .f32⟩
  | .hbm, ⟨37, _⟩ => ⟨S1296x128, .f32⟩
  | .hbm, ⟨38, _⟩ => ⟨S1296x128, .f32⟩
  | _, _ => ⟨S4x1296x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel35.lean ====
abbrev S1x2048x2048 : Shape := ⟨3, ![1, 2048, 2048]⟩
abbrev S1x2048 : Shape := ⟨2, ![1, 2048]⟩
abbrev S2048x2048 : Shape := ⟨2, ![2048, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 12
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32_7 : BitVec 32 := 0#32
  let v20 : BitVec 1 := Scalar.cmpi .sgt arg0 c0_i32_7
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference35Ideal.lean ====
abbrev S1x2048x2048 : Shape := ⟨3, ![1, 2048, 2048]⟩
abbrev S1x2048 : Shape := ⟨2, ![1, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2048, .f32⟩
  | .hbm, ⟨2, _⟩ => ⟨S1x2048, .f32⟩
  | .hbm, ⟨3, _⟩ => ⟨S1x2048x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel36.lean ====
abbrev S1x256x2048 : Shape := ⟨3, ![1, 256, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 6
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .bf16⟩
  | .local _ .vmem, ⟨5, _⟩ => ⟨S1x2048, .f32⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v17 : BitVec 1 := Scalar.cmpi .eq arg0 c0_i32
  let v18 : BitVec 32 := Scalar.extui v17
  let c0_i32_6 : BitVec 32 := 0#32
  let v19 : BitVec 1 := Scalar.cmpi .ne v18 c0_i32_6
  v19

def k0_cond2 (i : grid0.Coords) : BitVec 1 :=
  let arg0 : BitVec 32 := BitVec.ofNat 32 (i 0).val
  let c0_i32_7 : BitVec 32 := 0#32
  let v20 : BitVec 1 := Scalar.cmpi .sgt arg0 c0_i32_7
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference36Ideal.lean ====
abbrev S1x256x2048 : Shape := ⟨3, ![1, 256, 2048]⟩
abbrev S1x2048 : Shape := ⟨2, ![1, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x256x2048, .f32⟩
  | .hbm, ⟨2, _⟩ => ⟨S1x2048, .f32⟩
  | .hbm, ⟨3, _⟩ => ⟨S256x2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S_, .f32⟩
  | .hbm, ⟨32, _⟩ => ⟨S256, .f32⟩
  | .hbm, ⟨33, _⟩ => ⟨S256x1, .f32⟩
  | .hbm, ⟨34, _⟩ => ⟨S256x2048, .f32⟩
  | .hbm, ⟨35, _⟩ => ⟨S256x2048, .f32⟩
  | .hbm, ⟨36, _⟩ => ⟨S256x1, .f32⟩
  | .hbm, ⟨37, _⟩ => ⟨S_, .f32⟩
  | .hbm, ⟨38, _⟩ => ⟨S256x1, .f32⟩
  | .hbm, ⟨39, _⟩ => ⟨S256x1, .f32⟩
  | .hbm, ⟨40, _⟩ => ⟨S_, .f32⟩
  | .hbm, ⟨41, _⟩ => ⟨S256, .f32⟩
  | .hbm, ⟨42, _⟩ => ⟨S256x2048, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .bf16⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Kernel37.lean ====
abbrev S1x256x2048 : Shape := ⟨3, ![1, 256, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S256x2048, .f32⟩
  | .hbm, ⟨3, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S1x256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference37Ideal.lean ====
abbrev S1x256x2048 : Shape := ⟨3, ![1, 256, 2048]⟩
abbrev S1x2048 : Shape := ⟨2, ![1, 2048]⟩
abbrev S256x2048 : Shape := ⟨2, ![256, 2048]⟩
abbrev S_ : Shape := ⟨0, ![]⟩
abbrev S256 : Shape := ⟨1, ![256]⟩
abbrev S256x1 : Shape := ⟨2, ![256, 1]⟩

abbrev nBuf : Space → Nat
  | .hbm => 19
  | .vmem => 0
  | .smem => 0
  | _ => 0

abbrev bufTy : (tb : Table) → Fin (tcTables nBuf tb) → BufTy
  | .hbm, ⟨0, _⟩ => ⟨S1x256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .bf16⟩
  | _, _ => ⟨S1x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Frames.lean ====
/- The runs of the calls and of their references: each ends, faults nowhere and leaves its arguments and the counters as
   they were. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import Idealize.ShloMosaic.Lib.Quiescent

@[expose] public section

noncomputable section

namespace Cert.Proof.Frames

open Idealize.ShloMosaic Idealize.ShloMosaic.TcCoe Idealize.SL.Sem

theorem frame_p1 : Cert.quiescent_Kernel := fun m ρ _ => Cert.Kernel.Gen.frame m ρ
theorem frame_pi1 : Cert.quiescent_KernelIdeal := fun m ρ _ => Cert.KernelIdeal.Gen.frame m ρ
theorem frame_ri1 : Cert.quiescent_ReferenceIdeal := by
  intro m ρ _
  refine (θ_run Cert.ReferenceIdeal.defs _ _).mono ?_ (Cert.ReferenceIdeal.Value.run (F := Ideal) m ρ)
  intro r h
  exact ⟨fun c => (h c).2.2.2.2.2, Idealize.ShloMosaic.sem_eq_zero_of_no_sems (by decide) r.2⟩

theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_ri2 : Cert.quiescent_Reference2Ideal := by
  intro m ρ _
  refine (θ_run Cert.Reference2Ideal.defs _ _).mono ?_ (Cert.Reference2Ideal.Value.run (F := Ideal) m ρ)
  intro r h
  exact ⟨fun c => (h c).2.2, Idealize.ShloMosaic.sem_eq_zero_of_no_sems (by decide) r.2⟩

/-- The two constants of the gelu's derivative denote the decimals they are written as. -/
theorem preserves1 : Cert.preserves_Kernel_KernelIdeal :=
  ⟨IdealRules.named_const.statement Cert.KernelIdeal.κ "cubic" .f32 0x3D372713#32 ((8943 / 200000 : ℝ) : EReal) rfl,
    IdealRules.named_const.statement Cert.KernelIdeal.κ "cubic3" .f32 0x3E095D4F#32 ((26829 / 200000 : ℝ) : EReal) rfl⟩

end Cert.Proof.Frames

end
-- ==== Proof.Finite.lean ====
/- Arrays of finite extended reals are arrays of reals: what the precondition of every claim says, read as the existence
   of a real array, and the arithmetic of coerced reals as rewriting rules from the inside outwards. -/
module

public import Idealize.ShloMosaic.PureOps.Ideal
public import Idealize.ShloMosaic.PureOps.Ideal.Laws
public import Idealize.ShloMosaic.Lib.IdealHost
public import Idealize.ShloMosaic.Lib.Pointwise

@[expose] public section

noncomputable section

namespace Cert.Finite

open Idealize.ShloMosaic

/-- The pattern of plus infinity denotes the top element. -/
theorem ofBits_inf : Ideal.ofBits .f32 0x7F800000#32 = ⊤ := by
  simp [Ideal.ofBits, Ideal.ieee]

/-- An extended real whose absolute value is below the top element is a real. -/
theorem real_of_abs_lt {x : EReal} (h : max x (-x) < ⊤) : ∃ r : ℝ, x = (r : EReal) := by
  induction x with
  | bot => simp at h
  | coe r => exact ⟨r, rfl⟩
  | top => simp at h

/-- An array all of whose entries compare below plus infinity in absolute value is an array of reals. -/
theorem real_of_pre {S T : Shape} (dims : Fin T.rank → Fin S.rank) (hb : T.BroadcastsInDim S dims) (x : FVec Ideal S .f32)
    (h : cmpf .olt (Host.absf x) (broadcastInDim S dims hb (constant (F := Ideal) T .f32 0x7F800000#32)) = fun _ => 1#1) :
    ∃ r : S.Idx → ℝ, x = fun i => (r i : EReal) := by
  have key : ∀ i, ∃ r : ℝ, x i = (r : EReal) := fun i => by
    have hi := congrFun h i
    refine real_of_abs_lt ?_
    change Ideal.cmp .olt (max (x i) (-(x i))) (Ideal.ofBits .f32 0x7F800000#32) = 1#1 at hi
    rw [ofBits_inf] at hi
    simp only [Ideal.cmp] at hi
    by_contra hc
    simp [hc] at hi
  choose r hr using key
  exact ⟨r, funext hr⟩

/-! ### Coerced reals, from the inside outwards -/

theorem r_add (a b : ℝ) : (a : EReal) + (b : EReal) = ((a + b : ℝ) : EReal) := (EReal.coe_add a b).symm
theorem r_sub (a b : ℝ) : (a : EReal) - (b : EReal) = ((a - b : ℝ) : EReal) := (EReal.coe_sub a b).symm
theorem r_mul (a b : ℝ) : (a : EReal) * (b : EReal) = ((a * b : ℝ) : EReal) := (EReal.coe_mul a b).symm
theorem r_neg (a : ℝ) : -(a : EReal) = ((-a : ℝ) : EReal) := (EReal.coe_neg a).symm
theorem r_one : (1 : EReal) = ((1 : ℝ) : EReal) := rfl
theorem r_zero : (0 : EReal) = ((0 : ℝ) : EReal) := rfl

/-- A finite sum of coerced reals is the coerced sum. -/
theorem r_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, r_add]

/-- The quotient of two reals, the divisor not zero. -/
theorem r_div (a b : ℝ) (hb : b ≠ 0) : Ideal.div (a : EReal) (b : EReal) = ((a / b : ℝ) : EReal) := by
  rw [Ideal.div_coe hb, r_mul, mul_one_div]

/-- The logistic function spelt as a quotient. -/
theorem r_sigmoid (a : ℝ) :
    Ideal.div (1 : EReal) ((1 : EReal) + Ideal.exp (-(a : EReal))) = (((1 + Real.exp (-a))⁻¹ : ℝ) : EReal) := by
  rw [r_neg, Ideal.exp_coe, r_one, r_add, r_div _ _ (by positivity), one_div]

/-- The same with the negation written as a difference from zero. -/
theorem r_sigmoid' (a : ℝ) :
    Ideal.div (1 : EReal) ((1 : EReal) + Ideal.exp ((0 : EReal) - (a : EReal))) = (((1 + Real.exp (-a))⁻¹ : ℝ) : EReal) := by
  rw [r_zero, r_sub, zero_sub, Ideal.exp_coe, r_one, r_add, r_div _ _ (by positivity), one_div]

end Cert.Finite

end
-- ==== Proof.SwigluBwd.lean ====
/- The gradient through the gated product `gate · sigmoid-weighted up` of the feed-forward block: the
kernel's blocks are read at an index, and the two gradients it writes are compared with the ones the
reference differentiates, over the reals. -/
module

public import proofs.«01_k».proof.Defs
public import proofs.«01_k».proof.Proof.Finite
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel3Ideal.SwigluBwd

open Cert.Kernel3Ideal Cert.Kernel3Ideal.Gen Idealize.ShloMosaic Idealize.ShloMosaic.TcCoe Idealize.SL.Sem
open Idealize.ShloMosaic.Pipeline (Dat)
open Cert.Finite

/-- The product with the down projection's transpose, at a coordinate. -/
theorem pay1_apply (v0 : Vec Ideal S2048x2048 .bf16) (v2 : Vec Ideal S512x2048 .bf16) (r : Fin 2048) (k : Fin 512) :
    k0_pay1 (F := Ideal) v0 v2 (ix2 r k) = ∑ d : Fin 2048, v0 (ix2 r d) * v2 (ix2 k d) := by
  pointwise [k0_pay1]

theorem pay5_apply (v0 : Vec Ideal S2048x2048 .bf16) (v2 : Vec Ideal S512x2048 .bf16) (v5 : Vec Ideal S1x2048x512 .bf16)
    (r : Fin 2048) (k : Fin 512) :
    k0_pay5 (F := Ideal) v0 v2 v5 (ix3 0 r k)
      = (∑ d : Fin 2048, v0 (ix2 r d) * v2 (ix2 k d))
        * (v5 (ix3 0 r k) * Ideal.div 1 (1 + Ideal.exp (0 - v5 (ix3 0 r k)))) := by
  pointwise [k0_pay5, k0_pay2, k0_pay3, k0_pay1]

theorem pay4_apply (v0 : Vec Ideal S2048x2048 .bf16) (v2 : Vec Ideal S512x2048 .bf16) (v5 v8 : Vec Ideal S1x2048x512 .bf16)
    (r : Fin 2048) (k : Fin 512) :
    k0_pay4 (F := Ideal) v0 v2 v5 v8 (ix3 0 r k)
      = (∑ d : Fin 2048, v0 (ix2 r d) * v2 (ix2 k d)) * v8 (ix3 0 r k)
        * (Ideal.div 1 (1 + Ideal.exp (0 - v5 (ix3 0 r k)))
          * (1 + v5 (ix3 0 r k) * (1 - Ideal.div 1 (1 + Ideal.exp (0 - v5 (ix3 0 r k)))))) := by
  pointwise [k0_pay4, k0_pay2, k0_pay3, k0_pay1]

open Cert.Reference3Ideal.Read in
/-- The reference's gradient of the up branch, at a coordinate. -/
theorem ref_up (x0 : Vec Ideal S1x2048x2048 .f32) (x1 : Vec Ideal S5632x2048 .f32) (x2 : Vec Ideal S2x2048x5632 .f32)
    (r : Fin 2048) (k : Fin 5632) :
    val_main_v15 (F := Ideal) x0 x1 x2 (ix3 1 r k)
      = x2 (ix3 0 r k) * Ideal.div 1 (1 + Ideal.exp (-x2 (ix3 0 r k)))
        * ∑ d : Fin 2048, x0 (ix3 0 r d) * x1 (ix2 k d) := by
  pointwise [Cert.Reference3Ideal.Read.val_main_v15, Cert.Reference3Ideal.Read.val_main_v14, Cert.Reference3Ideal.Read.val_main_v13, Cert.Reference3Ideal.Read.val_main_v12, Cert.Reference3Ideal.Read.val_main_v11, Cert.Reference3Ideal.Read.val_main_v10, Cert.Reference3Ideal.Read.val_main_v9, Cert.Reference3Ideal.Read.val_main_v8, Cert.Reference3Ideal.Read.val_main_v7, Cert.Reference3Ideal.Read.val_main_v4_0, Cert.Reference3Ideal.Read.val_main_v4_1, Cert.Reference3Ideal.Read.val_main_v4_2, Cert.Reference3Ideal.Read.val_main_v3, Cert.Reference3Ideal.Read.val_main_v2, Cert.Reference3Ideal.Read.val_main_v1, Cert.Reference3Ideal.Read.val_main_v0, Cert.Reference3Ideal.Read.val_main_call0_v0, Cert.Reference3Ideal.Read.val_main_call0_v1, Cert.Reference3Ideal.Read.val_main_call0_cst, Cert.Reference3Ideal.Read.val_main_call0_v2, Cert.Reference3Ideal.Read.val_main_call0_v3, Cert.Reference3Ideal.Read.val_main_call0_cst_0, Cert.Reference3Ideal.Read.val_main_call0_v4, Cert.Reference3Ideal.Read.val_main_call0_cst_1, Cert.Reference3Ideal.Read.val_main_call0_v6, Cert.Reference3Ideal.Read.val_main_call0_v7, Cert.Reference3Ideal.Read.val_main_call1_v0, Cert.Reference3Ideal.Read.val_main_call1_v1, Cert.Reference3Ideal.Read.val_main_call1_v2]

open Cert.Reference3Ideal.Read in
/-- The reference's gradient of the gate branch, at a coordinate. -/
theorem ref_gate (x0 : Vec Ideal S1x2048x2048 .f32) (x1 : Vec Ideal S5632x2048 .f32) (x2 : Vec Ideal S2x2048x5632 .f32)
    (r : Fin 2048) (k : Fin 5632) :
    val_main_v15 (F := Ideal) x0 x1 x2 (ix3 0 r k)
      = (∑ d : Fin 2048, x0 (ix3 0 r d) * x1 (ix2 k d)) * x2 (ix3 1 r k)
          * Ideal.div 1 (1 + Ideal.exp (-x2 (ix3 0 r k)))
        + x2 (ix3 0 r k) * ((∑ d : Fin 2048, x0 (ix3 0 r d) * x1 (ix2 k d)) * x2 (ix3 1 r k))
          * (Ideal.div 1 (1 + Ideal.exp (-x2 (ix3 0 r k)))
            * (1 - Ideal.div 1 (1 + Ideal.exp (-x2 (ix3 0 r k))))) := by
  pointwise [Cert.Reference3Ideal.Read.val_main_v15, Cert.Reference3Ideal.Read.val_main_v14, Cert.Reference3Ideal.Read.val_main_v13, Cert.Reference3Ideal.Read.val_main_v12, Cert.Reference3Ideal.Read.val_main_v11, Cert.Reference3Ideal.Read.val_main_v10, Cert.Reference3Ideal.Read.val_main_v9, Cert.Reference3Ideal.Read.val_main_v8, Cert.Reference3Ideal.Read.val_main_v7, Cert.Reference3Ideal.Read.val_main_v4_0, Cert.Reference3Ideal.Read.val_main_v4_1, Cert.Reference3Ideal.Read.val_main_v4_2, Cert.Reference3Ideal.Read.val_main_v3, Cert.Reference3Ideal.Read.val_main_v2, Cert.Reference3Ideal.Read.val_main_v1, Cert.Reference3Ideal.Read.val_main_v0, Cert.Reference3Ideal.Read.val_main_call0_v0, Cert.Reference3Ideal.Read.val_main_call0_v1, Cert.Reference3Ideal.Read.val_main_call0_cst, Cert.Reference3Ideal.Read.val_main_call0_v2, Cert.Reference3Ideal.Read.val_main_call0_v3, Cert.Reference3Ideal.Read.val_main_call0_cst_0, Cert.Reference3Ideal.Read.val_main_call0_v4, Cert.Reference3Ideal.Read.val_main_call0_cst_1, Cert.Reference3Ideal.Read.val_main_call0_v6, Cert.Reference3Ideal.Read.val_main_call0_v7, Cert.Reference3Ideal.Read.val_main_call1_v0, Cert.Reference3Ideal.Read.val_main_call1_v1, Cert.Reference3Ideal.Read.val_main_call1_v2]

variable (m : (ℓ : Loc nD τ sig) → Buf (Elt Ideal) ℓ)

theorem idx0 : ∀ t : Fin cfg0.N, win0_0.index t = ![0, 0] :=
  (by decide +kernel : ∀ t : Fin grid0.N, win0_0.index t = ![0, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0, t.val] :=
  (by decide +kernel : ∀ t : Fin grid0.N, win0_2.index t = ![0, 0, t.val])
theorem idx3 : ∀ t : Fin cfg0.N, win0_3.index t = ![0, 0, t.val] :=
  (by decide +kernel : ∀ t : Fin grid0.N, win0_3.index t = ![0, 0, t.val])

/-- Column `k` of tile `t`, among all columns. -/
def col (t : Fin cfg0.N) (k : Fin 512) : Fin 5632 :=
  ⟨t.val * 512 + k.val, by have := t.isLt; have := k.isLt; have : cfg0.N = 11 := rfl; omega⟩

theorem blk0 (c : Dev nD) (t : Fin cfg0.N) (r d : Fin 2048) :
    iblk m c 0 t (ix2 r d) = m ((c : Thread nD τ).loc main_arg0) (ix3 0 r d) := by
  blk_simp [iblk, idx0 t]
  entry_read
  pointwise
  blk_ext [idx0 t]

theorem blk1 (c : Dev nD) (t : Fin cfg0.N) (k : Fin 512) (d : Fin 2048) :
    iblk m c 1 t (ix2 k d) = m ((c : Thread nD τ).loc main_arg1) (ix2 (col t k) d) := by
  blk_simp [iblk, idx1 t]
  entry_read
  pointwise
  blk_ext [idx1 t, col]

theorem blk2 (c : Dev nD) (t : Fin cfg0.N) (p : Fin 2) (r : Fin 2048) (k : Fin 512) :
    iblk m c 2 t (ix3 p r k) = m ((c : Thread nD τ).loc main_arg2) (ix3 p r (col t k)) := by
  blk_simp [iblk, idx2 t]
  entry_read
  pointwise
  blk_ext [idx2 t, col]

/-- The gate plane of a block, as the body loads it. -/
theorem ld_gate (x : Vec Ideal S2x2048x512 .bf16) (r : Fin 2048) (k : Fin 512) :
    View.ld x r0_2 (ix3 0 r k) = x (ix3 0 r k) :=
  View.ld_unit_apply_of _ _ _ _ _ _ (by intro a; fin_cases a <;> simp)

/-- The up plane of a block, as the body loads it. -/
theorem ld_up (x : Vec Ideal S2x2048x512 .bf16) (r : Fin 2048) (k : Fin 512) :
    View.ld x r0_3 (ix3 0 r k) = x (ix3 1 r k) :=
  View.ld_unit_apply_of _ _ _ _ _ _ (by intro a; fin_cases a <;> simp)

/-- On finite arguments the result array is the reference's. -/
theorem final (c : Dev nD) (a0 : S1x2048x2048.Idx → ℝ) (a1 : S5632x2048.Idx → ℝ) (a2 : S2x2048x5632.Idx → ℝ)
    (h0 : m ((c : Thread nD τ).loc main_arg0) = fun i => (a0 i : EReal))
    (h1 : m ((c : Thread nD τ).loc main_arg1) = fun i => (a1 i : EReal))
    (h2 : m ((c : Thread nD τ).loc main_arg2) = fun i => (a2 i : EReal)) :
    (dats m 0 c).arrAt 3 cfg0.N = Cert.Reference3Ideal.Read.val_main_v15 (F := Ideal)
      (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  canon_tiles x g
  · idx_vars x
    obtain rfl : x0 = 0 := Subsingleton.elim _ _
    have hy : ((View.whole main_v4).slice (win0_3.rect t)).emb y = ix3 1 x1 (col t x2) := by
      blk_ext [idx3 t, col]
    rw [hy, pay5_apply, ref_up, ld_gate]
    simp only [blk0, blk1, blk2, h0, h1, h2, r_sigmoid, r_sigmoid']
    simp only [r_one, r_mul, r_sum, r_add, r_sub]
    congr 1
    ring
  · idx_vars x
    obtain rfl : x0 = 0 := Subsingleton.elim _ _
    have hy : ((View.whole main_v4).slice (win0_3.rect t)).emb y = ix3 0 x1 (col t x2) := by
      blk_ext [idx3 t, col]
    rw [hy, pay4_apply, ref_gate, ld_gate, ld_up]
    simp only [blk0, blk1, blk2, h0, h1, h2, r_sigmoid, r_sigmoid']
    simp only [r_one, r_mul, r_sum, r_add, r_sub]
    congr 1
    ring

end Cert.Kernel3Ideal.SwigluBwd

/-! ## The claims -/

namespace Cert.Proof.SwigluBwdClaims

open Idealize.ShloMosaic Idealize.ShloMosaic.TcCoe Idealize.SL.Sem

instance preFacts : Cert.Pre_finite3.Facts := ⟨by decide, by decide, by decide⟩

theorem frame_p : Cert.quiescent_Kernel3 := fun m ρ _ => Cert.Kernel3.Gen.frame m ρ
theorem frame_pi : Cert.quiescent_Kernel3Ideal := fun m ρ _ => Cert.Kernel3Ideal.Gen.frame m ρ
theorem frame_pi' : Cert.quiescent_Kernel3Ideal_pre_finite3 := fun m ρ _ => Cert.Kernel3Ideal.Gen.frame m ρ
theorem frame_ri : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)
theorem frame_ri' : Cert.quiescent_Reference3Ideal_pre_finite3 := fun m ρ _ => frame_ri m ρ trivial

/-- From finite arguments the kernel and the reference end with the same gradients of the gate and up branches. -/
theorem algebraic : Cert.algebraic_Kernel3Ideal_Reference3Ideal_pre_finite3 := by
  intro m ρ m' ρ' hpre hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  obtain ⟨p0, p1, p2⟩ := hpre c
  obtain ⟨a0, h0⟩ := Cert.Finite.real_of_pre _ _ _ p0
  obtain ⟨a1, h1⟩ := Cert.Finite.real_of_pre _ _ _ p1
  obtain ⟨a2, h2⟩ := Cert.Finite.real_of_pre _ _ _ p2
  rw [(hagree c).1, (hagree c).2.1, (hagree c).2.2]
  exact (Cert.Kernel3Ideal.SwigluBwd.final m c a0 a1 a2 h0 h1 h2).symm

end Cert.Proof.SwigluBwdClaims

end
-- ==== Proof.SguReal.lean ====
/- The gradient of the spatial gating unit over the reals, one block of 128 tokens and one group of 128
channels at a time: what the kernel computes for a block and a group, and what differentiating the layer
norm step by step gives, shown equal. -/
module

public import proofs.«01_k».proof.Proof.Finite

@[expose] public section

noncomputable section

namespace Cert.Sgu

open Idealize.ShloMosaic
open Cert.Finite

/-! ## Constants -/

/-- The slope inside the tanh form of gelu, as its float word. -/
def gc : ℝ := 13386282 / 16777216
/-- The layer norm's epsilon, as its float word. -/
def eps : ℝ := 8796093 / 8796093022208

theorem eps_pos : 0 < eps := by norm_num [eps]

theorem c_gc : Ideal.ofBits .f32 0x3F4C422A#32 = ((gc : ℝ) : EReal) := by
  simp [Ideal.ofBits, Ideal.ieee, -EReal.coe_mul, gc]; norm_num
theorem c_eps : Ideal.ofBits .f32 0x358637BD#32 = ((eps : ℝ) : EReal) := by
  simp [Ideal.ofBits, Ideal.ieee, -EReal.coe_mul, eps]; norm_num
theorem c_half : Ideal.ofBits .f32 0x3F000000#32 = ((1 / 2 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul]; norm_num
theorem c_128 : Ideal.ofBits .f32 0x43000000#32 = ((128 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_three : Ideal.ofBits .f32 0x40400000#32 = ((3 : ℝ) : EReal) := by
  simp [Ideal.ofBits, Ideal.ieee, -EReal.coe_mul]; norm_num
theorem c_44715 : Ideal.ofBits .f32 0x472EAB00#32 = ((44715 : ℝ) : EReal) := by
  simp [Ideal.ofBits, Ideal.ieee, -EReal.coe_mul]; norm_num
theorem c_million : Ideal.ofBits .f32 0x49742400#32 = ((1000000 : ℝ) : EReal) := by
  simp [Ideal.ofBits, Ideal.ieee, -EReal.coe_mul]; norm_num

theorem r_tanh (a : ℝ) : Ideal.tanh (a : EReal) = ((Real.tanh a : ℝ) : EReal) := rfl
theorem r_div128 (a : ℝ) : Ideal.div (a : EReal) ((128 : ℝ) : EReal) = ((a / 128 : ℝ) : EReal) := r_div _ _ (by norm_num)
theorem r_divm (a : ℝ) : Ideal.div (a : EReal) ((1000000 : ℝ) : EReal) = ((a / 1000000 : ℝ) : EReal) := r_div _ _ (by norm_num)

/-- A bit that says a proposition selects between a real and zero. -/
theorem r_select (p : Prop) [Decidable p] (a b : ℝ) :
    Scalar.select (if p then 1#1 else 0#1) (a : EReal) (b : EReal) = ((if p then a else b : ℝ) : EReal) := by
  by_cases h : p <;> simp [h, Scalar.select]

/-! ## gelu -/

def th (x : ℝ) : ℝ := Real.tanh (gc * (x + 8943 / 200000 * (x * x * x)))
def gelu (x : ℝ) : ℝ := 1 / 2 * x * (1 + th x)
def gelu' (x : ℝ) : ℝ :=
  1 / 2 * (1 + th x) + 1 / 2 * x * (1 - th x * th x) * (gc * (1 + 26829 / 200000 * (x * x)))

/-! ## One row of the layer norm -/

def mean (v : Fin 128 → ℝ) : ℝ := (∑ k, v k) / 128
def cen (v : Fin 128 → ℝ) (k : Fin 128) : ℝ := v k - mean v
def var (v : Fin 128 → ℝ) : ℝ := (∑ k, cen v k * cen v k) / 128 + eps
def rs (v : Fin 128 → ℝ) : ℝ := (Real.sqrt (var v))⁻¹
def vhat (v : Fin 128 → ℝ) (k : Fin 128) : ℝ := cen v k * rs v

theorem var_pos (v : Fin 128 → ℝ) : 0 < var v := by
  have := eps_pos
  have : 0 ≤ ∑ k, cen v k * cen v k := Finset.sum_nonneg fun k _ => mul_self_nonneg _
  unfold var; positivity

theorem r_rs (v : Fin 128 → ℝ) : Ideal.rsqrt ((var v : ℝ) : EReal) = ((rs v : ℝ) : EReal) := by
  have := var_pos v
  rw [Ideal.rsqrt_coe, if_neg (by linarith), if_neg (by linarith)]; rfl

/-- The gradient of a normalized row: what the kernel computes from the normalized row `vhat`. -/
def lnBwd (v d : Fin 128 → ℝ) (k : Fin 128) : ℝ :=
  rs v * (d k - mean d - vhat v k * mean fun k => d k * vhat v k)

/-- The same gradient, each step of the layer norm differentiated in turn. -/
def lnVjp (v d : Fin 128 → ℝ) (k : Fin 128) : ℝ :=
  d k * rs v + ((∑ j, cen v j * d j) * (-(1 / 2) * (rs v / var v))) / 128 * (2 * cen v k)
    + ((∑ j, -(d j * rs v)) + ∑ j, -(((∑ j, cen v j * d j) * (-(1 / 2) * (rs v / var v))) / 128 * (2 * cen v j))) / 128

theorem sum_cen (v : Fin 128 → ℝ) : ∑ k, cen v k = 0 := by
  simp only [cen, mean, Finset.sum_sub_distrib, Finset.sum_const, Finset.card_univ, Fintype.card_fin, nsmul_eq_mul]
  ring

theorem inv_var (v : Fin 128 → ℝ) : (var v)⁻¹ = rs v * rs v := by
  rw [rs, ← mul_inv, Real.mul_self_sqrt (var_pos v).le]

theorem lnVjp_eq (v d : Fin 128 → ℝ) (k : Fin 128) : lnVjp v d k = lnBwd v d k := by
  have e1 : ∑ j, -(d j * rs v) = -((∑ j, d j) * rs v) := by rw [Finset.sum_neg_distrib, Finset.sum_mul]
  have e2 : ∀ c : ℝ, ∑ j, -(c * (2 * cen v j)) = 0 := fun c => by
    rw [Finset.sum_neg_distrib, ← Finset.mul_sum, ← Finset.mul_sum, sum_cen]; ring
  have e3 : ∑ j, d j * vhat v j = (∑ j, cen v j * d j) * rs v := by
    rw [Finset.sum_mul]; exact Finset.sum_congr rfl fun j _ => by rw [vhat]; ring
  rw [lnVjp, lnBwd, e1, e2, div_eq_mul_inv (rs v), inv_var]
  simp only [mean, e3]
  simp only [vhat]
  ring

/-! ## One block and one group -/

/-- The chunk mask of the spatial weights: token `s` feeds token `r` when its chunk of 64 is not later. -/
def seen (r s : Fin 128) : Prop := s.val / 64 ≤ r.val / 64
instance (r s : Fin 128) : Decidable (seen r s) := inferInstanceAs (Decidable (_ ≤ _))

/-- The values one block of 128 tokens and one group of 128 channels takes. -/
structure Blk where
  zu : Fin 128 → Fin 128 → ℝ
  zv : Fin 128 → Fin 128 → ℝ
  dy : Fin 128 → Fin 128 → ℝ
  lg : Fin 128 → ℝ
  lb : Fin 128 → ℝ
  w : Fin 128 → Fin 128 → ℝ
  bt : Fin 128 → ℝ

namespace Blk
variable (B : Blk)
def v (r : Fin 128) : Fin 128 → ℝ := fun k => gelu (B.zv r k)
def vln (r k : Fin 128) : ℝ := vhat (B.v r) k * B.lg k + B.lb k
def wm (r s : Fin 128) : ℝ := if seen r s then B.w r s else 0
def mixed (r k : Fin 128) : ℝ := (∑ s, B.wm r s * B.vln s k) + B.bt r
def dmixed (r k : Fin 128) : ℝ := B.dy r k * gelu (B.zu r k)
def dw (r s : Fin 128) : ℝ := if seen r s then ∑ k, B.dmixed r k * B.vln s k else 0
def dvln (s k : Fin 128) : ℝ := ∑ r, B.wm r s * B.dmixed r k
def dlb (k : Fin 128) : ℝ := ∑ s, B.dvln s k
def dlg (k : Fin 128) : ℝ := ∑ s, B.dvln s k * vhat (B.v s) k
def dvh (s k : Fin 128) : ℝ := B.dvln s k * B.lg k
def dzu (r k : Fin 128) : ℝ := B.dy r k * B.mixed r k * gelu' (B.zu r k)
def dzv (r k : Fin 128) : ℝ := lnBwd (B.v r) (B.dvh r) k * gelu' (B.zv r k)
end Blk

/-- The call's arguments: 2048 tokens in 16 blocks, 1024 channels in 8 groups. -/
structure Data where
  z : Fin 2048 → Fin 2048 → ℝ
  dy : Fin 2048 → Fin 1024 → ℝ
  lg : Fin 1024 → ℝ
  lb : Fin 1024 → ℝ
  w : Fin 8 → Fin 128 → Fin 128 → ℝ
  b : Fin 8 → Fin 128 → ℝ

/-- Token `r` of block `t`. -/
def row (t : Fin 16) (r : Fin 128) : Fin 2048 := ⟨t.val * 128 + r.val, by omega⟩
/-- Channel `k` of group `g`. -/
def chan (g : Fin 8) (k : Fin 128) : Fin 1024 := ⟨g.val * 128 + k.val, by omega⟩
/-- The column of `z` holding channel `k` of group `g` in the left half. -/
def colu (g : Fin 8) (k : Fin 128) : Fin 2048 := ⟨g.val * 128 + k.val, by omega⟩
/-- The column of `z` holding channel `k` of group `g` in the right half. -/
def colv (g : Fin 8) (k : Fin 128) : Fin 2048 := ⟨1024 + (g.val * 128 + k.val), by omega⟩

/-- What block `t` and group `g` take of the arguments. -/
def Data.blk (D : Data) (t : Fin 16) (g : Fin 8) : Blk where
  zu r k := D.z (row t r) (colu g k)
  zv r k := D.z (row t r) (colv g k)
  dy r k := D.dy (row t r) (chan g k)
  lg k := D.lg (chan g k)
  lb k := D.lb (chan g k)
  w := D.w g
  bt := D.b g

/-- The group of a channel, and its place there. -/
def grp (j : Fin 1024) : Fin 8 := ⟨j.val / 128, by omega⟩
def lane (j : Fin 1024) : Fin 128 := ⟨j.val % 128, by omega⟩
theorem grp_chan (g : Fin 8) (k : Fin 128) : grp (chan g k) = g := by ext; simp only [grp, chan]; omega
theorem lane_chan (g : Fin 8) (k : Fin 128) : lane (chan g k) = k := by ext; simp only [lane, chan]; omega
theorem chan_eq (j : Fin 1024) : chan (grp j) (lane j) = j := by ext; simp only [grp, chan, lane]; omega

/-- The gradient of `z` at row `r` of block `t`. -/
def Data.dz (D : Data) (t : Fin 16) (r : Fin 128) (j : Fin 2048) : ℝ :=
  if h : j.val < 1024 then (D.blk t (grp ⟨j.val, h⟩)).dzu r (lane ⟨j.val, h⟩)
  else (D.blk t (grp ⟨j.val - 1024, by omega⟩)).dzv r (lane ⟨j.val - 1024, by omega⟩)

theorem Data.dz_colu (D : Data) (t : Fin 16) (g : Fin 8) (r k : Fin 128) : D.dz t r (colu g k) = (D.blk t g).dzu r k := by
  have h : (colu g k).val < 1024 := by simp only [colu]; omega
  have e : (⟨(colu g k).val, h⟩ : Fin 1024) = chan g k := rfl
  rw [Data.dz, dif_pos h, e, grp_chan, lane_chan]

theorem Data.dz_colv (D : Data) (t : Fin 16) (g : Fin 8) (r k : Fin 128) : D.dz t r (colv g k) = (D.blk t g).dzv r k := by
  have h : ¬(colv g k).val < 1024 := by simp only [colv]; omega
  have e : (⟨(colv g k).val - 1024, by omega⟩ : Fin 1024) = chan g k := by ext; simp only [colv, chan]; omega
  rw [Data.dz, dif_neg h, e, grp_chan, lane_chan]

end Cert.Sgu

end
-- ==== Proof.SguPay.lean ====
/- What one call of the gating unit's gradient kernel computes for one block of tokens and one group of
channels, read over the reals. -/
module

public import proofs.«01_k».proof.Defs
public import proofs.«01_k».proof.Proof.SguReal
public import proofs.«01_k».proof.Proof.Gen.KernelIdeal
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack

@[expose] public section

set_option pp.deepTerms false
set_option pp.maxSteps 3000
set_option maxRecDepth 16384

noncomputable section

namespace Cert.KernelIdeal.SguBwd

open Cert.KernelIdeal Cert.KernelIdeal.Gen Idealize.ShloMosaic Idealize.ShloMosaic.TcCoe Idealize.SL.Sem
open Cert.Finite Cert.Sgu

/-! ## Constants and the mask -/

theorem cubic : Named.named (F := Ideal) κ "cubic" (φ := .f32) 0x3D372713#32 = ((8943 / 200000 : ℝ) : EReal) := by
  refine (IdealRules.named_const.ideal_named_scalar _ _ _ _ rfl).trans ?_
  norm_num
theorem cubic3 : Named.named (F := Ideal) κ "cubic3" (φ := .f32) 0x3E095D4F#32 = ((26829 / 200000 : ℝ) : EReal) := by
  refine (IdealRules.named_const.ideal_named_scalar _ _ _ _ rfl).trans ?_
  norm_num

/-- The kernel's mask of the spatial weights. -/
abbrev mask : IVec S128x128 1 := k0_pay13 k0_pay9 k0_pay10 k0_pay11 k0_pay12

/-- Division by 64, rounded down, as the kernel computes it from the division that truncates. -/
def floorDiv (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

theorem floorDiv_eq : ∀ k : Fin 128, floorDiv (BitVec.ofNat 32 k.val) = BitVec.ofNat 32 (k.val / 64) := by decide +kernel

theorem le_eq : ∀ a b : Fin 2, IntOp.cmpi .sle (BitVec.ofNat 32 a.val) (BitVec.ofNat 32 b.val) = if a.val ≤ b.val then 1#1 else 0#1 := by
  decide +kernel

theorem mask_apply (r s : Fin 128) : mask (ix2 r s) = if seen r s then 1#1 else 0#1 := by
  pointwise [mask, k0_pay13, k0_pay9, k0_pay10, k0_pay11, k0_pay12]
  change IntOp.cmpi .sle (floorDiv (BitVec.ofNat 32 s.val)) (floorDiv (BitVec.ofNat 32 r.val)) = _
  rw [floorDiv_eq, floorDiv_eq]
  exact le_eq ⟨s.val / 64, by omega⟩ ⟨r.val / 64, by omega⟩

/-! ## One group, read over the reals -/

/-- The arrays of one group hold the reals of `B`. -/
structure Holds (B : Blk) (zu zv dy : Vec Ideal S128x128 .f32) (lg lb : Vec Ideal S1x128 .f32)
    (w : Vec Ideal S1x128x128 .f32) (bt : Vec Ideal S128x1 .f32) : Prop where
  zu : ∀ r k, zu (ix2 r k) = (B.zu r k : EReal)
  zv : ∀ r k, zv (ix2 r k) = (B.zv r k : EReal)
  dy : ∀ r k, dy (ix2 r k) = (B.dy r k : EReal)
  lg : ∀ k, lg (ix2 0 k) = (B.lg k : EReal)
  lb : ∀ k, lb (ix2 0 k) = (B.lb k : EReal)
  w : ∀ r s, w (ix3 0 r s) = (B.w r s : EReal)
  bt : ∀ r, bt (ix2 r 0) = (B.bt r : EReal)

/-- gelu of one half's group. -/
theorem gelu_apply {z : Vec Ideal S128x128 .f32} {x : Fin 128 → Fin 128 → ℝ} (h : ∀ r k, z (ix2 r k) = (x r k : EReal))
    (r k : Fin 128) : k0_pay20 z (ix2 r k) = (gelu (x r k) : EReal) := by
  pointwise [k0_pay20, k0_pay18]
  simp only [h, cubic, c_gc, c_half, r_one, r_mul, r_add, r_tanh]
  rfl

/-- A gradient taken back through gelu. -/
theorem dgelu_apply {z d : Vec Ideal S128x128 .f32} {x e : Fin 128 → Fin 128 → ℝ} (h : ∀ r k, z (ix2 r k) = (x r k : EReal))
    (hd : ∀ r k, d (ix2 r k) = (e r k : EReal))
    (r k : Fin 128) : k0_pay41 (k0_pay18 z) d (ix2 r k) = (e r k * gelu' (x r k) : ℝ) := by
  pointwise [k0_pay41, k0_pay18]
  simp only [h, hd, cubic, cubic3, c_gc, c_half, r_one, r_mul, r_add, r_sub, r_tanh]
  rfl

section
variable {B : Blk} {zu zv dy : Vec Ideal S128x128 .f32} {lg lb : Vec Ideal S1x128 .f32}
  {w : Vec Ideal S1x128x128 .f32} {bt : Vec Ideal S128x1 .f32} (H : Holds B zu zv dy lg lb w bt)
include H

theorem v_apply (r k : Fin 128) : k0_pay21 zv (ix2 r k) = (B.v r k : EReal) := gelu_apply H.zv r k

theorem mean_apply (r : Fin 128) : k0_pay22 zv (ix2 r 0) = (mean (B.v r) : EReal) := by
  pointwise [k0_pay22]
  simp only [v_apply H, c_128, r_sum, r_div128]
  rfl

theorem cen_apply (r k : Fin 128) : k0_pay23 (k0_pay21 zv) (k0_pay22 zv) (ix2 r k) = (cen (B.v r) k : EReal) := by
  pointwise [k0_pay23]
  simp only [v_apply H, mean_apply H, r_sub]
  rfl

theorem rs_apply (r : Fin 128) : k0_pay24 (k0_pay21 zv) (k0_pay22 zv) (ix2 r 0) = (rs (B.v r) : EReal) := by
  pointwise [k0_pay24]
  simp only [cen_apply H, c_128, c_eps, r_mul, r_sum, r_div128, r_add]
  exact r_rs _

theorem vhat_apply (r k : Fin 128) : k0_pay25 (k0_pay21 zv) (k0_pay22 zv) (ix2 r k) = (vhat (B.v r) k : EReal) := by
  pointwise [k0_pay25]
  simp only [cen_apply H, rs_apply H, r_mul]
  rfl

theorem vln_apply (r k : Fin 128) : k0_pay26 (k0_pay21 zv) (k0_pay22 zv) lg lb (ix2 r k) = (B.vln r k : EReal) := by
  pointwise [k0_pay26]
  simp only [vhat_apply H, H.lg, H.lb, r_mul, r_add]
  rfl

theorem wm_apply (r s : Fin 128) : k0_pay27 mask w (ix2 r s) = (B.wm r s : EReal) := by
  pointwise [k0_pay27]
  simp only [mask_apply, H.w, r_zero, r_select]
  rfl

theorem du_apply (r k : Fin 128) :
    k0_pay29 mask (k0_pay21 zv) (k0_pay22 zv) lg lb w bt dy (ix2 r k) = (B.dy r k * B.mixed r k : ℝ) := by
  pointwise [k0_pay29, k0_pay28]
  simp only [vln_apply H, wm_apply H, H.dy, H.bt, r_mul, r_sum, r_add]
  rfl

theorem dmixed_apply (r k : Fin 128) : k0_pay30 (k0_pay20 zu) dy (ix2 r k) = (B.dmixed r k : EReal) := by
  pointwise [k0_pay30, k0_pay28]
  simp only [gelu_apply H.zu, H.dy, r_mul]
  rfl

theorem dmix_apply {acc : Vec Ideal S1x128x128 .f32} {a : Fin 128 → Fin 128 → ℝ} (ha : ∀ r k, acc (ix3 0 r k) = (a r k : EReal))
    (r k : Fin 128) : k0_pay33 (k0_pay32 (k0_pay20 zu) dy acc) (ix3 0 r k) = (a r k + B.dmixed r k : ℝ) := by
  pointwise [k0_pay33, k0_pay32]
  simp only [dmixed_apply H, ha, r_add]

theorem dw_apply {acc : Vec Ideal S1x128x128 .f32} {a : Fin 128 → Fin 128 → ℝ} (ha : ∀ r k, acc (ix3 0 r k) = (a r k : EReal))
    (r s : Fin 128) :
    k0_pay34 mask (k0_pay26 (k0_pay21 zv) (k0_pay22 zv) lg lb) (k0_pay31 (k0_pay20 zu) dy) acc (ix3 0 r s)
      = (a r s + B.dw r s : ℝ) := by
  pointwise [k0_pay34, k0_pay31]
  simp only [dmixed_apply H, vln_apply H, mask_apply, ha, r_mul, r_sum, r_zero, r_select, r_add]
  rfl

theorem dvln_apply (s k : Fin 128) : k0_pay35 (k0_pay27 mask w) (k0_pay31 (k0_pay20 zu) dy) (ix2 s k) = (B.dvln s k : EReal) := by
  pointwise [k0_pay35, k0_pay31]
  simp only [dmixed_apply H, wm_apply H, r_mul, r_sum]
  rfl

theorem dlb_apply {acc : Vec Ideal S1x128 .f32} {a : Fin 128 → ℝ} (ha : ∀ k, acc (ix2 0 k) = (a k : EReal)) (k : Fin 128) :
    k0_pay36 (k0_pay27 mask w) (k0_pay31 (k0_pay20 zu) dy) acc (ix2 0 k) = (a k + B.dlb k : ℝ) := by
  pointwise [k0_pay36]
  simp only [dvln_apply H, ha, r_sum, r_add]
  rfl

theorem dlg_apply {acc : Vec Ideal S1x128 .f32} {a : Fin 128 → ℝ} (ha : ∀ k, acc (ix2 0 k) = (a k : EReal)) (k : Fin 128) :
    k0_pay37 (k0_pay25 (k0_pay21 zv) (k0_pay22 zv)) (k0_pay27 mask w) (k0_pay31 (k0_pay20 zu) dy) acc (ix2 0 k)
      = (a k + B.dlg k : ℝ) := by
  pointwise [k0_pay37]
  simp only [dvln_apply H, vhat_apply H, ha, r_mul, r_sum, r_add]
  rfl

theorem dvh_apply (s k : Fin 128) :
    k0_pay38 lg (k0_pay27 mask w) (k0_pay31 (k0_pay20 zu) dy) (ix2 s k) = (B.dvh s k : EReal) := by
  pointwise [k0_pay38]
  simp only [dvln_apply H, H.lg, r_mul]
  rfl

theorem dv_apply (s k : Fin 128) :
    k0_pay40 (k0_pay24 (k0_pay21 zv) (k0_pay22 zv)) (k0_pay25 (k0_pay21 zv) (k0_pay22 zv))
      (k0_pay38 lg (k0_pay27 mask w) (k0_pay31 (k0_pay20 zu) dy))
      (k0_pay39 lg (k0_pay27 mask w) (k0_pay31 (k0_pay20 zu) dy)) (ix2 s k) = (lnBwd (B.v s) (B.dvh s) k : EReal) := by
  pointwise [k0_pay40, k0_pay39]
  simp only [dvh_apply H, vhat_apply H, rs_apply H, c_128, r_mul, r_sum, r_div128, r_sub]
  rfl

/-- The left half of a group's rows of the gradient of `z`. -/
theorem dzu_apply (r k : Fin 128) :
    k0_pay41 (k0_pay18 zu) (k0_pay29 mask (k0_pay21 zv) (k0_pay22 zv) lg lb w bt dy) (ix2 r k) = (B.dzu r k : EReal) :=
  dgelu_apply H.zu (du_apply H) r k

/-- The right half. -/
theorem dzv_apply (r k : Fin 128) :
    k0_pay43 (k0_pay19 zv)
      (k0_pay40 (k0_pay24 (k0_pay21 zv) (k0_pay22 zv)) (k0_pay25 (k0_pay21 zv) (k0_pay22 zv))
        (k0_pay38 lg (k0_pay27 mask w) (k0_pay31 (k0_pay20 zu) dy))
        (k0_pay39 lg (k0_pay27 mask w) (k0_pay31 (k0_pay20 zu) dy)))
      (k0_pay42 (k0_pay19 zv)) (ix2 r k) = (B.dzv r k : EReal) :=
  dgelu_apply H.zv (dv_apply H) r k
end

/-- A row's sum of the accumulated gradient, the gradient of the bias. -/
theorem db_apply {acc : Vec Ideal S1x128x128 .f32} {a : Fin 128 → Fin 128 → ℝ} (ha : ∀ r k, acc (ix3 0 r k) = (a r k : EReal))
    (r : Fin 128) : k0_pay1 acc (ix3 0 r 0) = (∑ k, a r k : ℝ) := by
  pointwise [k0_pay1]
  simp only [ha, r_sum]

end Cert.KernelIdeal.SguBwd

end
-- ==== Proof.SguKernel.lean ====
/- The gating unit's gradient kernel over its grid: what each of the 16 points leaves in the results and in
the accumulators, and the results at the end. -/
module

public import proofs.«01_k».proof.Defs
public import proofs.«01_k».proof.Proof.SguPay
public import proofs.«01_k».proof.Proof.Gen.KernelIdeal
public import proofs.«01_k».proof.Proof.Gen.KernelIdeal.Frame
public import proofs.«01_k».proof.Proof.Gen.KernelIdeal.Value
public import Idealize.ShloMosaic.Lib.Pipeline.ValueKit
public import Idealize.ShloMosaic.Lib.Pointwise
public import Idealize.ShloMosaic.Lib.Pipeline.ReadBack

@[expose] public section

set_option pp.deepTerms false
set_option pp.maxSteps 100
set_option maxRecDepth 16384

noncomputable section

namespace Cert.KernelIdeal.SguBwd

open Cert.KernelIdeal Cert.KernelIdeal.Gen Idealize.ShloMosaic Idealize.ShloMosaic.TcCoe Idealize.SL.Sem
open Idealize.ShloMosaic.Pipeline (Dat)
open Cert.Finite Cert.Sgu

variable (m : (ℓ : Loc nD τ sig) → Buf (Elt Ideal) ℓ)

/-! ## The blocks of the arguments -/

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 1] :=
  (by decide +kernel : ∀ t : Fin grid0.N, win0_1.index t = ![t.val, 1])
theorem idx2 : ∀ t : Fin cfg0.N, win0_2.index t = ![t.val, 0] :=
  (by decide +kernel : ∀ t : Fin grid0.N, win0_2.index t = ![t.val, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0, 0] :=
  (by decide +kernel : ∀ t : Fin grid0.N, win0_5.index t = ![0, 0, 0])
theorem idx6 : ∀ t : Fin cfg0.N, win0_6.index t = ![0, 0] :=
  (by decide +kernel : ∀ t : Fin grid0.N, win0_6.index t = ![0, 0])
theorem idx7 : ∀ t : Fin cfg0.N, win0_7.index t = ![t.val, 0] :=
  (by decide +kernel : ∀ t : Fin grid0.N, win0_7.index t = ![t.val, 0])

/-- A grid point as the number of its block of tokens. -/
abbrev pt (t : Fin cfg0.N) : Fin 16 := ⟨t.val, t.isLt⟩

/-- The arguments hold the reals of `D`. -/
structure Args (c : Dev nD) (D : Data) : Prop where
  z : ∀ r k, m ((c : Thread nD τ).loc main_arg0) (ix3 0 r k) = (D.z r k : EReal)
  dy : ∀ r k, m ((c : Thread nD τ).loc main_arg1) (ix3 0 r k) = (D.dy r k : EReal)
  lg : ∀ k, m ((c : Thread nD τ).loc main_arg2) (ix2 0 k) = (D.lg k : EReal)
  lb : ∀ k, m ((c : Thread nD τ).loc main_arg3) (ix2 0 k) = (D.lb k : EReal)
  w : ∀ g r s, m ((c : Thread nD τ).loc main_arg4) (ix3 g r s) = (D.w g r s : EReal)
  b : ∀ g r, m ((c : Thread nD τ).loc main_arg5) (ix2 g r) = (D.b g r : EReal)

theorem blk0 (c : Dev nD) (t : Fin cfg0.N) (r : Fin 128) (j : Fin 1024) :
    iblk m c 0 t (ix2 r j) = m ((c : Thread nD τ).loc main_arg0) (ix3 0 (row (pt t) r) ⟨j.val, by omega⟩) := by
  blk_simp [iblk, idx0 t]
  entry_read
  pointwise
  blk_ext [idx0 t, row, pt]
theorem blk1 (c : Dev nD) (t : Fin cfg0.N) (r : Fin 128) (j : Fin 1024) :
    iblk m c 1 t (ix2 r j) = m ((c : Thread nD τ).loc main_arg0) (ix3 0 (row (pt t) r) ⟨1024 + j.val, by omega⟩) := by
  blk_simp [iblk, idx1 t]
  entry_read
  pointwise
  blk_ext [idx1 t, row, pt]
theorem blk2 (c : Dev nD) (t : Fin cfg0.N) (r : Fin 128) (j : Fin 1024) :
    iblk m c 2 t (ix2 r j) = m ((c : Thread nD τ).loc main_arg1) (ix3 0 (row (pt t) r) j) := by
  blk_simp [iblk, idx2 t]
  entry_read
  pointwise
  blk_ext [idx2 t, row, pt]
theorem blk3 (c : Dev nD) (t : Fin cfg0.N) (j : Fin 1024) :
    iblk m c 3 t (ix2 0 j) = m ((c : Thread nD τ).loc main_arg2) (ix2 0 j) := by
  blk_simp [iblk, idx3 t]
  entry_read
  blk_ext [idx3 t]
theorem blk4 (c : Dev nD) (t : Fin cfg0.N) (j : Fin 1024) :
    iblk m c 4 t (ix2 0 j) = m ((c : Thread nD τ).loc main_arg3) (ix2 0 j) := by
  blk_simp [iblk, idx4 t]
  entry_read
  blk_ext [idx4 t]
theorem blk5 (c : Dev nD) (t : Fin cfg0.N) (g : Fin 8) (r s : Fin 128) :
    iblk m c 5 t (ix3 g r s) = m ((c : Thread nD τ).loc main_arg4) (ix3 g r s) := by
  blk_simp [iblk, idx5 t]
  entry_read
  blk_ext [idx5 t]
theorem blk6 (c : Dev nD) (t : Fin cfg0.N) (r : Fin 128) (g : Fin 8) :
    iblk m c 6 t (ix2 r g) = m ((c : Thread nD τ).loc main_arg5) (ix2 g r) := by
  blk_simp [iblk, idx6 t]
  entry_read
  pointwise
  blk_ext [idx6 t]

/-! ## The loads of one group -/

theorem inb_cols (g : Fin 8) : ∀ a, (![0, g.val * 128] : Fin 2 → ℕ) a + S128x128.size a ≤ S128x1024.size a := by
  revert g; decide
theorem inb_row (g : Fin 8) : ∀ a, (![0, g.val * 128] : Fin 2 → ℕ) a + S1x128.size a ≤ S1x1024.size a := by
  revert g; decide
theorem inb_page (g : Fin 8) : ∀ a, (![g.val, 0, 0] : Fin 3 → ℕ) a + S1x128x128.size a ≤ S8x128x128.size a := by
  revert g; decide
theorem inb_bias (g : Fin 8) : ∀ a, (![0, g.val] : Fin 2 → ℕ) a + S128x1.size a ≤ S128x8.size a := by
  revert g; decide

abbrev cols (g : Fin 8) : Rect S128x1024 := Rect.unit ![0, g.val * 128] S128x128.size (inb_cols g)
abbrev lanes (g : Fin 8) : Rect S1x1024 := Rect.unit ![0, g.val * 128] S1x128.size (inb_row g)
abbrev page (g : Fin 8) : Rect S8x128x128 := Rect.unit ![g.val, 0, 0] S1x128x128.size (inb_page g)
abbrev bias (g : Fin 8) : Rect S128x8 := Rect.unit ![0, g.val] S128x1.size (inb_bias g)

theorem ld_cols (x : Vec Ideal S128x1024 .f32) (g : Fin 8) (r k : Fin 128) :
    View.ld x (cols g) (ix2 r k) = x (ix2 r (chan g k)) :=
  View.ld_unit_apply_of _ _ _ _ _ _ (by intro a; fin_cases a <;> simp [chan])
theorem ld_lanes (x : Vec Ideal S1x1024 .f32) (g : Fin 8) (k : Fin 128) :
    View.ld x (lanes g) (ix2 0 k) = x (ix2 0 (chan g k)) :=
  View.ld_unit_apply_of _ _ _ _ _ _ (by intro a; fin_cases a <;> simp [chan])
theorem ld_page (x : Vec Ideal S8x128x128 .f32) (g : Fin 8) (r s : Fin 128) :
    View.ld x (page g) (ix3 0 r s) = x (ix3 g r s) :=
  View.ld_unit_apply_of _ _ _ _ _ _ (by intro a; fin_cases a <;> simp)
theorem ld_bias (x : Vec Ideal S128x8 .f32) (g : Fin 8) (r : Fin 128) :
    View.ld x (bias g) (ix2 r 0) = x (ix2 r g) :=
  View.ld_unit_apply_of _ _ _ _ _ _ (by intro a; fin_cases a <;> simp)

variable {m}

/-- What the body loads for group `g` at point `t` holds that block's reals. -/
theorem holds {c : Dev nD} {D : Data} (A : Args m c D) (t : Fin cfg0.N) (g : Fin 8) :
    Holds (D.blk (pt t) g) (View.ld (iblk m c 0 t) (cols g)) (View.ld (iblk m c 1 t) (cols g))
      (View.ld (iblk m c 2 t) (cols g)) (View.ld (iblk m c 3 t) (lanes g)) (View.ld (iblk m c 4 t) (lanes g))
      (View.ld (iblk m c 5 t) (page g)) (View.ld (iblk m c 6 t) (bias g)) where
  zu r k := by rw [ld_cols, blk0, A.z]; rfl
  zv r k := by rw [ld_cols, blk1, A.z]; rfl
  dy r k := by rw [ld_cols, blk2, A.dy]; rfl
  lg k := by rw [ld_lanes, blk3, A.lg]; rfl
  lb k := by rw [ld_lanes, blk4, A.lb]; rfl
  w r s := by rw [ld_page, blk5, A.w]; rfl
  bt r := by rw [ld_bias, blk6, A.b]; rfl

/-- Where the later stores cover an index, the stores before them do not matter. -/
theorem canon_append_of_cover {S : Shape} {e : EltTy} : ∀ (L M : List (View.Piece (Elt Ideal) S e)) (y : S.Idx),
    (∃ p ∈ L, y ∈ p.1.set) → View.canon (L ++ M) y = View.canon L y
  | [], _, _, h => by obtain ⟨p, hp, _⟩ := h; exact absurd hp List.not_mem_nil
  | p :: L, M, y, h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_append_of_cover L M y ?_
      obtain ⟨q, hq, hy⟩ := h
      rcases List.mem_cons.mp hq with rfl | hq
      · exact absurd hy hm
      · exact ⟨q, hq, hy⟩

/-! ## Indices of the results -/

theorem idx3_eq {y : S8x128x128.Idx} (g : Fin 8) {r s : Fin 128} (e0 : (y 0).val = g.val) (e1 : (y 1).val = r.val)
    (e2 : (y 2).val = s.val) : y = ix3 g r s := by
  funext i; fin_cases i
  · exact Fin.ext e0
  · exact Fin.ext e1
  · exact Fin.ext e2
theorem idx3'_eq {y : S8x128x1.Idx} (g : Fin 8) {r : Fin 128} (e0 : (y 0).val = g.val) (e1 : (y 1).val = r.val) :
    y = ix3 g r 0 := by
  funext i; fin_cases i
  · exact Fin.ext e0
  · exact Fin.ext e1
  · exact Subsingleton.elim (α := Fin 1) _ _
theorem idx1_eq {y : S1x1024.Idx} (g : Fin 8) {k : Fin 128} (e1 : (y 1).val = g.val * 128 + k.val) : y = ix2 0 (chan g k) := by
  funext i; fin_cases i
  · exact Subsingleton.elim (α := Fin 1) _ _
  · exact Fin.ext e1
theorem idxu_eq {y : S128x2048.Idx} (g : Fin 8) {r k : Fin 128} (e0 : (y 0).val = r.val) (e1 : (y 1).val = g.val * 128 + k.val) :
    y = ix2 r (colu g k) := by
  funext i; fin_cases i
  · exact Fin.ext e0
  · exact Fin.ext e1
theorem idxv_eq {y : S128x2048.Idx} (g : Fin 8) {r k : Fin 128} (e0 : (y 0).val = r.val) (e1 : (y 1).val = (1024 + g.val * 128) + k.val) :
    y = ix2 r (colv g k) := by
  funext i; fin_cases i
  · exact Fin.ext e0
  · exact Fin.ext (e1.trans (Nat.add_assoc _ _ _))

/-! ## One point of the grid -/

section
variable {c : Dev nD} {D : Data} (A : Args m c D) (t : Fin cfg0.N)
include A

theorem piece_dw {S : Vec Ideal S8x128x128 .f32} {a : Fin 8 → Fin 128 → Fin 128 → ℝ} (hS : ∀ g r s, S (ix3 g r s) = (a g r s : EReal))
    (g : Fin 8) (r s : Fin 128) :
    k0_pay34 mask (k0_pay26 (k0_pay21 (View.ld (iblk m c 1 t) (cols g))) (k0_pay22 (View.ld (iblk m c 1 t) (cols g)))
        (View.ld (iblk m c 3 t) (lanes g)) (View.ld (iblk m c 4 t) (lanes g)))
      (k0_pay31 (k0_pay20 (View.ld (iblk m c 0 t) (cols g))) (View.ld (iblk m c 2 t) (cols g))) (View.ld S (page g)) (ix3 0 r s)
      = (a g r s + (D.blk (pt t) g).dw r s : ℝ) :=
  dw_apply (holds A t g) (fun r s => (ld_page _ _ _ _).trans (hS g r s)) r s

theorem piece_dmix {S : Vec Ideal S8x128x128 .f32} {a : Fin 8 → Fin 128 → Fin 128 → ℝ} (hS : ∀ g r s, S (ix3 g r s) = (a g r s : EReal))
    (g : Fin 8) (r s : Fin 128) :
    k0_pay33 (k0_pay32 (k0_pay20 (View.ld (iblk m c 0 t) (cols g))) (View.ld (iblk m c 2 t) (cols g)) (View.ld S (page g))) (ix3 0 r s)
      = (a g r s + (D.blk (pt t) g).dmixed r s : ℝ) :=
  dmix_apply (holds A t g) (fun r s => (ld_page _ _ _ _).trans (hS g r s)) r s

theorem piece_db {S : Vec Ideal S8x128x128 .f32} {a : Fin 8 → Fin 128 → Fin 128 → ℝ} (hS : ∀ g r s, S (ix3 g r s) = (a g r s : EReal))
    (g : Fin 8) (r : Fin 128) :
    k0_pay1 (k0_pay33 (k0_pay32 (k0_pay20 (View.ld (iblk m c 0 t) (cols g))) (View.ld (iblk m c 2 t) (cols g)) (View.ld S (page g)))) (ix3 0 r 0)
      = (∑ k, (a g r k + (D.blk (pt t) g).dmixed r k) : ℝ) :=
  db_apply (piece_dmix A t hS g) r

theorem piece_dlb {S : Vec Ideal S1x1024 .f32} {a : Fin 1024 → ℝ} (hS : ∀ j, S (ix2 0 j) = (a j : EReal))
    (g : Fin 8) (k : Fin 128) :
    k0_pay36 (k0_pay27 mask (View.ld (iblk m c 5 t) (page g)))
        (k0_pay31 (k0_pay20 (View.ld (iblk m c 0 t) (cols g))) (View.ld (iblk m c 2 t) (cols g))) (View.ld S (lanes g)) (ix2 0 k)
      = (a (chan g k) + (D.blk (pt t) (grp (chan g k))).dlb (lane (chan g k)) : ℝ) := by
  rw [grp_chan, lane_chan]
  exact dlb_apply (holds A t g) (fun k => (ld_lanes _ _ _).trans (hS (chan g k))) k

theorem piece_dlg {S : Vec Ideal S1x1024 .f32} {a : Fin 1024 → ℝ} (hS : ∀ j, S (ix2 0 j) = (a j : EReal))
    (g : Fin 8) (k : Fin 128) :
    k0_pay37 (k0_pay25 (k0_pay21 (View.ld (iblk m c 1 t) (cols g))) (k0_pay22 (View.ld (iblk m c 1 t) (cols g))))
        (k0_pay27 mask (View.ld (iblk m c 5 t) (page g)))
        (k0_pay31 (k0_pay20 (View.ld (iblk m c 0 t) (cols g))) (View.ld (iblk m c 2 t) (cols g))) (View.ld S (lanes g)) (ix2 0 k)
      = (a (chan g k) + (D.blk (pt t) (grp (chan g k))).dlg (lane (chan g k)) : ℝ) := by
  rw [grp_chan, lane_chan]
  exact dlg_apply (holds A t g) (fun k => (ld_lanes _ _ _).trans (hS (chan g k))) k

theorem piece_dzu (g : Fin 8) (r k : Fin 128) :
    k0_pay41 (k0_pay18 (View.ld (iblk m c 0 t) (cols g)))
        (k0_pay29 mask (k0_pay21 (View.ld (iblk m c 1 t) (cols g))) (k0_pay22 (View.ld (iblk m c 1 t) (cols g)))
          (View.ld (iblk m c 3 t) (lanes g)) (View.ld (iblk m c 4 t) (lanes g)) (View.ld (iblk m c 5 t) (page g))
          (View.ld (iblk m c 6 t) (bias g)) (View.ld (iblk m c 2 t) (cols g))) (ix2 r k)
      = (D.dz (pt t) r (colu g k) : EReal) := by
  rw [D.dz_colu]
  exact dzu_apply (holds A t g) r k

theorem piece_dzv (g : Fin 8) (r k : Fin 128) :
    k0_pay43 (k0_pay19 (View.ld (iblk m c 1 t) (cols g)))
      (k0_pay40 (k0_pay24 (k0_pay21 (View.ld (iblk m c 1 t) (cols g))) (k0_pay22 (View.ld (iblk m c 1 t) (cols g))))
        (k0_pay25 (k0_pay21 (View.ld (iblk m c 1 t) (cols g))) (k0_pay22 (View.ld (iblk m c 1 t) (cols g))))
        (k0_pay38 (View.ld (iblk m c 3 t) (lanes g)) (k0_pay27 mask (View.ld (iblk m c 5 t) (page g)))
          (k0_pay31 (k0_pay20 (View.ld (iblk m c 0 t) (cols g))) (View.ld (iblk m c 2 t) (cols g))))
        (k0_pay39 (View.ld (iblk m c 3 t) (lanes g)) (k0_pay27 mask (View.ld (iblk m c 5 t) (page g)))
          (k0_pay31 (k0_pay20 (View.ld (iblk m c 0 t) (cols g))) (View.ld (iblk m c 2 t) (cols g)))))
      (k0_pay42 (k0_pay19 (View.ld (iblk m c 1 t) (cols g)))) (ix2 r k)
      = (D.dz (pt t) r (colv g k) : EReal) := by
  rw [D.dz_colv]
  exact dzv_apply (holds A t g) r k

end

/-! The accumulators start at zero. -/

theorem zero_dw (g : Fin 8) (r s : Fin 128) : k0_pay16 (F := Ideal) (ix3 g r s) = ((0 : ℝ) : EReal) := by
  pointwise [k0_pay16]; rw [r_zero]
theorem zero_dmix (g : Fin 8) (r s : Fin 128) : k0_pay17 (F := Ideal) (ix3 g r s) = ((0 : ℝ) : EReal) := by
  pointwise [k0_pay17]; rw [r_zero]
theorem zero_dlg (j : Fin 1024) : k0_pay14 (F := Ideal) (ix2 0 j) = ((0 : ℝ) : EReal) := by
  pointwise [k0_pay14]; rw [r_zero]
theorem zero_dlb (j : Fin 1024) : k0_pay15 (F := Ideal) (ix2 0 j) = ((0 : ℝ) : EReal) := by
  pointwise [k0_pay15]; rw [r_zero]

section
variable {c : Dev nD} {D : Data} (A : Args m c D) (t : Fin cfg0.N)
include A

theorem dw_A (h0 : t.val % 16 = 0) (h1 : ¬t.val % 16 = 15) (y : S8x128x128.Idx) :
    (outsAt0 m c t.val t.isLt).2.2.2.1 y = (0 + (D.blk (pt t) (y 0)).dw (y 1) (y 2) : ℝ) := by
  rw [outsAt0_A m c t h0 h1]
  frame_open
  simp (disch := decide) only [↓ View.readCov_skip, ↓ View.readCov_cons_toLoadRect, ↓ View.readCov_fill]
  frame_out
  refine (canon_append_of_cover [_, _, _, _, _, _, _, _] [_] y (View.cover_of_tiled_head _ _ _ rfl y)).trans ?_
  canon_tiles y g <;> idx_vars y
  all_goals obtain rfl : y0 = 0 := Subsingleton.elim _ _
  · obtain rfl := idx3_eq 7 g0 g1 g2; exact piece_dw A t zero_dw 7 y1 y2
  · obtain rfl := idx3_eq 6 g0 g1 g2; exact piece_dw A t zero_dw 6 y1 y2
  · obtain rfl := idx3_eq 5 g0 g1 g2; exact piece_dw A t zero_dw 5 y1 y2
  · obtain rfl := idx3_eq 4 g0 g1 g2; exact piece_dw A t zero_dw 4 y1 y2
  · obtain rfl := idx3_eq 3 g0 g1 g2; exact piece_dw A t zero_dw 3 y1 y2
  · obtain rfl := idx3_eq 2 g0 g1 g2; exact piece_dw A t zero_dw 2 y1 y2
  · obtain rfl := idx3_eq 1 g0 g1 g2; exact piece_dw A t zero_dw 1 y1 y2
  · obtain rfl := idx3_eq 0 g0 g1 g2; exact piece_dw A t zero_dw 0 y1 y2

theorem dw_B (h0 : ¬t.val % 16 = 0) (h1 : ¬t.val % 16 = 15)
    {a : Fin 8 → Fin 128 → Fin 128 → ℝ} (ha : ∀ g r s, (outsAt0 m c (t.val - 1) (Nat.lt_of_le_of_lt (Nat.sub_le _ _) t.isLt)).2.2.2.1 (ix3 g r s) = (a g r s : EReal)) (y : S8x128x128.Idx) :
    (outsAt0 m c t.val t.isLt).2.2.2.1 y = (a (y 0) (y 1) (y 2) + (D.blk (pt t) (y 0)).dw (y 1) (y 2) : ℝ) := by
  rw [outsAt0_B m c t h0 h1]
  frame_open
  simp (disch := decide) only [↓ View.readCov_skip, ↓ View.readCov_cons_toLoadRect, ↓ View.readCov_fill]
  frame_out
  canon_tiles y g <;> idx_vars y
  all_goals obtain rfl : y0 = 0 := Subsingleton.elim _ _
  · obtain rfl := idx3_eq 7 g0 g1 g2; exact piece_dw A t ha 7 y1 y2
  · obtain rfl := idx3_eq 6 g0 g1 g2; exact piece_dw A t ha 6 y1 y2
  · obtain rfl := idx3_eq 5 g0 g1 g2; exact piece_dw A t ha 5 y1 y2
  · obtain rfl := idx3_eq 4 g0 g1 g2; exact piece_dw A t ha 4 y1 y2
  · obtain rfl := idx3_eq 3 g0 g1 g2; exact piece_dw A t ha 3 y1 y2
  · obtain rfl := idx3_eq 2 g0 g1 g2; exact piece_dw A t ha 2 y1 y2
  · obtain rfl := idx3_eq 1 g0 g1 g2; exact piece_dw A t ha 1 y1 y2
  · obtain rfl := idx3_eq 0 g0 g1 g2; exact piece_dw A t ha 0 y1 y2

theorem dw_C (h0 : ¬t.val % 16 = 0) (h1 : t.val % 16 = 15)
    {a : Fin 8 → Fin 128 → Fin 128 → ℝ} (ha : ∀ g r s, (outsAt0 m c (t.val - 1) (Nat.lt_of_le_of_lt (Nat.sub_le _ _) t.isLt)).2.2.2.1 (ix3 g r s) = (a g r s : EReal)) (y : S8x128x128.Idx) :
    (outsAt0 m c t.val t.isLt).2.2.2.1 y = (a (y 0) (y 1) (y 2) + (D.blk (pt t) (y 0)).dw (y 1) (y 2) : ℝ) := by
  rw [outsAt0_C m c t h0 h1]
  frame_open
  simp (disch := decide) only [↓ View.readCov_skip, ↓ View.readCov_cons_toLoadRect, ↓ View.readCov_fill]
  frame_out
  canon_tiles y g <;> idx_vars y
  all_goals obtain rfl : y0 = 0 := Subsingleton.elim _ _
  · obtain rfl := idx3_eq 7 g0 g1 g2; exact piece_dw A t ha 7 y1 y2
  · obtain rfl := idx3_eq 6 g0 g1 g2; exact piece_dw A t ha 6 y1 y2
  · obtain rfl := idx3_eq 5 g0 g1 g2; exact piece_dw A t ha 5 y1 y2
  · obtain rfl := idx3_eq 4 g0 g1 g2; exact piece_dw A t ha 4 y1 y2
  · obtain rfl := idx3_eq 3 g0 g1 g2; exact piece_dw A t ha 3 y1 y2
  · obtain rfl := idx3_eq 2 g0 g1 g2; exact piece_dw A t ha 2 y1 y2
  · obtain rfl := idx3_eq 1 g0 g1 g2; exact piece_dw A t ha 1 y1 y2
  · obtain rfl := idx3_eq 0 g0 g1 g2; exact piece_dw A t ha 0 y1 y2

theorem dmix_A (h0 : t.val % 16 = 0) (h1 : ¬t.val % 16 = 15) (y : S8x128x128.Idx) :
    (outsAt0 m c t.val t.isLt).2.2.2.2.2 y = (0 + (D.blk (pt t) (y 0)).dmixed (y 1) (y 2) : ℝ) := by
  rw [outsAt0_A m c t h0 h1]
  frame_open
  simp (disch := decide) only [↓ View.readCov_skip, ↓ View.readCov_cons_toLoadRect, ↓ View.readCov_fill]
  frame_out
  refine (canon_append_of_cover [_, _, _, _, _, _, _, _] [_] y (View.cover_of_tiled_head _ _ _ rfl y)).trans ?_
  canon_tiles y g <;> idx_vars y
  all_goals obtain rfl : y0 = 0 := Subsingleton.elim _ _
  · obtain rfl := idx3_eq 7 g0 g1 g2; exact piece_dmix A t zero_dmix 7 y1 y2
  · obtain rfl := idx3_eq 6 g0 g1 g2; exact piece_dmix A t zero_dmix 6 y1 y2
  · obtain rfl := idx3_eq 5 g0 g1 g2; exact piece_dmix A t zero_dmix 5 y1 y2
  · obtain rfl := idx3_eq 4 g0 g1 g2; exact piece_dmix A t zero_dmix 4 y1 y2
  · obtain rfl := idx3_eq 3 g0 g1 g2; exact piece_dmix A t zero_dmix 3 y1 y2
  · obtain rfl := idx3_eq 2 g0 g1 g2; exact piece_dmix A t zero_dmix 2 y1 y2
  · obtain rfl := idx3_eq 1 g0 g1 g2; exact piece_dmix A t zero_dmix 1 y1 y2
  · obtain rfl := idx3_eq 0 g0 g1 g2; exact piece_dmix A t zero_dmix 0 y1 y2

theorem dmix_B (h0 : ¬t.val % 16 = 0) (h1 : ¬t.val % 16 = 15)
    {a : Fin 8 → Fin 128 → Fin 128 → ℝ} (ha : ∀ g r s, (outsAt0 m c (t.val - 1) (Nat.lt_of_le_of_lt (Nat.sub_le _ _) t.isLt)).2.2.2.2.2 (ix3 g r s) = (a g r s : EReal)) (y : S8x128x128.Idx) :
    (outsAt0 m c t.val t.isLt).2.2.2.2.2 y = (a (y 0) (y 1) (y 2) + (D.blk (pt t) (y 0)).dmixed (y 1) (y 2) : ℝ) := by
  rw [outsAt0_B m c t h0 h1]
  frame_open
  simp (disch := decide) only [↓ View.readCov_skip, ↓ View.readCov_cons_toLoadRect, ↓ View.readCov_fill]
  frame_out
  simp only [read_unread_whole]
  canon_tiles y g <;> idx_vars y
  all_goals obtain rfl : y0 = 0 := Subsingleton.elim _ _
  · obtain rfl := idx3_eq 7 g0 g1 g2; exact piece_dmix A t ha 7 y1 y2
  · obtain rfl := idx3_eq 6 g0 g1 g2; exact piece_dmix A t ha 6 y1 y2
  · obtain rfl := idx3_eq 5 g0 g1 g2; exact piece_dmix A t ha 5 y1 y2
  · obtain rfl := idx3_eq 4 g0 g1 g2; exact piece_dmix A t ha 4 y1 y2
  · obtain rfl := idx3_eq 3 g0 g1 g2; exact piece_dmix A t ha 3 y1 y2
  · obtain rfl := idx3_eq 2 g0 g1 g2; exact piece_dmix A t ha 2 y1 y2
  · obtain rfl := idx3_eq 1 g0 g1 g2; exact piece_dmix A t ha 1 y1 y2
  · obtain rfl := idx3_eq 0 g0 g1 g2; exact piece_dmix A t ha 0 y1 y2

theorem dmix_C (h0 : ¬t.val % 16 = 0) (h1 : t.val % 16 = 15)
    {a : Fin 8 → Fin 128 → Fin 128 → ℝ} (ha : ∀ g r s, (outsAt0 m c (t.val - 1) (Nat.lt_of_le_of_lt (Nat.sub_le _ _) t.isLt)).2.2.2.2.2 (ix3 g r s) = (a g r s : EReal)) (y : S8x128x128.Idx) :
    (outsAt0 m c t.val t.isLt).2.2.2.2.2 y = (a (y 0) (y 1) (y 2) + (D.blk (pt t) (y 0)).dmixed (y 1) (y 2) : ℝ) := by
  rw [outsAt0_C m c t h0 h1]
  frame_open
  simp (disch := decide) only [↓ View.readCov_skip, ↓ View.readCov_cons_toLoadRect, ↓ View.readCov_fill]
  frame_out
  simp only [read_unread_whole]
  canon_tiles y g <;> idx_vars y
  all_goals obtain rfl : y0 = 0 := Subsingleton.elim _ _
  · obtain rfl := idx3_eq 7 g0 g1 g2; exact piece_dmix A t ha 7 y1 y2
  · obtain rfl := idx3_eq 6 g0 g1 g2; exact piece_dmix A t ha 6 y1 y2
  · obtain rfl := idx3_eq 5 g0 g1 g2; exact piece_dmix A t ha 5 y1 y2
  · obtain rfl := idx3_eq 4 g0 g1 g2; exact piece_dmix A t ha 4 y1 y2
  · obtain rfl := idx3_eq 3 g0 g1 g2; exact piece_dmix A t ha 3 y1 y2
  · obtain rfl := idx3_eq 2 g0 g1 g2; exact piece_dmix A t ha 2 y1 y2
  · obtain rfl := idx3_eq 1 g0 g1 g2; exact piece_dmix A t ha 1 y1 y2
  · obtain rfl := idx3_eq 0 g0 g1 g2; exact piece_dmix A t ha 0 y1 y2

theorem dlg_A (h0 : t.val % 16 = 0) (h1 : ¬t.val % 16 = 15) (y : S1x1024.Idx) :
    (outsAt0 m c t.val t.isLt).2.1 y = (0 + (D.blk (pt t) (grp (y 1))).dlg (lane (y 1)) : ℝ) := by
  rw [outsAt0_A m c t h0 h1]
  frame_open
  simp (disch := decide) only [↓ View.readCov_skip, ↓ View.readCov_cons_toLoadRect, ↓ View.readCov_fill]
  frame_out
  refine (canon_append_of_cover [_, _, _, _, _, _, _, _] [_] y (View.cover_of_tiled_head _ _ _ rfl y)).trans ?_
  canon_tiles y g <;> idx_vars y
  all_goals obtain rfl : y0 = 0 := Subsingleton.elim _ _
  · obtain rfl := idx1_eq 7 g1; exact piece_dlg A t zero_dlg 7 y1
  · obtain rfl := idx1_eq 6 g1; exact piece_dlg A t zero_dlg 6 y1
  · obtain rfl := idx1_eq 5 g1; exact piece_dlg A t zero_dlg 5 y1
  · obtain rfl := idx1_eq 4 g1; exact piece_dlg A t zero_dlg 4 y1
  · obtain rfl := idx1_eq 3 g1; exact piece_dlg A t zero_dlg 3 y1
  · obtain rfl := idx1_eq 2 g1; exact piece_dlg A t zero_dlg 2 y1
  · obtain rfl := idx1_eq 1 g1; exact piece_dlg A t zero_dlg 1 y1
  · obtain rfl := idx1_eq 0 (by simpa using g1); exact piece_dlg A t zero_dlg 0 y1

theorem dlg_B (h0 : ¬t.val % 16 = 0) (h1 : ¬t.val % 16 = 15)
    {a : Fin 1024 → ℝ} (ha : ∀ j, (outsAt0 m c (t.val - 1) (Nat.lt_of_le_of_lt (Nat.sub_le _ _) t.isLt)).2.1 (ix2 0 j) = (a j : EReal)) (y : S1x1024.Idx) :
    (outsAt0 m c t.val t.isLt).2.1 y = (a (y 1) + (D.blk (pt t) (grp (y 1))).dlg (lane (y 1)) : ℝ) := by
  rw [outsAt0_B m c t h0 h1]
  frame_open
  simp (disch := decide) only [↓ View.readCov_skip, ↓ View.readCov_cons_toLoadRect, ↓ View.readCov_fill]
  frame_out
  canon_tiles y g <;> idx_vars y
  all_goals obtain rfl : y0 = 0 := Subsingleton.elim _ _
  · obtain rfl := idx1_eq 7 g1; exact piece_dlg A t ha 7 y1
  · obtain rfl := idx1_eq 6 g1; exact piece_dlg A t ha 6 y1
  · obtain rfl := idx1_eq 5 g1; exact piece_dlg A t ha 5 y1
  · obtain rfl := idx1_eq 4 g1; exact piece_dlg A t ha 4 y1
  · obtain rfl := idx1_eq 3 g1; exact piece_dlg A t ha 3 y1
  · obtain rfl := idx1_eq 2 g1; exact piece_dlg A t ha 2 y1
  · obtain rfl := idx1_eq 1 g1; exact piece_dlg A t ha 1 y1
  · obtain rfl := idx1_eq 0 (by simpa using g1); exact piece_dlg A t ha 0 y1

theorem dlg_C (h0 : ¬t.val % 16 = 0) (h1 : t.val % 16 = 15)
    {a : Fin 1024 → ℝ} (ha : ∀ j, (outsAt0 m c (t.val - 1) (Nat.lt_of_le_of_lt (Nat.sub_le _ _) t.isLt)).2.1 (ix2 0 j) = (a j : EReal)) (y : S1x1024.Idx) :
    (outsAt0 m c t.val t.isLt).2.1 y = (a (y 1) + (D.blk (pt t) (grp (y 1))).dlg (lane (y 1)) : ℝ) := by
  rw [outsAt0_C m c t h0 h1]
  frame_open
  simp (disch := decide) only [↓ View.readCov_skip, ↓ View.readCov_cons_toLoadRect, ↓ View.readCov_fill]
  frame_out
  canon_tiles y g <;> idx_vars y
  all_goals obtain rfl : y0 = 0 := Subsingleton.elim _ _
  · obtain rfl := idx1_eq 7 g1; exact piece_dlg A t ha 7 y1
  · obtain rfl := idx1_eq 6 g1; exact piece_dlg A t ha 6 y1
  · obtain rfl := idx1_eq 5 g1; exact piece_dlg A t ha 5 y1
  · obtain rfl := idx1_eq 4 g1; exact piece_dlg A t ha 4 y1
  · obtain rfl := idx1_eq 3 g1; exact piece_dlg A t ha 3 y1
  · obtain rfl := idx1_eq 2 g1; exact piece_dlg A t ha 2 y1
  · obtain rfl := idx1_eq 1 g1; exact piece_dlg A t ha 1 y1
  · obtain rfl := idx1_eq 0 (by simpa using g1); exact piece_dlg A t ha 0 y1

theorem dlb_A (h0 : t.val % 16 = 0) (h1 : ¬t.val % 16 = 15) (y : S1x1024.Idx) :
    (outsAt0 m c t.val t.isLt).2.2.1 y = (0 + (D.blk (pt t) (grp (y 1))).dlb (lane (y 1)) : ℝ) := by
  rw [outsAt0_A m c t h0 h1]
  frame_open
  simp (disch := decide) only [↓ View.readCov_skip, ↓ View.readCov_cons_toLoadRect, ↓ View.readCov_fill]
  frame_out
  refine (canon_append_of_cover [_, _, _, _, _, _, _, _] [_] y (View.cover_of_tiled_head _ _ _ rfl y)).trans ?_
  canon_tiles y g <;> idx_vars y
  all_goals obtain rfl : y0 = 0 := Subsingleton.elim _ _
  · obtain rfl := idx1_eq 7 g1; exact piece_dlb A t zero_dlb 7 y1
  · obtain rfl := idx1_eq 6 g1; exact piece_dlb A t zero_dlb 6 y1
  · obtain rfl := idx1_eq 5 g1; exact piece_dlb A t zero_dlb 5 y1
  · obtain rfl := idx1_eq 4 g1; exact piece_dlb A t zero_dlb 4 y1
  · obtain rfl := idx1_eq 3 g1; exact piece_dlb A t zero_dlb 3 y1
  · obtain rfl := idx1_eq 2 g1; exact piece_dlb A t zero_dlb 2 y1
  · obtain rfl := idx1_eq 1 g1; exact piece_dlb A t zero_dlb 1 y1
  · obtain rfl := idx1_eq 0 (by simpa using g1); exact piece_dlb A t zero_dlb 0 y1

theorem dlb_B (h0 : ¬t.val % 16 = 0) (h1 : ¬t.val % 16 = 15)
    {a : Fin 1024 → ℝ} (ha : ∀ j, (outsAt0 m c (t.val - 1) (Nat.lt_of_le_of_lt (Nat.sub_le _ _) t.isLt)).2.2.1 (ix2 0 j) = (a j : EReal)) (y : S1x1024.Idx) :
    (outsAt0 m c t.val t.isLt).2.2.1 y = (a (y 1) + (D.blk (pt t) (grp (y 1))).dlb (lane (y 1)) : ℝ) := by
  rw [outsAt0_B m c t h0 h1]
  frame_open
  simp (disch := decide) only [↓ View.readCov_skip, ↓ View.readCov_cons_toLoadRect, ↓ View.readCov_fill]
  frame_out
  canon_tiles y g <;> idx_vars y
  all_goals obtain rfl : y0 = 0 := Subsingleton.elim _ _
  · obtain rfl := idx1_eq 7 g1; exact piece_dlb A t ha 7 y1
  · obtain rfl := idx1_eq 6 g1; exact piece_dlb A t ha 6 y1
  · obtain rfl := idx1_eq 5 g1; exact piece_dlb A t ha 5 y1
  · obtain rfl := idx1_eq 4 g1; exact piece_dlb A t ha 4 y1
  · obtain rfl := idx1_eq 3 g1; exact piece_dlb A t ha 3 y1
  · obtain rfl := idx1_eq 2 g1; exact piece_dlb A t ha 2 y1
  · obtain rfl := idx1_eq 1 g1; exact piece_dlb A t ha 1 y1
  · obtain rfl := idx1_eq 0 (by simpa using g1); exact piece_dlb A t ha 0 y1

theorem dlb_C (h0 : ¬t.val % 16 = 0) (h1 : t.val % 16 = 15)
    {a : Fin 1024 → ℝ} (ha : ∀ j, (outsAt0 m c (t.val - 1) (Nat.lt_of_le_of_lt (Nat.sub_le _ _) t.isLt)).2.2.1 (ix2 0 j) = (a j : EReal)) (y : S1x1024.Idx) :
    (outsAt0 m c t.val t.isLt).2.2.1 y = (a (y 1) + (D.blk (pt t) (grp (y 1))).dlb (lane (y 1)) : ℝ) := by
  rw [outsAt0_C m c t h0 h1]
  frame_open
  simp (disch := decide) only [↓ View.readCov_skip, ↓ View.readCov_cons_toLoadRect, ↓ View.readCov_fill]
  frame_out
  canon_tiles y g <;> idx_vars y
  all_goals obtain rfl : y0 = 0 := Subsingleton.elim _ _
  · obtain rfl := idx1_eq 7 g1; exact piece_dlb A t ha 7 y1
  · obtain rfl := idx1_eq 6 g1; exact piece_dlb A t ha 6 y1
  · obtain rfl := idx1_eq 5 g1; exact piece_dlb A t ha 5 y1
  · obtain rfl := idx1_eq 4 g1; exact piece_dlb A t ha 4 y1
  · obtain rfl := idx1_eq 3 g1; exact piece_dlb A t ha 3 y1
  · obtain rfl := idx1_eq 2 g1; exact piece_dlb A t ha 2 y1
  · obtain rfl := idx1_eq 1 g1; exact piece_dlb A t ha 1 y1
  · obtain rfl := idx1_eq 0 (by simpa using g1); exact piece_dlb A t ha 0 y1

theorem dz_A (h0 : t.val % 16 = 0) (h1 : ¬t.val % 16 = 15) (y : S128x2048.Idx) :
    (outsAt0 m c t.val t.isLt).1 y = (D.dz (pt t) (y 0) (y 1) : EReal) := by
  rw [outsAt0_A m c t h0 h1]
  frame_open
  simp (disch := decide) only [↓ View.readCov_skip, ↓ View.readCov_cons_toLoadRect, ↓ View.readCov_fill]
  frame_out
  canon_tiles y g <;> idx_vars y
  · obtain rfl := idxv_eq 7 g0 g1; exact piece_dzv A t 7 y0 y1
  · obtain rfl := idxu_eq 7 g0 g1; exact piece_dzu A t 7 y0 y1
  · obtain rfl := idxv_eq 6 g0 g1; exact piece_dzv A t 6 y0 y1
  · obtain rfl := idxu_eq 6 g0 g1; exact piece_dzu A t 6 y0 y1
  · obtain rfl := idxv_eq 5 g0 g1; exact piece_dzv A t 5 y0 y1
  · obtain rfl := idxu_eq 5 g0 g1; exact piece_dzu A t 5 y0 y1
  · obtain rfl := idxv_eq 4 g0 g1; exact piece_dzv A t 4 y0 y1
  · obtain rfl := idxu_eq 4 g0 g1; exact piece_dzu A t 4 y0 y1
  · obtain rfl := idxv_eq 3 g0 g1; exact piece_dzv A t 3 y0 y1
  · obtain rfl := idxu_eq 3 g0 g1; exact piece_dzu A t 3 y0 y1
  · obtain rfl := idxv_eq 2 g0 g1; exact piece_dzv A t 2 y0 y1
  · obtain rfl := idxu_eq 2 g0 g1; exact piece_dzu A t 2 y0 y1
  · obtain rfl := idxv_eq 1 g0 g1; exact piece_dzv A t 1 y0 y1
  · obtain rfl := idxu_eq 1 g0 g1; exact piece_dzu A t 1 y0 y1
  · obtain rfl := idxv_eq 0 g0 g1; exact piece_dzv A t 0 y0 y1
  · obtain rfl := idxu_eq 0 g0 (by simpa using g1); exact piece_dzu A t 0 y0 y1

theorem dz_B (h0 : ¬t.val % 16 = 0) (h1 : ¬t.val % 16 = 15) (y : S128x2048.Idx) :
    (outsAt0 m c t.val t.isLt).1 y = (D.dz (pt t) (y 0) (y 1) : EReal) := by
  rw [outsAt0_B m c t h0 h1]
  frame_open
  simp (disch := decide) only [↓ View.readCov_skip, ↓ View.readCov_cons_toLoadRect, ↓ View.readCov_fill]
  frame_out
  canon_tiles y g <;> idx_vars y
  · obtain rfl := idxv_eq 7 g0 g1; exact piece_dzv A t 7 y0 y1
  · obtain rfl := idxu_eq 7 g0 g1; exact piece_dzu A t 7 y0 y1
  · obtain rfl := idxv_eq 6 g0 g1; exact piece_dzv A t 6 y0 y1
  · obtain rfl := idxu_eq 6 g0 g1; exact piece_dzu A t 6 y0 y1
  · obtain rfl := idxv_eq 5 g0 g1; exact piece_dzv A t 5 y0 y1
  · obtain rfl := idxu_eq 5 g0 g1; exact piece_dzu A t 5 y0 y1
  · obtain rfl := idxv_eq 4 g0 g1; exact piece_dzv A t 4 y0 y1
  · obtain rfl := idxu_eq 4 g0 g1; exact piece_dzu A t 4 y0 y1
  · obtain rfl := idxv_eq 3 g0 g1; exact piece_dzv A t 3 y0 y1
  · obtain rfl := idxu_eq 3 g0 g1; exact piece_dzu A t 3 y0 y1
  · obtain rfl := idxv_eq 2 g0 g1; exact piece_dzv A t 2 y0 y1
  · obtain rfl := idxu_eq 2 g0 g1; exact piece_dzu A t 2 y0 y1
  · obtain rfl := idxv_eq 1 g0 g1; exact piece_dzv A t 1 y0 y1
  · obtain rfl := idxu_eq 1 g0 g1; exact piece_dzu A t 1 y0 y1
  · obtain rfl := idxv_eq 0 g0 g1; exact piece_dzv A t 0 y0 y1
  · obtain rfl := idxu_eq 0 g0 (by simpa using g1); exact piece_dzu A t 0 y0 y1

theorem dz_C (h0 : ¬t.val % 16 = 0) (h1 : t.val % 16 = 15) (y : S128x2048.Idx) :
    (outsAt0 m c t.val t.isLt).1 y = (D.dz (pt t) (y 0) (y 1) : EReal) := by
  rw [outsAt0_C m c t h0 h1]
  frame_open
  simp (disch := decide) only [↓ View.readCov_skip, ↓ View.readCov_cons_toLoadRect, ↓ View.readCov_fill]
  frame_out
  canon_tiles y g <;> idx_vars y
  · obtain rfl := idxv_eq 7 g0 g1; exact piece_dzv A t 7 y0 y1
  · obtain rfl := idxu_eq 7 g0 g1; exact piece_dzu A t 7 y0 y1
  · obtain rfl := idxv_eq 6 g0 g1; exact piece_dzv A t 6 y0 y1
  · obtain rfl := idxu_eq 6 g0 g1; exact piece_dzu A t 6 y0 y1
  · obtain rfl := idxv_eq 5 g0 g1; exact piece_dzv A t 5 y0 y1
  · obtain rfl := idxu_eq 5 g0 g1; exact piece_dzu A t 5 y0 y1
  · obtain rfl := idxv_eq 4 g0 g1; exact piece_dzv A t 4 y0 y1
  · obtain rfl := idxu_eq 4 g0 g1; exact piece_dzu A t 4 y0 y1
  · obtain rfl := idxv_eq 3 g0 g1; exact piece_dzv A t 3 y0 y1
  · obtain rfl := idxu_eq 3 g0 g1; exact piece_dzu A t 3 y0 y1
  · obtain rfl := idxv_eq 2 g0 g1; exact piece_dzv A t 2 y0 y1
  · obtain rfl := idxu_eq 2 g0 g1; exact piece_dzu A t 2 y0 y1
  · obtain rfl := idxv_eq 1 g0 g1; exact piece_dzv A t 1 y0 y1
  · obtain rfl := idxu_eq 1 g0 g1; exact piece_dzu A t 1 y0 y1
  · obtain rfl := idxv_eq 0 g0 g1; exact piece_dzv A t 0 y0 y1
  · obtain rfl := idxu_eq 0 g0 (by simpa using g1); exact piece_dzu A t 0 y0 y1

theorem db_C (h0 : ¬t.val % 16 = 0) (h1 : t.val % 16 = 15)
    {a : Fin 8 → Fin 128 → Fin 128 → ℝ} (ha : ∀ g r s, (outsAt0 m c (t.val - 1) (Nat.lt_of_le_of_lt (Nat.sub_le _ _) t.isLt)).2.2.2.2.2 (ix3 g r s) = (a g r s : EReal)) (y : S8x128x1.Idx) :
    (outsAt0 m c t.val t.isLt).2.2.2.2.1 y = (∑ k, (a (y 0) (y 1) k + (D.blk (pt t) (y 0)).dmixed (y 1) k) : ℝ) := by
  rw [outsAt0_C m c t h0 h1]
  frame_open
  simp (disch := decide) only [↓ View.readCov_skip, ↓ View.readCov_cons_toLoadRect, ↓ View.readCov_fill]
  frame_out
  simp only [read_unread_whole]
  canon_tiles y g <;> idx_vars y
  all_goals obtain rfl : y0 = 0 := Subsingleton.elim _ _
  all_goals obtain rfl : y2 = 0 := Subsingleton.elim _ _
  · obtain rfl := idx3'_eq 7 g0 g1; exact piece_db A t ha 7 y1
  · obtain rfl := idx3'_eq 6 g0 g1; exact piece_db A t ha 6 y1
  · obtain rfl := idx3'_eq 5 g0 g1; exact piece_db A t ha 5 y1
  · obtain rfl := idx3'_eq 4 g0 g1; exact piece_db A t ha 4 y1
  · obtain rfl := idx3'_eq 3 g0 g1; exact piece_db A t ha 3 y1
  · obtain rfl := idx3'_eq 2 g0 g1; exact piece_db A t ha 2 y1
  · obtain rfl := idx3'_eq 1 g0 g1; exact piece_db A t ha 1 y1
  · obtain rfl := idx3'_eq 0 g0 g1; exact piece_db A t ha 0 y1

end

/-! ## The whole grid -/

/-- The sum of a block's share over the blocks before `n`. -/
def before (f : Fin 16 → ℝ) (n : ℕ) : ℝ := ∑ i ∈ Finset.range n, if h : i < 16 then f ⟨i, h⟩ else 0

theorem before_zero (f : Fin 16 → ℝ) : before f 0 = 0 := Finset.sum_range_zero _
theorem before_succ (f : Fin 16 → ℝ) (n : ℕ) (h : n < 16) : before f (n + 1) = before f n + f ⟨n, h⟩ := by
  rw [before, Finset.sum_range_succ, dif_pos h]; rfl
theorem before_all (f : Fin 16 → ℝ) : before f 16 = ∑ t, f t := by
  rw [before, ← Fin.sum_univ_eq_sum_range (fun i => if h : i < 16 then f ⟨i, h⟩ else 0)]
  exact Finset.sum_congr rfl fun t _ => dif_pos t.isLt

/-- What the accumulators hold after point `n`: the shares of the blocks up to it. -/
structure After (m : (ℓ : Loc nD τ sig) → Buf (Elt Ideal) ℓ) (c : Dev nD) (D : Data) (n : ℕ) (h : n < cfg0.N) : Prop where
  dlg : ∀ j, (outsAt0 m c n h).2.1 (ix2 0 j) = (before (fun t => (D.blk t (grp j)).dlg (lane j)) (n + 1) : ℝ)
  dlb : ∀ j, (outsAt0 m c n h).2.2.1 (ix2 0 j) = (before (fun t => (D.blk t (grp j)).dlb (lane j)) (n + 1) : ℝ)
  dw : ∀ g r s, (outsAt0 m c n h).2.2.2.1 (ix3 g r s) = (before (fun t => (D.blk t g).dw r s) (n + 1) : ℝ)
  dmix : ∀ g r k, (outsAt0 m c n h).2.2.2.2.2 (ix3 g r k) = (before (fun t => (D.blk t g).dmixed r k) (n + 1) : ℝ)

theorem after {c : Dev nD} {D : Data} (A : Args m c D) : ∀ (n : ℕ) (h : n < cfg0.N), After m c D n h
  | 0, h => by
    refine ⟨fun j => ?_, fun j => ?_, fun g r s => ?_, fun g r k => ?_⟩ <;> rw [before_succ _ 0 (by omega), before_zero]
    · exact dlg_A A ⟨0, h⟩ rfl (by show ¬0 % 16 = 15; decide) (ix2 0 j)
    · exact dlb_A A ⟨0, h⟩ rfl (by show ¬0 % 16 = 15; decide) (ix2 0 j)
    · exact dw_A A ⟨0, h⟩ rfl (by show ¬0 % 16 = 15; decide) (ix3 g r s)
    · exact dmix_A A ⟨0, h⟩ rfl (by show ¬0 % 16 = 15; decide) (ix3 g r k)
  | n + 1, h => by
    have P := after A n (Nat.lt_of_succ_lt h)
    have hN : n + 1 < 16 := h
    have h0 : ¬(n + 1) % 16 = 0 := by omega
    by_cases h1 : (n + 1) % 16 = 15
    · refine ⟨fun j => ?_, fun j => ?_, fun g r s => ?_, fun g r k => ?_⟩ <;> rw [before_succ _ (n + 1) hN]
      · exact dlg_C A ⟨n + 1, h⟩ h0 h1 P.dlg (ix2 0 j)
      · exact dlb_C A ⟨n + 1, h⟩ h0 h1 P.dlb (ix2 0 j)
      · exact dw_C A ⟨n + 1, h⟩ h0 h1 P.dw (ix3 g r s)
      · exact dmix_C A ⟨n + 1, h⟩ h0 h1 P.dmix (ix3 g r k)
    · refine ⟨fun j => ?_, fun j => ?_, fun g r s => ?_, fun g r k => ?_⟩ <;> rw [before_succ _ (n + 1) hN]
      · exact dlg_B A ⟨n + 1, h⟩ h0 h1 P.dlg (ix2 0 j)
      · exact dlb_B A ⟨n + 1, h⟩ h0 h1 P.dlb (ix2 0 j)
      · exact dw_B A ⟨n + 1, h⟩ h0 h1 P.dw (ix3 g r s)
      · exact dmix_B A ⟨n + 1, h⟩ h0 h1 P.dmix (ix3 g r k)

theorem db_last {c : Dev nD} {D : Data} (A : Args m c D) (g : Fin 8) (r : Fin 128) :
    (outsAt0 m c 15 (by decide)).2.2.2.2.1 (ix3 g r 0) = (∑ k, ∑ t : Fin 16, (D.blk t g).dmixed r k : ℝ) := by
  refine (db_C A ⟨15, by decide⟩ (by decide) (by decide) (after A 14 (by decide)).dmix (ix3 g r 0)).trans ?_
  refine congrArg _ (Finset.sum_congr rfl fun k _ => ?_)
  rw [← before_all, before_succ _ 15 (by omega)]
  rfl

section
variable {c : Dev nD} {D : Data} (A : Args m c D)
include A

theorem final_dlg (j : Fin 1024) :
    Value.G8 m c (ix2 0 j) = ((∑ t : Fin 16, (D.blk t (grp j)).dlg (lane j) : ℝ) : EReal) := by
  rw [Value.G8_last, ← Value.outsAt0_sweep, ← before_all]
  exact (after A 15 (by decide)).dlg j

theorem final_dlb (j : Fin 1024) :
    Value.G9 m c (ix2 0 j) = ((∑ t : Fin 16, (D.blk t (grp j)).dlb (lane j) : ℝ) : EReal) := by
  rw [Value.G9_last, ← Value.outsAt0_sweep, ← before_all]
  exact (after A 15 (by decide)).dlb j

theorem final_dw (g : Fin 8) (r s : Fin 128) :
    Value.G10 m c (ix3 g r s) = ((∑ t : Fin 16, (D.blk t g).dw r s : ℝ) : EReal) := by
  rw [Value.G10_last, ← Value.outsAt0_sweep, ← before_all]
  exact (after A 15 (by decide)).dw g r s

theorem final_db (g : Fin 8) (r : Fin 128) :
    Value.G11 m c (ix3 g r 0) = ((∑ k, ∑ t : Fin 16, (D.blk t g).dmixed r k : ℝ) : EReal) := by
  rw [Value.G11_last, ← Value.outsAt0_sweep]
  exact db_last A g r

/-- The gradient of `z`, block by block: any array that agrees with the real one everywhere is the result. -/
theorem final_dz (W : Buf (Elt Ideal) ((c : Thread nD τ).loc main_v3_0))
    (hW : ∀ t r j, W (ix2 (row t r) j) = (D.dz t r j : EReal)) : (dats m 0 c).arrAt 7 cfg0.N = W := by
  refine (dats m 0 c).arrAt_eq_of_covers 7 _ (by decide +kernel) fun t hf y => ?_
  have hy : ((View.whole main_v3_0).slice (win0_7.rect t)).emb y = ix2 (row (pt t) (y 0)) (y 1) := by
    blk_ext [idx7 t, row, pt]
  have hd : (outsAt0 m c t.val t.isLt).1 y = (D.dz (pt t) (y 0) (y 1) : EReal) := by
    by_cases h0 : t.val % 16 = 0
    · exact dz_A A t h0 (by omega) y
    · by_cases h1 : t.val % 16 = 15
      · exact dz_C A t h0 h1 y
      · exact dz_B A t h0 h1 y
  blk_simp
  rw [hy, after0_7]
  exact hd.trans (hW _ _ _).symm
end

end Cert.KernelIdeal.SguBwd

end
-- ==== Proof.SguRef.lean ====
/- The plain gradient of the spatial gating unit, stage by stage, read over the reals. -/
module

public import proofs.«01_k».proof.Defs
public import proofs.«01_k».proof.Proof.SguReal
public import proofs.«01_k».proof.Proof.Gen.ReferenceIdeal.Read
public import Idealize.ShloMosaic.Lib.Pipeline.ValueKit
public import Idealize.ShloMosaic.Lib.Pointwise
public import Idealize.ShloMosaic.Lib.Pipeline.ReadBack

@[expose] public section

set_option pp.deepTerms false
set_option pp.maxSteps 100
set_option maxRecDepth 16384

noncomputable section

namespace Cert.ReferenceIdeal.SguBwd

open Cert.ReferenceIdeal Cert.ReferenceIdeal.Gen Cert.ReferenceIdeal.Read Idealize.ShloMosaic Idealize.ShloMosaic.TcCoe
open Cert.Finite Cert.Sgu

/-- The arguments hold the reals of `D`. -/
structure Args (D : Data) (x0 : Vec Ideal S1x2048x2048 .f32) (x1 : Vec Ideal S1x2048x1024 .f32) (x2 x3 : Vec Ideal S1x1024 .f32)
    (x4 : Vec Ideal S8x128x128 .f32) (x5 : Vec Ideal S8x128 .f32) : Prop where
  z : ∀ r k, x0 (ix3 0 r k) = (D.z r k : EReal)
  dy : ∀ r k, x1 (ix3 0 r k) = (D.dy r k : EReal)
  lg : ∀ k, x2 (ix2 0 k) = (D.lg k : EReal)
  lb : ∀ k, x3 (ix2 0 k) = (D.lb k : EReal)
  w : ∀ g r s, x4 (ix3 g r s) = (D.w g r s : EReal)
  b : ∀ g r, x5 (ix2 g r) = (D.b g r : EReal)

theorem row_div (t : Fin 16) (r : Fin 128) (h : (row t r).val / 128 < 16) : (⟨(row t r).val / 128, h⟩ : Fin 16) = t := by
  ext; simp only [row]; omega
theorem row_mod (t : Fin 16) (r : Fin 128) (h : (row t r).val % 128 < 128) : (⟨(row t r).val % 128, h⟩ : Fin 128) = r := by
  ext; simp only [row]; omega
theorem chan_div (g : Fin 8) (k : Fin 128) (h : (chan g k).val / 128 < 8) : (⟨(chan g k).val / 128, h⟩ : Fin 8) = g := by
  ext; simp only [chan]; omega
theorem chan_mod (g : Fin 8) (k : Fin 128) (h : (chan g k).val % 128 < 128) : (⟨(chan g k).val % 128, h⟩ : Fin 128) = k := by
  ext; simp only [chan]; omega

/-- The chunk of 64 a token of a block lies in, as the host counts it: a division rounded down. -/
def chunk (x : BitVec 32) : BitVec 32 :=
  Scalar.select
    (IntOp.andi
      (IntOp.cmpi .ne (if x = 0 then (0 : BitVec 32) else if x.msb = true then -1 else 1) (if (64#32) = (0#32) then (0#32) else if BitVec.msb (64#32) = true then (-1) else (1#32)))
      (IntOp.cmpi .ne (IntOp.remsi .host x 64#32) 0#32))
    (IntOp.subi (IntOp.divsi .host x 64#32) 1#32)
    (IntOp.divsi .host x 64#32)

theorem chunk_eq : ∀ k : Fin 128, chunk (BitVec.ofNat 32 k.val) = BitVec.ofNat 32 (k.val / 64) := by decide +kernel

theorem chunk_le : ∀ a b : Fin 2, IntOp.cmpi .sle (BitVec.ofNat 32 a.val) (BitVec.ofNat 32 b.val) = if a.val ≤ b.val then 1#1 else 0#1 := by
  decide +kernel

/-- Adding over the first and last of four axes. -/
theorem sum_outer (x : Vec Ideal S16x128x8x128 .f32) (r : Fin 128) (g : Fin 8) :
    Ideal.hostReduceAdd reducesTo_S16x128x8x128_S128x8_d0_3 x 0 (ix2 r g) = ∑ t, ∑ k, x (ix4 t r g k) := by
  unfold Ideal.hostReduceAdd
  rw [zero_add, Finset.sum_filter_eq_sum_of_fiber _ (fun p : Fin 16 × Fin 128 => ix4 p.1 r g p.2), Fintype.sum_prod_type]
  · rintro ⟨a, b⟩ ⟨a', b'⟩ h
    exact Prod.ext (congrFun h 0) (congrFun h 3)
  · intro i
    idx_vars i
    have e : reducesTo_S16x128x8x128_S128x8_d0_3.drop (ix4 i0 i1 i2 i3) = ix2 i1 i2 := by
      funext a; fin_cases a <;> rfl
    rw [e]
    constructor
    · intro h
      obtain rfl : i1 = r := congrFun h 0
      obtain rfl : i2 = g := congrFun h 1
      exact ⟨(i0, i3), rfl⟩
    · rintro ⟨p, h⟩
      obtain rfl : r = i1 := congrFun h 1
      obtain rfl : g = i2 := congrFun h 2
      rfl

theorem sum_outer_unit (x : Vec Ideal S1x128x8x1 .f32) (r : Fin 128) (g : Fin 8) :
    Ideal.hostReduceAdd reducesTo_S1x128x8x1_S128x8_d0_3 x 0 (ix2 r g) = x (ix4 0 r g 0) := by
  unfold Ideal.hostReduceAdd
  rw [zero_add, Finset.sum_filter_eq_sum_of_fiber _ (fun _ : Fin 1 => ix4 0 r g 0), Fintype.sum_unique]
  · exact fun _ _ _ => Subsingleton.elim _ _
  · intro i
    idx_vars i
    obtain rfl : i0 = 0 := Subsingleton.elim _ _
    obtain rfl : i3 = 0 := Subsingleton.elim _ _
    have e : reducesTo_S1x128x8x1_S128x8_d0_3.drop (ix4 0 i1 i2 0) = ix2 i1 i2 := by
      funext a; fin_cases a <;> rfl
    rw [e]
    constructor
    · intro h
      obtain rfl : i1 = r := congrFun h 0
      obtain rfl : i2 = g := congrFun h 1
      exact ⟨0, rfl⟩
    · rintro ⟨p, h⟩
      obtain rfl : r = i1 := congrFun h 1
      obtain rfl : g = i2 := congrFun h 2
      rfl

/-- A sum over the tokens, block by block. -/
theorem sum_rows {M : Type*} [AddCommMonoid M] (f : Fin 2048 → M) : ∑ R, f R = ∑ t, ∑ r, f (row t r) := by
  rw [← Fintype.sum_prod_type' (f := fun t r => f (row t r))]
  refine (Fintype.sum_equiv (finProdFinEquiv (m := 16) (n := 128)) _ _ fun p => congrArg f ?_).symm
  ext
  simp only [row, finProdFinEquiv_apply_val]
  omega

variable {D : Data} {x0 : Vec Ideal S1x2048x2048 .f32} {x1 : Vec Ideal S1x2048x1024 .f32} {x2 x3 : Vec Ideal S1x1024 .f32}
    {x4 : Vec Ideal S8x128x128 .f32} {x5 : Vec Ideal S8x128 .f32} (H : Args D x0 x1 x2 x3 x4 x5)
include H

theorem z_apply (R j : Fin 2048) :
    val_main_v0 (F := Ideal) x0 (ix2 R j) = (D.z R j : EReal) := by
  pointwise [val_main_v0]
  exact H.z R j

theorem th_apply (R j : Fin 2048) :
    val_main_v13 (F := Ideal) x0 (ix2 R j) = (th (D.z R j) : EReal) := by
  pointwise [val_main_v13, val_main_v12, val_main_v11, val_main_cst_2, val_main_v10, val_main_v9, val_main_v7, val_main_v6, val_main_cst_0, val_main_v2, val_main_v1, val_main_v8, val_main_cst_1]
  simp only [z_apply H, c_44715, c_million, c_gc, r_mul, r_divm, r_add, r_tanh]
  rw [th]
  congr 2
  ring

theorem cube_apply (R j : Fin 2048) :
    val_main_v5 (F := Ideal) x0 (ix2 R j) = (3 * (D.z R j * D.z R j) : ℝ) := by
  pointwise [val_main_v5, val_main_v4, val_main_cst, val_main_v3]
  simp only [z_apply H, c_three, r_mul]

theorem sech_apply (R j : Fin 2048) :
    val_main_v18 (F := Ideal) x0 (ix2 R j) = ((1 + th (D.z R j)) * (1 - th (D.z R j)) : ℝ) := by
  pointwise [val_main_v18, val_main_v15, val_main_v14, val_main_cst_3, val_main_v17, val_main_v16, val_main_cst_4]
  simp only [th_apply H, r_one, r_add, r_sub, r_mul]

theorem cdf_apply (R j : Fin 2048) :
    val_main_v22 (F := Ideal) x0 (ix2 R j) = (1 / 2 * (1 + th (D.z R j)) : ℝ) := by
  pointwise [val_main_v22, val_main_v21, val_main_cst_6, val_main_v20, val_main_v19, val_main_cst_5]
  simp only [th_apply H, c_half, r_one, r_add, r_mul]

theorem gelu_apply (R j : Fin 2048) :
    val_main_v23 (F := Ideal) x0 (ix2 R j) = (gelu (D.z R j) : EReal) := by
  pointwise [val_main_v23]
  simp only [z_apply H, cdf_apply H, r_mul]
  rw [gelu]
  congr 1
  ring

theorem u_apply (t : Fin 16) (r : Fin 128) (g : Fin 8) (k : Fin 128) :
    val_main_v24 (F := Ideal) x0 (ix2 (row t r) (chan g k)) = (gelu ((D.blk t g).zu r k) : EReal) := by
  pointwise [val_main_v24]
  exact gelu_apply H _ _

theorem v_apply (t : Fin 16) (r : Fin 128) (g : Fin 8) (k : Fin 128) :
    val_main_v26 (F := Ideal) x0 (ix3 (row t r) g k) = ((D.blk t g).v r k : EReal) := by
  pointwise [val_main_v26, val_main_v25]
  exact gelu_apply H _ _

theorem mean_apply (t : Fin 16) (r : Fin 128) (g : Fin 8) :
    val_main_v32 (F := Ideal) x0 (ix3 (row t r) g 0) = (mean ((D.blk t g).v r) : EReal) := by
  pointwise [val_main_v32, val_main_v30, val_main_v29, val_main_cst_7, val_main_v31, val_main_cst_8]
  simp only [v_apply H, c_128, r_sum, r_div128]
  rfl

theorem cen_apply (t : Fin 16) (r : Fin 128) (g : Fin 8) (k : Fin 128) :
    val_main_v34 (F := Ideal) x0 (ix3 (row t r) g k) = (cen ((D.blk t g).v r) k : EReal) := by
  pointwise [val_main_v34, val_main_v33]
  simp only [v_apply H, mean_apply H, r_sub]
  rfl

theorem cen_apply_2 (t : Fin 16) (r : Fin 128) (g : Fin 8) (k : Fin 128) :
    val_main_v43 (F := Ideal) x0 (ix3 (row t r) g k) = (cen ((D.blk t g).v r) k : EReal) := by
  pointwise [val_main_v43, val_main_v42]
  simp only [v_apply H, mean_apply H, r_sub]
  rfl

theorem twocen_apply (t : Fin 16) (r : Fin 128) (g : Fin 8) (k : Fin 128) :
    val_main_v37 (F := Ideal) x0 (ix3 (row t r) g k) = (2 * cen ((D.blk t g).v r) k : ℝ) := by
  pointwise [val_main_v37, val_main_v36, val_main_cst_9]
  simp only [cen_apply H, c_two, r_mul]

theorem var_apply (t : Fin 16) (r : Fin 128) (g : Fin 8) :
    val_main_v45 (F := Ideal) x0 (ix3 (row t r) g 0) = (var ((D.blk t g).v r) : EReal) := by
  pointwise [val_main_v45, val_main_v41, val_main_v39, val_main_v38, val_main_v35, val_main_cst_10, val_main_v40, val_main_cst_11, val_main_v44, val_main_cst_12]
  simp only [cen_apply H, c_128, c_eps, r_mul, r_sum, r_div128, r_add]
  rfl

theorem rs_apply (t : Fin 16) (r : Fin 128) (g : Fin 8) :
    val_main_v46 (F := Ideal) x0 (ix3 (row t r) g 0) = (rs ((D.blk t g).v r) : EReal) := by
  pointwise [val_main_v46]
  simp only [var_apply H, r_rs]

theorem drs_apply (t : Fin 16) (r : Fin 128) (g : Fin 8) :
    val_main_v49 (F := Ideal) x0 (ix3 (row t r) g 0) = (-(1 / 2) * (rs ((D.blk t g).v r) / var ((D.blk t g).v r)) : ℝ) := by
  pointwise [val_main_v49, val_main_v48, val_main_cst_13, val_main_v47]
  rw [rs_apply H, var_apply H, c_neg_half, r_div _ _ (var_pos _).ne', r_mul]

theorem vhat_apply (t : Fin 16) (r : Fin 128) (g : Fin 8) (k : Fin 128) :
    val_main_v51 (F := Ideal) x0 (ix3 (row t r) g k) = (vhat ((D.blk t g).v r) k : EReal) := by
  pointwise [val_main_v51, val_main_v50]
  simp only [cen_apply_2 H, rs_apply H, r_mul]
  rfl

theorem lg_apply (t : Fin 16) (g : Fin 8) (k : Fin 128) :
    val_main_v52 (F := Ideal) x2 (ix3 0 g k) = ((D.blk t g).lg k : EReal) := by
  pointwise [val_main_v52, val_main_v27]
  exact H.lg (chan g k)

theorem lb_apply (t : Fin 16) (g : Fin 8) (k : Fin 128) :
    val_main_v55 (F := Ideal) x3 (ix3 0 g k) = ((D.blk t g).lb k : EReal) := by
  pointwise [val_main_v55, val_main_v28]
  exact H.lb (chan g k)

theorem vln_apply (t : Fin 16) (r : Fin 128) (g : Fin 8) (k : Fin 128) :
    val_main_v57 (F := Ideal) x0 x2 x3 (ix3 (row t r) g k) = ((D.blk t g).vln r k : EReal) := by
  pointwise [val_main_v57, val_main_v54, val_main_v53, val_main_v56]
  simp only [vhat_apply H, lg_apply H t, lb_apply H t, r_mul, r_add]
  rfl

theorem mask_apply (g : Fin 8) (r s : Fin 128) :
    val_main_v67_1 (F := Ideal) (ix3 g r s) = if seen r s then 1#1 else 0#1 := by
  pointwise [val_main_v67_1, val_main_v66, val_main_v65, val_main_v63, val_main_v61, val_main_v60, val_main_call0_v11, val_main_call0_v6, val_main_call0_v3, val_main_v59, val_main_call0_v5, val_main_call0_v4, val_main_call0_v0, val_main_c, val_main_call0_v10, val_main_call0_v8, val_main_call0_v7, val_main_call0_v9, val_main_call0_c, val_main_call0_v13, val_main_call0_v2, val_main_call0_v1, val_main_call0_v12, val_main_call0_c_0, val_main_v64, val_main_v62]
  change IntOp.cmpi .sle (chunk (BitVec.ofNat 32 s.val)) (chunk (BitVec.ofNat 32 r.val)) = _
  rw [chunk_eq, chunk_eq]
  exact chunk_le ⟨s.val / 64, by omega⟩ ⟨r.val / 64, by omega⟩

theorem wm_apply (t : Fin 16) (g : Fin 8) (r s : Fin 128) :
    val_main_v67_0 (F := Ideal) x4 (ix3 g r s) = ((D.blk t g).wm r s : EReal) := by
  pointwise [val_main_v67_0, val_main_call1_v1, val_main_cst_14]
  simp only [mask_apply H, H.w, r_zero, r_select]
  rfl

theorem vln_apply_4 (t : Fin 16) (r : Fin 128) (g : Fin 8) (k : Fin 128) :
    val_main_v58 (F := Ideal) x0 x2 x3 (ix4 t r g k) = ((D.blk t g).vln r k : EReal) := by
  pointwise [val_main_v58]
  exact vln_apply H t r g k

theorem mixed_apply (t : Fin 16) (r : Fin 128) (g : Fin 8) (k : Fin 128) :
    val_main_v74 (F := Ideal) x0 x2 x3 x4 x5 (ix4 t r g k) = ((D.blk t g).mixed r k : EReal) := by
  pointwise [val_main_v74, val_main_v69, val_main_v68, val_main_v73, val_main_v72, val_main_v71, val_main_v70]
  simp only [vln_apply_4 H, wm_apply H t, H.b, r_mul, r_sum, r_add]
  rw [Blk.mixed]
  exact congrArg _ (congrArg (· + _) (Finset.sum_congr rfl fun s _ => mul_comm _ _))

theorem mixed_apply_2 (t : Fin 16) (r : Fin 128) (g : Fin 8) (k : Fin 128) :
    val_main_v75 (F := Ideal) x0 x2 x3 x4 x5 (ix2 (row t r) (chan g k)) = ((D.blk t g).mixed r k : EReal) := by
  pointwise [val_main_v75]
  simp only [row_div, row_mod, chan_div, chan_mod, mixed_apply H]

theorem dy_apply (t : Fin 16) (r : Fin 128) (g : Fin 8) (k : Fin 128) :
    val_main_v77 (F := Ideal) x1 (ix2 (row t r) (chan g k)) = ((D.blk t g).dy r k : EReal) := by
  pointwise [val_main_v77]
  exact H.dy _ _

theorem dmixed_apply_2 (t : Fin 16) (r : Fin 128) (g : Fin 8) (k : Fin 128) :
    val_main_v78 (F := Ideal) x0 x1 (ix2 (row t r) (chan g k)) = ((D.blk t g).dmixed r k : EReal) := by
  pointwise [val_main_v78]
  rw [u_apply H, dy_apply H, r_mul, Blk.dmixed, mul_comm]

theorem du_apply (t : Fin 16) (r : Fin 128) (g : Fin 8) (k : Fin 128) :
    val_main_v79 (F := Ideal) x0 x1 x2 x3 x4 x5 (ix2 (row t r) (chan g k)) = ((D.blk t g).dy r k * (D.blk t g).mixed r k : ℝ) := by
  pointwise [val_main_v79]
  rw [mixed_apply_2 H, dy_apply H, r_mul]

theorem dmixed_apply (t : Fin 16) (r : Fin 128) (g : Fin 8) (k : Fin 128) :
    val_main_v80 (F := Ideal) x0 x1 (ix4 t r g k) = ((D.blk t g).dmixed r k : EReal) := by
  pointwise [val_main_v80]
  exact dmixed_apply_2 H t r g k

theorem db_apply_2 (r : Fin 128) (g : Fin 8) :
    val_main_v81 (F := Ideal) x0 x1 (ix2 r g) = ((∑ t, ∑ k, (D.blk t g).dmixed r k : ℝ) : EReal) := by
  pointwise [val_main_v81, val_main_cst_15]
  rw [sum_outer]
  simp only [dmixed_apply H, r_sum]

theorem db_apply (g : Fin 8) (r : Fin 128) :
    val_main_v145 (F := Ideal) x0 x1 (ix3 g r 0) = ((∑ t, ∑ k, (D.blk t g).dmixed r k : ℝ) : EReal) := by
  pointwise [val_main_v145, val_main_v86, val_main_v85, val_main_v84, val_main_v83, val_main_v82, val_main_cst_16, val_main_cst_17]
  simp only [sum_outer_unit, Fintype.sum_unique]
  pointwise [shapeCast]
  exact db_apply_2 H r g

theorem dmixed_apply_3 (t : Fin 16) (r : Fin 128) (g : Fin 8) (k : Fin 128) :
    val_main_v87 (F := Ideal) x0 x1 (ix4 g t k r) = ((D.blk t g).dmixed r k : EReal) := by
  pointwise [val_main_v87]
  exact dmixed_apply H t r g k

theorem dw_apply (g : Fin 8) (r s : Fin 128) :
    val_main_v91 (F := Ideal) x0 x1 x2 x3 (ix3 g r s) = ((∑ t, (D.blk t g).dw r s : ℝ) : EReal) := by
  pointwise [val_main_v91, val_main_v88, val_main_call2_v0, val_main_call2_cst]
  simp only [mask_apply H, dmixed_apply_3 H, vln_apply_4 H, r_mul, r_sum, r_zero, r_select]
  congr 1
  by_cases h : seen r s <;> simp [Blk.dw, h]

theorem dvln_apply_4 (t : Fin 16) (r : Fin 128) (g : Fin 8) (k : Fin 128) :
    val_main_v90 (F := Ideal) x0 x1 x4 (ix4 t r g k) = ((D.blk t g).dvln r k : EReal) := by
  pointwise [val_main_v90, val_main_v89]
  simp only [dmixed_apply_3 H, wm_apply H t, r_mul, r_sum]
  rw [Blk.dvln]
  exact congrArg _ (Finset.sum_congr rfl fun s _ => mul_comm _ _)

theorem dvln_apply (t : Fin 16) (r : Fin 128) (g : Fin 8) (k : Fin 128) :
    val_main_v92 (F := Ideal) x0 x1 x4 (ix3 (row t r) g k) = ((D.blk t g).dvln r k : EReal) := by
  pointwise [val_main_v92]
  simp only [row_div, row_mod]
  exact dvln_apply_4 H t r g k

theorem dlb_apply (g : Fin 8) (k : Fin 128) :
    val_main_v126 (F := Ideal) x0 x1 x4 (ix2 0 (chan g k)) = ((∑ t, (D.blk t g).dlb k : ℝ) : EReal) := by
  pointwise [val_main_v126, val_main_v95, val_main_v94, val_main_v93, val_main_cst_18, val_main_cst_19]
  simp only [chan_div, chan_mod, sum_rows, Fin.sum_univ_one, dvln_apply H, r_sum]
  rfl

theorem dlg_apply (g : Fin 8) (k : Fin 128) :
    val_main_v127 (F := Ideal) x0 x1 x4 (ix2 0 (chan g k)) = ((∑ t, (D.blk t g).dlg k : ℝ) : EReal) := by
  pointwise [val_main_v127, val_main_v101, val_main_v98, val_main_v97, val_main_v96, val_main_cst_20, val_main_cst_21]
  simp only [chan_div, chan_mod, sum_rows, Fin.sum_univ_one, dvln_apply H, vhat_apply H, r_mul, r_sum]
  exact congrArg _ (Finset.sum_congr rfl fun t _ => Finset.sum_congr rfl fun s _ => mul_comm _ _)

theorem dvh_apply (t : Fin 16) (r : Fin 128) (g : Fin 8) (k : Fin 128) :
    val_main_v100 (F := Ideal) x0 x1 x2 x4 (ix3 (row t r) g k) = ((D.blk t g).dvh r k : EReal) := by
  pointwise [val_main_v100, val_main_v99]
  simp only [dvln_apply H, lg_apply H t, r_mul]
  rfl

theorem dvhrs_apply (t : Fin 16) (r : Fin 128) (g : Fin 8) (k : Fin 128) :
    val_main_v106 (F := Ideal) x0 x1 x2 x4 (ix3 (row t r) g k) = ((D.blk t g).dvh r k * rs ((D.blk t g).v r) : ℝ) := by
  pointwise [val_main_v106, val_main_v105]
  simp only [dvh_apply H, rs_apply H, r_mul]

theorem dvar_apply (t : Fin 16) (r : Fin 128) (g : Fin 8) :
    val_main_v107 (F := Ideal) x0 x1 x2 x4 (ix3 (row t r) g 0) = ((∑ j, cen ((D.blk t g).v r) j * (D.blk t g).dvh r j) * (-(1 / 2) * (rs ((D.blk t g).v r) / var ((D.blk t g).v r))) : ℝ) := by
  pointwise [val_main_v107, val_main_v104, val_main_v103, val_main_v102, val_main_cst_22]
  simp only [dvh_apply H, cen_apply_2 H, drs_apply H, r_sum, r_mul]

theorem dcen_apply (t : Fin 16) (r : Fin 128) (g : Fin 8) (k : Fin 128) :
    val_main_v115 (F := Ideal) x0 x1 x2 x4 (ix3 (row t r) g k) = ((∑ j, cen ((D.blk t g).v r) j * (D.blk t g).dvh r j) * (-(1 / 2) * (rs ((D.blk t g).v r) / var ((D.blk t g).v r))) / 128 * (2 * cen ((D.blk t g).v r) k) : ℝ) := by
  pointwise [val_main_v115, val_main_v114, val_main_v113, val_main_v112, val_main_v111, val_main_cst_24, val_main_cst_25]
  simp only [Fin.sum_univ_one, dvar_apply H, twocen_apply H, c_128, r_div128, r_sum, r_mul]

theorem dv_apply_3 (t : Fin 16) (r : Fin 128) (g : Fin 8) (k : Fin 128) :
    val_main_v125 (F := Ideal) x0 x1 x2 x4 (ix3 (row t r) g k) = (lnBwd ((D.blk t g).v r) ((D.blk t g).dvh r) k : EReal) := by
  pointwise [val_main_v125, val_main_v119, val_main_v124, val_main_v123, val_main_v122, val_main_v120, val_main_v110, val_main_v109, val_main_v108, val_main_cst_23, val_main_v118, val_main_v117, val_main_v116, val_main_cst_26, val_main_v121, val_main_cst_27, val_main_cst_28]
  simp only [Fin.sum_univ_one, dvhrs_apply H, dcen_apply H, c_128, r_neg, r_sum, r_add, r_div128]
  rw [← lnVjp_eq]
  rfl

theorem dv_apply (t : Fin 16) (r : Fin 128) (g : Fin 8) (k : Fin 128) :
    val_main_v128 (F := Ideal) x0 x1 x2 x4 (ix2 (row t r) (chan g k)) = (lnBwd ((D.blk t g).v r) ((D.blk t g).dvh r) k : EReal) := by
  pointwise [val_main_v128]
  simp only [chan_div, chan_mod]
  exact dv_apply_3 H t r g k

theorem dgate_u (t : Fin 16) (r : Fin 128) (g : Fin 8) (k : Fin 128) :
    val_main_v129 (F := Ideal) x0 x1 x2 x3 x4 x5 (ix2 (row t r) (colu g k)) = ((D.blk t g).dy r k * (D.blk t g).mixed r k : ℝ) := by
  pointwise [val_main_v129]
  have h : (colu g k).val < 1024 := by simp only [colu]; omega
  rw [dif_pos h]
  exact du_apply H t r g k

theorem dgate_v (t : Fin 16) (r : Fin 128) (g : Fin 8) (k : Fin 128) :
    val_main_v129 (F := Ideal) x0 x1 x2 x3 x4 x5 (ix2 (row t r) (colv g k)) = (lnBwd ((D.blk t g).v r) ((D.blk t g).dvh r) k : EReal) := by
  pointwise [val_main_v129]
  have h : ¬(colv g k).val < 1024 := by simp only [colv]; omega
  have e : (⟨(colv g k).val - 1024, by omega⟩ : Fin 1024) = chan g k := by ext; simp only [colv, chan]; omega
  rw [dif_neg h, e]
  exact dv_apply H t r g k

theorem dz_of (R j : Fin 2048) {e : ℝ} (he : val_main_v129 (F := Ideal) x0 x1 x2 x3 x4 x5 (ix2 R j) = (e : EReal)) :
    val_main_v144 (F := Ideal) x0 x1 x2 x3 x4 x5 (ix2 R j) = (e * gelu' (D.z R j) : ℝ) := by
  pointwise [val_main_v144, val_main_v143, val_main_v137, val_main_v131, val_main_v136, val_main_v135, val_main_cst_30, val_main_v134, val_main_v133, val_main_v132, val_main_cst_29, val_main_v130, val_main_v142, val_main_v141, val_main_v140, val_main_cst_32, val_main_v139, val_main_v138, val_main_cst_31]
  simp only [he, z_apply H, cdf_apply H, sech_apply H, cube_apply H, c_half, c_gc, c_million, c_44715, r_mul, r_add, r_divm]
  rw [gelu']
  congr 1
  ring

/-- The gradient of `z`, row `r` of block `t`. -/
theorem dz_apply (t : Fin 16) (r : Fin 128) (j : Fin 2048) :
    val_main_v144 (F := Ideal) x0 x1 x2 x3 x4 x5 (ix2 (row t r) j) = (D.dz t r j : EReal) := by
  by_cases h : j.val < 1024
  · obtain ⟨g, k, rfl⟩ : ∃ g k, j = colu g k :=
      ⟨grp ⟨j.val, h⟩, lane ⟨j.val, h⟩, Fin.ext (congrArg Fin.val (chan_eq ⟨j.val, h⟩)).symm⟩
    rw [dz_of H _ _ (dgate_u H t r g k), Data.dz_colu]
    rfl
  · obtain ⟨g, k, rfl⟩ : ∃ g k, j = colv g k :=
      ⟨grp ⟨j.val - 1024, by omega⟩, lane ⟨j.val - 1024, by omega⟩, Fin.ext (by
        have := congrArg Fin.val (chan_eq ⟨j.val - 1024, by omega⟩)
        simp only [chan] at this
        simp only [colv]
        omega)⟩
    rw [dz_of H _ _ (dgate_v H t r g k), Data.dz_colv]
    rfl

end Cert.ReferenceIdeal.SguBwd

end
-- ==== Proof.SguBwd.lean ====
/- The gradient of the spatial gating unit: the kernel's five results are the plain gradient's, and the claims about
the call. -/
module

public import proofs.«01_k».proof.Proof.SguKernel
public import proofs.«01_k».proof.Proof.SguRef
public import proofs.«01_k».proof.Proof.Frames

@[expose] public section

set_option pp.deepTerms false
set_option pp.maxSteps 100

noncomputable section

namespace Cert.KernelIdeal.SguBwd

open Cert.KernelIdeal Cert.KernelIdeal.Gen Idealize.ShloMosaic Idealize.ShloMosaic.TcCoe Idealize.SL.Sem
open Cert.Finite Cert.Sgu
open Cert.ReferenceIdeal.Read

variable {m : (ℓ : Loc nD τ sig) → Buf (Elt Ideal) ℓ} {c : Dev nD} {D : Data} (A : Args m c D)
include A

/-- The plain gradient, run on the kernel's arguments, reads the same reals. -/
theorem refArgs : Cert.ReferenceIdeal.SguBwd.Args D (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) :=
  ⟨A.z, A.dy, A.lg, A.lb, A.w, A.b⟩

theorem result_dz : (dats m 0 c).arrAt 7 cfg0.N = val_main_v144 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) :=
  final_dz A _ fun t r j => Cert.ReferenceIdeal.SguBwd.dz_apply (refArgs A) t r j

theorem result_dlg : (dats m 0 c).arrAt 8 cfg0.N = val_main_v127 (F := Ideal)
    (m ((c : Thread nD τ).loc main_arg0)) (m ((c : Thread nD τ).loc main_arg1)) (m ((c : Thread nD τ).loc main_arg4)) := by
  rw [Value.final8]
  funext i
  idx_vars i
  obtain rfl : i0 = 0 := Subsingleton.elim _ _
  have h := Cert.ReferenceIdeal.SguBwd.dlg_apply (refArgs A) (grp i1) (lane i1)
  rw [chan_eq] at h
  exact (final_dlg A i1).trans h.symm

theorem result_dlb : (dats m 0 c).arrAt 9 cfg0.N = val_main_v126 (F := Ideal)
    (m ((c : Thread nD τ).loc main_arg0)) (m ((c : Thread nD τ).loc main_arg1)) (m ((c : Thread nD τ).loc main_arg4)) := by
  rw [Value.final9]
  funext i
  idx_vars i
  obtain rfl : i0 = 0 := Subsingleton.elim _ _
  have h := Cert.ReferenceIdeal.SguBwd.dlb_apply (refArgs A) (grp i1) (lane i1)
  rw [chan_eq] at h
  exact (final_dlb A i1).trans h.symm

theorem result_dw : (dats m 0 c).arrAt 10 cfg0.N = val_main_v91 (F := Ideal)
    (m ((c : Thread nD τ).loc main_arg0)) (m ((c : Thread nD τ).loc main_arg1)) (m ((c : Thread nD τ).loc main_arg2))
    (m ((c : Thread nD τ).loc main_arg3)) := by
  rw [Value.final10]
  funext i
  idx_vars i
  exact (final_dw A i0 i1 i2).trans (Cert.ReferenceIdeal.SguBwd.dw_apply (refArgs A) i0 i1 i2).symm

theorem result_db : (dats m 0 c).arrAt 11 cfg0.N = val_main_v145 (F := Ideal)
    (m ((c : Thread nD τ).loc main_arg0)) (m ((c : Thread nD τ).loc main_arg1)) := by
  rw [Value.final11]
  funext i
  idx_vars i
  obtain rfl : i2 = 0 := Subsingleton.elim _ _
  refine (final_db A i0 i1).trans (Eq.trans ?_ (Cert.ReferenceIdeal.SguBwd.db_apply (refArgs A) i0 i1).symm)
  rw [Finset.sum_comm]

end Cert.KernelIdeal.SguBwd

/-! ## The claims -/

namespace Cert.Proof.SguBwdClaims

open Idealize.ShloMosaic Idealize.ShloMosaic.TcCoe Idealize.SL.Sem
open Cert.KernelIdeal.SguBwd

instance preFacts : Cert.Pre_finite.Facts := ⟨by decide, by decide, by decide, by decide, by decide⟩

theorem frame_pi' : Cert.quiescent_KernelIdeal_pre_finite := fun m ρ _ => Cert.KernelIdeal.Gen.frame m ρ
theorem frame_ri' : Cert.quiescent_ReferenceIdeal_pre_finite := fun m ρ _ => Frames.frame_ri1 m ρ trivial

/-- From finite arguments the kernel and the reference end with the same five gradients. -/
theorem algebraic : Cert.algebraic_KernelIdeal_ReferenceIdeal_pre_finite := by
  intro m ρ m' ρ' hpre hagree
  refine ⟨_, _, _, _, _, Cert.KernelIdeal.Value.run_blocks (F := Ideal) m ρ, ?_⟩
  refine (θ_run Cert.ReferenceIdeal.defs _ _).mono
    (fun _ h c => ⟨(h c).1.trans ?_, (h c).2.1.trans ?_, (h c).2.2.1.trans ?_, (h c).2.2.2.1.trans ?_, (h c).2.2.2.2.1.trans ?_,
      (h c).2.2.2.2.2⟩)
    (Cert.ReferenceIdeal.Value.run (F := Ideal) m' ρ')
  all_goals
    obtain ⟨p0, p1, p2, p3, p4, p5⟩ := hpre c
    obtain ⟨a0, h0⟩ := Cert.Finite.real_of_pre _ _ _ p0
    obtain ⟨a1, h1⟩ := Cert.Finite.real_of_pre _ _ _ p1
    obtain ⟨a2, h2⟩ := Cert.Finite.real_of_pre _ _ _ p2
    obtain ⟨a3, h3⟩ := Cert.Finite.real_of_pre _ _ _ p3
    obtain ⟨a4, h4⟩ := Cert.Finite.real_of_pre _ _ _ p4
    obtain ⟨a5, h5⟩ := Cert.Finite.real_of_pre _ _ _ p5
    have A : Args m c ⟨fun r k => a0 (ix3 0 r k), fun r k => a1 (ix3 0 r k), fun k => a2 (ix2 0 k), fun k => a3 (ix2 0 k),
        fun g r s => a4 (ix3 g r s), fun g r => a5 (ix2 g r)⟩ :=
      ⟨fun _ _ => congrFun h0 _, fun _ _ => congrFun h1 _, fun _ => congrFun h2 _, fun _ => congrFun h3 _,
        fun _ _ _ => congrFun h4 _, fun _ _ => congrFun h5 _⟩
    obtain ⟨e0, e1, e2, e3, e4, e5⟩ := hagree c
  · refine (Cert.ReferenceIdeal.Read.val_main_v144_eq _).trans (Eq.trans ?_ (result_dz A).symm)
    exact congr (congr (congr (congr (congr (congrArg _ e0) e1) e2) e3) e4) e5
  · refine (Cert.ReferenceIdeal.Read.val_main_v127_eq _).trans (Eq.trans ?_ (result_dlg A).symm)
    exact congr (congr (congrArg _ e0) e1) e4
  · refine (Cert.ReferenceIdeal.Read.val_main_v126_eq _).trans (Eq.trans ?_ (result_dlb A).symm)
    exact congr (congr (congrArg _ e0) e1) e4
  · refine (Cert.ReferenceIdeal.Read.val_main_v91_eq _).trans (Eq.trans ?_ (result_dw A).symm)
    exact congr (congr (congr (congrArg _ e0) e1) e2) e3
  · refine (Cert.ReferenceIdeal.Read.val_main_v145_eq _).trans (Eq.trans ?_ (result_db A).symm)
    exact congr (congrArg _ e0) e1

end Cert.Proof.SguBwdClaims

end
-- ==== Proof.XattnReal.lean ====
/- The gradient of the memory cross-attention over the reals, one head at a time: a block of 256 queries against all
256 memory slots, and the same with the softmax differentiated step by step. -/
module

public import proofs.«01_k».proof.Proof.Finite

@[expose] public section

noncomputable section

namespace Cert.Xattn

open Idealize.ShloMosaic
open Cert.Finite

/-- The scale of the scores, as its float word. -/
def sc : ℝ := 11863283 / 268435456

theorem c_sc : Ideal.ofBits .f32 0x3D3504F3#32 = ((sc : ℝ) : EReal) := by
  simp [Ideal.ofBits, Ideal.ieee, -EReal.coe_mul, sc]; norm_num
theorem c_bot : Ideal.ofBits .f32 0xFF800000#32 = ⊥ := by
  simp [Ideal.ofBits, Ideal.ieee]

theorem r_exp (a : ℝ) : Ideal.exp (a : EReal) = ((Real.exp a : ℝ) : EReal) := rfl

/-! ## Softmax of one row -/

/-- The largest score of a row. -/
def mx (s : Fin 256 → ℝ) : ℝ := Finset.univ.sup' Finset.univ_nonempty s
def ex (s : Fin 256 → ℝ) (m : Fin 256) : ℝ := Real.exp (s m - mx s)
def tot (s : Fin 256 → ℝ) : ℝ := ∑ m, ex s m
def prob (s : Fin 256 → ℝ) (m : Fin 256) : ℝ := ex s m / tot s

theorem tot_pos (s : Fin 256 → ℝ) : 0 < tot s :=
  Finset.sum_pos (fun _ _ => Real.exp_pos _) ⟨0, Finset.mem_univ _⟩

/-- The largest of coerced reals, folded from the bottom element, is the coerced largest. -/
theorem r_max (s : Fin 256 → ℝ) : Finset.univ.fold max ⊥ (fun m => (s m : EReal)) = ((mx s : ℝ) : EReal) := by
  have mono : Monotone (fun x : ℝ => (x : EReal)) := fun _ _ h => EReal.coe_le_coe_iff.mpr h
  have h : ((mx s : ℝ) : EReal) = Finset.univ.sup' Finset.univ_nonempty (fun m => (s m : EReal)) :=
    Finset.comp_sup'_eq_sup'_comp Finset.univ_nonempty (fun x : ℝ => (x : EReal)) (fun a b => mono.map_max)
  rw [h, Finset.sup'_eq_sup]
  rfl

/-- The gradient of a row of scores: what the kernel computes from the softmax. -/
def dsm (s d : Fin 256 → ℝ) (m : Fin 256) : ℝ := prob s m * (d m - ∑ j, prob s j * d j)

/-- The same gradient, the quotient and the exponential differentiated in turn. -/
theorem dsm_eq (s d : Fin 256 → ℝ) (m : Fin 256) :
    (d m / tot s + -∑ j, d j * (1 / (tot s * tot s)) * ex s j) * ex s m = dsm s d m := by
  have h := (tot_pos s).ne'
  have e : ∑ j, prob s j * d j = (∑ j, d j * (1 / (tot s * tot s)) * ex s j) * tot s := by
    rw [Finset.sum_mul]
    refine Finset.sum_congr rfl fun j _ => ?_
    rw [prob]; field_simp
  rw [dsm, e, prob]
  field_simp
  ring

/-! ## One block and one head -/

structure Blk where
  q : Fin 256 → Fin 512 → ℝ
  k : Fin 256 → Fin 512 → ℝ
  v : Fin 256 → Fin 512 → ℝ
  dout : Fin 256 → Fin 512 → ℝ

namespace Blk
variable (B : Blk)
def s (r : Fin 256) : Fin 256 → ℝ := fun m => ∑ d, B.q r d * B.k m d
def dp (r : Fin 256) : Fin 256 → ℝ := fun m => ∑ d, B.dout r d * B.v m d
def ds (r m : Fin 256) : ℝ := dsm (B.s r) (B.dp r) m
def dq (r : Fin 256) (d : Fin 512) : ℝ := (∑ m, B.ds r m * B.k m d) * sc
def dk (m : Fin 256) (d : Fin 512) : ℝ := ∑ r, B.ds r m * B.q r d
def dv (m : Fin 256) (d : Fin 512) : ℝ := ∑ r, prob (B.s r) m * B.dout r d
end Blk

/-- The call's arguments: 2048 queries in 8 blocks, 256 memory slots, 4 heads of 512; keys in the left half, values in the
right. -/
structure Data where
  q : Fin 2048 → Fin 2048 → ℝ
  kv : Fin 256 → Fin 4096 → ℝ
  dout : Fin 2048 → Fin 2048 → ℝ

/-- Query `r` of block `t`. -/
def row (t : Fin 8) (r : Fin 256) : Fin 2048 := ⟨t.val * 256 + r.val, by omega⟩
/-- Channel `d` of head `h`. -/
def chan (h : Fin 4) (d : Fin 512) : Fin 2048 := ⟨h.val * 512 + d.val, by omega⟩
/-- The column of the memory holding channel `d` of head `h`'s keys, and of its values. -/
def colk (h : Fin 4) (d : Fin 512) : Fin 4096 := ⟨h.val * 512 + d.val, by omega⟩
def colv (h : Fin 4) (d : Fin 512) : Fin 4096 := ⟨2048 + (h.val * 512 + d.val), by omega⟩

/-- What block `t` and head `h` take of the arguments; the queries carry the scale. -/
def Data.blk (D : Data) (t : Fin 8) (h : Fin 4) : Blk where
  q r d := D.q (row t r) (chan h d) * sc
  k m d := D.kv m (colk h d)
  v m d := D.kv m (colv h d)
  dout r d := D.dout (row t r) (chan h d)

/-- The head of a channel, and its place there. -/
def head (j : Fin 2048) : Fin 4 := ⟨j.val / 512, by omega⟩
def lane (j : Fin 2048) : Fin 512 := ⟨j.val % 512, by omega⟩
theorem head_chan (h : Fin 4) (d : Fin 512) : head (chan h d) = h := by ext; simp only [head, chan]; omega
theorem lane_chan (h : Fin 4) (d : Fin 512) : lane (chan h d) = d := by ext; simp only [lane, chan]; omega
theorem chan_eq (j : Fin 2048) : chan (head j) (lane j) = j := by ext; simp only [head, chan, lane]; omega

/-- What block `t` adds to the gradient of the memory. -/
def Data.dkv (D : Data) (t : Fin 8) (m : Fin 256) (j : Fin 4096) : ℝ :=
  if h : j.val < 2048 then (D.blk t (head ⟨j.val, h⟩)).dk m (lane ⟨j.val, h⟩)
  else (D.blk t (head ⟨j.val - 2048, by omega⟩)).dv m (lane ⟨j.val - 2048, by omega⟩)

theorem Data.dkv_colk (D : Data) (t : Fin 8) (h : Fin 4) (m : Fin 256) (d : Fin 512) :
    D.dkv t m (colk h d) = (D.blk t h).dk m d := by
  have hl : (colk h d).val < 2048 := by simp only [colk]; omega
  have e : (⟨(colk h d).val, hl⟩ : Fin 2048) = chan h d := rfl
  rw [Data.dkv, dif_pos hl, e, head_chan, lane_chan]

theorem Data.dkv_colv (D : Data) (t : Fin 8) (h : Fin 4) (m : Fin 256) (d : Fin 512) :
    D.dkv t m (colv h d) = (D.blk t h).dv m d := by
  have hl : ¬(colv h d).val < 2048 := by simp only [colv]; omega
  have e : (⟨(colv h d).val - 2048, by omega⟩ : Fin 2048) = chan h d := by ext; simp only [colv, chan]; omega
  rw [Data.dkv, dif_neg hl, e, head_chan, lane_chan]

end Cert.Xattn

end
-- ==== Proof.XattnKernel.lean ====
/- The memory cross-attention's gradient kernel over its grid: what each of the 8 points leaves in the results and in
the accumulator, and the results at the end. -/
module

public import proofs.«01_k».proof.Defs
public import proofs.«01_k».proof.Proof.XattnReal
public import proofs.«01_k».proof.Proof.Gen.Kernel2Ideal
public import proofs.«01_k».proof.Proof.Gen.Kernel2Ideal.Frame
public import proofs.«01_k».proof.Proof.Gen.Kernel2Ideal.Value
public import Idealize.ShloMosaic.Lib.Pipeline.ValueKit
public import Idealize.ShloMosaic.Lib.Pointwise
public import Idealize.ShloMosaic.Lib.Pipeline.ReadBack

@[expose] public section

set_option pp.deepTerms false
set_option pp.maxSteps 100
set_option maxRecDepth 16384

noncomputable section

namespace Cert.Kernel2Ideal.XattnBwd

open Cert.Kernel2Ideal Cert.Kernel2Ideal.Gen Idealize.ShloMosaic Idealize.ShloMosaic.TcCoe Idealize.SL.Sem
open Idealize.ShloMosaic.Pipeline (Dat)
open Cert.Finite Cert.Xattn

/-! ## One block and one head -/

/-- The loads of one head hold the reals of `B`. -/
structure Holds (B : Blk) (q k v dout : Vec Ideal S256x512 .bf16) : Prop where
  q : ∀ r d, q (ix2 r d) = (B.q r d : EReal)
  k : ∀ r d, k (ix2 r d) = (B.k r d : EReal)
  v : ∀ r d, v (ix2 r d) = (B.v r d : EReal)
  dout : ∀ r d, dout (ix2 r d) = (B.dout r d : EReal)

section
variable {B : Blk} {q k v dout : Vec Ideal S256x512 .bf16} (H : Holds B q k v dout)
include H

theorem prob_apply (r m : Fin 256) : k0_pay7 q k (ix2 r m) = (prob (B.s r) m : EReal) := by
  pointwise [k0_pay7, k0_pay4, k0_pay5]
  simp only [H.q, H.k, r_mul, r_sum, r_add, r_zero, zero_add]
  have e : Finset.univ.fold max ⊥ (fun m => ((∑ d, B.q r d * B.k m d : ℝ) : EReal)) = _ := r_max (B.s r)
  simp only [c_bot, e, r_sub, r_exp, r_sum]
  exact r_div _ _ (tot_pos (B.s r)).ne'

theorem dv_apply {S : Vec Ideal S256x512 .f32} {a : Fin 256 → Fin 512 → ℝ} (hS : ∀ r d, S (ix2 r d) = (a r d : EReal))
    (m : Fin 256) (d : Fin 512) : k0_pay8 q k dout S (ix2 m d) = (a m d + B.dv m d : ℝ) := by
  pointwise [k0_pay8, k0_pay6]
  simp only [prob_apply H, H.dout, hS, r_mul, r_sum, r_add, zero_add]
  rfl

theorem ds_apply (r m : Fin 256) : k0_pay9 q k dout v (ix2 r m) = (B.ds r m : EReal) := by
  pointwise [k0_pay9, k0_pay6]
  simp only [prob_apply H, H.dout, H.v, r_mul, r_sum, r_sub, r_add, zero_add]
  rfl

theorem dq_apply (r : Fin 256) (d : Fin 512) :
    k0_pay10 (k0_pay5 k) (k0_pay9 q k dout v) (constant S256x512 .f32 0x00000000#32) (ix2 r d) = (B.dq r d : EReal) := by
  pointwise [k0_pay10, k0_pay5]
  simp only [ds_apply H, H.k, c_sc, r_mul, r_sum, r_add, zero_add]
  rfl

theorem dk_apply {S : Vec Ideal S256x512 .f32} {a : Fin 256 → Fin 512 → ℝ} (hS : ∀ r d, S (ix2 r d) = (a r d : EReal))
    (m : Fin 256) (d : Fin 512) : k0_pay11 (k0_pay4 q) (k0_pay9 q k dout v) S (ix2 m d) = (a m d + B.dk m d : ℝ) := by
  pointwise [k0_pay11, k0_pay4]
  simp only [ds_apply H, H.q, hS, r_mul, r_sum, r_add, zero_add]
  rfl
end

variable (m : (ℓ : Loc nD τ sig) → Buf (Elt Ideal) ℓ)

/-! ## The blocks of the arguments -/

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])

/-- A grid point as the number of its block of queries. -/
abbrev pt (t : Fin cfg0.N) : Fin 8 := ⟨t.val, t.isLt⟩

/-- The arguments hold the reals of `D`. -/
structure Args (c : Dev nD) (D : Data) : Prop where
  q : ∀ r k, m ((c : Thread nD τ).loc main_arg0) (ix3 0 r k) = (D.q r k : EReal)
  kv : ∀ r k, m ((c : Thread nD τ).loc main_arg1) (ix3 0 r k) = (D.kv r k : EReal)
  dout : ∀ r k, m ((c : Thread nD τ).loc main_arg2) (ix3 0 r k) = (D.dout r k : EReal)

theorem blk0 {c : Dev nD} {D : Data} (A : Args m c D) (t : Fin cfg0.N) (r : Fin 256) (j : Fin 2048) :
    iblk m c 0 t (ix2 r j) = ((D.q (row (pt t) r) j * sc : ℝ) : EReal) := by
  blk_simp [iblk, idx0 t]
  entry_read
  pointwise
  refine (congrArg₂ (fun x y : EReal => x * y) ((congrArg _ ?_).trans (A.q (row (pt t) r) j)) c_sc).trans (r_mul _ _)
  blk_ext [idx0 t, row, pt]
theorem blk1 (c : Dev nD) (t : Fin cfg0.N) (r : Fin 256) (j : Fin 4096) :
    iblk m c 1 t (ix2 r j) = m ((c : Thread nD τ).loc main_arg1) (ix3 0 r j) := by
  blk_simp [iblk, idx1 t]
  entry_read
  pointwise
  blk_ext [idx1 t]
theorem blk2 (c : Dev nD) (t : Fin cfg0.N) (r : Fin 256) (j : Fin 2048) :
    iblk m c 2 t (ix2 r j) = m ((c : Thread nD τ).loc main_arg2) (ix3 0 (row (pt t) r) j) := by
  blk_simp [iblk, idx2 t]
  entry_read
  pointwise
  blk_ext [idx2 t, row, pt]

/-! ## The loads of one head -/

theorem inb_chan (h : Fin 4) : ∀ a, (![0, h.val * 512] : Fin 2 → ℕ) a + S256x512.size a ≤ S256x2048.size a := by
  revert h; decide
theorem inb_colk (h : Fin 4) : ∀ a, (![0, h.val * 512] : Fin 2 → ℕ) a + S256x512.size a ≤ S256x4096.size a := by
  revert h; decide
theorem inb_colv (h : Fin 4) : ∀ a, (![0, 2048 + h.val * 512] : Fin 2 → ℕ) a + S256x512.size a ≤ S256x4096.size a := by
  revert h; decide

abbrev chans (h : Fin 4) : Rect S256x2048 := Rect.unit ![0, h.val * 512] S256x512.size (inb_chan h)
abbrev colks (h : Fin 4) : Rect S256x4096 := Rect.unit ![0, h.val * 512] S256x512.size (inb_colk h)
abbrev colvs (h : Fin 4) : Rect S256x4096 := Rect.unit ![0, 2048 + h.val * 512] S256x512.size (inb_colv h)

theorem ld_chans (x : Vec Ideal S256x2048 .bf16) (h : Fin 4) (r : Fin 256) (d : Fin 512) :
    View.ld x (chans h) (ix2 r d) = x (ix2 r (chan h d)) :=
  View.ld_unit_apply_of _ _ _ _ _ _ (by intro a; fin_cases a <;> simp [chan])
theorem ld_colks {e : EltTy} (x : Vec Ideal S256x4096 e) (h : Fin 4) (r : Fin 256) (d : Fin 512) :
    View.ld x (colks h) (ix2 r d) = x (ix2 r (colk h d)) :=
  View.ld_unit_apply_of _ _ _ _ _ _ (by intro a; fin_cases a <;> simp [colk])
theorem ld_colvs {e : EltTy} (x : Vec Ideal S256x4096 e) (h : Fin 4) (r : Fin 256) (d : Fin 512) :
    View.ld x (colvs h) (ix2 r d) = x (ix2 r (colv h d)) :=
  View.ld_unit_apply_of _ _ _ _ _ _ (by intro a; fin_cases a <;> simp [colv, Nat.add_assoc])

variable {m}

/-- What the body loads for head `h` at point `t` holds that block's reals. -/
theorem holds {c : Dev nD} {D : Data} (A : Args m c D) (t : Fin cfg0.N) (h : Fin 4) :
    Holds (D.blk (pt t) h) (View.ld (iblk m c 0 t) (chans h)) (View.ld (iblk m c 1 t) (colks h))
      (View.ld (iblk m c 1 t) (colvs h)) (View.ld (iblk m c 2 t) (chans h)) where
  q r d := by rw [ld_chans, blk0 m A]; rfl
  k r d := by rw [ld_colks, blk1, A.kv]; rfl
  v r d := by rw [ld_colvs, blk1, A.kv]; rfl
  dout r d := by rw [ld_chans, blk2, A.dout]; rfl

/-- Where the later stores cover an index, the stores before them do not matter. -/
theorem canon_append_of_cover {S : Shape} {e : EltTy} : ∀ (L M : List (View.Piece (Elt Ideal) S e)) (y : S.Idx),
    (∃ p ∈ L, y ∈ p.1.set) → View.canon (L ++ M) y = View.canon L y
  | [], _, _, h => by obtain ⟨p, hp, _⟩ := h; exact absurd hp List.not_mem_nil
  | p :: L, M, y, h => by
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine canon_append_of_cover L M y ?_
      obtain ⟨q, hq, hy⟩ := h
      rcases List.mem_cons.mp hq with rfl | hq
      · exact absurd hy hm
      · exact ⟨q, hq, hy⟩

theorem idxq_eq {y : S256x2048.Idx} (h : Fin 4) {r : Fin 256} {d : Fin 512} (e0 : (y 0).val = r.val)
    (e1 : (y 1).val = h.val * 512 + d.val) : y = ix2 r (chan h d) := by
  funext i; fin_cases i
  · exact Fin.ext e0
  · exact Fin.ext e1
theorem idxk_eq {y : S256x4096.Idx} (h : Fin 4) {r : Fin 256} {d : Fin 512} (e0 : (y 0).val = r.val)
    (e1 : (y 1).val = h.val * 512 + d.val) : y = ix2 r (colk h d) := by
  funext i; fin_cases i
  · exact Fin.ext e0
  · exact Fin.ext e1
theorem idxv_eq {y : S256x4096.Idx} (h : Fin 4) {r : Fin 256} {d : Fin 512} (e0 : (y 0).val = r.val)
    (e1 : (y 1).val = (2048 + h.val * 512) + d.val) : y = ix2 r (colv h d) := by
  funext i; fin_cases i
  · exact Fin.ext e0
  · exact Fin.ext (e1.trans (Nat.add_assoc _ _ _))

/-! ## One point of the grid -/

section
variable {c : Dev nD} {D : Data} (A : Args m c D) (t : Fin cfg0.N)
include A

/-- What point `t` writes of the gradient of the queries. -/
theorem piece_dq (h : Fin 4) (r : Fin 256) (d : Fin 512) :
    k0_pay10 (k0_pay5 (View.ld (iblk m c 1 t) (colks h)))
        (k0_pay9 (View.ld (iblk m c 0 t) (chans h)) (View.ld (iblk m c 1 t) (colks h)) (View.ld (iblk m c 2 t) (chans h))
          (View.ld (iblk m c 1 t) (colvs h)))
        (constant S256x512 .f32 0x00000000#32) (ix2 r d)
      = ((D.blk (pt t) (head (chan h d))).dq r (lane (chan h d)) : ℝ) := by
  rw [head_chan, lane_chan]
  exact dq_apply (holds A t h) r d

theorem piece_dk {S : Vec Ideal S256x4096 .f32} {a : Fin 256 → Fin 4096 → ℝ} (hS : ∀ r j, S (ix2 r j) = (a r j : EReal))
    (h : Fin 4) (r : Fin 256) (d : Fin 512) :
    k0_pay11 (k0_pay4 (View.ld (iblk m c 0 t) (chans h)))
        (k0_pay9 (View.ld (iblk m c 0 t) (chans h)) (View.ld (iblk m c 1 t) (colks h)) (View.ld (iblk m c 2 t) (chans h))
          (View.ld (iblk m c 1 t) (colvs h)))
        (View.ld S (colks h)) (ix2 r d)
      = (a r (colk h d) + D.dkv (pt t) r (colk h d) : ℝ) := by
  rw [D.dkv_colk]
  exact dk_apply (holds A t h) (a := fun r d => a r (colk h d)) (fun r d => (ld_colks _ _ _ _).trans (hS _ _)) r d

theorem piece_dv {S : Vec Ideal S256x4096 .f32} {a : Fin 256 → Fin 4096 → ℝ} (hS : ∀ r j, S (ix2 r j) = (a r j : EReal))
    (h : Fin 4) (r : Fin 256) (d : Fin 512) :
    k0_pay8 (View.ld (iblk m c 0 t) (chans h)) (View.ld (iblk m c 1 t) (colks h)) (View.ld (iblk m c 2 t) (chans h))
        (View.ld S (colvs h)) (ix2 r d)
      = (a r (colv h d) + D.dkv (pt t) r (colv h d) : ℝ) := by
  rw [D.dkv_colv]
  exact dv_apply (holds A t h) (a := fun r d => a r (colv h d)) (fun r d => (ld_colvs _ _ _ _).trans (hS _ _)) r d

end

/-- The accumulator starts at zero. -/
theorem zero_acc (r : Fin 256) (j : Fin 4096) : k0_pay3 (F := Ideal) (ix2 r j) = ((0 : ℝ) : EReal) := by
  pointwise [k0_pay3]; rw [r_zero]

section
variable {c : Dev nD} {D : Data} (A : Args m c D) (t : Fin cfg0.N)
include A

theorem dq_A (h0 : t.val % 8 = 0) (h1 : ¬t.val % 8 = 7) (y : S256x2048.Idx) :
    (outsAt0 m c t.val t.isLt).1 y = ((D.blk (pt t) (head (y 1))).dq (y 0) (lane (y 1)) : ℝ) := by
  rw [outsAt0_A m c t h0 h1]
  frame_open
  simp (disch := decide) only [↓ View.readCov_skip, ↓ View.readCov_cons_toLoadRect, ↓ View.readCov_fill]
  frame_out
  canon_tiles y g <;> idx_vars y
  · obtain rfl := idxq_eq 3 g0 g1; exact piece_dq A t 3 y0 y1
  · obtain rfl := idxq_eq 2 g0 g1; exact piece_dq A t 2 y0 y1
  · obtain rfl := idxq_eq 1 g0 g1; exact piece_dq A t 1 y0 y1
  · obtain rfl := idxq_eq 0 g0 (g1.trans (Nat.zero_add _).symm); exact piece_dq A t 0 y0 y1

theorem acc_A (h0 : t.val % 8 = 0) (h1 : ¬t.val % 8 = 7) (y : S256x4096.Idx) :
    (outsAt0 m c t.val t.isLt).2.2 y = (0 + D.dkv (pt t) (y 0) (y 1) : ℝ) := by
  rw [outsAt0_A m c t h0 h1]
  frame_open
  simp (disch := decide) only [↓ View.readCov_skip, ↓ View.readCov_cons_toLoadRect, ↓ View.readCov_fill]
  frame_out
  refine (canon_append_of_cover [_, _, _, _, _, _, _, _] [_] y (View.cover_of_tiled_head _ _ _ rfl y)).trans ?_
  canon_tiles y g <;> idx_vars y
  · obtain rfl := idxk_eq 3 g0 g1; exact piece_dk A t zero_acc 3 y0 y1
  · obtain rfl := idxv_eq 3 g0 g1; exact piece_dv A t zero_acc 3 y0 y1
  · obtain rfl := idxk_eq 2 g0 g1; exact piece_dk A t zero_acc 2 y0 y1
  · obtain rfl := idxv_eq 2 g0 g1; exact piece_dv A t zero_acc 2 y0 y1
  · obtain rfl := idxk_eq 1 g0 g1; exact piece_dk A t zero_acc 1 y0 y1
  · obtain rfl := idxv_eq 1 g0 g1; exact piece_dv A t zero_acc 1 y0 y1
  · obtain rfl := idxk_eq 0 g0 (g1.trans (Nat.zero_add _).symm); exact piece_dk A t zero_acc 0 y0 y1
  · obtain rfl := idxv_eq 0 g0 g1; exact piece_dv A t zero_acc 0 y0 y1

theorem dq_B (h0 : ¬t.val % 8 = 0) (h1 : ¬t.val % 8 = 7) (y : S256x2048.Idx) :
    (outsAt0 m c t.val t.isLt).1 y = ((D.blk (pt t) (head (y 1))).dq (y 0) (lane (y 1)) : ℝ) := by
  rw [outsAt0_B m c t h0 h1]
  frame_open
  simp (disch := decide) only [↓ View.readCov_skip, ↓ View.readCov_cons_toLoadRect, ↓ View.readCov_fill]
  frame_out
  canon_tiles y g <;> idx_vars y
  · obtain rfl := idxq_eq 3 g0 g1; exact piece_dq A t 3 y0 y1
  · obtain rfl := idxq_eq 2 g0 g1; exact piece_dq A t 2 y0 y1
  · obtain rfl := idxq_eq 1 g0 g1; exact piece_dq A t 1 y0 y1
  · obtain rfl := idxq_eq 0 g0 (g1.trans (Nat.zero_add _).symm); exact piece_dq A t 0 y0 y1

theorem acc_B (h0 : ¬t.val % 8 = 0) (h1 : ¬t.val % 8 = 7)
    {a : Fin 256 → Fin 4096 → ℝ} (ha : ∀ r j, (outsAt0 m c (t.val - 1) (Nat.lt_of_le_of_lt (Nat.sub_le _ _) t.isLt)).2.2 (ix2 r j) = (a r j : EReal)) (y : S256x4096.Idx) :
    (outsAt0 m c t.val t.isLt).2.2 y = (a (y 0) (y 1) + D.dkv (pt t) (y 0) (y 1) : ℝ) := by
  rw [outsAt0_B m c t h0 h1]
  frame_open
  simp (disch := decide) only [↓ View.readCov_skip, ↓ View.readCov_cons_toLoadRect, ↓ View.readCov_fill]
  frame_out
  simp only [read_unread_whole]
  canon_tiles y g <;> idx_vars y
  · obtain rfl := idxk_eq 3 g0 g1; exact piece_dk A t ha 3 y0 y1
  · obtain rfl := idxv_eq 3 g0 g1; exact piece_dv A t ha 3 y0 y1
  · obtain rfl := idxk_eq 2 g0 g1; exact piece_dk A t ha 2 y0 y1
  · obtain rfl := idxv_eq 2 g0 g1; exact piece_dv A t ha 2 y0 y1
  · obtain rfl := idxk_eq 1 g0 g1; exact piece_dk A t ha 1 y0 y1
  · obtain rfl := idxv_eq 1 g0 g1; exact piece_dv A t ha 1 y0 y1
  · obtain rfl := idxk_eq 0 g0 (g1.trans (Nat.zero_add _).symm); exact piece_dk A t ha 0 y0 y1
  · obtain rfl := idxv_eq 0 g0 g1; exact piece_dv A t ha 0 y0 y1

theorem dq_C (h0 : ¬t.val % 8 = 0) (h1 : t.val % 8 = 7) (y : S256x2048.Idx) :
    (outsAt0 m c t.val t.isLt).1 y = ((D.blk (pt t) (head (y 1))).dq (y 0) (lane (y 1)) : ℝ) := by
  rw [outsAt0_C m c t h0 h1]
  frame_open
  simp (disch := decide) only [↓ View.readCov_skip, ↓ View.readCov_cons_toLoadRect, ↓ View.readCov_fill]
  frame_out
  canon_tiles y g <;> idx_vars y
  · obtain rfl := idxq_eq 3 g0 g1; exact piece_dq A t 3 y0 y1
  · obtain rfl := idxq_eq 2 g0 g1; exact piece_dq A t 2 y0 y1
  · obtain rfl := idxq_eq 1 g0 g1; exact piece_dq A t 1 y0 y1
  · obtain rfl := idxq_eq 0 g0 (g1.trans (Nat.zero_add _).symm); exact piece_dq A t 0 y0 y1

theorem acc_C (h0 : ¬t.val % 8 = 0) (h1 : t.val % 8 = 7)
    {a : Fin 256 → Fin 4096 → ℝ} (ha : ∀ r j, (outsAt0 m c (t.val - 1) (Nat.lt_of_le_of_lt (Nat.sub_le _ _) t.isLt)).2.2 (ix2 r j) = (a r j : EReal)) (y : S256x4096.Idx) :
    (outsAt0 m c t.val t.isLt).2.2 y = (a (y 0) (y 1) + D.dkv (pt t) (y 0) (y 1) : ℝ) := by
  rw [outsAt0_C m c t h0 h1]
  frame_open
  simp (disch := decide) only [↓ View.readCov_skip, ↓ View.readCov_cons_toLoadRect, ↓ View.readCov_fill]
  frame_out
  simp only [read_unread_whole]
  canon_tiles y g <;> idx_vars y
  · obtain rfl := idxk_eq 3 g0 g1; exact piece_dk A t ha 3 y0 y1
  · obtain rfl := idxv_eq 3 g0 g1; exact piece_dv A t ha 3 y0 y1
  · obtain rfl := idxk_eq 2 g0 g1; exact piece_dk A t ha 2 y0 y1
  · obtain rfl := idxv_eq 2 g0 g1; exact piece_dv A t ha 2 y0 y1
  · obtain rfl := idxk_eq 1 g0 g1; exact piece_dk A t ha 1 y0 y1
  · obtain rfl := idxv_eq 1 g0 g1; exact piece_dv A t ha 1 y0 y1
  · obtain rfl := idxk_eq 0 g0 (g1.trans (Nat.zero_add _).symm); exact piece_dk A t ha 0 y0 y1
  · obtain rfl := idxv_eq 0 g0 g1; exact piece_dv A t ha 0 y0 y1

theorem dkv_C (h0 : ¬t.val % 8 = 0) (h1 : t.val % 8 = 7)
    {a : Fin 256 → Fin 4096 → ℝ} (ha : ∀ r j, (outsAt0 m c (t.val - 1) (Nat.lt_of_le_of_lt (Nat.sub_le _ _) t.isLt)).2.2 (ix2 r j) = (a r j : EReal)) (y : S256x4096.Idx) :
    (outsAt0 m c t.val t.isLt).2.1 y = (a (y 0) (y 1) + D.dkv (pt t) (y 0) (y 1) : ℝ) := by
  rw [outsAt0_C m c t h0 h1]
  frame_open
  simp (disch := decide) only [↓ View.readCov_skip, ↓ View.readCov_cons_toLoadRect, ↓ View.readCov_fill]
  frame_out
  pointwise [k0_pay2]
  rw [View.readCov_eq_canon_ld _ _ _ fun y => View.cover_of_tiled_head _ _ _ rfl y, View.ld_unit_zero (by funext a; fin_cases a <;> rfl)]
  simp only [read_unread_whole]
  canon_tiles y g <;> idx_vars y
  · obtain rfl := idxk_eq 3 g0 g1; exact piece_dk A t ha 3 y0 y1
  · obtain rfl := idxv_eq 3 g0 g1; exact piece_dv A t ha 3 y0 y1
  · obtain rfl := idxk_eq 2 g0 g1; exact piece_dk A t ha 2 y0 y1
  · obtain rfl := idxv_eq 2 g0 g1; exact piece_dv A t ha 2 y0 y1
  · obtain rfl := idxk_eq 1 g0 g1; exact piece_dk A t ha 1 y0 y1
  · obtain rfl := idxv_eq 1 g0 g1; exact piece_dv A t ha 1 y0 y1
  · obtain rfl := idxk_eq 0 g0 (g1.trans (Nat.zero_add _).symm); exact piece_dk A t ha 0 y0 y1
  · obtain rfl := idxv_eq 0 g0 g1; exact piece_dv A t ha 0 y0 y1

end

/-! ## Over the grid -/

/-- The sum over the blocks before the `n`-th. -/
def before (f : Fin 8 → ℝ) (n : ℕ) : ℝ := ∑ i ∈ Finset.range n, if h : i < 8 then f ⟨i, h⟩ else 0

theorem before_zero (f : Fin 8 → ℝ) : before f 0 = 0 := Finset.sum_range_zero _
theorem before_succ (f : Fin 8 → ℝ) (n : ℕ) (h : n < 8) : before f (n + 1) = before f n + f ⟨n, h⟩ := by
  rw [before, Finset.sum_range_succ, dif_pos h]; rfl
theorem before_all (f : Fin 8 → ℝ) : before f 8 = ∑ t, f t := by
  rw [before, ← Fin.sum_univ_eq_sum_range (fun i => if h : i < 8 then f ⟨i, h⟩ else 0)]
  exact Finset.sum_congr rfl fun t _ => dif_pos t.isLt

/-- After point `n` the accumulator holds the shares of the blocks up to it. -/
theorem after {c : Dev nD} {D : Data} (A : Args m c D) : ∀ (n : ℕ) (h : n < cfg0.N) (r : Fin 256) (j : Fin 4096),
    (outsAt0 m c n h).2.2 (ix2 r j) = (before (fun t => D.dkv t r j) (n + 1) : ℝ)
  | 0, h, r, j => by
    rw [before_succ _ 0 (by omega), before_zero]
    exact acc_A A ⟨0, h⟩ rfl (by show ¬0 % 8 = 7; decide) (ix2 r j)
  | n + 1, h, r, j => by
    have P := after A n (Nat.lt_of_succ_lt h)
    have hN : n + 1 < 8 := h
    have h0 : ¬(n + 1) % 8 = 0 := by omega
    rw [before_succ _ (n + 1) hN]
    by_cases h1 : (n + 1) % 8 = 7
    · exact acc_C A ⟨n + 1, h⟩ h0 h1 P (ix2 r j)
    · exact acc_B A ⟨n + 1, h⟩ h0 h1 P (ix2 r j)

section
variable {c : Dev nD} {D : Data} (A : Args m c D)
include A

theorem final_dkv (r : Fin 256) (j : Fin 4096) :
    Value.G4 m c (ix2 r j) = ((∑ t : Fin 8, D.dkv t r j : ℝ) : EReal) := by
  rw [Value.G4_last, ← Value.outsAt0_sweep]
  refine (dkv_C A ⟨7, by decide⟩ (by decide) (by decide) (after A 6 (by decide)) (ix2 r j)).trans ?_
  rw [← before_all, before_succ _ 7 (by omega)]
  rfl

/-- The gradient of the queries, block by block: any array that agrees with the real one everywhere is the result. -/
theorem final_dq (W : Buf (Elt Ideal) ((c : Thread nD τ).loc main_v8_0))
    (hW : ∀ t r j, W (ix2 (row t r) j) = ((D.blk t (head j)).dq r (lane j) : EReal)) :
    (dats m 0 c).arrAt 3 cfg0.N = W := by
  refine (dats m 0 c).arrAt_eq_of_covers 3 _ (by decide +kernel) fun t hf y => ?_
  have hy : ((View.whole main_v8_0).slice (win0_3.rect t)).emb y = ix2 (row (pt t) (y 0)) (y 1) := by
    blk_ext [idx3 t, row, pt]
  have hd : (outsAt0 m c t.val t.isLt).1 y = ((D.blk (pt t) (head (y 1))).dq (y 0) (lane (y 1)) : EReal) := by
    by_cases h0 : t.val % 8 = 0
    · exact dq_A A t h0 (by omega) y
    · by_cases h1 : t.val % 8 = 7
      · exact dq_C A t h0 h1 y
      · exact dq_B A t h0 h1 y
  blk_simp
  rw [hy, after0_3]
  exact hd.trans (hW _ _ _).symm
end

end Cert.Kernel2Ideal.XattnBwd

end
-- ==== Proof.XattnRef.lean ====
/- The reference of the memory cross-attention's gradient, read stage by stage over the reals. -/
module

public import proofs.«01_k».proof.Defs
public import proofs.«01_k».proof.Proof.XattnReal
public import proofs.«01_k».proof.Proof.Gen.Reference2Ideal
public import proofs.«01_k».proof.Proof.Gen.Reference2Ideal.Run
public import proofs.«01_k».proof.Proof.Gen.Reference2Ideal.Read
public import Idealize.ShloMosaic.Lib.Pipeline.ValueKit
public import Idealize.ShloMosaic.Lib.Pointwise
public import Idealize.ShloMosaic.Lib.Pipeline.ReadBack

@[expose] public section

set_option pp.deepTerms false
set_option pp.maxSteps 100
set_option maxRecDepth 16384

noncomputable section

namespace Cert.Reference2Ideal.XattnBwd

open Cert.Reference2Ideal Cert.Reference2Ideal.Gen Cert.Reference2Ideal.Read Idealize.ShloMosaic Idealize.ShloMosaic.TcCoe
open Cert.Finite Cert.Xattn

/-- The arguments hold the reals of `D`. -/
structure Args (D : Data) (x0 : Vec Ideal S1x2048x2048 .f32) (x1 : Vec Ideal S1x256x4096 .f32)
    (x2 : Vec Ideal S1x2048x2048 .f32) : Prop where
  q : ∀ r k, x0 (ix3 0 r k) = (D.q r k : EReal)
  kv : ∀ r k, x1 (ix3 0 r k) = (D.kv r k : EReal)
  dout : ∀ r k, x2 (ix3 0 r k) = (D.dout r k : EReal)

/-- Adding over the first and last of four axes, where both have one entry. -/
theorem sum_outer_unit (x : Vec Ideal S1x4x2048x1 .f32) (h : Fin 4) (r : Fin 2048) :
    Ideal.hostReduceAdd reducesTo_S1x4x2048x1_S4x2048_d0_3 x 0 (ix2 h r) = x (ix4 0 h r 0) := by
  unfold Ideal.hostReduceAdd
  rw [zero_add, Finset.sum_filter_eq_sum_of_fiber _ (fun _ : Fin 1 => ix4 0 h r 0), Fintype.sum_unique]
  · exact fun _ _ _ => Subsingleton.elim _ _
  · intro i
    idx_vars i
    obtain rfl : i0 = 0 := Subsingleton.elim _ _
    obtain rfl : i3 = 0 := Subsingleton.elim _ _
    have e : reducesTo_S1x4x2048x1_S4x2048_d0_3.drop (ix4 0 i1 i2 0) = ix2 i1 i2 := by
      funext a; fin_cases a <;> rfl
    rw [e]
    constructor
    · intro hi
      obtain rfl : i1 = h := congrFun hi 0
      obtain rfl : i2 = r := congrFun hi 1
      exact ⟨0, rfl⟩
    · rintro ⟨p, hi⟩
      obtain rfl : h = i1 := congrFun hi 1
      obtain rfl : r = i2 := congrFun hi 2
      rfl

/-- The largest entry along the last of four axes. -/
theorem fold_last (x : Vec Ideal S1x4x2048x256 .f32) (init : Vec Ideal S_ .f32) (h : Fin 4) (r : Fin 2048) :
    Host.reduce (FloatOps.maximumf : Ideal .f32 → Ideal .f32 → Ideal .f32) x init reducesTo_S1x4x2048x256_S1x4x2048_d3 h_S_ (ix3 0 h r)
      = Finset.univ.fold max (init (Shape.Idx.first (by decide))) fun k => x (ix4 0 h r k) := by
  pointwise

/-- A sum over the queries, block by block. -/
theorem sum_rows {M : Type*} [AddCommMonoid M] (f : Fin 2048 → M) : ∑ R, f R = ∑ t, ∑ r, f (row t r) := by
  rw [← Fintype.sum_prod_type' (f := fun t r => f (row t r))]
  refine (Fintype.sum_equiv (finProdFinEquiv (m := 8) (n := 256)) _ _ fun p => congrArg f ?_).symm
  ext
  simp only [row, finProdFinEquiv_apply_val]
  omega

variable {D : Data} {x0 : Vec Ideal S1x2048x2048 .f32} {x1 : Vec Ideal S1x256x4096 .f32}
    {x2 : Vec Ideal S1x2048x2048 .f32} (H : Args D x0 x1 x2)
include H

theorem q_apply (t : Fin 8) (h : Fin 4) (r : Fin 256) (d : Fin 512) :
    val_main_v2 (F := Ideal) x0 (ix4 0 (row t r) h d) = ((D.blk t h).q r d : EReal) := by
  pointwise [val_main_v2, val_main_v0, val_main_v1, val_main_cst]
  have e := H.q (row t r) (chan h d)
  rw [chan] at e
  rw [e, c_sc, r_mul]
  rfl

theorem k_apply (t : Fin 8) (h : Fin 4) (m : Fin 256) (d : Fin 512) :
    val_main_v5 (F := Ideal) x1 (ix4 0 m h d) = ((D.blk t h).k m d : EReal) := by
  pointwise [val_main_v5, val_main_v3]
  exact H.kv m (colk h d)

theorem v_apply (t : Fin 8) (h : Fin 4) (m : Fin 256) (d : Fin 512) :
    val_main_v6 (F := Ideal) x1 (ix4 0 m h d) = ((D.blk t h).v m d : EReal) := by
  pointwise [val_main_v6, val_main_v4]
  exact H.kv m (colv h d)

theorem dout_apply (t : Fin 8) (h : Fin 4) (r : Fin 256) (d : Fin 512) :
    val_main_v39 (F := Ideal) x2 (ix4 0 (row t r) h d) = ((D.blk t h).dout r d : EReal) := by
  pointwise [val_main_v39]
  exact H.dout (row t r) (chan h d)

theorem s_apply (t : Fin 8) (h : Fin 4) (r : Fin 256) (m : Fin 256) :
    val_main_v7 (F := Ideal) x0 x1 (ix4 0 h (row t r) m) = ((D.blk t h).s r m : EReal) := by
  pointwise [val_main_v7]
  simp only [q_apply H, k_apply H t h, r_mul, r_sum]
  rfl

theorem row_max (t : Fin 8) (h : Fin 4) (r : Fin 256) :
    val_main_v8 (F := Ideal) x0 x1 (ix3 0 h (row t r)) = (mx ((D.blk t h).s r) : EReal) := by
  rw [val_main_v8]
  refine (fold_last _ _ _ _).trans ?_
  simp only [s_apply H, val_main_cst_0_apply]
  rw [show FloatOps.ofBits (F := Ideal) .f32 0xFF800000#32 = ⊥ from c_bot]
  exact r_max _

theorem mx_apply (t : Fin 8) (h : Fin 4) (r : Fin 256) :
    val_main_v15 (F := Ideal) x0 x1 (ix3 0 h (row t r)) = (mx ((D.blk t h).s r) : EReal) := by
  rw [val_main_v15_apply, val_main_v14_apply, val_main_cst_2_apply, row_max H,
    show FloatOps.ofBits (F := Ideal) .f32 0xFF800000#32 = (⊥ : EReal) from c_bot]
  exact max_eq_right bot_le

theorem ex_apply (t : Fin 8) (h : Fin 4) (r : Fin 256) (m : Fin 256) :
    val_main_v28 (F := Ideal) x0 x1 (ix4 0 h (row t r) m) = (ex ((D.blk t h).s r) m : EReal) := by
  pointwise [val_main_v28, val_main_v27, val_main_v26, val_main_v25]
  simp only [s_apply H, mx_apply H, r_sub, r_exp]
  rfl

theorem tot_apply (t : Fin 8) (h : Fin 4) (r : Fin 256) :
    val_main_v29 (F := Ideal) x0 x1 (ix3 0 h (row t r)) = (tot ((D.blk t h).s r) : EReal) := by
  pointwise [val_main_v29, val_main_cst_8]
  simp only [ex_apply H, r_sum, r_zero, r_add, zero_add]
  rfl

theorem prob_apply (t : Fin 8) (h : Fin 4) (r : Fin 256) (m : Fin 256) :
    val_main_v32 (F := Ideal) x0 x1 (ix4 0 h (row t r) m) = (prob ((D.blk t h).s r) m : EReal) := by
  pointwise [val_main_v32, val_main_v31, val_main_v30]
  simp only [ex_apply H, tot_apply H]
  exact r_div _ _ (tot_pos _).ne'

theorem inv2_apply (t : Fin 8) (h : Fin 4) (r : Fin 256) :
    val_main_v35 (F := Ideal) x0 x1 (ix4 0 h (row t r) 0) = (1 / (tot ((D.blk t h).s r) * tot ((D.blk t h).s r)) : ℝ) := by
  pointwise [val_main_v35, val_main_v34, val_main_cst_9, val_main_v33, val_main_v30]
  simp only [tot_apply H, r_one, r_mul]
  exact r_div _ _ (mul_pos (tot_pos _) (tot_pos _)).ne'

theorem dp_apply (t : Fin 8) (h : Fin 4) (r : Fin 256) (m : Fin 256) :
    val_main_v41 (F := Ideal) x1 x2 (ix4 0 h (row t r) m) = ((D.blk t h).dp r m : EReal) := by
  pointwise [val_main_v41, val_main_v40]
  simp only [dout_apply H, v_apply H t h, r_mul, r_sum]
  rfl

theorem corr_apply (t : Fin 8) (h : Fin 4) (r : Fin 256) :
    val_main_v49 (F := Ideal) x0 x1 x2 (ix4 0 h (row t r) 0) = (-∑ j, (D.blk t h).dp r j * (1 / (tot ((D.blk t h).s r) * tot ((D.blk t h).s r))) * ex ((D.blk t h).s r) j : ℝ) := by
  pointwise [val_main_v49, val_main_v48, val_main_v47, val_main_v46, val_main_v45, val_main_v44, val_main_cst_10]
  simp only [dp_apply H, inv2_apply H, ex_apply H, r_mul, r_sum, r_zero, r_add, zero_add, r_neg]

theorem quot_apply (t : Fin 8) (h : Fin 4) (r : Fin 256) (m : Fin 256) :
    val_main_v51 (F := Ideal) x0 x1 x2 (ix4 0 h (row t r) m) = ((D.blk t h).dp r m / tot ((D.blk t h).s r) : ℝ) := by
  pointwise [val_main_v51, val_main_v50, val_main_v30]
  simp only [dp_apply H, tot_apply H]
  exact r_div _ _ (tot_pos _).ne'

theorem corr_sum_apply (t : Fin 8) (h : Fin 4) (r : Fin 256) :
    val_main_v52 (F := Ideal) x0 x1 x2 (ix2 h (row t r)) = (-∑ j, (D.blk t h).dp r j * (1 / (tot ((D.blk t h).s r) * tot ((D.blk t h).s r))) * ex ((D.blk t h).s r) j : ℝ) := by
  rw [← corr_apply H]
  refine Eq.trans ?_ (sum_outer_unit _ _ _)
  pointwise [val_main_v52, val_main_cst_11]

theorem ds_apply (t : Fin 8) (h : Fin 4) (r : Fin 256) (m : Fin 256) :
    val_main_v56 (F := Ideal) x0 x1 x2 (ix4 0 h (row t r) m) = ((D.blk t h).ds r m : EReal) := by
  pointwise [val_main_v56, val_main_v55, val_main_v54, val_main_v53]
  simp only [quot_apply H, corr_sum_apply H, ex_apply H, r_add, r_mul]
  rw [dsm_eq]
  rfl

theorem dq_apply (t : Fin 8) (h : Fin 4) (r : Fin 256) (d : Fin 512) :
    val_main_v60 (F := Ideal) x0 x1 x2 (ix4 0 (row t r) h d) = (∑ m, (D.blk t h).ds r m * (D.blk t h).k m d : ℝ) := by
  pointwise [val_main_v60, val_main_v59]
  simp only [ds_apply H, k_apply H t h, r_mul, r_sum]

theorem dv_apply (h : Fin 4) (m : Fin 256) (d : Fin 512) :
    val_main_v43 (F := Ideal) x0 x1 x2 (ix4 0 m h d) = (∑ t, (D.blk t h).dv m d : ℝ) := by
  pointwise [val_main_v43, val_main_v42, val_main_v40]
  rw [sum_rows]
  simp only [dout_apply H, prob_apply H, r_mul, r_sum]
  refine congrArg _ (Finset.sum_congr rfl fun t _ => Finset.sum_congr rfl fun r _ => mul_comm _ _)

theorem dk_apply (h : Fin 4) (m : Fin 256) (d : Fin 512) :
    val_main_v58 (F := Ideal) x0 x1 x2 (ix4 0 m h d) = (∑ t, (D.blk t h).dk m d : ℝ) := by
  pointwise [val_main_v58, val_main_v57]
  rw [sum_rows]
  simp only [ds_apply H, q_apply H, r_mul, r_sum]
  rfl

theorem result_dq (t : Fin 8) (r : Fin 256) (j : Fin 2048) :
    val_main_v68 (F := Ideal) x0 x1 x2 (ix2 (row t r) j) = ((D.blk t (head j)).dq r (lane j) : EReal) := by
  pointwise [val_main_v68, val_main_v67, val_main_v66, val_main_v65, val_main_v64, val_main_cst_12]
  have e := dq_apply H t (head j) r (lane j)
  rw [head, lane] at e
  rw [e, c_sc, r_mul]
  rfl

theorem result_dkv (m : Fin 256) (j : Fin 4096) :
    val_main_v70 (F := Ideal) x0 x1 x2 (ix2 m j) = (∑ t, D.dkv t m j : ℝ) := by
  pointwise [val_main_v70, val_main_v69, val_main_v63, val_main_v62, val_main_v61]
  simp only [Data.dkv]
  by_cases hj : j.val < 2048
  · simp only [dif_pos hj]
    exact dk_apply H (head ⟨j.val, hj⟩) m (lane ⟨j.val, hj⟩)
  · simp only [dif_neg hj]
    exact dv_apply H (head ⟨j.val - 2048, by omega⟩) m (lane ⟨j.val - 2048, by omega⟩)

end Cert.Reference2Ideal.XattnBwd

end
-- ==== Proof.XattnBwd.lean ====
/- The value claim of the memory cross-attention's gradient: kernel and reference end with the same two results. -/
module

public import proofs.«01_k».proof.Defs
public import proofs.«01_k».proof.Proof.Frames
public import proofs.«01_k».proof.Proof.XattnKernel
public import proofs.«01_k».proof.Proof.XattnRef
public import proofs.«01_k».proof.Proof.Gen.Reference2Ideal.Run

@[expose] public section

set_option maxRecDepth 16384

noncomputable section

namespace Cert.Kernel2Ideal.XattnBwd

open Cert.Kernel2Ideal Cert.Kernel2Ideal.Gen Idealize.ShloMosaic Idealize.ShloMosaic.TcCoe Idealize.SL.Sem
open Cert.Finite Cert.Xattn
open Cert.Reference2Ideal.Read

variable {m : (ℓ : Loc nD τ sig) → Buf (Elt Ideal) ℓ} {c : Dev nD} {D : Data} (A : Args m c D)
include A

/-- The reference, run on the kernel's arguments, reads the same reals. -/
theorem refArgs : Cert.Reference2Ideal.XattnBwd.Args D (m ((c : Thread nD τ).loc main_arg0))
    (m ((c : Thread nD τ).loc main_arg1)) (m ((c : Thread nD τ).loc main_arg2)) :=
  ⟨A.q, A.kv, A.dout⟩

theorem result_dq : (dats m 0 c).arrAt 3 cfg0.N = val_main_v68 (F := Ideal)
    (m ((c : Thread nD τ).loc main_arg0)) (m ((c : Thread nD τ).loc main_arg1)) (m ((c : Thread nD τ).loc main_arg2)) :=
  final_dq A _ fun t r j => Cert.Reference2Ideal.XattnBwd.result_dq (refArgs A) t r j

theorem result_dkv : (dats m 0 c).arrAt 4 cfg0.N = val_main_v70 (F := Ideal)
    (m ((c : Thread nD τ).loc main_arg0)) (m ((c : Thread nD τ).loc main_arg1)) (m ((c : Thread nD τ).loc main_arg2)) := by
  rw [Value.final4]
  funext i
  idx_vars i
  exact (final_dkv A i0 i1).trans (Cert.Reference2Ideal.XattnBwd.result_dkv (refArgs A) i0 i1).symm

end Cert.Kernel2Ideal.XattnBwd

/-! ## The claims -/

namespace Cert.Proof.XattnBwdClaims

open Idealize.ShloMosaic Idealize.ShloMosaic.TcCoe Idealize.SL.Sem
open Cert.Kernel2Ideal.XattnBwd

instance preFacts : Cert.Pre_finite2.Facts := ⟨by decide, by decide⟩

theorem frame_pi' : Cert.quiescent_Kernel2Ideal_pre_finite2 := fun m ρ _ => Cert.Kernel2Ideal.Gen.frame m ρ
theorem frame_ri' : Cert.quiescent_Reference2Ideal_pre_finite2 := fun m ρ _ => Frames.frame_ri2 m ρ trivial

/-- From finite arguments the kernel and the reference end with the same gradients of the queries and of the memory. -/
theorem algebraic : Cert.algebraic_Kernel2Ideal_Reference2Ideal_pre_finite2 := by
  intro m ρ m' ρ' hpre hagree
  refine ⟨_, _, Cert.Kernel2Ideal.Value.run_blocks (F := Ideal) m ρ, ?_⟩
  refine (θ_run Cert.Reference2Ideal.defs _ _).mono
    (fun _ h c => ⟨(h c).1.trans ?_, (h c).2.1.trans ?_, (h c).2.2⟩)
    (Cert.Reference2Ideal.Value.run (F := Ideal) m' ρ')
  all_goals
    obtain ⟨p0, p1, p2⟩ := hpre c
    obtain ⟨a0, h0⟩ := Cert.Finite.real_of_pre _ _ _ p0
    obtain ⟨a1, h1⟩ := Cert.Finite.real_of_pre _ _ _ p1
    obtain ⟨a2, h2⟩ := Cert.Finite.real_of_pre _ _ _ p2
    have A : Args m c ⟨fun r k => a0 (ix3 0 r k), fun r k => a1 (ix3 0 r k), fun r k => a2 (ix3 0 r k)⟩ :=
      ⟨fun _ _ => congrFun h0 _, fun _ _ => congrFun h1 _, fun _ _ => congrFun h2 _⟩
    obtain ⟨e0, e1, e2⟩ := hagree c
  · refine (Cert.Reference2Ideal.Read.val_main_v68_eq _ _).trans (Eq.trans ?_ (result_dq A).symm)
    exact congr (congr (congrArg _ e0) e1) e2
  · refine (Cert.Reference2Ideal.Read.val_main_v70_eq _ _).trans (Eq.trans ?_ (result_dkv A).symm)
    exact congr (congr (congrArg _ e0) e1) e2

end Cert.Proof.XattnBwdClaims

end
-- ==== Proof.UpWeightGrad.lean ====
/- The weight gradient of a feed-forward block's gate-and-up projection: the kernel's blocks of `xᵀ · dy`, one device's
columns after another, are read at an index and are the columns of the gradient that the reference differentiates. -/
module

public import proofs.«01_k».proof.Defs
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel4Ideal.UpWeightGrad

open Cert.Kernel4Ideal Cert.Kernel4Ideal.Gen Idealize.ShloMosaic Idealize.ShloMosaic.TcCoe Idealize.SL.Sem
open Idealize.ShloMosaic.Pipeline (Dat)

/-- A block's product at a coordinate: the sum over the tokens. -/
theorem pay1_apply (v0 : Vec Ideal S2048x512 .bf16) (v2 : Vec Ideal S1x2048x1408 .bf16) (k : Fin 512) (j : Fin 1408) :
    k0_pay1 (F := Ideal) v0 v2 (ix3 0 k j) = ∑ s : Fin 2048, v0 (ix2 s k) * v2 (ix3 0 s j) := by
  pointwise [k0_pay1]

/-- The plane that device `g`'s columns lie in: the gate's for the first four, the up branch's for the others. -/
def plane (g : Fin 8) : Fin 2 := ⟨g.val / 4, by have := g.isLt; omega⟩

/-- Column `j` of device `g`, within its plane. -/
def pcol (g : Fin 8) (j : Fin 1408) : Fin 5632 := ⟨g.val % 4 * 1408 + j.val, by have := j.isLt; omega⟩

/-- The two planes of a cotangent side by side, at a column of device `g`. -/
theorem ref_cols (x1 : Vec Ideal S2x2048x5632 .f32) (s : Fin 2048) (g : Fin 8) (j : Fin 1408) (h : g.val * 1408 + j.val < 11264) :
    Cert.Reference4Ideal.Read.val_main_v9 (F := Ideal) x1 (ix2 s ⟨g.val * 1408 + j.val, h⟩) = x1 (ix3 (plane g) s (pcol g j)) := by
  have hj := j.isLt
  pointwise [Cert.Reference4Ideal.Read.val_main_v9, Cert.Reference4Ideal.Read.val_main_v8, Cert.Reference4Ideal.Read.val_main_v7, Cert.Reference4Ideal.Read.val_main_v6, Cert.Reference4Ideal.Read.val_main_v5]
  split_ifs with hlt h1
  · exact congrArg₂ (fun a b => x1 (ix3 a s b)) (Fin.ext (show 0 = g.val / 4 by omega))
      (Fin.ext (show g.val * 1408 + j.val = g.val % 4 * 1408 + j.val by omega))
  · exact congrArg₂ (fun a b => x1 (ix3 a s b)) (Fin.ext (show 1 = g.val / 4 by omega))
      (Fin.ext (show g.val * 1408 + j.val - 5632 = g.val % 4 * 1408 + j.val by omega))
  · exact absurd rfl h1

/-- The reference's gradient at a coordinate. -/
theorem ref_apply (x0 : Vec Ideal S1x2048x2048 .f32) (x1 : Vec Ideal S2x2048x5632 .f32) (g : Fin 8) (k : Fin 2048) (j : Fin 1408) :
    Cert.Reference4Ideal.Read.val_main_v14 (F := Ideal) x0 x1 (ix3 g k j)
      = ∑ s : Fin 2048, x0 (ix3 0 s k) * x1 (ix3 (plane g) s (pcol g j)) := by
  have e : Cert.Reference4Ideal.Read.val_main_v14 (F := Ideal) x0 x1 (ix3 g k j)
      = ∑ s : Fin 2048, Cert.Reference4Ideal.Read.val_main_v9 (F := Ideal) x1
          (ix2 s ⟨g.val * 1408 + j.val, by have := g.isLt; have := j.isLt; omega⟩) * x0 (ix3 0 s k) := by
    pointwise [Cert.Reference4Ideal.Read.val_main_v14, Cert.Reference4Ideal.Read.val_main_v13, Cert.Reference4Ideal.Read.val_main_v12, Cert.Reference4Ideal.Read.val_main_v11, Cert.Reference4Ideal.Read.val_main_v10, Cert.Reference4Ideal.Read.val_main_v1]
  rw [e]
  exact Finset.sum_congr rfl fun s _ => by rw [ref_cols, mul_comm]

variable (m : (ℓ : Loc nD τ sig) → Buf (Elt Ideal) ℓ)

theorem idx0 : ∀ t : Fin cfg0.N, win0_0.index t = ![0, t.val % 4] :=
  (by decide +kernel : ∀ t : Fin grid0.N, win0_0.index t = ![0, t.val % 4])
theorem idx1 : ∀ t : Fin cfg0.N, win0_1.index t = ![t.val / 4 / 4, 0, t.val / 4 % 4] :=
  (by decide +kernel : ∀ t : Fin grid0.N, win0_1.index t = ![t.val / 4 / 4, 0, t.val / 4 % 4])
theorem idx2 : ∀ t : Fin cfg0.N, win0_2.index t = ![t.val / 4, t.val % 4, 0] :=
  (by decide +kernel : ∀ t : Fin grid0.N, win0_2.index t = ![t.val / 4, t.val % 4, 0])

/-- The device whose columns point `t` computes. -/
def dev (t : Fin cfg0.N) : Fin 8 := ⟨t.val / 4, by have := t.isLt; have : cfg0.N = 32 := rfl; omega⟩

/-- Row `k` of the tile at point `t`, among all the channels. -/
def row (t : Fin cfg0.N) (k : Fin 512) : Fin 2048 := ⟨t.val % 4 * 512 + k.val, by have := k.isLt; omega⟩

theorem blk0 (c : Dev nD) (t : Fin cfg0.N) (s : Fin 2048) (k : Fin 512) :
    iblk m c 0 t (ix2 s k) = m ((c : Thread nD τ).loc main_arg0) (ix3 0 s (row t k)) := by
  blk_simp [iblk, idx0 t]
  entry_read
  pointwise
  blk_ext [idx0 t, row]

theorem blk1 (c : Dev nD) (t : Fin cfg0.N) (s : Fin 2048) (j : Fin 1408) :
    iblk m c 1 t (ix3 0 s j) = m ((c : Thread nD τ).loc main_arg1) (ix3 (plane (dev t)) s (pcol (dev t) j)) := by
  blk_simp [iblk, idx1 t]
  entry_read
  pointwise
  blk_ext [idx1 t, plane, pcol, dev]

/-- The result array is the reference's. -/
theorem final (c : Dev nD) :
    (dats m 0 c).arrAt 2 cfg0.N = Cert.Reference4Ideal.Read.val_main_v14 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain rfl : y0 = 0 := Subsingleton.elim _ _
  have hy : ((View.whole main_v3).slice (win0_2.rect t)).emb (ix3 0 y1 y2) = ix3 (dev t) (row t y1) y2 := by
    blk_ext [idx2 t, row, dev]
  rw [hy, pay1_apply, ref_apply]
  simp only [blk0, blk1]

end Cert.Kernel4Ideal.UpWeightGrad

/-! ## The claims -/

namespace Cert.Proof.UpWeightGradClaims

open Idealize.ShloMosaic Idealize.ShloMosaic.TcCoe Idealize.SL.Sem

theorem frame_p : Cert.quiescent_Kernel4 := fun m ρ _ => Cert.Kernel4.Gen.frame m ρ
theorem frame_pi : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

/-- The kernel and the reference end with the same weight gradient. -/
theorem algebraic : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  rw [(hagree c).1, (hagree c).2]
  exact (Cert.Kernel4Ideal.UpWeightGrad.final m c).symm

end Cert.Proof.UpWeightGradClaims

end
-- ==== Proof.UpInputGrad.lean ====
/- The input gradient of a feed-forward block's gate-and-up projection: the kernel adds up one device's columns after
another, `dy · wᵀ` over eight groups of columns, and the sum is the gradient that the reference differentiates. -/
module

public import proofs.«01_k».proof.Defs
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel5Ideal.UpInputGrad

open Cert.Kernel5Ideal Cert.Kernel5Ideal.Gen Idealize.ShloMosaic Idealize.ShloMosaic.TcCoe Idealize.SL.Sem
open Idealize.ShloMosaic.Pipeline (Dat)

/-- One device's share at a coordinate: the sum over its columns. -/
theorem pay1_apply (v0 : Vec Ideal S1x1024x1408 .bf16) (v2 : Vec Ideal S1x2048x1408 .bf16) (r : Fin 1024) (k : Fin 2048) :
    k0_pay1 (F := Ideal) v0 v2 (ix2 r k) = ∑ j : Fin 1408, v0 (ix3 0 r j) * v2 (ix3 0 k j) := by
  pointwise [k0_pay1]

theorem pay2_apply (v0 : Vec Ideal S1x1024x1408 .bf16) (v2 : Vec Ideal S1x2048x1408 .bf16) (v11 : Vec Ideal S1024x2048 .f32)
    (r : Fin 1024) (k : Fin 2048) :
    k0_pay2 (F := Ideal) v0 v2 v11 (ix2 r k) = v11 (ix2 r k) + ∑ j : Fin 1408, v0 (ix3 0 r j) * v2 (ix3 0 k j) := by
  pointwise [k0_pay2, k0_pay1]

/-- The plane that device `g`'s columns lie in: the gate's for the first four, the up branch's for the others. -/
def plane (g : Fin 8) : Fin 2 := ⟨g.val / 4, by have := g.isLt; omega⟩

/-- Column `j` of device `g`, within its plane. -/
def pcol (g : Fin 8) (j : Fin 1408) : Fin 5632 := ⟨g.val % 4 * 1408 + j.val, by have := j.isLt; omega⟩

/-- Column `j` of device `g`, among all the columns. -/
def gcol (g : Fin 8) (j : Fin 1408) : Fin 11264 := ⟨g.val * 1408 + j.val, by have := g.isLt; have := j.isLt; omega⟩

/-- A sum over the columns, device by device. -/
theorem sum_cols {M : Type*} [AddCommMonoid M] (f : Fin 11264 → M) : ∑ n, f n = ∑ g, ∑ j, f (gcol g j) :=
  Fin.sum_univ_tiles 8 1408 rfl f

/-- The two planes of a cotangent side by side, at a column of device `g`. -/
theorem ref_cols (x0 : Vec Ideal S2x2048x5632 .f32) (s : Fin 2048) (g : Fin 8) (j : Fin 1408) :
    Cert.Reference5Ideal.Read.val_main_v8 (F := Ideal) x0 (ix2 s (gcol g j)) = x0 (ix3 (plane g) s (pcol g j)) := by
  have hj := j.isLt
  rw [show gcol g j = ⟨g.val * 1408 + j.val, by have := g.isLt; omega⟩ from rfl]
  pointwise [Cert.Reference5Ideal.Read.val_main_v8, Cert.Reference5Ideal.Read.val_main_v7, Cert.Reference5Ideal.Read.val_main_v6, Cert.Reference5Ideal.Read.val_main_v5, Cert.Reference5Ideal.Read.val_main_v4]
  split_ifs with hlt h1
  · exact congrArg₂ (fun a b => x0 (ix3 a s b)) (Fin.ext (show 0 = g.val / 4 by omega))
      (Fin.ext (show g.val * 1408 + j.val = g.val % 4 * 1408 + j.val by omega))
  · exact congrArg₂ (fun a b => x0 (ix3 a s b)) (Fin.ext (show 1 = g.val / 4 by omega))
      (Fin.ext (show g.val * 1408 + j.val - 5632 = g.val % 4 * 1408 + j.val by omega))
  · exact absurd rfl h1

/-- Device `g`'s share of the gradient at a token and a channel. -/
def share (x0 : Vec Ideal S2x2048x5632 .f32) (x1 : Vec Ideal S2048x11264 .f32) (s k : Fin 2048) (g : Fin 8) : EReal :=
  ∑ j : Fin 1408, x0 (ix3 (plane g) s (pcol g j)) * x1 (ix2 k (gcol g j))

/-- The reference's gradient at a coordinate. -/
theorem ref_apply (x0 : Vec Ideal S2x2048x5632 .f32) (x1 : Vec Ideal S2048x11264 .f32) (s k : Fin 2048) :
    Cert.Reference5Ideal.Read.val_main_v9 (F := Ideal) x0 x1 (ix2 s k) = ∑ g, share x0 x1 s k g := by
  have e : Cert.Reference5Ideal.Read.val_main_v9 (F := Ideal) x0 x1 (ix2 s k)
      = ∑ n : Fin 11264, Cert.Reference5Ideal.Read.val_main_v8 (F := Ideal) x0 (ix2 s n) * x1 (ix2 k n) := by
    pointwise [Cert.Reference5Ideal.Read.val_main_v9]
  rw [e, sum_cols]
  exact Finset.sum_congr rfl fun g _ => Finset.sum_congr rfl fun j _ => by rw [ref_cols]

variable (m : (ℓ : Loc nD τ sig) → Buf (Elt Ideal) ℓ)

theorem idx0 : ∀ t : Fin cfg0.N, win0_0.index t = ![t.val % 8 / 4, t.val / 8, t.val % 4] :=
  (by decide +kernel : ∀ t : Fin grid0.N, win0_0.index t = ![t.val % 8 / 4, t.val / 8, t.val % 4])
theorem idx1 : ∀ t : Fin cfg0.N, win0_1.index t = ![t.val % 8, 0, 0] :=
  (by decide +kernel : ∀ t : Fin grid0.N, win0_1.index t = ![t.val % 8, 0, 0])
theorem idx2 : ∀ t : Fin cfg0.N, win0_2.index t = ![t.val / 8, 0] :=
  (by decide +kernel : ∀ t : Fin grid0.N, win0_2.index t = ![t.val / 8, 0])

/-- The device whose columns point `t` adds. -/
def dev (t : Fin cfg0.N) : Fin 8 := ⟨t.val % 8, by omega⟩

/-- Row `r` of the tile at point `t`, among all the tokens. -/
def row (t : Fin cfg0.N) (r : Fin 1024) : Fin 2048 :=
  ⟨t.val / 8 * 1024 + r.val, by have := t.isLt; have := r.isLt; have : cfg0.N = 16 := rfl; omega⟩

theorem blk0 (c : Dev nD) (t : Fin cfg0.N) (r : Fin 1024) (j : Fin 1408) :
    iblk m c 0 t (ix3 0 r j) = m ((c : Thread nD τ).loc main_arg0) (ix3 (plane (dev t)) (row t r) (pcol (dev t) j)) := by
  blk_simp [iblk, idx0 t]
  entry_read
  pointwise
  blk_ext [idx0 t, plane, pcol, dev, row]

theorem blk1 (c : Dev nD) (t : Fin cfg0.N) (k : Fin 2048) (j : Fin 1408) :
    iblk m c 1 t (ix3 0 k j) = m ((c : Thread nD τ).loc main_arg1) (ix2 k (gcol (dev t) j)) := by
  blk_simp [iblk, idx1 t]
  entry_read
  pointwise
  blk_ext [idx1 t, gcol, dev]

/-- The first point of a tile stores its device's share. -/
theorem out_A (c : Dev nD) (t : Fin cfg0.N) (h0 : t.val % 8 = 0) (r : Fin 1024) (k : Fin 2048) :
    outsAt0 m c t.val t.isLt (ix2 r k)
      = share (m ((c : Thread nD τ).loc main_arg0)) (m ((c : Thread nD τ).loc main_arg1)) (row t r) k (dev t) := by
  rw [outsAt0_A m c t h0 (by omega)]
  frame_open
  frame_out
  rw [pay1_apply]
  simp only [blk0, blk1, share]

/-- A later point adds its device's share to what the point before left. -/
theorem out_B (c : Dev nD) (t : Fin cfg0.N) (h0 : ¬t.val % 8 = 0) (r : Fin 1024) (k : Fin 2048) :
    outsAt0 m c t.val t.isLt (ix2 r k)
      = outsAt0 m c (t.val - 1) (Nat.lt_of_le_of_lt (Nat.sub_le _ _) t.isLt) (ix2 r k)
        + share (m ((c : Thread nD τ).loc main_arg0)) (m ((c : Thread nD τ).loc main_arg1)) (row t r) k (dev t) := by
  rw [outsAt0_B m c t h0 (by omega)]
  frame_open
  frame_out
  rw [pay2_apply]
  simp only [blk0, blk1, share]

/-- The sum over the devices before the `n`-th. -/
def before (f : Fin 8 → EReal) (n : ℕ) : EReal := ∑ i ∈ Finset.range n, if h : i < 8 then f ⟨i, h⟩ else 0

theorem before_succ (f : Fin 8 → EReal) (n : ℕ) (h : n < 8) : before f (n + 1) = before f n + f ⟨n, h⟩ := by
  rw [before, Finset.sum_range_succ, dif_pos h]; rfl
theorem before_all (f : Fin 8 → EReal) : before f 8 = ∑ g, f g := by
  rw [before, ← Fin.sum_univ_eq_sum_range (fun i => if h : i < 8 then f ⟨i, h⟩ else 0)]
  exact Finset.sum_congr rfl fun g _ => dif_pos g.isLt

/-- After a point the tile holds the shares of the devices up to the point's own. -/
theorem after (c : Dev nD) : ∀ (n : ℕ) (h : n < cfg0.N) (r : Fin 1024) (k : Fin 2048),
    outsAt0 m c n h (ix2 r k)
      = before (share (m ((c : Thread nD τ).loc main_arg0)) (m ((c : Thread nD τ).loc main_arg1)) (row ⟨n, h⟩ r) k) (n % 8 + 1)
  | 0, h, r, k => by
    rw [before_succ _ _ (by omega)]
    refine (out_A m c ⟨0, h⟩ rfl r k).trans ?_
    rw [show before _ (0 % 8) = 0 from Finset.sum_range_zero _, zero_add]
    rfl
  | n + 1, h, r, k => by
    have P := after c n (Nat.lt_of_succ_lt h) r k
    rw [before_succ _ _ (by omega)]
    by_cases h0 : (n + 1) % 8 = 0
    · refine (out_A m c ⟨n + 1, h⟩ h0 r k).trans ?_
      rw [show ∀ f, before f ((n + 1) % 8) = 0 from fun f => by rw [h0]; exact Finset.sum_range_zero _, zero_add]
      rfl
    · refine (out_B m c ⟨n + 1, h⟩ h0 r k).trans ?_
      refine congrArg₂ (fun a b : EReal => a + b) (P.trans ?_) rfl
      rw [show n % 8 + 1 = (n + 1) % 8 by omega,
        show row ⟨n, Nat.lt_of_succ_lt h⟩ r = row ⟨n + 1, h⟩ r from Fin.ext (by simp only [row]; omega)]

/-- The result array is the reference's. -/
theorem final (c : Dev nD) :
    (dats m 0 c).arrAt 2 cfg0.N = Cert.Reference5Ideal.Read.val_main_v9 (F := Ideal)
      (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2]
  idx_vars y
  have hy : ((View.whole main_v4).slice (win0_2.rect t)).emb (ix2 y0 y1) = ix2 (row t y0) y1 := by
    blk_ext [idx2 t, row]
  rw [hy, ref_apply, ← before_all]
  refine (after m c t.val t.isLt y0 y1).trans ?_
  rw [h7]

end Cert.Kernel5Ideal.UpInputGrad

/-! ## The claims -/

namespace Cert.Proof.UpInputGradClaims

open Idealize.ShloMosaic Idealize.ShloMosaic.TcCoe Idealize.SL.Sem

theorem frame_p : Cert.quiescent_Kernel5 := fun m ρ _ => Cert.Kernel5.Gen.frame m ρ
theorem frame_pi : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

/-- The kernel and the reference end with the same input gradient. -/
theorem algebraic : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  rw [(hagree c).1, (hagree c).2]
  exact (Cert.Kernel5Ideal.UpInputGrad.final m c).symm

end Cert.Proof.UpInputGradClaims

end
-- ==== Proof.DownWeightGrad.lean ====
/- The weight gradient of a feed-forward block's down projection: the kernel's blocks of rows of `hᵀ · dy` are read at
an index and are the rows of the gradient that the reference differentiates. -/
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel6Ideal.DownWeightGrad

open Cert.Kernel6Ideal Cert.Kernel6Ideal.Gen Idealize.ShloMosaic Idealize.ShloMosaic.TcCoe Idealize.SL.Sem
open Idealize.ShloMosaic.Pipeline (Dat)

/-- A block's product at a coordinate: the sum over the tokens. -/
theorem pay1_apply (v0 : Vec Ideal S2048x512 .bf16) (v2 : Vec Ideal S2048x2048 .bf16) (k : Fin 512) (d : Fin 2048) :
    k0_pay1 (F := Ideal) v0 v2 (ix2 k d) = ∑ s : Fin 2048, v0 (ix2 s k) * v2 (ix2 s d) := by
  pointwise [k0_pay1]

/-- The reference's gradient at a coordinate. -/
theorem ref_apply (x0 : Vec Ideal S1x2048x5632 .f32) (x1 : Vec Ideal S1x2048x2048 .f32) (k : Fin 5632) (d : Fin 2048) :
    Cert.Reference6Ideal.Read.val_main_v6 (F := Ideal) x0 x1 (ix2 k d)
      = ∑ s : Fin 2048, x0 (ix3 0 s k) * x1 (ix3 0 s d) := by
  have e : Cert.Reference6Ideal.Read.val_main_v6 (F := Ideal) x0 x1 (ix2 k d)
      = ∑ s : Fin 2048, x1 (ix3 0 s d) * x0 (ix3 0 s k) := by
    pointwise [Cert.Reference6Ideal.Read.val_main_v6, Cert.Reference6Ideal.Read.val_main_v5, Cert.Reference6Ideal.Read.val_main_v4, Cert.Reference6Ideal.Read.val_main_v3, Cert.Reference6Ideal.Read.val_main_v1]
  rw [e]
  exact Finset.sum_congr rfl fun s _ => mul_comm _ _

variable (m : (ℓ : Loc nD τ sig) → Buf (Elt Ideal) ℓ)

theorem idx0 : ∀ t : Fin cfg0.N, win0_0.index t = ![0, t.val] :=
  (by decide +kernel : ∀ t : Fin grid0.N, win0_0.index t = ![0, t.val])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])

/-- Row `k` of tile `t`, among all the hidden coordinates. -/
def row (t : Fin cfg0.N) (k : Fin 512) : Fin 5632 :=
  ⟨t.val * 512 + k.val, by have := t.isLt; have := k.isLt; have : cfg0.N = 11 := rfl; omega⟩

theorem blk0 (c : Dev nD) (t : Fin cfg0.N) (s : Fin 2048) (k : Fin 512) :
    iblk m c 0 t (ix2 s k) = m ((c : Thread nD τ).loc main_arg0) (ix3 0 s (row t k)) := by
  blk_simp [iblk, idx0 t]
  entry_read
  pointwise
  blk_ext [idx0 t, row]

theorem blk1 (c : Dev nD) (t : Fin cfg0.N) (s d : Fin 2048) :
    iblk m c 1 t (ix2 s d) = m ((c : Thread nD τ).loc main_arg1) (ix3 0 s d) := by
  blk_simp [iblk, idx1 t]
  entry_read
  pointwise
  blk_ext [idx1 t]

/-- The result array is the reference's. -/
theorem final (c : Dev nD) :
    (dats m 0 c).arrAt 2 cfg0.N = Cert.Reference6Ideal.Read.val_main_v6 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have hy : ((View.whole main_v4).slice (win0_2.rect t)).emb (ix2 y0 y1) = ix2 (row t y0) y1 := by
    blk_ext [idx2 t, row]
  rw [hy, pay1_apply, ref_apply]
  simp only [blk0, blk1]

end Cert.Kernel6Ideal.DownWeightGrad

/-! ## The claims -/

namespace Cert.Proof.DownWeightGradClaims

open Idealize.ShloMosaic Idealize.ShloMosaic.TcCoe Idealize.SL.Sem

theorem frame_p : Cert.quiescent_Kernel6 := fun m ρ _ => Cert.Kernel6.Gen.frame m ρ
theorem frame_pi : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

/-- The kernel and the reference end with the same weight gradient. -/
theorem algebraic : Cert.algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨(h c).1.trans ?_, (h c).2⟩)
    (Cert.Reference6Ideal.Value.run (F := Ideal) m' ρ')
  rw [(hagree c).1, (hagree c).2]
  exact (Cert.Kernel6Ideal.DownWeightGrad.final m c).symm

end Cert.Proof.DownWeightGradClaims

end
-- ==== Proof.UpProjection.lean ====
/- A feed-forward block's gate-and-up projection with its SwiGLU: the kernel's blocks of the two planes and of the hidden
activations are read at an index and are the reference's. -/
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel7Ideal.UpProjection

open Cert.Kernel7Ideal Cert.Kernel7Ideal.Gen Idealize.ShloMosaic Idealize.ShloMosaic.TcCoe Idealize.SL.Sem
open Idealize.ShloMosaic.Pipeline (Dat)

/-- One of the two products of a block, at a coordinate. -/
theorem pay2_apply (v0 : Vec Ideal S512x2048 .bf16) (v2 : Vec Ideal S1x2048x1408 .bf16) (r : Fin 512) (j : Fin 1408) :
    k0_pay2 (F := Ideal) v0 v2 (ix2 r j) = ∑ d : Fin 2048, v0 (ix2 r d) * v2 (ix3 0 d j) := by
  pointwise [k0_pay2, k0_pay1]

theorem pay4_apply (v0 : Vec Ideal S512x2048 .bf16) (v2 : Vec Ideal S1x2048x1408 .bf16) (r : Fin 512) (j : Fin 1408) :
    k0_pay4 (F := Ideal) v0 v2 (ix3 0 r j) = ∑ d : Fin 2048, v0 (ix2 r d) * v2 (ix3 0 d j) := by
  pointwise [k0_pay4, k0_pay2, k0_pay1]

theorem pay5_apply (v0 : Vec Ideal S512x2048 .bf16) (v5 : Vec Ideal S1x2048x1408 .bf16) (r : Fin 512) (j : Fin 1408) :
    k0_pay5 (F := Ideal) v0 v5 (ix3 0 r j) = ∑ d : Fin 2048, v0 (ix2 r d) * v5 (ix3 0 d j) := by
  pointwise [k0_pay5, k0_pay3, k0_pay1]

/-- The gated product, from the values of the two branches. -/
def gated (g u : EReal) : EReal :=
  g * Ideal.div 1 (1 + Ideal.exp (-g)) * u

theorem pay6_apply (v0 : Vec Ideal S512x2048 .bf16) (v2 v5 : Vec Ideal S1x2048x1408 .bf16) (r : Fin 512) (j : Fin 1408) :
    k0_pay6 (F := Ideal) v0 v2 v5 (ix2 r j)
      = gated (∑ d : Fin 2048, v0 (ix2 r d) * v2 (ix3 0 d j)) (∑ d : Fin 2048, v0 (ix2 r d) * v5 (ix3 0 d j)) := by
  rw [gated, ← zero_sub]
  pointwise [k0_pay6, k0_pay3, k0_pay2, k0_pay1]

/-- The product with the whole of the weights, at a coordinate. -/
def proj (x0 : Vec Ideal S1x2048x2048 .f32) (x1 : Vec Ideal S2048x11264 .f32) (r : Fin 2048) (k : Fin 11264) : EReal :=
  ∑ d : Fin 2048, x0 (ix3 0 r d) * x1 (ix2 d k)

/-- Column `k` of a plane, among the columns of both. -/
def both (p : Fin 2) (k : Fin 5632) : Fin 11264 := ⟨p.val * 5632 + k.val, by have := p.isLt; have := k.isLt; omega⟩

open Cert.Reference7Ideal.Read in
theorem ref_gate (x0 : Vec Ideal S1x2048x2048 .f32) (x1 : Vec Ideal S2048x11264 .f32) (r : Fin 2048) (k : Fin 5632) :
    val_main_v2 (F := Ideal) x0 x1 (ix2 r k) = proj x0 x1 r (both 0 k) := by
  rw [proj, show both 0 k = ⟨k.val, by have := k.isLt; omega⟩ from Fin.ext (by simp [both])]
  pointwise [val_main_v2, val_main_v1, val_main_v0]

open Cert.Reference7Ideal.Read in
theorem ref_up (x0 : Vec Ideal S1x2048x2048 .f32) (x1 : Vec Ideal S2048x11264 .f32) (r : Fin 2048) (k : Fin 5632) :
    val_main_v3 (F := Ideal) x0 x1 (ix2 r k) = proj x0 x1 r (both 1 k) := by
  rw [proj, show both 1 k = ⟨5632 + k.val, by have := k.isLt; omega⟩ from Fin.ext (by simp [both])]
  pointwise [val_main_v3, val_main_v1, val_main_v0]

open Cert.Reference7Ideal.Read in
/-- The reference's plane of gates, at a coordinate. -/
theorem ref_plane0 (x0 : Vec Ideal S1x2048x2048 .f32) (x1 : Vec Ideal S2048x11264 .f32) (r : Fin 2048) (k : Fin 5632) :
    val_main_v7 (F := Ideal) x0 x1 (ix3 0 r k) = proj x0 x1 r (both 0 k) := by
  rw [← ref_gate]
  pointwise [val_main_v7, val_main_v6, val_main_v5, val_main_v4]

open Cert.Reference7Ideal.Read in
/-- The reference's plane of the up branch, at a coordinate. -/
theorem ref_plane1 (x0 : Vec Ideal S1x2048x2048 .f32) (x1 : Vec Ideal S2048x11264 .f32) (r : Fin 2048) (k : Fin 5632) :
    val_main_v7 (F := Ideal) x0 x1 (ix3 1 r k) = proj x0 x1 r (both 1 k) := by
  rw [← ref_up]
  pointwise [val_main_v7, val_main_v6, val_main_v5, val_main_v4]

open Cert.Reference7Ideal.Read in
/-- The reference's hidden activations, at a coordinate. -/
theorem ref_hidden (x0 : Vec Ideal S1x2048x2048 .f32) (x1 : Vec Ideal S2048x11264 .f32) (r : Fin 2048) (k : Fin 5632) :
    val_main_v10 (F := Ideal) x0 x1 (ix2 r k) = gated (proj x0 x1 r (both 0 k)) (proj x0 x1 r (both 1 k)) := by
  rw [← ref_gate, ← ref_up, gated]
  pointwise [val_main_v10, val_main_v9, val_main_v8, val_main_call0_v5, val_main_call0_v4, val_main_call0_cst_0, val_main_call0_v3, val_main_call0_v2, val_main_call0_cst, val_main_call0_v1, val_main_call0_v0]

variable (m : (ℓ : Loc nD τ sig) → Buf (Elt Ideal) ℓ)

theorem idx0 : ∀ t : Fin cfg0.N, win0_0.index t = ![t.val % 4, 0] :=
  (by decide +kernel : ∀ t : Fin grid0.N, win0_0.index t = ![t.val % 4, 0])
theorem idx1 : ∀ t : Fin cfg0.N, win0_1.index t = ![t.val / 4, 0, 0] :=
  (by decide +kernel : ∀ t : Fin grid0.N, win0_1.index t = ![t.val / 4, 0, 0])
theorem idx2 : ∀ t : Fin cfg0.N, win0_2.index t = ![t.val / 4 + 4, 0, 0] :=
  (by decide +kernel : ∀ t : Fin grid0.N, win0_2.index t = ![t.val / 4 + 4, 0, 0])
theorem idx3 : ∀ t : Fin cfg0.N, win0_3.index t = ![0, t.val % 4, t.val / 4] :=
  (by decide +kernel : ∀ t : Fin grid0.N, win0_3.index t = ![0, t.val % 4, t.val / 4])
theorem idx4 : ∀ t : Fin cfg0.N, win0_4.index t = ![t.val % 4, t.val / 4] :=
  (by decide +kernel : ∀ t : Fin grid0.N, win0_4.index t = ![t.val % 4, t.val / 4])

/-- Row `r` of the tile at point `t`, among all the tokens. -/
def row (t : Fin cfg0.N) (r : Fin 512) : Fin 2048 :=
  ⟨t.val % 4 * 512 + r.val, by have := r.isLt; omega⟩

/-- Column `j` of the tile at point `t`, within its plane. -/
def col (t : Fin cfg0.N) (j : Fin 1408) : Fin 5632 :=
  ⟨t.val / 4 * 1408 + j.val, by have := t.isLt; have := j.isLt; have : cfg0.N = 16 := rfl; omega⟩

theorem blk0 (c : Dev nD) (t : Fin cfg0.N) (r : Fin 512) (d : Fin 2048) :
    iblk m c 0 t (ix2 r d) = m ((c : Thread nD τ).loc main_arg0) (ix3 0 (row t r) d) := by
  blk_simp [iblk, idx0 t]
  entry_read
  pointwise
  blk_ext [idx0 t, row]

theorem blk1 (c : Dev nD) (t : Fin cfg0.N) (d : Fin 2048) (j : Fin 1408) :
    iblk m c 1 t (ix3 0 d j) = m ((c : Thread nD τ).loc main_arg1) (ix2 d (both 0 (col t j))) := by
  blk_simp [iblk, idx1 t]
  entry_read
  pointwise
  blk_ext [idx1 t, col, both]

theorem blk2 (c : Dev nD) (t : Fin cfg0.N) (d : Fin 2048) (j : Fin 1408) :
    iblk m c 2 t (ix3 0 d j) = m ((c : Thread nD τ).loc main_arg1) (ix2 d (both 1 (col t j))) := by
  blk_simp [iblk, idx2 t]
  entry_read
  pointwise
  blk_ext [idx2 t, col, both]

/-- The two planes are the reference's. -/
theorem final_planes (c : Dev nD) :
    (dats m 0 c).arrAt 3 cfg0.N = Cert.Reference7Ideal.Read.val_main_v7 (F := Ideal)
      (m ((c : Thread nD τ).loc main_arg0)) (m ((c : Thread nD τ).loc main_arg1)) := by
  refine (dats m 0 c).arrAt_eq_of_covers 3 _ (by decide +kernel) fun t hf y => ?_
  blk_simp
  rw [after0_3]
  frame_out
  canon_tiles x g
  · idx_vars x
    obtain rfl : x0 = 0 := Subsingleton.elim _ _
    have hy : ((View.whole main_v5_0).slice (win0_3.rect t)).emb y = ix3 1 (row t x1) (col t x2) := by
      blk_ext [idx3 t, row, col]
    rw [hy, pay5_apply, ref_plane1]
    simp only [blk0, blk2, proj]
  · idx_vars x
    obtain rfl : x0 = 0 := Subsingleton.elim _ _
    have hy : ((View.whole main_v5_0).slice (win0_3.rect t)).emb y = ix3 0 (row t x1) (col t x2) := by
      blk_ext [idx3 t, row, col]
    rw [hy, pay4_apply, ref_plane0]
    simp only [blk0, blk1, proj]

/-- The hidden activations are the reference's. -/
theorem final_hidden (c : Dev nD) :
    (dats m 0 c).arrAt 4 cfg0.N = Cert.Reference7Ideal.Read.val_main_v10 (F := Ideal)
      (m ((c : Thread nD τ).loc main_arg0)) (m ((c : Thread nD τ).loc main_arg1)) := by
  refine (dats m 0 c).arrAt_eq_of_covers 4 _ (by decide +kernel) fun t hf y => ?_
  blk_simp
  rw [after0_4]
  frame_out
  idx_vars y
  have hy : ((View.whole main_v5_1).slice (win0_4.rect t)).emb (ix2 y0 y1) = ix2 (row t y0) (col t y1) := by
    blk_ext [idx4 t, row, col]
  rw [hy, pay6_apply, ref_hidden]
  simp only [blk0, blk1, blk2, proj]

end Cert.Kernel7Ideal.UpProjection

/-! ## The claims -/

namespace Cert.Proof.UpProjectionClaims

open Idealize.ShloMosaic Idealize.ShloMosaic.TcCoe Idealize.SL.Sem

theorem frame_p : Cert.quiescent_Kernel7 := fun m ρ _ => Cert.Kernel7.Gen.frame m ρ
theorem frame_pi : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

/-- The kernel and the reference end with the same two planes and the same hidden activations. -/
theorem algebraic : Cert.algebraic_Kernel7Ideal_Reference7Ideal := by
  intro m ρ m' ρ' _ hagree
  refine ⟨_, _, Cert.Kernel7Ideal.Value.run_blocks (F := Ideal) m ρ, ?_⟩
  refine (θ_run Cert.Reference7Ideal.defs _ _).mono
    (fun _ h c => ⟨(h c).1.trans ?_, (h c).2.1.trans ?_, (h c).2.2⟩)
    (Cert.Reference7Ideal.Value.run (F := Ideal) m' ρ')
  · rw [(hagree c).1, (hagree c).2]
    exact (Cert.Reference7Ideal.Read.val_main_v7_eq _ _).trans (Cert.Kernel7Ideal.UpProjection.final_planes m c).symm
  · rw [(hagree c).1, (hagree c).2]
    exact (Cert.Reference7Ideal.Read.val_main_v10_eq _ _).trans (Cert.Kernel7Ideal.UpProjection.final_hidden m c).symm

end Cert.Proof.UpProjectionClaims

end
-- ==== Proof.DownProjection.lean ====
/- A feed-forward block's down projection with its half step onto the residual stream: the kernel's blocks are read at
an index and are the reference's. -/
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel8Ideal.DownProjection

open Cert.Kernel8Ideal Cert.Kernel8Ideal.Gen Idealize.ShloMosaic Idealize.ShloMosaic.TcCoe Idealize.SL.Sem
open Idealize.ShloMosaic.Pipeline (Dat)

/-- A block at a coordinate: the residual and half the product. -/
theorem pay1_apply (v0 : Vec Ideal S512x1024 .f32) (v2 : Vec Ideal S512x5632 .bf16) (v4 : Vec Ideal S5632x1024 .bf16)
    (r : Fin 512) (d : Fin 1024) :
    k0_pay1 (F := Ideal) v0 v2 v4 (ix2 r d)
      = v0 (ix2 r d) + Ideal.ofBits .f32 0x3F000000#32 * ∑ k : Fin 5632, v2 (ix2 r k) * v4 (ix2 k d) := by
  pointwise [k0_pay1]

/-- The reference at a coordinate. -/
theorem ref_apply (x0 : Vec Ideal S1x2048x5632 .f32) (x1 : Vec Ideal S5632x2048 .f32) (x2 : Vec Ideal S1x2048x2048 .f32)
    (r d : Fin 2048) :
    Cert.Reference8Ideal.Read.val_main_v5 (F := Ideal) x0 x1 x2 (ix2 r d)
      = x2 (ix3 0 r d) + Ideal.ofBits .f32 0x3F000000#32 * ∑ k : Fin 5632, x0 (ix3 0 r k) * x1 (ix2 k d) := by
  pointwise [Cert.Reference8Ideal.Read.val_main_v5, Cert.Reference8Ideal.Read.val_main_v4, Cert.Reference8Ideal.Read.val_main_v3, Cert.Reference8Ideal.Read.val_main_cst, Cert.Reference8Ideal.Read.val_main_v2, Cert.Reference8Ideal.Read.val_main_v1, Cert.Reference8Ideal.Read.val_main_v0]

variable (m : (ℓ : Loc nD τ sig) → Buf (Elt Ideal) ℓ)

theorem idx0 : ∀ t : Fin cfg0.N, win0_0.index t = ![t.val % 4, 0] :=
  (by decide +kernel : ∀ t : Fin grid0.N, win0_0.index t = ![t.val % 4, 0])
theorem idx1 : ∀ t : Fin cfg0.N, win0_1.index t = ![0, t.val / 4] :=
  (by decide +kernel : ∀ t : Fin grid0.N, win0_1.index t = ![0, t.val / 4])
theorem idx2 : ∀ t : Fin cfg0.N, win0_2.index t = ![t.val % 4, t.val / 4] :=
  (by decide +kernel : ∀ t : Fin grid0.N, win0_2.index t = ![t.val % 4, t.val / 4])
theorem idx3 : ∀ t : Fin cfg0.N, win0_3.index t = ![t.val % 4, t.val / 4] :=
  (by decide +kernel : ∀ t : Fin grid0.N, win0_3.index t = ![t.val % 4, t.val / 4])

/-- Row `r` of the tile at point `t`, among all the tokens. -/
def row (t : Fin cfg0.N) (r : Fin 512) : Fin 2048 :=
  ⟨t.val % 4 * 512 + r.val, by have := r.isLt; omega⟩

/-- Column `d` of the tile at point `t`, among all the channels. -/
def col (t : Fin cfg0.N) (d : Fin 1024) : Fin 2048 :=
  ⟨t.val / 4 * 1024 + d.val, by have := t.isLt; have := d.isLt; have : cfg0.N = 8 := rfl; omega⟩

theorem blk0 (c : Dev nD) (t : Fin cfg0.N) (r : Fin 512) (k : Fin 5632) :
    iblk m c 0 t (ix2 r k) = m ((c : Thread nD τ).loc main_arg0) (ix3 0 (row t r) k) := by
  blk_simp [iblk, idx0 t]
  entry_read
  pointwise
  blk_ext [idx0 t, row]

theorem blk1 (c : Dev nD) (t : Fin cfg0.N) (k : Fin 5632) (d : Fin 1024) :
    iblk m c 1 t (ix2 k d) = m ((c : Thread nD τ).loc main_arg1) (ix2 k (col t d)) := by
  blk_simp [iblk, idx1 t]
  entry_read
  pointwise
  blk_ext [idx1 t, col]

theorem blk2 (c : Dev nD) (t : Fin cfg0.N) (r : Fin 512) (d : Fin 1024) :
    iblk m c 2 t (ix2 r d) = m ((c : Thread nD τ).loc main_arg2) (ix3 0 (row t r) (col t d)) := by
  blk_simp [iblk, idx2 t]
  entry_read
  pointwise
  blk_ext [idx2 t, row, col]

/-- The result array is the reference's. -/
theorem final (c : Dev nD) :
    (dats m 0 c).arrAt 3 cfg0.N = Cert.Reference8Ideal.Read.val_main_v5 (F := Ideal)
      (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  have hy : ((View.whole main_v4).slice (win0_3.rect t)).emb (ix2 y0 y1) = ix2 (row t y0) (col t y1) := by
    blk_ext [idx3 t, row, col]
  rw [hy, pay1_apply, ref_apply, blk2]
  simp only [blk0, blk1]

end Cert.Kernel8Ideal.DownProjection

/-! ## The claims -/

namespace Cert.Proof.DownProjectionClaims

open Idealize.ShloMosaic Idealize.ShloMosaic.TcCoe Idealize.SL.Sem

theorem frame_p : Cert.quiescent_Kernel8 := fun m ρ _ => Cert.Kernel8.Gen.frame m ρ
theorem frame_pi : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

/-- The kernel and the reference end with the same residual stream. -/
theorem algebraic : Cert.algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨(h c).1.trans ?_, (h c).2⟩)
    (Cert.Reference8Ideal.Value.run (F := Ideal) m' ρ')
  rw [(hagree c).1, (hagree c).2.1, (hagree c).2.2]
  exact (Cert.Kernel8Ideal.DownProjection.final m c).symm

end Cert.Proof.DownProjectionClaims

end
-- ==== Proof.UpWeightGradLow.lean ====
/- The first half of the rows of a feed-forward block's gate-and-up weight gradient, which the step computes in two
calls: the kernel's blocks of `xᵀ · dy` are read at an index and are those rows of the gradient of the reference. -/
module

public import proofs.«01_k».proof.Defs
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel9Ideal.UpWeightGradLow

open Cert.Kernel9Ideal Cert.Kernel9Ideal.Gen Idealize.ShloMosaic Idealize.ShloMosaic.TcCoe Idealize.SL.Sem
open Idealize.ShloMosaic.Pipeline (Dat)

/-- A block's product at a coordinate: the sum over the tokens. -/
theorem pay1_apply (v0 : Vec Ideal S2048x512 .bf16) (v2 : Vec Ideal S1x2048x1408 .bf16) (k : Fin 512) (j : Fin 1408) :
    k0_pay1 (F := Ideal) v0 v2 (ix3 0 k j) = ∑ s : Fin 2048, v0 (ix2 s k) * v2 (ix3 0 s j) := by
  pointwise [k0_pay1]

/-- The plane that device `g`'s columns lie in: the gate's for the first four, the up branch's for the others. -/
def plane (g : Fin 8) : Fin 2 := ⟨g.val / 4, by have := g.isLt; omega⟩

/-- Column `j` of device `g`, within its plane. -/
def pcol (g : Fin 8) (j : Fin 1408) : Fin 5632 := ⟨g.val % 4 * 1408 + j.val, by have := j.isLt; omega⟩

/-- The two planes of a cotangent side by side, at a column of device `g`. -/
theorem ref_cols (x1 : Vec Ideal S2x2048x5632 .f32) (s : Fin 2048) (g : Fin 8) (j : Fin 1408) (h : g.val * 1408 + j.val < 11264) :
    Cert.Reference9Ideal.Read.val_main_v9 (F := Ideal) x1 (ix2 s ⟨g.val * 1408 + j.val, h⟩) = x1 (ix3 (plane g) s (pcol g j)) := by
  have hj := j.isLt
  pointwise [Cert.Reference9Ideal.Read.val_main_v9, Cert.Reference9Ideal.Read.val_main_v8, Cert.Reference9Ideal.Read.val_main_v7, Cert.Reference9Ideal.Read.val_main_v6, Cert.Reference9Ideal.Read.val_main_v5]
  split_ifs with hlt h1
  · exact congrArg₂ (fun a b => x1 (ix3 a s b)) (Fin.ext (show 0 = g.val / 4 by omega))
      (Fin.ext (show g.val * 1408 + j.val = g.val % 4 * 1408 + j.val by omega))
  · exact congrArg₂ (fun a b => x1 (ix3 a s b)) (Fin.ext (show 1 = g.val / 4 by omega))
      (Fin.ext (show g.val * 1408 + j.val - 5632 = g.val % 4 * 1408 + j.val by omega))
  · exact absurd rfl h1

/-- Row `k` of this half, among all the channels. -/
def hrow (k : Fin 1024) : Fin 2048 := ⟨0 + k.val, by have := k.isLt; omega⟩

/-- The reference's gradient at a coordinate. -/
theorem ref_apply (x0 : Vec Ideal S1x2048x2048 .f32) (x1 : Vec Ideal S2x2048x5632 .f32) (g : Fin 8) (k : Fin 1024) (j : Fin 1408) :
    Cert.Reference9Ideal.Read.val_main_v15 (F := Ideal) x0 x1 (ix3 g k j)
      = ∑ s : Fin 2048, x0 (ix3 0 s (hrow k)) * x1 (ix3 (plane g) s (pcol g j)) := by
  have e : Cert.Reference9Ideal.Read.val_main_v15 (F := Ideal) x0 x1 (ix3 g k j)
      = ∑ s : Fin 2048, Cert.Reference9Ideal.Read.val_main_v9 (F := Ideal) x1
          (ix2 s ⟨g.val * 1408 + j.val, by have := g.isLt; have := j.isLt; omega⟩) * x0 (ix3 0 s (hrow k)) := by
    rw [show hrow k = ⟨0 + k.val, by have := k.isLt; omega⟩ from rfl]
    pointwise [Cert.Reference9Ideal.Read.val_main_v15, Cert.Reference9Ideal.Read.val_main_v14, Cert.Reference9Ideal.Read.val_main_v13, Cert.Reference9Ideal.Read.val_main_v12, Cert.Reference9Ideal.Read.val_main_v11, Cert.Reference9Ideal.Read.val_main_v10, Cert.Reference9Ideal.Read.val_main_v1]
  rw [e]
  exact Finset.sum_congr rfl fun s _ => by rw [ref_cols, mul_comm]

variable (m : (ℓ : Loc nD τ sig) → Buf (Elt Ideal) ℓ)

theorem idx0 : ∀ t : Fin cfg0.N, win0_0.index t = ![0, t.val % 2] :=
  (by decide +kernel : ∀ t : Fin grid0.N, win0_0.index t = ![0, t.val % 2])
theorem idx1 : ∀ t : Fin cfg0.N, win0_1.index t = ![t.val / 2 / 4, 0, t.val / 2 % 4] :=
  (by decide +kernel : ∀ t : Fin grid0.N, win0_1.index t = ![t.val / 2 / 4, 0, t.val / 2 % 4])
theorem idx2 : ∀ t : Fin cfg0.N, win0_2.index t = ![t.val / 2, t.val % 2, 0] :=
  (by decide +kernel : ∀ t : Fin grid0.N, win0_2.index t = ![t.val / 2, t.val % 2, 0])

/-- The device whose columns point `t` computes. -/
def dev (t : Fin cfg0.N) : Fin 8 := ⟨t.val / 2, by have := t.isLt; have : cfg0.N = 16 := rfl; omega⟩

/-- Row `k` of the tile at point `t`, among the rows of this half. -/
def row (t : Fin cfg0.N) (k : Fin 512) : Fin 1024 := ⟨t.val % 2 * 512 + k.val, by have := k.isLt; omega⟩

theorem blk0 (c : Dev nD) (t : Fin cfg0.N) (s : Fin 2048) (k : Fin 512) :
    iblk m c 0 t (ix2 s k) = m ((c : Thread nD τ).loc main_arg0) (ix3 0 s (hrow (row t k))) := by
  blk_simp [iblk, idx0 t]
  entry_read
  pointwise
  blk_ext [idx0 t, row, hrow]

theorem blk1 (c : Dev nD) (t : Fin cfg0.N) (s : Fin 2048) (j : Fin 1408) :
    iblk m c 1 t (ix3 0 s j) = m ((c : Thread nD τ).loc main_arg1) (ix3 (plane (dev t)) s (pcol (dev t) j)) := by
  blk_simp [iblk, idx1 t]
  entry_read
  pointwise
  blk_ext [idx1 t, plane, pcol, dev]

/-- The result array is the reference's. -/
theorem final (c : Dev nD) :
    (dats m 0 c).arrAt 2 cfg0.N = Cert.Reference9Ideal.Read.val_main_v15 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain rfl : y0 = 0 := Subsingleton.elim _ _
  have hy : ((View.whole main_v3).slice (win0_2.rect t)).emb (ix3 0 y1 y2) = ix3 (dev t) (row t y1) y2 := by
    blk_ext [idx2 t, row, dev]
  rw [hy, pay1_apply, ref_apply]
  simp only [blk0, blk1]

end Cert.Kernel9Ideal.UpWeightGradLow

/-! ## The claims -/

namespace Cert.Proof.UpWeightGradLowClaims

open Idealize.ShloMosaic Idealize.ShloMosaic.TcCoe Idealize.SL.Sem

theorem frame_p : Cert.quiescent_Kernel9 := fun m ρ _ => Cert.Kernel9.Gen.frame m ρ
theorem frame_pi : Cert.quiescent_Kernel9Ideal := fun m ρ _ => Cert.Kernel9Ideal.Gen.frame m ρ
theorem frame_ri : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

/-- The kernel and the reference end with the same weight gradient. -/
theorem algebraic : Cert.algebraic_Kernel9Ideal_Reference9Ideal := by
  intro m ρ m' ρ' _ hagree
  refine ⟨_, Cert.Kernel9Ideal.Value.run_blocks (F := Ideal) m ρ, ?_⟩
  refine (θ_run Cert.Reference9Ideal.defs _ _).mono (fun _ h c => ⟨(h c).1.trans ?_, (h c).2⟩)
    (Cert.Reference9Ideal.Value.run (F := Ideal) m' ρ')
  rw [(hagree c).1, (hagree c).2]
  exact (Cert.Kernel9Ideal.UpWeightGradLow.final m c).symm

end Cert.Proof.UpWeightGradLowClaims

end
-- ==== Proof.UpWeightGradHigh.lean ====
/- The second half of the rows of a feed-forward block's gate-and-up weight gradient, which the step computes in two
calls: the kernel's blocks of `xᵀ · dy` are read at an index and are those rows of the gradient of the reference. -/
module

public import proofs.«01_k».proof.Defs
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel10Ideal.UpWeightGradHigh

open Cert.Kernel10Ideal Cert.Kernel10Ideal.Gen Idealize.ShloMosaic Idealize.ShloMosaic.TcCoe Idealize.SL.Sem
open Idealize.ShloMosaic.Pipeline (Dat)

/-- A block's product at a coordinate: the sum over the tokens. -/
theorem pay1_apply (v0 : Vec Ideal S2048x512 .bf16) (v2 : Vec Ideal S1x2048x1408 .bf16) (k : Fin 512) (j : Fin 1408) :
    k0_pay1 (F := Ideal) v0 v2 (ix3 0 k j) = ∑ s : Fin 2048, v0 (ix2 s k) * v2 (ix3 0 s j) := by
  pointwise [k0_pay1]

/-- The plane that device `g`'s columns lie in: the gate's for the first four, the up branch's for the others. -/
def plane (g : Fin 8) : Fin 2 := ⟨g.val / 4, by have := g.isLt; omega⟩

/-- Column `j` of device `g`, within its plane. -/
def pcol (g : Fin 8) (j : Fin 1408) : Fin 5632 := ⟨g.val % 4 * 1408 + j.val, by have := j.isLt; omega⟩

/-- The two planes of a cotangent side by side, at a column of device `g`. -/
theorem ref_cols (x1 : Vec Ideal S2x2048x5632 .f32) (s : Fin 2048) (g : Fin 8) (j : Fin 1408) (h : g.val * 1408 + j.val < 11264) :
    Cert.Reference10Ideal.Read.val_main_v9 (F := Ideal) x1 (ix2 s ⟨g.val * 1408 + j.val, h⟩) = x1 (ix3 (plane g) s (pcol g j)) := by
  have hj := j.isLt
  pointwise [Cert.Reference10Ideal.Read.val_main_v9, Cert.Reference10Ideal.Read.val_main_v8, Cert.Reference10Ideal.Read.val_main_v7, Cert.Reference10Ideal.Read.val_main_v6, Cert.Reference10Ideal.Read.val_main_v5]
  split_ifs with hlt h1
  · exact congrArg₂ (fun a b => x1 (ix3 a s b)) (Fin.ext (show 0 = g.val / 4 by omega))
      (Fin.ext (show g.val * 1408 + j.val = g.val % 4 * 1408 + j.val by omega))
  · exact congrArg₂ (fun a b => x1 (ix3 a s b)) (Fin.ext (show 1 = g.val / 4 by omega))
      (Fin.ext (show g.val * 1408 + j.val - 5632 = g.val % 4 * 1408 + j.val by omega))
  · exact absurd rfl h1

/-- Row `k` of this half, among all the channels. -/
def hrow (k : Fin 1024) : Fin 2048 := ⟨1024 + k.val, by have := k.isLt; omega⟩

/-- The reference's gradient at a coordinate. -/
theorem ref_apply (x0 : Vec Ideal S1x2048x2048 .f32) (x1 : Vec Ideal S2x2048x5632 .f32) (g : Fin 8) (k : Fin 1024) (j : Fin 1408) :
    Cert.Reference10Ideal.Read.val_main_v15 (F := Ideal) x0 x1 (ix3 g k j)
      = ∑ s : Fin 2048, x0 (ix3 0 s (hrow k)) * x1 (ix3 (plane g) s (pcol g j)) := by
  have e : Cert.Reference10Ideal.Read.val_main_v15 (F := Ideal) x0 x1 (ix3 g k j)
      = ∑ s : Fin 2048, Cert.Reference10Ideal.Read.val_main_v9 (F := Ideal) x1
          (ix2 s ⟨g.val * 1408 + j.val, by have := g.isLt; have := j.isLt; omega⟩) * x0 (ix3 0 s (hrow k)) := by
    rw [show hrow k = ⟨1024 + k.val, by have := k.isLt; omega⟩ from rfl]
    pointwise [Cert.Reference10Ideal.Read.val_main_v15, Cert.Reference10Ideal.Read.val_main_v14, Cert.Reference10Ideal.Read.val_main_v13, Cert.Reference10Ideal.Read.val_main_v12, Cert.Reference10Ideal.Read.val_main_v11, Cert.Reference10Ideal.Read.val_main_v10, Cert.Reference10Ideal.Read.val_main_v1]
  rw [e]
  exact Finset.sum_congr rfl fun s _ => by rw [ref_cols, mul_comm]

variable (m : (ℓ : Loc nD τ sig) → Buf (Elt Ideal) ℓ)

theorem idx0 : ∀ t : Fin cfg0.N, win0_0.index t = ![0, t.val % 2 + 2] :=
  (by decide +kernel : ∀ t : Fin grid0.N, win0_0.index t = ![0, t.val % 2 + 2])
theorem idx1 : ∀ t : Fin cfg0.N, win0_1.index t = ![t.val / 2 / 4, 0, t.val / 2 % 4] :=
  (by decide +kernel : ∀ t : Fin grid0.N, win0_1.index t = ![t.val / 2 / 4, 0, t.val / 2 % 4])
theorem idx2 : ∀ t : Fin cfg0.N, win0_2.index t = ![t.val / 2, t.val % 2, 0] :=
  (by decide +kernel : ∀ t : Fin grid0.N, win0_2.index t = ![t.val / 2, t.val % 2, 0])

/-- The device whose columns point `t` computes. -/
def dev (t : Fin cfg0.N) : Fin 8 := ⟨t.val / 2, by have := t.isLt; have : cfg0.N = 16 := rfl; omega⟩

/-- Row `k` of the tile at point `t`, among the rows of this half. -/
def row (t : Fin cfg0.N) (k : Fin 512) : Fin 1024 := ⟨t.val % 2 * 512 + k.val, by have := k.isLt; omega⟩

theorem blk0 (c : Dev nD) (t : Fin cfg0.N) (s : Fin 2048) (k : Fin 512) :
    iblk m c 0 t (ix2 s k) = m ((c : Thread nD τ).loc main_arg0) (ix3 0 s (hrow (row t k))) := by
  blk_simp [iblk, idx0 t]
  entry_read
  pointwise
  blk_ext [idx0 t, row, hrow]

theorem blk1 (c : Dev nD) (t : Fin cfg0.N) (s : Fin 2048) (j : Fin 1408) :
    iblk m c 1 t (ix3 0 s j) = m ((c : Thread nD τ).loc main_arg1) (ix3 (plane (dev t)) s (pcol (dev t) j)) := by
  blk_simp [iblk, idx1 t]
  entry_read
  pointwise
  blk_ext [idx1 t, plane, pcol, dev]

/-- The result array is the reference's. -/
theorem final (c : Dev nD) :
    (dats m 0 c).arrAt 2 cfg0.N = Cert.Reference10Ideal.Read.val_main_v15 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain rfl : y0 = 0 := Subsingleton.elim _ _
  have hy : ((View.whole main_v3).slice (win0_2.rect t)).emb (ix3 0 y1 y2) = ix3 (dev t) (row t y1) y2 := by
    blk_ext [idx2 t, row, dev]
  rw [hy, pay1_apply, ref_apply]
  simp only [blk0, blk1]

end Cert.Kernel10Ideal.UpWeightGradHigh

/-! ## The claims -/

namespace Cert.Proof.UpWeightGradHighClaims

open Idealize.ShloMosaic Idealize.ShloMosaic.TcCoe Idealize.SL.Sem

theorem frame_p : Cert.quiescent_Kernel10 := fun m ρ _ => Cert.Kernel10.Gen.frame m ρ
theorem frame_pi : Cert.quiescent_Kernel10Ideal := fun m ρ _ => Cert.Kernel10Ideal.Gen.frame m ρ
theorem frame_ri : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

/-- The kernel and the reference end with the same weight gradient. -/
theorem algebraic : Cert.algebraic_Kernel10Ideal_Reference10Ideal := by
  intro m ρ m' ρ' _ hagree
  refine ⟨_, Cert.Kernel10Ideal.Value.run_blocks (F := Ideal) m ρ, ?_⟩
  refine (θ_run Cert.Reference10Ideal.defs _ _).mono (fun _ h c => ⟨(h c).1.trans ?_, (h c).2⟩)
    (Cert.Reference10Ideal.Value.run (F := Ideal) m' ρ')
  rw [(hagree c).1, (hagree c).2]
  exact (Cert.Kernel10Ideal.UpWeightGradHigh.final m c).symm

end Cert.Proof.UpWeightGradHighClaims

end
-- ==== Proof.MixProjection.lean ====
/- The projection into the mixing branches: the kernel's blocks, one device's columns after another, are read at an index
and are the reference's product. -/
module

public import proofs.«01_k».proof.Defs
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel11Ideal.MixProjection

open Cert.Kernel11Ideal Cert.Kernel11Ideal.Gen Idealize.ShloMosaic Idealize.ShloMosaic.TcCoe Idealize.SL.Sem
open Idealize.ShloMosaic.Pipeline (Dat)

/-- A block's product at a coordinate. -/
theorem pay1_apply (v0 : Vec Ideal S512x2048 .bf16) (v2 : Vec Ideal S1x2048x640 .bf16) (r : Fin 512) (j : Fin 640) :
    k0_pay1 (F := Ideal) v0 v2 (ix2 r j) = ∑ k : Fin 2048, v0 (ix2 r k) * v2 (ix3 0 k j) := by
  pointwise [k0_pay1]

/-- The reference's product at a coordinate. -/
theorem ref_apply (x0 : Vec Ideal S1x2048x2048 .f32) (x1 : Vec Ideal S2048x5120 .f32) (s : Fin 2048) (n : Fin 5120) :
    Cert.Reference11Ideal.Read.val_main_v1 (F := Ideal) x0 x1 (ix2 s n) = ∑ k : Fin 2048, x0 (ix3 0 s k) * x1 (ix2 k n) := by
  pointwise [Cert.Reference11Ideal.Read.val_main_v1, Cert.Reference11Ideal.Read.val_main_v0]

variable (m : (ℓ : Loc nD τ sig) → Buf (Elt Ideal) ℓ)

theorem idx0 : ∀ t : Fin cfg0.N, win0_0.index t = ![t.val % 4, 0] :=
  (by decide +kernel : ∀ t : Fin grid0.N, win0_0.index t = ![t.val % 4, 0])
theorem idx1 : ∀ t : Fin cfg0.N, win0_1.index t = ![t.val / 4, 0, 0] :=
  (by decide +kernel : ∀ t : Fin grid0.N, win0_1.index t = ![t.val / 4, 0, 0])
theorem idx2 : ∀ t : Fin cfg0.N, win0_2.index t = ![t.val % 4, t.val / 4] :=
  (by decide +kernel : ∀ t : Fin grid0.N, win0_2.index t = ![t.val % 4, t.val / 4])

/-- Row `r` of the tile at point `t`, among all the tokens. -/
def row (t : Fin cfg0.N) (r : Fin 512) : Fin 2048 := ⟨t.val % 4 * 512 + r.val, by have := r.isLt; omega⟩

/-- Column `j` of the tile at point `t`, among all the columns. -/
def col (t : Fin cfg0.N) (j : Fin 640) : Fin 5120 :=
  ⟨t.val / 4 * 640 + j.val, by have := t.isLt; have := j.isLt; have : cfg0.N = 32 := rfl; omega⟩

theorem blk0 (c : Dev nD) (t : Fin cfg0.N) (r : Fin 512) (k : Fin 2048) :
    iblk m c 0 t (ix2 r k) = m ((c : Thread nD τ).loc main_arg0) (ix3 0 (row t r) k) := by
  blk_simp [iblk, idx0 t]
  entry_read
  pointwise
  blk_ext [idx0 t, row]

theorem blk1 (c : Dev nD) (t : Fin cfg0.N) (k : Fin 2048) (j : Fin 640) :
    iblk m c 1 t (ix3 0 k j) = m ((c : Thread nD τ).loc main_arg1) (ix2 k (col t j)) := by
  blk_simp [iblk, idx1 t]
  entry_read
  pointwise
  blk_ext [idx1 t, col]

/-- The result array is the reference's. -/
theorem final (c : Dev nD) :
    (dats m 0 c).arrAt 2 cfg0.N = Cert.Reference11Ideal.Read.val_main_v1 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have hy : ((View.whole main_v5).slice (win0_2.rect t)).emb (ix2 y0 y1) = ix2 (row t y0) (col t y1) := by
    blk_ext [idx2 t, row, col]
  rw [hy, pay1_apply, ref_apply]
  simp only [blk0, blk1]

end Cert.Kernel11Ideal.MixProjection

/-! ## The claims -/

namespace Cert.Proof.MixProjectionClaims

open Idealize.ShloMosaic Idealize.ShloMosaic.TcCoe Idealize.SL.Sem

theorem frame_p : Cert.quiescent_Kernel11 := fun m ρ _ => Cert.Kernel11.Gen.frame m ρ
theorem frame_pi : Cert.quiescent_Kernel11Ideal := fun m ρ _ => Cert.Kernel11Ideal.Gen.frame m ρ
theorem frame_ri : Cert.quiescent_Reference11Ideal := fun m ρ _ =>
  (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- The kernel and the reference end with the same product. -/
theorem algebraic : Cert.algebraic_Kernel11Ideal_Reference11Ideal := by
  intro m ρ m' ρ' _ hagree
  refine ⟨_, Cert.Kernel11Ideal.Value.run_blocks (F := Ideal) m ρ, ?_⟩
  refine (θ_run Cert.Reference11Ideal.defs _ _).mono (fun _ h c => ⟨(h c).1.trans ?_, (h c).2⟩)
    (Cert.Reference11Ideal.Value.run (F := Ideal) m' ρ')
  rw [(hagree c).1, (hagree c).2]
  exact (Cert.Kernel11Ideal.MixProjection.final m c).symm

end Cert.Proof.MixProjectionClaims

end
-- ==== Proof.MixWeightGrad.lean ====
/- The weight gradient of the projection into the mixing branches: the kernel's blocks of `xᵀ · dz`, one device's columns
after another, are read at an index and are the columns of the gradient that the reference differentiates. -/
module

public import proofs.«01_k».proof.Defs
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel12Ideal.MixWeightGrad

open Cert.Kernel12Ideal Cert.Kernel12Ideal.Gen Idealize.ShloMosaic Idealize.ShloMosaic.TcCoe Idealize.SL.Sem
open Idealize.ShloMosaic.Pipeline (Dat)

/-- A block's product at a coordinate: the sum over the tokens. -/
theorem pay1_apply (v0 : Vec Ideal S2048x512 .bf16) (v2 : Vec Ideal S2048x640 .bf16) (k : Fin 512) (j : Fin 640) :
    k0_pay1 (F := Ideal) v0 v2 (ix3 0 k j) = ∑ s : Fin 2048, v0 (ix2 s k) * v2 (ix2 s j) := by
  pointwise [k0_pay1]

/-- Column `j` of device `g`, among all the columns. -/
def gcol (g : Fin 8) (j : Fin 640) : Fin 5120 := ⟨g.val * 640 + j.val, by have := g.isLt; have := j.isLt; omega⟩

/-- The reference's gradient at a coordinate. -/
theorem ref_apply (x0 : Vec Ideal S1x2048x2048 .f32) (x1 : Vec Ideal S1x2048x5120 .f32) (g : Fin 8) (k : Fin 2048) (j : Fin 640) :
    Cert.Reference12Ideal.Read.val_main_v8 (F := Ideal) x0 x1 (ix3 g k j)
      = ∑ s : Fin 2048, x0 (ix3 0 s k) * x1 (ix3 0 s (gcol g j)) := by
  have e : Cert.Reference12Ideal.Read.val_main_v8 (F := Ideal) x0 x1 (ix3 g k j)
      = ∑ s : Fin 2048, x1 (ix3 0 s (gcol g j)) * x0 (ix3 0 s k) := by
    rw [show gcol g j = ⟨g.val * 640 + j.val, by have := g.isLt; have := j.isLt; omega⟩ from rfl]
    pointwise [Cert.Reference12Ideal.Read.val_main_v8, Cert.Reference12Ideal.Read.val_main_v7, Cert.Reference12Ideal.Read.val_main_v6, Cert.Reference12Ideal.Read.val_main_v5, Cert.Reference12Ideal.Read.val_main_v4, Cert.Reference12Ideal.Read.val_main_v3, Cert.Reference12Ideal.Read.val_main_v1]
  rw [e]
  exact Finset.sum_congr rfl fun s _ => mul_comm _ _

variable (m : (ℓ : Loc nD τ sig) → Buf (Elt Ideal) ℓ)

theorem idx0 : ∀ t : Fin cfg0.N, win0_0.index t = ![0, t.val % 4] :=
  (by decide +kernel : ∀ t : Fin grid0.N, win0_0.index t = ![0, t.val % 4])
theorem idx1 : ∀ t : Fin cfg0.N, win0_1.index t = ![0, t.val / 4] :=
  (by decide +kernel : ∀ t : Fin grid0.N, win0_1.index t = ![0, t.val / 4])
theorem idx2 : ∀ t : Fin cfg0.N, win0_2.index t = ![t.val / 4, t.val % 4, 0] :=
  (by decide +kernel : ∀ t : Fin grid0.N, win0_2.index t = ![t.val / 4, t.val % 4, 0])

/-- The device whose columns point `t` computes. -/
def dev (t : Fin cfg0.N) : Fin 8 := ⟨t.val / 4, by have := t.isLt; have : cfg0.N = 32 := rfl; omega⟩

/-- Row `k` of the tile at point `t`, among all the channels. -/
def row (t : Fin cfg0.N) (k : Fin 512) : Fin 2048 := ⟨t.val % 4 * 512 + k.val, by have := k.isLt; omega⟩

theorem blk0 (c : Dev nD) (t : Fin cfg0.N) (s : Fin 2048) (k : Fin 512) :
    iblk m c 0 t (ix2 s k) = m ((c : Thread nD τ).loc main_arg0) (ix3 0 s (row t k)) := by
  blk_simp [iblk, idx0 t]
  entry_read
  pointwise
  blk_ext [idx0 t, row]

theorem blk1 (c : Dev nD) (t : Fin cfg0.N) (s : Fin 2048) (j : Fin 640) :
    iblk m c 1 t (ix2 s j) = m ((c : Thread nD τ).loc main_arg1) (ix3 0 s (gcol (dev t) j)) := by
  blk_simp [iblk, idx1 t]
  entry_read
  pointwise
  blk_ext [idx1 t, gcol, dev]

/-- The result array is the reference's. -/
theorem final (c : Dev nD) :
    (dats m 0 c).arrAt 2 cfg0.N = Cert.Reference12Ideal.Read.val_main_v8 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain rfl : y0 = 0 := Subsingleton.elim _ _
  have hy : ((View.whole main_v4).slice (win0_2.rect t)).emb (ix3 0 y1 y2) = ix3 (dev t) (row t y1) y2 := by
    blk_ext [idx2 t, row, dev]
  rw [hy, pay1_apply, ref_apply]
  simp only [blk0, blk1]

end Cert.Kernel12Ideal.MixWeightGrad

/-! ## The claims -/

namespace Cert.Proof.MixWeightGradClaims

open Idealize.ShloMosaic Idealize.ShloMosaic.TcCoe Idealize.SL.Sem

theorem frame_p : Cert.quiescent_Kernel12 := fun m ρ _ => Cert.Kernel12.Gen.frame m ρ
theorem frame_pi : Cert.quiescent_Kernel12Ideal := fun m ρ _ => Cert.Kernel12Ideal.Gen.frame m ρ
theorem frame_ri : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

/-- The kernel and the reference end with the same weight gradient. -/
theorem algebraic : Cert.algebraic_Kernel12Ideal_Reference12Ideal := by
  intro m ρ m' ρ' _ hagree
  refine ⟨_, Cert.Kernel12Ideal.Value.run_blocks (F := Ideal) m ρ, ?_⟩
  refine (θ_run Cert.Reference12Ideal.defs _ _).mono (fun _ h c => ⟨(h c).1.trans ?_, (h c).2⟩)
    (Cert.Reference12Ideal.Value.run (F := Ideal) m' ρ')
  rw [(hagree c).1, (hagree c).2]
  exact (Cert.Kernel12Ideal.MixWeightGrad.final m c).symm

end Cert.Proof.MixWeightGradClaims

end
-- ==== Proof.MixInputGrad.lean ====
/- The input gradient of the projection into the mixing branches: the kernel adds up one device's columns after another,
`dz · wᵀ` over eight groups of columns, and the sum is the gradient that the reference differentiates. -/
module

public import proofs.«01_k».proof.Defs
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel13Ideal.MixInputGrad

open Cert.Kernel13Ideal Cert.Kernel13Ideal.Gen Idealize.ShloMosaic Idealize.ShloMosaic.TcCoe Idealize.SL.Sem
open Idealize.ShloMosaic.Pipeline (Dat)

/-- One device's share at a coordinate: the sum over its columns. -/
theorem pay1_apply (v0 : Vec Ideal S1024x640 .bf16) (v2 : Vec Ideal S1x2048x640 .bf16) (r : Fin 1024) (k : Fin 2048) :
    k0_pay1 (F := Ideal) v0 v2 (ix2 r k) = ∑ j : Fin 640, v0 (ix2 r j) * v2 (ix3 0 k j) := by
  pointwise [k0_pay1]

theorem pay2_apply (v0 : Vec Ideal S1024x640 .bf16) (v2 : Vec Ideal S1x2048x640 .bf16) (v11 : Vec Ideal S1024x2048 .f32)
    (r : Fin 1024) (k : Fin 2048) :
    k0_pay2 (F := Ideal) v0 v2 v11 (ix2 r k) = v11 (ix2 r k) + ∑ j : Fin 640, v0 (ix2 r j) * v2 (ix3 0 k j) := by
  pointwise [k0_pay2, k0_pay1]

/-- Column `j` of device `g`, among all the columns. -/
def gcol (g : Fin 8) (j : Fin 640) : Fin 5120 := ⟨g.val * 640 + j.val, by have := g.isLt; have := j.isLt; omega⟩

/-- A sum over the columns, device by device. -/
theorem sum_cols {M : Type*} [AddCommMonoid M] (f : Fin 5120 → M) : ∑ n, f n = ∑ g, ∑ j, f (gcol g j) :=
  Fin.sum_univ_tiles 8 640 rfl f

/-- Device `g`'s share of the gradient at a token and a channel. -/
def share (x0 : Vec Ideal S1x2048x5120 .f32) (x1 : Vec Ideal S2048x5120 .f32) (s k : Fin 2048) (g : Fin 8) : EReal :=
  ∑ j : Fin 640, x0 (ix3 0 s (gcol g j)) * x1 (ix2 k (gcol g j))

/-- The reference's gradient at a coordinate. -/
theorem ref_apply (x0 : Vec Ideal S1x2048x5120 .f32) (x1 : Vec Ideal S2048x5120 .f32) (s k : Fin 2048) :
    Cert.Reference13Ideal.Read.val_main_v3 (F := Ideal) x0 x1 (ix2 s k) = ∑ g, share x0 x1 s k g := by
  have e : Cert.Reference13Ideal.Read.val_main_v3 (F := Ideal) x0 x1 (ix2 s k)
      = ∑ n : Fin 5120, x0 (ix3 0 s n) * x1 (ix2 k n) := by
    pointwise [Cert.Reference13Ideal.Read.val_main_v3, Cert.Reference13Ideal.Read.val_main_v2]
  rw [e, sum_cols]
  rfl

variable (m : (ℓ : Loc nD τ sig) → Buf (Elt Ideal) ℓ)

theorem idx0 : ∀ t : Fin cfg0.N, win0_0.index t = ![t.val / 8, t.val % 8] :=
  (by decide +kernel : ∀ t : Fin grid0.N, win0_0.index t = ![t.val / 8, t.val % 8])
theorem idx1 : ∀ t : Fin cfg0.N, win0_1.index t = ![t.val % 8, 0, 0] :=
  (by decide +kernel : ∀ t : Fin grid0.N, win0_1.index t = ![t.val % 8, 0, 0])
theorem idx2 : ∀ t : Fin cfg0.N, win0_2.index t = ![t.val / 8, 0] :=
  (by decide +kernel : ∀ t : Fin grid0.N, win0_2.index t = ![t.val / 8, 0])

/-- The device whose columns point `t` adds. -/
def dev (t : Fin cfg0.N) : Fin 8 := ⟨t.val % 8, by omega⟩

/-- Row `r` of the tile at point `t`, among all the tokens. -/
def row (t : Fin cfg0.N) (r : Fin 1024) : Fin 2048 :=
  ⟨t.val / 8 * 1024 + r.val, by have := t.isLt; have := r.isLt; have : cfg0.N = 16 := rfl; omega⟩

theorem blk0 (c : Dev nD) (t : Fin cfg0.N) (r : Fin 1024) (j : Fin 640) :
    iblk m c 0 t (ix2 r j) = m ((c : Thread nD τ).loc main_arg0) (ix3 0 (row t r) (gcol (dev t) j)) := by
  blk_simp [iblk, idx0 t]
  entry_read
  pointwise
  blk_ext [idx0 t, gcol, dev, row]

theorem blk1 (c : Dev nD) (t : Fin cfg0.N) (k : Fin 2048) (j : Fin 640) :
    iblk m c 1 t (ix3 0 k j) = m ((c : Thread nD τ).loc main_arg1) (ix2 k (gcol (dev t) j)) := by
  blk_simp [iblk, idx1 t]
  entry_read
  pointwise
  blk_ext [idx1 t, gcol, dev]

/-- The first point of a tile stores its device's share. -/
theorem out_A (c : Dev nD) (t : Fin cfg0.N) (h0 : t.val % 8 = 0) (r : Fin 1024) (k : Fin 2048) :
    outsAt0 m c t.val t.isLt (ix2 r k)
      = share (m ((c : Thread nD τ).loc main_arg0)) (m ((c : Thread nD τ).loc main_arg1)) (row t r) k (dev t) := by
  rw [outsAt0_A m c t h0 (by omega)]
  frame_open
  frame_out
  rw [pay1_apply]
  simp only [blk0, blk1, share]

/-- A later point adds its device's share to what the point before left. -/
theorem out_B (c : Dev nD) (t : Fin cfg0.N) (h0 : ¬t.val % 8 = 0) (r : Fin 1024) (k : Fin 2048) :
    outsAt0 m c t.val t.isLt (ix2 r k)
      = outsAt0 m c (t.val - 1) (Nat.lt_of_le_of_lt (Nat.sub_le _ _) t.isLt) (ix2 r k)
        + share (m ((c : Thread nD τ).loc main_arg0)) (m ((c : Thread nD τ).loc main_arg1)) (row t r) k (dev t) := by
  rw [outsAt0_B m c t h0 (by omega)]
  frame_open
  frame_out
  rw [pay2_apply]
  simp only [blk0, blk1, share]

/-- The sum over the devices before the `n`-th. -/
def before (f : Fin 8 → EReal) (n : ℕ) : EReal := ∑ i ∈ Finset.range n, if h : i < 8 then f ⟨i, h⟩ else 0

theorem before_succ (f : Fin 8 → EReal) (n : ℕ) (h : n < 8) : before f (n + 1) = before f n + f ⟨n, h⟩ := by
  rw [before, Finset.sum_range_succ, dif_pos h]; rfl
theorem before_all (f : Fin 8 → EReal) : before f 8 = ∑ g, f g := by
  rw [before, ← Fin.sum_univ_eq_sum_range (fun i => if h : i < 8 then f ⟨i, h⟩ else 0)]
  exact Finset.sum_congr rfl fun g _ => dif_pos g.isLt

/-- After a point the tile holds the shares of the devices up to the point's own. -/
theorem after (c : Dev nD) : ∀ (n : ℕ) (h : n < cfg0.N) (r : Fin 1024) (k : Fin 2048),
    outsAt0 m c n h (ix2 r k)
      = before (share (m ((c : Thread nD τ).loc main_arg0)) (m ((c : Thread nD τ).loc main_arg1)) (row ⟨n, h⟩ r) k) (n % 8 + 1)
  | 0, h, r, k => by
    rw [before_succ _ _ (by omega)]
    refine (out_A m c ⟨0, h⟩ rfl r k).trans ?_
    rw [show before _ (0 % 8) = 0 from Finset.sum_range_zero _, zero_add]
    rfl
  | n + 1, h, r, k => by
    have P := after c n (Nat.lt_of_succ_lt h) r k
    rw [before_succ _ _ (by omega)]
    by_cases h0 : (n + 1) % 8 = 0
    · refine (out_A m c ⟨n + 1, h⟩ h0 r k).trans ?_
      rw [show ∀ f, before f ((n + 1) % 8) = 0 from fun f => by rw [h0]; exact Finset.sum_range_zero _, zero_add]
      rfl
    · refine (out_B m c ⟨n + 1, h⟩ h0 r k).trans ?_
      refine congrArg₂ (fun a b : EReal => a + b) (P.trans ?_) rfl
      rw [show n % 8 + 1 = (n + 1) % 8 by omega,
        show row ⟨n, Nat.lt_of_succ_lt h⟩ r = row ⟨n + 1, h⟩ r from Fin.ext (by simp only [row]; omega)]

/-- The result array is the reference's. -/
theorem final (c : Dev nD) :
    (dats m 0 c).arrAt 2 cfg0.N = Cert.Reference13Ideal.Read.val_main_v3 (F := Ideal)
      (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2]
  idx_vars y
  have hy : ((View.whole main_v5).slice (win0_2.rect t)).emb (ix2 y0 y1) = ix2 (row t y0) y1 := by
    blk_ext [idx2 t, row]
  rw [hy, ref_apply, ← before_all]
  refine (after m c t.val t.isLt y0 y1).trans ?_
  rw [h7]

end Cert.Kernel13Ideal.MixInputGrad

/-! ## The claims -/

namespace Cert.Proof.MixInputGradClaims

open Idealize.ShloMosaic Idealize.ShloMosaic.TcCoe Idealize.SL.Sem

theorem frame_p : Cert.quiescent_Kernel13 := fun m ρ _ => Cert.Kernel13.Gen.frame m ρ
theorem frame_pi : Cert.quiescent_Kernel13Ideal := fun m ρ _ => Cert.Kernel13Ideal.Gen.frame m ρ
theorem frame_ri : Cert.quiescent_Reference13Ideal := fun m ρ _ =>
  (θ_run Cert.Reference13Ideal.defs _ _).mono (fun r h => ⟨fun c => (h c).2,
      Idealize.ShloMosaic.sem_eq_zero_of_no_sems (by decide) r.2⟩)
    (Cert.Reference13Ideal.Value.run (F := Ideal) m ρ)

/-- The kernel and the reference end with the same input gradient. -/
theorem algebraic : Cert.algebraic_Kernel13Ideal_Reference13Ideal := by
  intro m ρ m' ρ' _ hagree
  refine ⟨_, Cert.Kernel13Ideal.Value.run_blocks (F := Ideal) m ρ, ?_⟩
  refine (θ_run Cert.Reference13Ideal.defs _ _).mono (fun _ h c => ⟨(h c).1.trans ?_, (h c).2⟩)
    (Cert.Reference13Ideal.Value.run (F := Ideal) m' ρ')
  rw [(hagree c).1, (hagree c).2]
  exact (Cert.Kernel13Ideal.MixInputGrad.final m c).symm

end Cert.Proof.MixInputGradClaims

end
-- ==== Proof.SquareWeightGrad.lean ====
/- The weight gradient of a projection between two arrays as wide as the model, `w_mix_out`, `w_cq` or `w_co`: the kernel's blocks of rows of `xᵀ · dy` are read at
an index and are the rows of the gradient that the reference differentiates. -/
module

public import proofs.«01_k».proof.Defs
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel14Ideal.SquareWeightGrad

open Cert.Kernel14Ideal Cert.Kernel14Ideal.Gen Idealize.ShloMosaic Idealize.ShloMosaic.TcCoe Idealize.SL.Sem
open Idealize.ShloMosaic.Pipeline (Dat)

/-- A block's product at a coordinate: the sum over the tokens. -/
theorem pay1_apply (v0 : Vec Ideal S2048x512 .bf16) (v2 : Vec Ideal S2048x2048 .bf16) (k : Fin 512) (d : Fin 2048) :
    k0_pay1 (F := Ideal) v0 v2 (ix2 k d) = ∑ s : Fin 2048, v0 (ix2 s k) * v2 (ix2 s d) := by
  pointwise [k0_pay1]

/-- The reference's gradient at a coordinate. -/
theorem ref_apply (x0 : Vec Ideal S1x2048x2048 .f32) (x1 : Vec Ideal S1x2048x2048 .f32) (k : Fin 2048) (d : Fin 2048) :
    Cert.Reference14Ideal.Read.val_main_v6 (F := Ideal) x0 x1 (ix2 k d)
      = ∑ s : Fin 2048, x0 (ix3 0 s k) * x1 (ix3 0 s d) := by
  have e : Cert.Reference14Ideal.Read.val_main_v6 (F := Ideal) x0 x1 (ix2 k d)
      = ∑ s : Fin 2048, x1 (ix3 0 s d) * x0 (ix3 0 s k) := by
    pointwise [Cert.Reference14Ideal.Read.val_main_v6, Cert.Reference14Ideal.Read.val_main_v5, Cert.Reference14Ideal.Read.val_main_v4, Cert.Reference14Ideal.Read.val_main_v3, Cert.Reference14Ideal.Read.val_main_v1]
  rw [e]
  exact Finset.sum_congr rfl fun s _ => mul_comm _ _

variable (m : (ℓ : Loc nD τ sig) → Buf (Elt Ideal) ℓ)

theorem idx0 : ∀ t : Fin cfg0.N, win0_0.index t = ![0, t.val] :=
  (by decide +kernel : ∀ t : Fin grid0.N, win0_0.index t = ![0, t.val])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])

/-- Row `k` of tile `t`, among all the channels. -/
def row (t : Fin cfg0.N) (k : Fin 512) : Fin 2048 :=
  ⟨t.val * 512 + k.val, by have := t.isLt; have := k.isLt; have : cfg0.N = 4 := rfl; omega⟩

theorem blk0 (c : Dev nD) (t : Fin cfg0.N) (s : Fin 2048) (k : Fin 512) :
    iblk m c 0 t (ix2 s k) = m ((c : Thread nD τ).loc main_arg0) (ix3 0 s (row t k)) := by
  blk_simp [iblk, idx0 t]
  entry_read
  pointwise
  blk_ext [idx0 t, row]

theorem blk1 (c : Dev nD) (t : Fin cfg0.N) (s d : Fin 2048) :
    iblk m c 1 t (ix2 s d) = m ((c : Thread nD τ).loc main_arg1) (ix3 0 s d) := by
  blk_simp [iblk, idx1 t]
  entry_read
  pointwise
  blk_ext [idx1 t]

/-- The result array is the reference's. -/
theorem final (c : Dev nD) :
    (dats m 0 c).arrAt 2 cfg0.N = Cert.Reference14Ideal.Read.val_main_v6 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have hy : ((View.whole main_v4).slice (win0_2.rect t)).emb (ix2 y0 y1) = ix2 (row t y0) y1 := by
    blk_ext [idx2 t, row]
  rw [hy, pay1_apply, ref_apply]
  simp only [blk0, blk1]

end Cert.Kernel14Ideal.SquareWeightGrad

/-! ## The claims -/

namespace Cert.Proof.SquareWeightGradClaims

open Idealize.ShloMosaic Idealize.ShloMosaic.TcCoe Idealize.SL.Sem

theorem frame_p : Cert.quiescent_Kernel14 := fun m ρ _ => Cert.Kernel14.Gen.frame m ρ
theorem frame_pi : Cert.quiescent_Kernel14Ideal := fun m ρ _ => Cert.Kernel14Ideal.Gen.frame m ρ
theorem frame_ri : Cert.quiescent_Reference14Ideal := fun m ρ _ =>
  (θ_run Cert.Reference14Ideal.defs _ _).mono (fun r h => ⟨fun c => (h c).2,
      Idealize.ShloMosaic.sem_eq_zero_of_no_sems (by decide) r.2⟩)
    (Cert.Reference14Ideal.Value.run (F := Ideal) m ρ)

/-- The kernel and the reference end with the same weight gradient. -/
theorem algebraic : Cert.algebraic_Kernel14Ideal_Reference14Ideal := by
  intro m ρ m' ρ' _ hagree
  refine ⟨_, Cert.Kernel14Ideal.Value.run_blocks (F := Ideal) m ρ, ?_⟩
  refine (θ_run Cert.Reference14Ideal.defs _ _).mono (fun _ h c => ⟨(h c).1.trans ?_, (h c).2⟩)
    (Cert.Reference14Ideal.Value.run (F := Ideal) m' ρ')
  rw [(hagree c).1, (hagree c).2]
  exact (Cert.Kernel14Ideal.SquareWeightGrad.final m c).symm

end Cert.Proof.SquareWeightGradClaims

end
-- ==== Proof.SquareInputGrad.lean ====
/- The input gradient, kept in full precision, of a projection between two arrays as wide as the model, `w_mix_out` or
`w_cq`: the kernel's blocks of columns of `dy · wᵀ` are read at an index and are the reference's. -/
module

public import proofs.«01_k».proof.Defs
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel15Ideal.SquareInputGrad

open Cert.Kernel15Ideal Cert.Kernel15Ideal.Gen Idealize.ShloMosaic Idealize.ShloMosaic.TcCoe Idealize.SL.Sem
open Idealize.ShloMosaic.Pipeline (Dat)

/-- A block's product at a coordinate: the sum over the outputs. -/
theorem pay1_apply (v0 : Vec Ideal S2048x2048 .bf16) (v2 : Vec Ideal S512x2048 .bf16) (s : Fin 2048) (k : Fin 512) :
    k0_pay1 (F := Ideal) v0 v2 (ix2 s k) = ∑ d : Fin 2048, v0 (ix2 s d) * v2 (ix2 k d) := by
  pointwise [k0_pay1]

/-- The reference's gradient at a coordinate. -/
theorem ref_apply (x0 : Vec Ideal S1x2048x2048 .f32) (x1 : Vec Ideal S2048x2048 .f32) (s k : Fin 2048) :
    Cert.Reference15Ideal.Read.val_main_v3 (F := Ideal) x0 x1 (ix2 s k) = ∑ d : Fin 2048, x0 (ix3 0 s d) * x1 (ix2 k d) := by
  pointwise [Cert.Reference15Ideal.Read.val_main_v3, Cert.Reference15Ideal.Read.val_main_v2]

variable (m : (ℓ : Loc nD τ sig) → Buf (Elt Ideal) ℓ)

theorem idx0 : ∀ t : Fin cfg0.N, win0_0.index t = ![0, 0] :=
  (by decide +kernel : ∀ t : Fin grid0.N, win0_0.index t = ![0, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, t.val] :=
  (by decide +kernel : ∀ t : Fin grid0.N, win0_2.index t = ![0, t.val])

/-- Channel `k` of tile `t`, among all the channels. -/
def col (t : Fin cfg0.N) (k : Fin 512) : Fin 2048 :=
  ⟨t.val * 512 + k.val, by have := t.isLt; have := k.isLt; have : cfg0.N = 4 := rfl; omega⟩

theorem blk0 (c : Dev nD) (t : Fin cfg0.N) (s d : Fin 2048) :
    iblk m c 0 t (ix2 s d) = m ((c : Thread nD τ).loc main_arg0) (ix3 0 s d) := by
  blk_simp [iblk, idx0 t]
  entry_read
  pointwise
  blk_ext [idx0 t]

theorem blk1 (c : Dev nD) (t : Fin cfg0.N) (k : Fin 512) (d : Fin 2048) :
    iblk m c 1 t (ix2 k d) = m ((c : Thread nD τ).loc main_arg1) (ix2 (col t k) d) := by
  blk_simp [iblk, idx1 t]
  entry_read
  pointwise
  blk_ext [idx1 t, col]

/-- The result array is the reference's. -/
theorem final (c : Dev nD) :
    (dats m 0 c).arrAt 2 cfg0.N = Cert.Reference15Ideal.Read.val_main_v3 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have hy : ((View.whole main_v3).slice (win0_2.rect t)).emb (ix2 y0 y1) = ix2 y0 (col t y1) := by
    blk_ext [idx2 t, col]
  rw [hy, pay1_apply, ref_apply]
  simp only [blk0, blk1]

end Cert.Kernel15Ideal.SquareInputGrad

/-! ## The claims -/

namespace Cert.Proof.SquareInputGradClaims

open Idealize.ShloMosaic Idealize.ShloMosaic.TcCoe Idealize.SL.Sem

theorem frame_p : Cert.quiescent_Kernel15 := fun m ρ _ => Cert.Kernel15.Gen.frame m ρ
theorem frame_pi : Cert.quiescent_Kernel15Ideal := fun m ρ _ => Cert.Kernel15Ideal.Gen.frame m ρ
theorem frame_ri : Cert.quiescent_Reference15Ideal := fun m ρ _ =>
  (θ_run Cert.Reference15Ideal.defs _ _).mono (fun r h => ⟨fun c => (h c).2,
      Idealize.ShloMosaic.sem_eq_zero_of_no_sems (by decide) r.2⟩)
    (Cert.Reference15Ideal.Value.run (F := Ideal) m ρ)

/-- The kernel and the reference end with the same input gradient. -/
theorem algebraic : Cert.algebraic_Kernel15Ideal_Reference15Ideal := by
  intro m ρ m' ρ' _ hagree
  refine ⟨_, Cert.Kernel15Ideal.Value.run_blocks (F := Ideal) m ρ, ?_⟩
  refine (θ_run Cert.Reference15Ideal.defs _ _).mono (fun _ h c => ⟨(h c).1.trans ?_, (h c).2⟩)
    (Cert.Reference15Ideal.Value.run (F := Ideal) m' ρ')
  rw [(hagree c).1, (hagree c).2]
  exact (Cert.Kernel15Ideal.SquareInputGrad.final m c).symm

end Cert.Proof.SquareInputGradClaims

end
-- ==== Proof.SquareProjection.lean ====
/- A projection between two arrays as wide as the model, `w_mix_out` or `w_co`, added to the residual stream: the kernel's
blocks are read at an index and are the reference's. -/
module

public import proofs.«01_k».proof.Defs
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel16Ideal.SquareProjection

open Cert.Kernel16Ideal Cert.Kernel16Ideal.Gen Idealize.ShloMosaic Idealize.ShloMosaic.TcCoe Idealize.SL.Sem
open Idealize.ShloMosaic.Pipeline (Dat)

/-- A block at a coordinate: the residual and the product. -/
theorem pay1_apply (v0 : Vec Ideal S512x1024 .f32) (v2 : Vec Ideal S512x2048 .bf16) (v4 : Vec Ideal S2048x1024 .bf16)
    (r : Fin 512) (d : Fin 1024) :
    k0_pay1 (F := Ideal) v0 v2 v4 (ix2 r d)
      = v0 (ix2 r d) + ∑ k : Fin 2048, v2 (ix2 r k) * v4 (ix2 k d) := by
  pointwise [k0_pay1]

/-- The reference at a coordinate. -/
theorem ref_apply (x0 : Vec Ideal S1x2048x2048 .f32) (x1 : Vec Ideal S2048x2048 .f32) (x2 : Vec Ideal S1x2048x2048 .f32)
    (r d : Fin 2048) :
    Cert.Reference16Ideal.Read.val_main_v3 (F := Ideal) x0 x1 x2 (ix2 r d)
      = x2 (ix3 0 r d) + ∑ k : Fin 2048, x0 (ix3 0 r k) * x1 (ix2 k d) := by
  pointwise [Cert.Reference16Ideal.Read.val_main_v3, Cert.Reference16Ideal.Read.val_main_v2, Cert.Reference16Ideal.Read.val_main_v1, Cert.Reference16Ideal.Read.val_main_v0]

variable (m : (ℓ : Loc nD τ sig) → Buf (Elt Ideal) ℓ)

theorem idx0 : ∀ t : Fin cfg0.N, win0_0.index t = ![t.val % 4, 0] :=
  (by decide +kernel : ∀ t : Fin grid0.N, win0_0.index t = ![t.val % 4, 0])
theorem idx1 : ∀ t : Fin cfg0.N, win0_1.index t = ![0, t.val / 4] :=
  (by decide +kernel : ∀ t : Fin grid0.N, win0_1.index t = ![0, t.val / 4])
theorem idx2 : ∀ t : Fin cfg0.N, win0_2.index t = ![t.val % 4, t.val / 4] :=
  (by decide +kernel : ∀ t : Fin grid0.N, win0_2.index t = ![t.val % 4, t.val / 4])
theorem idx3 : ∀ t : Fin cfg0.N, win0_3.index t = ![t.val % 4, t.val / 4] :=
  (by decide +kernel : ∀ t : Fin grid0.N, win0_3.index t = ![t.val % 4, t.val / 4])

/-- Row `r` of the tile at point `t`, among all the tokens. -/
def row (t : Fin cfg0.N) (r : Fin 512) : Fin 2048 :=
  ⟨t.val % 4 * 512 + r.val, by have := r.isLt; omega⟩

/-- Column `d` of the tile at point `t`, among all the channels. -/
def col (t : Fin cfg0.N) (d : Fin 1024) : Fin 2048 :=
  ⟨t.val / 4 * 1024 + d.val, by have := t.isLt; have := d.isLt; have : cfg0.N = 8 := rfl; omega⟩

theorem blk0 (c : Dev nD) (t : Fin cfg0.N) (r : Fin 512) (k : Fin 2048) :
    iblk m c 0 t (ix2 r k) = m ((c : Thread nD τ).loc main_arg0) (ix3 0 (row t r) k) := by
  blk_simp [iblk, idx0 t]
  entry_read
  pointwise
  blk_ext [idx0 t, row]

theorem blk1 (c : Dev nD) (t : Fin cfg0.N) (k : Fin 2048) (d : Fin 1024) :
    iblk m c 1 t (ix2 k d) = m ((c : Thread nD τ).loc main_arg1) (ix2 k (col t d)) := by
  blk_simp [iblk, idx1 t]
  entry_read
  pointwise
  blk_ext [idx1 t, col]

theorem blk2 (c : Dev nD) (t : Fin cfg0.N) (r : Fin 512) (d : Fin 1024) :
    iblk m c 2 t (ix2 r d) = m ((c : Thread nD τ).loc main_arg2) (ix3 0 (row t r) (col t d)) := by
  blk_simp [iblk, idx2 t]
  entry_read
  pointwise
  blk_ext [idx2 t, row, col]

/-- The result array is the reference's. -/
theorem final (c : Dev nD) :
    (dats m 0 c).arrAt 3 cfg0.N = Cert.Reference16Ideal.Read.val_main_v3 (F := Ideal)
      (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  idx_vars y
  have hy : ((View.whole main_v4).slice (win0_3.rect t)).emb (ix2 y0 y1) = ix2 (row t y0) (col t y1) := by
    blk_ext [idx3 t, row, col]
  rw [hy, pay1_apply, ref_apply, blk2]
  simp only [blk0, blk1]

end Cert.Kernel16Ideal.SquareProjection

/-! ## The claims -/

namespace Cert.Proof.SquareProjectionClaims

open Idealize.ShloMosaic Idealize.ShloMosaic.TcCoe Idealize.SL.Sem

theorem frame_p : Cert.quiescent_Kernel16 := fun m ρ _ => Cert.Kernel16.Gen.frame m ρ
theorem frame_pi : Cert.quiescent_Kernel16Ideal := fun m ρ _ => Cert.Kernel16Ideal.Gen.frame m ρ
theorem frame_ri : Cert.quiescent_Reference16Ideal := fun m ρ _ =>
  (θ_run Cert.Reference16Ideal.defs _ _).mono (fun r h => ⟨fun c => (h c).2,
      Idealize.ShloMosaic.sem_eq_zero_of_no_sems (by decide) r.2⟩)
    (Cert.Reference16Ideal.Value.run (F := Ideal) m ρ)

/-- The kernel and the reference end with the same residual stream. -/
theorem algebraic : Cert.algebraic_Kernel16Ideal_Reference16Ideal := by
  intro m ρ m' ρ' _ hagree
  refine ⟨_, Cert.Kernel16Ideal.Value.run_blocks (F := Ideal) m ρ, ?_⟩
  refine (θ_run Cert.Reference16Ideal.defs _ _).mono (fun _ h c => ⟨(h c).1.trans ?_, (h c).2⟩)
    (Cert.Reference16Ideal.Value.run (F := Ideal) m' ρ')
  rw [(hagree c).1, (hagree c).2.1, (hagree c).2.2]
  exact (Cert.Kernel16Ideal.SquareProjection.final m c).symm

end Cert.Proof.SquareProjectionClaims

end
-- ==== Proof.QueryProjection.lean ====
/- The query projection of the cross-attention with its scale, rounded for the calls that read it: the kernel's blocks are
read at an index and are the reference's. -/
module

public import proofs.«01_k».proof.Defs
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel17Ideal.QueryProjection

open Cert.Kernel17Ideal Cert.Kernel17Ideal.Gen Idealize.ShloMosaic Idealize.ShloMosaic.TcCoe Idealize.SL.Sem
open Idealize.ShloMosaic.Pipeline (Dat)

/-- A block at a coordinate: the product, scaled. -/
theorem pay1_apply (v0 : Vec Ideal S512x2048 .bf16) (v2 : Vec Ideal S2048x1024 .bf16) (r : Fin 512) (d : Fin 1024) :
    k0_pay1 (F := Ideal) v0 v2 (ix2 r d) = (∑ k : Fin 2048, v0 (ix2 r k) * v2 (ix2 k d)) * Ideal.ofBits .f32 0x3D3504F3#32 := by
  pointwise [k0_pay1]

/-- The reference at a coordinate. -/
theorem ref_apply (x0 : Vec Ideal S1x2048x2048 .f32) (x1 : Vec Ideal S2048x2048 .f32) (r d : Fin 2048) :
    Cert.Reference17Ideal.Read.val_main_v4 (F := Ideal) x0 x1 (ix2 r d)
      = (∑ k : Fin 2048, x0 (ix3 0 r k) * x1 (ix2 k d)) * Ideal.ofBits .f32 0x3D3504F3#32 := by
  pointwise [Cert.Reference17Ideal.Read.val_main_v4, Cert.Reference17Ideal.Read.val_main_v3, Cert.Reference17Ideal.Read.val_main_v2, Cert.Reference17Ideal.Read.val_main_cst, Cert.Reference17Ideal.Read.val_main_v1, Cert.Reference17Ideal.Read.val_main_v0]

variable (m : (ℓ : Loc nD τ sig) → Buf (Elt Ideal) ℓ)

theorem idx0 : ∀ t : Fin cfg0.N, win0_0.index t = ![t.val % 4, 0] :=
  (by decide +kernel : ∀ t : Fin grid0.N, win0_0.index t = ![t.val % 4, 0])
theorem idx1 : ∀ t : Fin cfg0.N, win0_1.index t = ![0, t.val / 4] :=
  (by decide +kernel : ∀ t : Fin grid0.N, win0_1.index t = ![0, t.val / 4])
theorem idx2 : ∀ t : Fin cfg0.N, win0_2.index t = ![t.val % 4, t.val / 4] :=
  (by decide +kernel : ∀ t : Fin grid0.N, win0_2.index t = ![t.val % 4, t.val / 4])

/-- Row `r` of the tile at point `t`, among all the tokens. -/
def row (t : Fin cfg0.N) (r : Fin 512) : Fin 2048 :=
  ⟨t.val % 4 * 512 + r.val, by have := r.isLt; omega⟩

/-- Column `d` of the tile at point `t`, among all the channels. -/
def col (t : Fin cfg0.N) (d : Fin 1024) : Fin 2048 :=
  ⟨t.val / 4 * 1024 + d.val, by have := t.isLt; have := d.isLt; have : cfg0.N = 8 := rfl; omega⟩

theorem blk0 (c : Dev nD) (t : Fin cfg0.N) (r : Fin 512) (k : Fin 2048) :
    iblk m c 0 t (ix2 r k) = m ((c : Thread nD τ).loc main_arg0) (ix3 0 (row t r) k) := by
  blk_simp [iblk, idx0 t]
  entry_read
  pointwise
  blk_ext [idx0 t, row]

theorem blk1 (c : Dev nD) (t : Fin cfg0.N) (k : Fin 2048) (d : Fin 1024) :
    iblk m c 1 t (ix2 k d) = m ((c : Thread nD τ).loc main_arg1) (ix2 k (col t d)) := by
  blk_simp [iblk, idx1 t]
  entry_read
  pointwise
  blk_ext [idx1 t, col]

/-- The result array is the reference's. -/
theorem final (c : Dev nD) :
    (dats m 0 c).arrAt 2 cfg0.N = Cert.Reference17Ideal.Read.val_main_v4 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have hy : ((View.whole main_v3).slice (win0_2.rect t)).emb (ix2 y0 y1) = ix2 (row t y0) (col t y1) := by
    blk_ext [idx2 t, row, col]
  rw [hy, pay1_apply, ref_apply]
  simp only [blk0, blk1]

end Cert.Kernel17Ideal.QueryProjection

/-! ## The claims -/

namespace Cert.Proof.QueryProjectionClaims

open Idealize.ShloMosaic Idealize.ShloMosaic.TcCoe Idealize.SL.Sem

theorem frame_p : Cert.quiescent_Kernel17 := fun m ρ _ => Cert.Kernel17.Gen.frame m ρ
theorem frame_pi : Cert.quiescent_Kernel17Ideal := fun m ρ _ => Cert.Kernel17Ideal.Gen.frame m ρ
theorem frame_ri : Cert.quiescent_Reference17Ideal := fun m ρ _ =>
  (θ_run Cert.Reference17Ideal.defs _ _).mono (fun r h => ⟨fun c => (h c).2,
      Idealize.ShloMosaic.sem_eq_zero_of_no_sems (by decide) r.2⟩)
    (Cert.Reference17Ideal.Value.run (F := Ideal) m ρ)

/-- The kernel and the reference end with the same queries. -/
theorem algebraic : Cert.algebraic_Kernel17Ideal_Reference17Ideal := by
  intro m ρ m' ρ' _ hagree
  refine ⟨_, Cert.Kernel17Ideal.Value.run_blocks (F := Ideal) m ρ, ?_⟩
  refine (θ_run Cert.Reference17Ideal.defs _ _).mono (fun _ h c => ⟨(h c).1.trans ?_, (h c).2⟩)
    (Cert.Reference17Ideal.Value.run (F := Ideal) m' ρ')
  rw [(hagree c).1, (hagree c).2]
  exact (Cert.Kernel17Ideal.QueryProjection.final m c).symm

end Cert.Proof.QueryProjectionClaims

end
-- ==== Proof.SquareInputGradRounded.lean ====
/- The input gradient, rounded for the calls that read it, of the projection out of the cross-attention: the kernel's
blocks of columns of `dy · wᵀ` are read at an index and are the reference's. -/
module

public import proofs.«01_k».proof.Defs
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel18Ideal.SquareInputGradRounded

open Cert.Kernel18Ideal Cert.Kernel18Ideal.Gen Idealize.ShloMosaic Idealize.ShloMosaic.TcCoe Idealize.SL.Sem
open Idealize.ShloMosaic.Pipeline (Dat)

/-- A block's product at a coordinate: the sum over the outputs. -/
theorem pay1_apply (v0 : Vec Ideal S2048x2048 .bf16) (v2 : Vec Ideal S512x2048 .bf16) (s : Fin 2048) (k : Fin 512) :
    k0_pay1 (F := Ideal) v0 v2 (ix2 s k) = ∑ d : Fin 2048, v0 (ix2 s d) * v2 (ix2 k d) := by
  pointwise [k0_pay1]

/-- The reference's gradient at a coordinate. -/
theorem ref_apply (x0 : Vec Ideal S1x2048x2048 .f32) (x1 : Vec Ideal S2048x2048 .f32) (s k : Fin 2048) :
    Cert.Reference18Ideal.Read.val_main_v4 (F := Ideal) x0 x1 (ix2 s k) = ∑ d : Fin 2048, x0 (ix3 0 s d) * x1 (ix2 k d) := by
  pointwise [Cert.Reference18Ideal.Read.val_main_v4, Cert.Reference18Ideal.Read.val_main_v3, Cert.Reference18Ideal.Read.val_main_v2]

variable (m : (ℓ : Loc nD τ sig) → Buf (Elt Ideal) ℓ)

theorem idx0 : ∀ t : Fin cfg0.N, win0_0.index t = ![0, 0] :=
  (by decide +kernel : ∀ t : Fin grid0.N, win0_0.index t = ![0, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, t.val] :=
  (by decide +kernel : ∀ t : Fin grid0.N, win0_2.index t = ![0, t.val])

/-- Channel `k` of tile `t`, among all the channels. -/
def col (t : Fin cfg0.N) (k : Fin 512) : Fin 2048 :=
  ⟨t.val * 512 + k.val, by have := t.isLt; have := k.isLt; have : cfg0.N = 4 := rfl; omega⟩

theorem blk0 (c : Dev nD) (t : Fin cfg0.N) (s d : Fin 2048) :
    iblk m c 0 t (ix2 s d) = m ((c : Thread nD τ).loc main_arg0) (ix3 0 s d) := by
  blk_simp [iblk, idx0 t]
  entry_read
  pointwise
  blk_ext [idx0 t]

theorem blk1 (c : Dev nD) (t : Fin cfg0.N) (k : Fin 512) (d : Fin 2048) :
    iblk m c 1 t (ix2 k d) = m ((c : Thread nD τ).loc main_arg1) (ix2 (col t k) d) := by
  blk_simp [iblk, idx1 t]
  entry_read
  pointwise
  blk_ext [idx1 t, col]

/-- The result array is the reference's. -/
theorem final (c : Dev nD) :
    (dats m 0 c).arrAt 2 cfg0.N = Cert.Reference18Ideal.Read.val_main_v4 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have hy : ((View.whole main_v3).slice (win0_2.rect t)).emb (ix2 y0 y1) = ix2 y0 (col t y1) := by
    blk_ext [idx2 t, col]
  rw [hy, pay1_apply, ref_apply]
  simp only [blk0, blk1]

end Cert.Kernel18Ideal.SquareInputGradRounded

/-! ## The claims -/

namespace Cert.Proof.SquareInputGradRoundedClaims

open Idealize.ShloMosaic Idealize.ShloMosaic.TcCoe Idealize.SL.Sem

theorem frame_p : Cert.quiescent_Kernel18 := fun m ρ _ => Cert.Kernel18.Gen.frame m ρ
theorem frame_pi : Cert.quiescent_Kernel18Ideal := fun m ρ _ => Cert.Kernel18Ideal.Gen.frame m ρ
theorem frame_ri : Cert.quiescent_Reference18Ideal := fun m ρ _ =>
  (θ_run Cert.Reference18Ideal.defs _ _).mono (fun r h => ⟨fun c => (h c).2,
      Idealize.ShloMosaic.sem_eq_zero_of_no_sems (by decide) r.2⟩)
    (Cert.Reference18Ideal.Value.run (F := Ideal) m ρ)

/-- The kernel and the reference end with the same input gradient. -/
theorem algebraic : Cert.algebraic_Kernel18Ideal_Reference18Ideal := by
  intro m ρ m' ρ' _ hagree
  refine ⟨_, Cert.Kernel18Ideal.Value.run_blocks (F := Ideal) m ρ, ?_⟩
  refine (θ_run Cert.Reference18Ideal.defs _ _).mono (fun _ h c => ⟨(h c).1.trans ?_, (h c).2⟩)
    (Cert.Reference18Ideal.Value.run (F := Ideal) m' ρ')
  rw [(hagree c).1, (hagree c).2]
  exact (Cert.Kernel18Ideal.SquareInputGradRounded.final m c).symm

end Cert.Proof.SquareInputGradRoundedClaims

end
-- ==== Proof.NormReal.lean ====
/- The root-mean-square norm of one row over the reals, and its gradient in two forms: the closed form a kernel
computes, and what differentiating the norm step by step gives, shown equal. -/
module

public import proofs.«01_k».proof.Proof.SguReal

@[expose] public section

noncomputable section

namespace Cert.Norm

open Idealize.ShloMosaic
open Cert.Finite
open Cert.Sgu (eps eps_pos)

theorem c_2048 : Ideal.ofBits .f32 0x45000000#32 = ((2048 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem r_div2048 (a : ℝ) : Ideal.div (a : EReal) ((2048 : ℝ) : EReal) = ((a / 2048 : ℝ) : EReal) := r_div _ _ (by norm_num)
theorem r_div1024 (a : ℝ) : Ideal.div (a : EReal) ((1024 : ℝ) : EReal) = ((a / 1024 : ℝ) : EReal) := r_div _ _ (by norm_num)

variable {n : ℕ}

/-- The mean of the squares of a row of `N` entries, with the norm's epsilon. -/
def ms (N : ℝ) (x : Fin n → ℝ) : ℝ := (∑ k, x k * x k) / N + eps
/-- The reciprocal of its root. -/
def rs (N : ℝ) (x : Fin n → ℝ) : ℝ := (Real.sqrt (ms N x))⁻¹

theorem ms_pos {N : ℝ} (hN : 0 < N) (x : Fin n → ℝ) : 0 < ms N x := by
  have := eps_pos
  have : 0 ≤ ∑ k, x k * x k := Finset.sum_nonneg fun k _ => mul_self_nonneg _
  unfold ms; positivity

theorem r_rs {N : ℝ} (hN : 0 < N) (x : Fin n → ℝ) : Ideal.rsqrt ((ms N x : ℝ) : EReal) = ((rs N x : ℝ) : EReal) := by
  have := ms_pos hN x
  rw [Ideal.rsqrt_coe, if_neg (by linarith), if_neg (by linarith)]; rfl

theorem r_div_ms {N : ℝ} (hN : 0 < N) (x : Fin n → ℝ) (a : ℝ) :
    Ideal.div (a : EReal) ((ms N x : ℝ) : EReal) = ((a / ms N x : ℝ) : EReal) := r_div _ _ (ms_pos hN x).ne'

/-- The gradient of a normalized row, from the gradient `d` of the normalized row: the closed form. -/
def bwd (N : ℝ) (x d : Fin n → ℝ) (k : Fin n) : ℝ :=
  rs N x * (d k - x k * rs N x * ((∑ j, d j * (x j * rs N x)) / N))

/-- What the gradient takes through the mean of the squares. -/
def tail (N : ℝ) (x d : Fin n → ℝ) : ℝ := (∑ j, x j * d j) * (-(1 / 2) * (rs N x / ms N x)) / N

theorem bwd_eq {N : ℝ} (hN : 0 < N) (x d : Fin n → ℝ) (k : Fin n) (a : ℝ) :
    a + d k * rs N x + x k * tail N x d + tail N x d * x k = bwd N x d k + a := by
  have e1 : ∑ j, d j * (x j * rs N x) = (∑ j, x j * d j) * rs N x := by
    rw [Finset.sum_mul]; exact Finset.sum_congr rfl fun j _ => by ring
  have e2 : (ms N x)⁻¹ = rs N x * rs N x := by
    rw [rs, ← mul_inv, Real.mul_self_sqrt (ms_pos hN x).le]
  rw [tail, bwd, e1, div_eq_mul_inv (rs N x), e2]
  ring

/-! ## Sums over the tokens, 256 at a time -/

/-- Row `r` of tile `t`, among all the tokens. -/
def row (t : Fin 8) (r : Fin 256) : Fin 2048 := ⟨t.val * 256 + r.val, by omega⟩

theorem sum_rows (f : Fin 2048 → ℝ) : ∑ t : Fin 8, ∑ r : Fin 256, f (row t r) = ∑ s, f s := by
  rw [← Fintype.sum_prod_type (f := fun p : Fin 8 × Fin 256 => f (row p.1 p.2))]
  refine Fintype.sum_equiv (finProdFinEquiv (m := 8) (n := 256)) _ _ fun p => congrArg f ?_
  ext
  simp only [row, finProdFinEquiv_apply_val]
  omega

/-- The sum of the first `n` of eight terms. -/
def upto (f : Fin 8 → ℝ) (n : ℕ) : ℝ := ∑ i ∈ Finset.range n, if h : i < 8 then f ⟨i, h⟩ else 0

theorem upto_one (f : Fin 8 → ℝ) : upto f 1 = f 0 := by
  rw [upto, Finset.sum_range_one]; rfl
theorem upto_succ (f : Fin 8 → ℝ) (n : ℕ) (h : n < 8) : upto f (n + 1) = upto f n + f ⟨n, h⟩ := by
  rw [upto, Finset.sum_range_succ, dif_pos h]; rfl
theorem upto_all (f : Fin 8 → ℝ) : upto f 8 = ∑ t, f t := by
  rw [upto, ← Fin.sum_univ_eq_sum_range (fun i => if h : i < 8 then f ⟨i, h⟩ else 0)]
  exact Finset.sum_congr rfl fun t _ => dif_pos t.isLt

end Cert.Norm

end
-- ==== Proof.NormBwd.lean ====
/- The gradient of a root-mean-square norm added to the gradient the residual stream carries: the kernel's blocks are read
at an index over the reals and are the plain gradient's. -/
module

public import proofs.«01_k».proof.Defs
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Lib.Pipeline.ValueKit
public import Idealize.ShloMosaic.Lib.Pointwise
public import Idealize.ShloMosaic.Lib.Quiescent
public import proofs.«01_k».proof.Proof.NormReal

@[expose] public section

set_option maxRecDepth 16384

noncomputable section

namespace Cert.Norm

/-- The call's arguments: the gradient of the normalized rows, the rows, the gains, and the residual's gradient. -/
structure Data where
  dn : Fin 2048 → Fin 2048 → ℝ
  h : Fin 2048 → Fin 2048 → ℝ
  g : Fin 2048 → ℝ
  dres : Fin 2048 → Fin 2048 → ℝ

namespace Data
variable (D : Data)
/-- The gradient of a row: the norm's, and the residual's. -/
def dh (s k : Fin 2048) : ℝ := bwd 2048 (D.h s) (fun k => D.dn s k * D.g k) k + D.dres s k
/-- What a row gives to the gradient of the gains. -/
def dg (s k : Fin 2048) : ℝ := D.dn s k * (D.h s k * rs 2048 (D.h s))
end Data

end Cert.Norm

/-! ## The plain gradient -/

namespace Cert.Reference19Ideal.NormBwd

open Cert.Reference19Ideal Cert.Reference19Ideal.Gen Cert.Reference19Ideal.Read Idealize.ShloMosaic Idealize.ShloMosaic.TcCoe
open Cert.Finite Cert.Norm
open Cert.Sgu (c_eps c_half c_neg_half)

/-- The arguments hold the reals of `D`. -/
structure Args (D : Data) (x0 x1 : Vec Ideal S1x2048x2048 .f32) (x2 : Vec Ideal S1x2048 .f32) (x3 : Vec Ideal S1x2048x2048 .f32) : Prop where
  dn : ∀ r k, x0 (ix3 0 r k) = (D.dn r k : EReal)
  h : ∀ r k, x1 (ix3 0 r k) = (D.h r k : EReal)
  g : ∀ k, x2 (ix2 0 k) = (D.g k : EReal)
  dres : ∀ r k, x3 (ix3 0 r k) = (D.dres r k : EReal)

variable {D : Data} {x0 x1 : Vec Ideal S1x2048x2048 .f32} {x2 : Vec Ideal S1x2048 .f32} {x3 : Vec Ideal S1x2048x2048 .f32}
  (H : Args D x0 x1 x2 x3)
include H

theorem ms_apply (s : Fin 2048) : val_main_v7 (F := Ideal) x1 (ix2 s 0) = (ms 2048 (D.h s) : EReal) := by
  pointwise [val_main_v7, val_main_v5, val_main_v3, val_main_v2, val_main_v1, val_main_v0, val_main_cst, val_main_v4, val_main_cst_0, val_main_v6, val_main_cst_1]
  simp only [H.h, c_2048, c_eps, r_mul, r_sum, r_div2048, r_add]
  rfl

theorem rs_apply (s : Fin 2048) : val_main_v8 (F := Ideal) x1 (ix2 s 0) = (rs 2048 (D.h s) : EReal) := by
  pointwise [val_main_v8]
  rw [ms_apply H, r_rs (by norm_num)]

theorem dy_apply (s k : Fin 2048) : val_main_v22 (F := Ideal) x0 x2 (ix2 s k) = (D.dn s k * D.g k : ℝ) := by
  pointwise [val_main_v22, val_main_v16, val_main_v21]
  simp only [H.dn, H.g, r_mul]

theorem tail_apply (s k : Fin 2048) :
    val_main_v33 (F := Ideal) x0 x1 x2 (ix2 s k) = (tail 2048 (D.h s) (fun k => D.dn s k * D.g k) : EReal) := by
  pointwise [val_main_v33, val_main_v32, val_main_cst_6, val_main_v31, val_main_v30, val_main_cst_5, val_main_v29, val_main_v25, val_main_v24, val_main_cst_4, val_main_v23, val_main_v0, val_main_v11, val_main_v10, val_main_cst_2, val_main_v9]
  simp only [dy_apply H, H.h, rs_apply H, ms_apply H, Fin.sum_univ_one, c_2048, c_neg_half, r_div_ms (N := 2048) (by norm_num), r_mul, r_sum,
    r_div2048]
  rfl

theorem dh_apply (s k : Fin 2048) : val_main_v37 (F := Ideal) x0 x1 x2 x3 (ix2 s k) = (D.dh s k : EReal) := by
  pointwise [val_main_v37, val_main_v36, val_main_v35, val_main_v34, val_main_v28, val_main_v27, val_main_v26, val_main_v17, val_main_v0]
  simp only [dy_apply H, tail_apply H, H.h, H.dres, rs_apply H, r_mul, r_add]
  rw [Data.dh, ← bwd_eq (by norm_num)]

theorem dhb_apply (s k : Fin 2048) : val_main_v40 (F := Ideal) x0 x1 x2 x3 (ix2 s k) = (1 / 2 * D.dh s k : ℝ) := by
  pointwise [val_main_v40, val_main_v39, val_main_v38, val_main_cst_7]
  simp only [dh_apply H, c_half, r_mul]

theorem dg_apply (k : Fin 2048) : val_main_v20 (F := Ideal) x0 x1 (ix2 0 k) = (∑ s, D.dg s k : ℝ) := by
  pointwise [val_main_v20, val_main_v19, val_main_cst_3, val_main_v18, val_main_v16, val_main_v13, val_main_v12, val_main_v0]
  simp only [H.h, H.dn, rs_apply H, r_mul, r_sum]
  exact congrArg _ (Finset.sum_congr rfl fun s _ => mul_comm _ _)

end Cert.Reference19Ideal.NormBwd

/-! ## The kernel -/

namespace Cert.Kernel19Ideal.NormBwd

open Cert.Kernel19Ideal Cert.Kernel19Ideal.Gen Idealize.ShloMosaic Idealize.ShloMosaic.TcCoe Idealize.SL.Sem
open Idealize.ShloMosaic.Pipeline (Dat)
open Cert.Finite Cert.Norm
open Cert.Sgu (c_eps c_half)

/-- A tile's arrays hold the reals of the rows of `D` that `s` names. -/
structure Holds (D : Data) (s : Fin 256 → Fin 2048) (h dn : Vec Ideal S256x2048 .f32) : Prop where
  h : ∀ r k, h (ix2 r k) = (D.h (s r) k : EReal)
  dn : ∀ r k, dn (ix2 r k) = (D.dn (s r) k : EReal)

section
variable {D : Data} {s : Fin 256 → Fin 2048} {h dn : Vec Ideal S256x2048 .f32} (H : Holds D s h dn)
include H

theorem rs_apply (r : Fin 256) : k0_pay3 h (ix2 r 0) = (rs 2048 (D.h (s r)) : EReal) := by
  pointwise [k0_pay3, k0_pay2]
  simp only [H.h, c_2048, c_eps, r_mul, r_sum, r_div2048, r_add]
  exact r_rs (by norm_num) _

theorem xhat_apply (r : Fin 256) (k : Fin 2048) : k0_pay4 h (ix2 r k) = (D.h (s r) k * rs 2048 (D.h (s r)) : ℝ) := by
  pointwise [k0_pay4, k0_pay2]
  simp only [H.h, rs_apply H, r_mul]

theorem part_apply (k : Fin 2048) : k0_pay6 h dn (ix2 0 k) = (∑ r, D.dg (s r) k : ℝ) := by
  pointwise [k0_pay6, k0_pay5]
  simp only [H.dn, xhat_apply H, r_mul, r_sum]
  rfl

theorem more_apply {acc : Vec Ideal S1x2048 .f32} {a : Fin 2048 → ℝ} (ha : ∀ k, acc (ix2 0 k) = (a k : EReal)) (k : Fin 2048) :
    k0_pay7 h dn acc (ix2 0 k) = (a k + ∑ r, D.dg (s r) k : ℝ) := by
  pointwise [k0_pay7]
  simp only [part_apply H, ha, r_add]

theorem dh_apply {g : Vec Ideal S1x2048 .f32} {dres : Vec Ideal S256x2048 .f32} (hg : ∀ k, g (ix2 0 k) = (D.g k : EReal))
    (hr : ∀ r k, dres (ix2 r k) = (D.dres (s r) k : EReal)) (r : Fin 256) (k : Fin 2048) :
    k0_pay8 h dn g dres (ix2 r k) = (D.dh (s r) k : EReal) := by
  pointwise [k0_pay8, k0_pay5]
  simp only [xhat_apply H, rs_apply H, H.dn, hg, hr, c_2048, r_mul, r_sum, r_div2048, r_sub, r_add]
  rfl

theorem dhb_apply {g : Vec Ideal S1x2048 .f32} {dres : Vec Ideal S256x2048 .f32} (hg : ∀ k, g (ix2 0 k) = (D.g k : EReal))
    (hr : ∀ r k, dres (ix2 r k) = (D.dres (s r) k : EReal)) (r : Fin 256) (k : Fin 2048) :
    k0_pay1 (k0_pay8 h dn g dres) (ix2 r k) = (1 / 2 * D.dh (s r) k : ℝ) := by
  pointwise [k0_pay1]
  simp only [dh_apply H hg hr, c_half, r_mul]
  rw [mul_comm]

end

variable (m : (ℓ : Loc nD τ sig) → Buf (Elt Ideal) ℓ)

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![0, 0] :=
  (by decide +kernel : ∀ t : Fin grid0.N, win0_6.index t = ![0, 0])

/-- A grid point as the number of its tile of tokens. -/
abbrev pt (t : Fin cfg0.N) : Fin 8 := ⟨t.val, t.isLt⟩

theorem blk0 (c : Dev nD) (t : Fin cfg0.N) (r : Fin 256) (k : Fin 2048) :
    iblk m c 0 t (ix2 r k) = m ((c : Thread nD τ).loc main_arg0) (ix3 0 (row (pt t) r) k) := by
  blk_simp [iblk, idx0 t]
  entry_read
  pointwise
  blk_ext [idx0 t, row, pt]
theorem blk1 (c : Dev nD) (t : Fin cfg0.N) (r : Fin 256) (k : Fin 2048) :
    iblk m c 1 t (ix2 r k) = m ((c : Thread nD τ).loc main_arg1) (ix3 0 (row (pt t) r) k) := by
  blk_simp [iblk, idx1 t]
  entry_read
  pointwise
  blk_ext [idx1 t, row, pt]
theorem blk3 (c : Dev nD) (t : Fin cfg0.N) (r : Fin 256) (k : Fin 2048) :
    iblk m c 3 t (ix2 r k) = m ((c : Thread nD τ).loc main_arg3) (ix3 0 (row (pt t) r) k) := by
  blk_simp [iblk, idx3 t]
  entry_read
  pointwise
  blk_ext [idx3 t, row, pt]
theorem blk2 (c : Dev nD) (t : Fin cfg0.N) (k : Fin 2048) :
    iblk m c 2 t (ix2 0 k) = m ((c : Thread nD τ).loc main_arg2) (ix2 0 k) := by
  blk_simp [iblk, idx2 t]
  entry_read
  blk_ext [idx2 t]

variable {m} {c : Dev nD} {D : Data}
  (A : Cert.Reference19Ideal.NormBwd.Args D (m ((c : Thread nD τ).loc main_arg0)) (m ((c : Thread nD τ).loc main_arg1))
    (m ((c : Thread nD τ).loc main_arg2)) (m ((c : Thread nD τ).loc main_arg3)))
include A

theorem holds (t : Fin cfg0.N) : Holds D (row (pt t)) (iblk m c 1 t) (iblk m c 0 t) where
  h r k := by rw [blk1, A.h]
  dn r k := by rw [blk0, A.dn]

theorem out_dh (t : Fin cfg0.N) (r : Fin 256) (k : Fin 2048) :
    (outsAt0 m c t.val t.isLt).1 (ix2 r k) = (D.dh (row (pt t) r) k : EReal) := by
  by_cases h0 : t.val % 8 = 0
  · rw [outsAt0_A m c t h0 (by have := t.isLt; have : cfg0.N = 8 := rfl; omega)]
    frame_open
    frame_out
    exact dh_apply (holds A t) (fun k => by rw [blk2, A.g]) (fun r k => by rw [blk3, A.dres]) r k
  · rw [outsAt0_B m c t h0 (by omega)]
    frame_open
    frame_out
    exact dh_apply (holds A t) (fun k => by rw [blk2, A.g]) (fun r k => by rw [blk3, A.dres]) r k

theorem out_dhb (t : Fin cfg0.N) (r : Fin 256) (k : Fin 2048) :
    (outsAt0 m c t.val t.isLt).2.1 (ix2 r k) = (1 / 2 * D.dh (row (pt t) r) k : ℝ) := by
  by_cases h0 : t.val % 8 = 0
  · rw [outsAt0_A m c t h0 (by have := t.isLt; have : cfg0.N = 8 := rfl; omega)]
    frame_open
    frame_out
    exact dhb_apply (holds A t) (fun k => by rw [blk2, A.g]) (fun r k => by rw [blk3, A.dres]) r k
  · rw [outsAt0_B m c t h0 (by omega)]
    frame_open
    frame_out
    exact dhb_apply (holds A t) (fun k => by rw [blk2, A.g]) (fun r k => by rw [blk3, A.dres]) r k

/-- After a point the gains' gradient holds the rows up to that point's. -/
theorem out_dg : ∀ (i : ℕ) (hi : i < cfg0.N) (k : Fin 2048),
    (outsAt0 m c i hi).2.2 (ix2 0 k) = (upto (fun t => ∑ r, D.dg (row t r) k) (i + 1) : EReal)
  | 0, hi, k => by
    rw [upto_one, outsAt0_A m c ⟨0, hi⟩ rfl (show ¬1 ≤ 0 by decide)]
    frame_open
    frame_out
    exact part_apply (holds A ⟨0, hi⟩) k
  | i + 1, hi, k => by
    have P := out_dg i (Nat.lt_of_succ_lt hi)
    have h8 : i + 1 < 8 := hi
    rw [upto_succ _ _ h8, outsAt0_B m c ⟨i + 1, hi⟩ (show ¬(i + 1) % 8 = 0 by omega) (show 1 ≤ i + 1 by omega)]
    frame_open
    frame_out
    exact more_apply (holds A ⟨i + 1, hi⟩) P k

theorem final_dh : (dats m 0 c).arrAt 4 cfg0.N = Cert.Reference19Ideal.Read.val_main_v37 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 4 _ (by decide +kernel) fun t hf y => ?_
  blk_simp
  rw [after0_4]
  idx_vars y
  have hy : ((View.whole main_v3_0).slice (win0_4.rect t)).emb (ix2 y0 y1) = ix2 (row (pt t) y0) y1 := by
    blk_ext [idx4 t, row, pt]
  rw [hy, Cert.Reference19Ideal.NormBwd.dh_apply A]
  exact out_dh A t y0 y1

theorem final_dhb : (dats m 0 c).arrAt 5 cfg0.N = Cert.Reference19Ideal.Read.val_main_v40 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 5 _ (by decide +kernel) fun t hf y => ?_
  blk_simp
  rw [after0_5]
  idx_vars y
  have hy : ((View.whole main_v3_1).slice (win0_5.rect t)).emb (ix2 y0 y1) = ix2 (row (pt t) y0) y1 := by
    blk_ext [idx5 t, row, pt]
  rw [hy, Cert.Reference19Ideal.NormBwd.dhb_apply A]
  exact out_dhb A t y0 y1

theorem final_dg : (dats m 0 c).arrAt 6 cfg0.N = Cert.Reference19Ideal.Read.val_main_v20 (F := Ideal)
    (m ((c : Thread nD τ).loc main_arg0)) (m ((c : Thread nD τ).loc main_arg1)) := by
  refine (dats m 0 c).arrAt_eq_of_covers 6 _ (by decide +kernel) fun t hf y => ?_
  have h7 := (flush0_6 t).mp hf
  blk_simp
  rw [after0_6]
  idx_vars y
  obtain rfl : y0 = 0 := Subsingleton.elim _ _
  have hy : ((View.whole main_v3_2).slice (win0_6.rect t)).emb (ix2 0 y1) = ix2 0 y1 := by
    blk_ext [idx6 t]
  rw [hy, Cert.Reference19Ideal.NormBwd.dg_apply A, ← sum_rows, ← upto_all]
  refine (out_dg A t.val t.isLt y1).trans ?_
  rw [show t.val + 1 = 8 by have := t.isLt; have : cfg0.N = 8 := rfl; omega]

end Cert.Kernel19Ideal.NormBwd

/-! ## The claims -/

namespace Cert.Proof.NormBwdClaims

open Idealize.ShloMosaic Idealize.ShloMosaic.TcCoe Idealize.SL.Sem
open Cert.Kernel19Ideal.NormBwd

instance preFacts : Cert.Pre_finite19.Facts := ⟨by decide, by decide, by decide⟩

theorem frame_p : Cert.quiescent_Kernel19 := fun m ρ _ => Cert.Kernel19.Gen.frame m ρ
theorem frame_pi : Cert.quiescent_Kernel19Ideal := fun m ρ _ => Cert.Kernel19Ideal.Gen.frame m ρ
theorem frame_pi' : Cert.quiescent_Kernel19Ideal_pre_finite19 := fun m ρ _ => Cert.Kernel19Ideal.Gen.frame m ρ
theorem frame_ri : Cert.quiescent_Reference19Ideal := fun m ρ _ =>
  (θ_run Cert.Reference19Ideal.defs _ _).mono (fun r h => ⟨fun c => (h c).2.2.2,
      Idealize.ShloMosaic.sem_eq_zero_of_no_sems (by decide) r.2⟩)
    (Cert.Reference19Ideal.Value.run (F := Ideal) m ρ)
theorem frame_ri' : Cert.quiescent_Reference19Ideal_pre_finite19 := fun m ρ _ => frame_ri m ρ trivial

/-- From finite arguments the kernel and the reference end with the same gradients. -/
theorem algebraic : Cert.algebraic_Kernel19Ideal_Reference19Ideal_pre_finite19 := by
  intro m ρ m' ρ' hpre hagree
  refine ⟨_, _, _, Cert.Kernel19Ideal.Value.run_blocks (F := Ideal) m ρ, ?_⟩
  refine (θ_run Cert.Reference19Ideal.defs _ _).mono
    (fun _ h c => ⟨(h c).1.trans ?_, (h c).2.1.trans ?_, (h c).2.2.1.trans ?_, (h c).2.2.2⟩)
    (Cert.Reference19Ideal.Value.run (F := Ideal) m' ρ')
  all_goals
    obtain ⟨p0, p1, p2, p3⟩ := hpre c
    obtain ⟨a0, h0⟩ := Cert.Finite.real_of_pre _ _ _ p0
    obtain ⟨a1, h1⟩ := Cert.Finite.real_of_pre _ _ _ p1
    obtain ⟨a2, h2⟩ := Cert.Finite.real_of_pre _ _ _ p2
    obtain ⟨a3, h3⟩ := Cert.Finite.real_of_pre _ _ _ p3
    have A : Cert.Reference19Ideal.NormBwd.Args ⟨fun r k => a0 (ix3 0 r k), fun r k => a1 (ix3 0 r k), fun k => a2 (ix2 0 k),
        fun r k => a3 (ix3 0 r k)⟩ _ _ _ _ :=
      ⟨fun _ _ => congrFun h0 _, fun _ _ => congrFun h1 _, fun _ => congrFun h2 _, fun _ _ => congrFun h3 _⟩
    obtain ⟨e0, e1, e2, e3⟩ := hagree c
  · refine (Cert.Reference19Ideal.Read.val_main_v37_eq _ _).trans (Eq.trans ?_ (final_dh A).symm)
    exact congr (congr (congr (congrArg _ e0) e1) e2) e3
  · refine (Cert.Reference19Ideal.Read.val_main_v40_eq _ _).trans (Eq.trans ?_ (final_dhb A).symm)
    exact congr (congr (congr (congrArg _ e0) e1) e2) e3
  · refine (Cert.Reference19Ideal.Read.val_main_v20_eq _ _).trans (Eq.trans ?_ (final_dg A).symm)
    exact congr (congrArg _ e0) e1

end Cert.Proof.NormBwdClaims

end
-- ==== Proof.NormCatBwd.lean ====
/- The gradient of the norm of two branches, each normalized by itself, the second held head by head: the kernel's blocks
are read at an index over the reals and are the plain gradient's. -/
module

public import proofs.«01_k».proof.Defs
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Lib.Pipeline.ValueKit
public import Idealize.ShloMosaic.Lib.Pointwise
public import Idealize.ShloMosaic.Lib.Quiescent
public import proofs.«01_k».proof.Proof.NormReal

@[expose] public section

set_option maxRecDepth 16384

noncomputable section

namespace Cert.Norm

/-- A branch: the gradient of its normalized rows, its rows, its gains. -/
structure Branch where
  dn : Fin 2048 → Fin 1024 → ℝ
  y : Fin 2048 → Fin 1024 → ℝ
  g : Fin 1024 → ℝ

namespace Branch
variable (B : Branch)
/-- The gradient of a row. -/
def dy (s : Fin 2048) (k : Fin 1024) : ℝ := bwd 1024 (B.y s) (fun k => B.dn s k * B.g k) k
/-- What a row gives to the gradient of the gains. -/
def dg (s : Fin 2048) (k : Fin 1024) : ℝ := B.dn s k * (B.y s k * rs 1024 (B.y s))
end Branch

/-- Column `d` of head `g`, among all the columns of a branch. -/
def hcol (g : Fin 8) (d : Fin 128) : Fin 1024 := ⟨g.val * 128 + d.val, by omega⟩

end Cert.Norm

/-! ## The plain gradient -/

namespace Cert.Reference20Ideal.NormCatBwd

open Cert.Reference20Ideal Cert.Reference20Ideal.Gen Cert.Reference20Ideal.Read Idealize.ShloMosaic Idealize.ShloMosaic.TcCoe
open Cert.Finite Cert.Norm
open Cert.Sgu (c_eps c_half c_neg_half)

/-- The arguments hold the reals of the two branches. -/
structure Args (A B : Branch) (x0 : Vec Ideal S1x2048x2048 .f32) (x1 x2 : Vec Ideal S1x2048x1024 .f32)
    (x3 x4 : Vec Ideal S1x1024 .f32) : Prop where
  dna : ∀ s k, x0 (ix3 0 s ⟨k.val, by omega⟩) = (A.dn s k : EReal)
  dnb : ∀ s k, x0 (ix3 0 s ⟨1024 + k.val, by omega⟩) = (B.dn s k : EReal)
  ya : ∀ s k, x1 (ix3 0 s k) = (A.y s k : EReal)
  yb : ∀ s k, x2 (ix3 0 s k) = (B.y s k : EReal)
  ga : ∀ k, x3 (ix2 0 k) = (A.g k : EReal)
  gb : ∀ k, x4 (ix2 0 k) = (B.g k : EReal)

variable {A B : Branch} {x0 : Vec Ideal S1x2048x2048 .f32} {x1 x2 : Vec Ideal S1x2048x1024 .f32}
  {x3 x4 : Vec Ideal S1x1024 .f32} (H : Args A B x0 x1 x2 x3 x4)
include H

theorem dna_apply (s : Fin 2048) (k : Fin 1024) : val_main_v34 (F := Ideal) x0 (ix2 s k) = (A.dn s k : EReal) := by
  refine Eq.trans ?_ (H.dna s k)
  pointwise [val_main_v34, val_main_v33]
theorem dnb_apply (s : Fin 2048) (k : Fin 1024) : val_main_v35 (F := Ideal) x0 (ix2 s k) = (B.dn s k : EReal) := by
  refine Eq.trans ?_ (H.dnb s k)
  pointwise [val_main_v35, val_main_v33]

theorem msa_apply (s : Fin 2048) : val_main_v8 (F := Ideal) x1 (ix2 s 0) = (ms 1024 (A.y s) : EReal) := by
  pointwise [val_main_v8, val_main_v6, val_main_v4, val_main_v3, val_main_v2, val_main_cst, val_main_v5, val_main_cst_0, val_main_v7, val_main_cst_1, val_main_v0]
  simp only [H.ya, c_1024, c_eps, r_mul, r_sum, r_div1024, r_add]
  rfl

theorem rsa_apply (s : Fin 2048) : val_main_v9 (F := Ideal) x1 (ix2 s 0) = (rs 1024 (A.y s) : EReal) := by
  pointwise [val_main_v9]
  rw [msa_apply H, r_rs (by norm_num)]

theorem dna_gain (s : Fin 2048) (k : Fin 1024) : val_main_v59 (F := Ideal) x0 x3 (ix2 s k) = (A.dn s k * A.g k : ℝ) := by
  pointwise [val_main_v59, val_main_v58]
  simp only [dna_apply H, H.ga, r_mul]

theorem taila_apply (s : Fin 2048) (k : Fin 1024) :
    val_main_v69 (F := Ideal) x0 x1 x3 (ix2 s k) = (tail 1024 (A.y s) (fun k => A.dn s k * A.g k) : EReal) := by
  pointwise [val_main_v69, val_main_v68, val_main_cst_14, val_main_v67, val_main_v66, val_main_cst_13, val_main_v65, val_main_v62, val_main_v61, val_main_cst_12, val_main_v60, val_main_v12, val_main_v11, val_main_cst_2, val_main_v10, val_main_v0]
  simp only [dna_gain H, H.ya, rsa_apply H, msa_apply H, Fin.sum_univ_one, c_1024, c_neg_half,
    r_div_ms (N := 1024) (by norm_num), r_mul, r_sum, r_div1024]
  rfl

theorem dya_apply (s : Fin 2048) (k : Fin 1024) : val_main_v73 (F := Ideal) x0 x1 x3 (ix2 s k) = (A.dy s k : EReal) := by
  pointwise [val_main_v73, val_main_v72, val_main_v71, val_main_v70, val_main_v64, val_main_v63, val_main_v0]
  simp only [dna_gain H, taila_apply H, H.ya, rsa_apply H, r_mul, r_add]
  rw [Branch.dy, ← add_zero (bwd _ _ _ _), ← bwd_eq (by norm_num), zero_add]

theorem dga_apply (k : Fin 1024) : val_main_v57 (F := Ideal) x0 x1 (ix2 0 k) = (∑ s, A.dg s k : ℝ) := by
  pointwise [val_main_v57, val_main_v56, val_main_cst_11, val_main_v55, val_main_v14, val_main_v13, val_main_v0]
  simp only [H.ya, dna_apply H, rsa_apply H, r_mul, r_sum]
  exact congrArg _ (Finset.sum_congr rfl fun s _ => mul_comm _ _)

theorem msb_apply (s : Fin 2048) : val_main_v23 (F := Ideal) x2 (ix2 s 0) = (ms 1024 (B.y s) : EReal) := by
  pointwise [val_main_v23, val_main_v21, val_main_v19, val_main_v18, val_main_v17, val_main_cst_3, val_main_v20, val_main_cst_4, val_main_v22, val_main_cst_5, val_main_v1]
  simp only [H.yb, c_1024, c_eps, r_mul, r_sum, r_div1024, r_add]
  rfl

theorem rsb_apply (s : Fin 2048) : val_main_v24 (F := Ideal) x2 (ix2 s 0) = (rs 1024 (B.y s) : EReal) := by
  pointwise [val_main_v24]
  rw [msb_apply H, r_rs (by norm_num)]

theorem dnb_gain (s : Fin 2048) (k : Fin 1024) : val_main_v40 (F := Ideal) x0 x4 (ix2 s k) = (B.dn s k * B.g k : ℝ) := by
  pointwise [val_main_v40, val_main_v39]
  simp only [dnb_apply H, H.gb, r_mul]

theorem tailb_apply (s : Fin 2048) (k : Fin 1024) :
    val_main_v50 (F := Ideal) x0 x2 x4 (ix2 s k) = (tail 1024 (B.y s) (fun k => B.dn s k * B.g k) : EReal) := by
  pointwise [val_main_v50, val_main_v49, val_main_cst_10, val_main_v48, val_main_v47, val_main_cst_9, val_main_v46, val_main_v43, val_main_v42, val_main_cst_8, val_main_v41, val_main_v27, val_main_v26, val_main_cst_6, val_main_v25, val_main_v1]
  simp only [dnb_gain H, H.yb, rsb_apply H, msb_apply H, Fin.sum_univ_one, c_1024, c_neg_half,
    r_div_ms (N := 1024) (by norm_num), r_mul, r_sum, r_div1024]
  rfl

theorem dyb_apply (s : Fin 2048) (k : Fin 1024) : val_main_v54 (F := Ideal) x0 x2 x4 (ix2 s k) = (B.dy s k : EReal) := by
  pointwise [val_main_v54, val_main_v53, val_main_v52, val_main_v51, val_main_v45, val_main_v44, val_main_v1]
  simp only [dnb_gain H, tailb_apply H, H.yb, rsb_apply H, r_mul, r_add]
  rw [Branch.dy, ← add_zero (bwd _ _ _ _), ← bwd_eq (by norm_num), zero_add]

theorem dgb_apply (k : Fin 1024) : val_main_v38 (F := Ideal) x0 x2 (ix2 0 k) = (∑ s, B.dg s k : ℝ) := by
  pointwise [val_main_v38, val_main_v37, val_main_cst_7, val_main_v36, val_main_v29, val_main_v28, val_main_v1]
  simp only [H.yb, dnb_apply H, rsb_apply H, r_mul, r_sum]
  exact congrArg _ (Finset.sum_congr rfl fun s _ => mul_comm _ _)

theorem dyb_heads (g : Fin 8) (s : Fin 2048) (d : Fin 128) :
    val_main_v75 (F := Ideal) x0 x2 x4 (ix3 g s d) = (B.dy s (hcol g d) : EReal) := by
  rw [← dyb_apply H, show hcol g d = ⟨g.val * 128 + d.val, by omega⟩ from rfl]
  pointwise [val_main_v75, val_main_v74]

end Cert.Reference20Ideal.NormCatBwd

/-! ## The kernel -/

namespace Cert.Kernel20Ideal.NormCatBwd

open Cert.Kernel20Ideal Cert.Kernel20Ideal.Gen Idealize.ShloMosaic Idealize.ShloMosaic.TcCoe Idealize.SL.Sem
open Idealize.ShloMosaic.Pipeline (Dat)
open Cert.Finite Cert.Norm
open Cert.Sgu (c_eps)

/-- A tile's arrays hold the reals of the rows of `B` that `s` names. -/
structure Holds (B : Branch) (s : Fin 256 → Fin 2048) (y dn : Vec Ideal S256x1024 .f32) : Prop where
  y : ∀ r k, y (ix2 r k) = (B.y (s r) k : EReal)
  dn : ∀ r k, dn (ix2 r k) = (B.dn (s r) k : EReal)

section
variable {A : Branch} {s : Fin 256 → Fin 2048} {y dn : Vec Ideal S256x1024 .f32} (H : Holds A s y dn)
include H

theorem rsa_apply (r : Fin 256) : k0_pay6 y (ix2 r 0) = (rs 1024 (A.y (s r)) : EReal) := by
  pointwise [k0_pay6, k0_pay5]
  simp only [H.y, c_1024, c_eps, r_mul, r_sum, r_div1024, r_add]
  exact r_rs (by norm_num) _

theorem xa_apply (r : Fin 256) (k : Fin 1024) : k0_pay7 y (ix2 r k) = (A.y (s r) k * rs 1024 (A.y (s r)) : ℝ) := by
  pointwise [k0_pay7, k0_pay5]
  simp only [H.y, rsa_apply H, r_mul]

theorem parta_apply (k : Fin 1024) : k0_pay9 y dn (ix2 0 k) = (∑ r, A.dg (s r) k : ℝ) := by
  pointwise [k0_pay9, k0_pay8]
  simp only [H.dn, xa_apply H, r_mul, r_sum]
  rfl

theorem morea_apply {acc : Vec Ideal S1x1024 .f32} {a : Fin 1024 → ℝ} (ha : ∀ k, acc (ix2 0 k) = (a k : EReal)) (k : Fin 1024) :
    k0_pay10 y dn acc (ix2 0 k) = (a k + ∑ r, A.dg (s r) k : ℝ) := by
  pointwise [k0_pay10]
  simp only [parta_apply H, ha, r_add]

theorem dya_apply {g : Vec Ideal S1x1024 .f32} (hg : ∀ k, g (ix2 0 k) = (A.g k : EReal)) (r : Fin 256) (k : Fin 1024) :
    k0_pay11 y dn g (ix2 r k) = (A.dy (s r) k : EReal) := by
  pointwise [k0_pay11, k0_pay8]
  simp only [xa_apply H, rsa_apply H, H.dn, hg, c_1024, r_mul, r_sum, r_div1024, r_sub]
  rfl

end

/-- A branch's heads hold the reals of the rows of `B` that `s` names. -/
structure Heads (B : Branch) (s : Fin 256 → Fin 2048) (p0 p1 p2 p3 p4 p5 p6 p7 : Vec Ideal S1x256x128 .f32) (dn : Vec Ideal S256x1024 .f32) : Prop where
  h0 : ∀ r d, p0 (ix3 0 r d) = (B.y (s r) (hcol 0 d) : EReal)
  h1 : ∀ r d, p1 (ix3 0 r d) = (B.y (s r) (hcol 1 d) : EReal)
  h2 : ∀ r d, p2 (ix3 0 r d) = (B.y (s r) (hcol 2 d) : EReal)
  h3 : ∀ r d, p3 (ix3 0 r d) = (B.y (s r) (hcol 3 d) : EReal)
  h4 : ∀ r d, p4 (ix3 0 r d) = (B.y (s r) (hcol 4 d) : EReal)
  h5 : ∀ r d, p5 (ix3 0 r d) = (B.y (s r) (hcol 5 d) : EReal)
  h6 : ∀ r d, p6 (ix3 0 r d) = (B.y (s r) (hcol 6 d) : EReal)
  h7 : ∀ r d, p7 (ix3 0 r d) = (B.y (s r) (hcol 7 d) : EReal)
  dn : ∀ r k, dn (ix2 r k) = (B.dn (s r) k : EReal)

section
variable {B : Branch} {s : Fin 256 → Fin 2048} {p0 p1 p2 p3 p4 p5 p6 p7 : Vec Ideal S1x256x128 .f32} {dn : Vec Ideal S256x1024 .f32}
  (H : Heads B s p0 p1 p2 p3 p4 p5 p6 p7 dn)
include H

/-- The heads side by side are the row. -/
theorem yb_apply (r : Fin 256) (k : Fin 1024) : k0_pay12 p0 p1 p2 p3 p4 p5 p6 p7 (ix2 r k) = (B.y (s r) k : EReal) := by
  have hk := k.isLt
  pointwise [k0_pay12]
  split_ifs
  all_goals
    first
    | (simp only [H.h0, H.h1, H.h2, H.h3, H.h4, H.h5, H.h6, H.h7]
       exact congrArg (fun j => ((B.y (s r) j : ℝ) : EReal)) (Fin.ext (by simp [hcol] <;> omega)))
    | omega

theorem rsb_apply (r : Fin 256) : k0_pay13 p0 p1 p2 p3 p4 p5 p6 p7 (ix2 r 0) = (rs 1024 (B.y (s r)) : EReal) := by
  pointwise [k0_pay13]
  simp only [yb_apply H, c_1024, c_eps, r_mul, r_sum, r_div1024, r_add]
  exact r_rs (by norm_num) _

theorem xb_apply (r : Fin 256) (k : Fin 1024) : k0_pay14 p0 p1 p2 p3 p4 p5 p6 p7 (ix2 r k) = (B.y (s r) k * rs 1024 (B.y (s r)) : ℝ) := by
  pointwise [k0_pay14]
  simp only [yb_apply H, rsb_apply H, r_mul]

theorem partb_apply (k : Fin 1024) : k0_pay17 (k0_pay16 p0 p1 p2 p3 p4 p5 p6 p7 dn) (ix2 0 k) = (∑ r, B.dg (s r) k : ℝ) := by
  pointwise [k0_pay17, k0_pay16, k0_pay15]
  simp only [H.dn, xb_apply H, r_mul, r_sum]
  rfl

theorem moreb_apply {acc : Vec Ideal S1x1024 .f32} {a : Fin 1024 → ℝ} (ha : ∀ k, acc (ix2 0 k) = (a k : EReal)) (k : Fin 1024) :
    k0_pay18 (k0_pay16 p0 p1 p2 p3 p4 p5 p6 p7 dn) acc (ix2 0 k) = (a k + ∑ r, B.dg (s r) k : ℝ) := by
  pointwise [k0_pay18]
  simp only [partb_apply H, ha, r_add]

theorem dyb_apply {g : Vec Ideal S1x1024 .f32} (hg : ∀ k, g (ix2 0 k) = (B.g k : EReal)) (r : Fin 256) (k : Fin 1024) :
    k0_pay19 (k0_pay13 p0 p1 p2 p3 p4 p5 p6 p7) (k0_pay14 p0 p1 p2 p3 p4 p5 p6 p7) (k0_pay15 dn) g (ix2 r k) = (B.dy (s r) k : EReal) := by
  pointwise [k0_pay19, k0_pay15]
  simp only [xb_apply H, rsb_apply H, H.dn, hg, c_1024, r_mul, r_sum, r_div1024, r_sub]
  rfl

end

/-! A head of the gradient is the columns of that head. -/

theorem head0 (a : FVec Ideal S256x1 .f32) (x dn : FVec Ideal S256x1024 .f32) (g : Vec Ideal S1x1024 .f32) (r : Fin 256) (d : Fin 128) :
    k0_pay20 a x dn g (ix3 0 r d) = k0_pay19 a x dn g (ix2 r (hcol 0 d)) := by
  rw [show hcol 0 d = ⟨0 + d.val, by omega⟩ from rfl]
  pointwise [k0_pay20]
theorem head1 (a : FVec Ideal S256x1 .f32) (x dn : FVec Ideal S256x1024 .f32) (g : Vec Ideal S1x1024 .f32) (r : Fin 256) (d : Fin 128) :
    k0_pay21 a x dn g (ix3 0 r d) = k0_pay19 a x dn g (ix2 r (hcol 1 d)) := by
  rw [show hcol 1 d = ⟨128 + d.val, by omega⟩ from rfl]
  pointwise [k0_pay21]
theorem head2 (a : FVec Ideal S256x1 .f32) (x dn : FVec Ideal S256x1024 .f32) (g : Vec Ideal S1x1024 .f32) (r : Fin 256) (d : Fin 128) :
    k0_pay22 a x dn g (ix3 0 r d) = k0_pay19 a x dn g (ix2 r (hcol 2 d)) := by
  rw [show hcol 2 d = ⟨256 + d.val, by omega⟩ from rfl]
  pointwise [k0_pay22]
theorem head3 (a : FVec Ideal S256x1 .f32) (x dn : FVec Ideal S256x1024 .f32) (g : Vec Ideal S1x1024 .f32) (r : Fin 256) (d : Fin 128) :
    k0_pay23 a x dn g (ix3 0 r d) = k0_pay19 a x dn g (ix2 r (hcol 3 d)) := by
  rw [show hcol 3 d = ⟨384 + d.val, by omega⟩ from rfl]
  pointwise [k0_pay23]
theorem head4 (v : FVec Ideal S256x1024 .f32) (r : Fin 256) (d : Fin 128) : k0_pay1 v (ix3 0 r d) = v (ix2 r (hcol 4 d)) := by
  rw [show hcol 4 d = ⟨512 + d.val, by omega⟩ from rfl]
  pointwise [k0_pay1]
theorem head5 (v : FVec Ideal S256x1024 .f32) (r : Fin 256) (d : Fin 128) : k0_pay2 v (ix3 0 r d) = v (ix2 r (hcol 5 d)) := by
  rw [show hcol 5 d = ⟨640 + d.val, by omega⟩ from rfl]
  pointwise [k0_pay2]
theorem head6 (v : FVec Ideal S256x1024 .f32) (r : Fin 256) (d : Fin 128) : k0_pay3 v (ix3 0 r d) = v (ix2 r (hcol 6 d)) := by
  rw [show hcol 6 d = ⟨768 + d.val, by omega⟩ from rfl]
  pointwise [k0_pay3]
theorem head7 (v : FVec Ideal S256x1024 .f32) (r : Fin 256) (d : Fin 128) : k0_pay4 v (ix3 0 r d) = v (ix2 r (hcol 7 d)) := by
  rw [show hcol 7 d = ⟨896 + d.val, by omega⟩ from rfl]
  pointwise [k0_pay4]

variable (m : (ℓ : Loc nD τ sig) → Buf (Elt Ideal) ℓ)

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, t.val, 0] :=
  (by decide +kernel : ∀ t : Fin grid0.N, win0_2.index t = ![0, t.val, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![0, t.val, 0] :=
  (by decide +kernel : ∀ t : Fin grid0.N, win0_6.index t = ![0, t.val, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])

/-- A grid point as the number of its tile of tokens. -/
abbrev pt (t : Fin cfg0.N) : Fin 8 := ⟨t.val, t.isLt⟩

theorem blk0 (c : Dev nD) (t : Fin cfg0.N) (r : Fin 256) (k : Fin 2048) :
    iblk m c 0 t (ix2 r k) = m ((c : Thread nD τ).loc main_arg0) (ix3 0 (row (pt t) r) k) := by
  blk_simp [iblk, idx0 t]
  entry_read
  pointwise
  blk_ext [idx0 t, row, pt]
theorem blk1 (c : Dev nD) (t : Fin cfg0.N) (r : Fin 256) (k : Fin 1024) :
    iblk m c 1 t (ix2 r k) = m ((c : Thread nD τ).loc main_arg1) (ix3 0 (row (pt t) r) k) := by
  blk_simp [iblk, idx1 t]
  entry_read
  pointwise
  blk_ext [idx1 t, row, pt]
theorem blk2 (c : Dev nD) (t : Fin cfg0.N) (g : Fin 8) (r : Fin 256) (d : Fin 128) :
    iblk m c 2 t (ix3 g r d) = m ((c : Thread nD τ).loc main_arg2) (ix3 0 (row (pt t) r) (hcol g d)) := by
  blk_simp [iblk, idx2 t]
  entry_read
  pointwise
  blk_ext [idx2 t, row, pt, hcol]
theorem blk3 (c : Dev nD) (t : Fin cfg0.N) (k : Fin 1024) :
    iblk m c 3 t (ix2 0 k) = m ((c : Thread nD τ).loc main_arg3) (ix2 0 k) := by
  blk_simp [iblk, idx3 t]
  entry_read
  blk_ext [idx3 t]
theorem blk4 (c : Dev nD) (t : Fin cfg0.N) (k : Fin 1024) :
    iblk m c 4 t (ix2 0 k) = m ((c : Thread nD τ).loc main_arg4) (ix2 0 k) := by
  blk_simp [iblk, idx4 t]
  entry_read
  blk_ext [idx4 t]

/-! ## The loads -/

theorem idx3_eq {y : S8x256x128.Idx} (g : Fin 8) {r : Fin 256} {d : Fin 128} (e0 : (y 0).val = g.val) (e1 : (y 1).val = r.val)
    (e2 : (y 2).val = d.val) : y = ix3 g r d := by
  funext i; fin_cases i
  · exact Fin.ext e0
  · exact Fin.ext e1
  · exact Fin.ext e2

theorem inb_page (g : Fin 8) : ∀ a, (![g.val, 0, 0] : Fin 3 → ℕ) a + S1x256x128.size a ≤ S8x256x128.size a := by
  revert g; decide
theorem inb_half (h : Fin 2) : ∀ a, (![0, h.val * 1024] : Fin 2 → ℕ) a + S256x1024.size a ≤ S256x2048.size a := by
  revert h; decide
abbrev page (g : Fin 8) : Rect S8x256x128 := Rect.unit ![g.val, 0, 0] S1x256x128.size (inb_page g)
abbrev half (h : Fin 2) : Rect S256x2048 := Rect.unit ![0, h.val * 1024] S256x1024.size (inb_half h)

theorem ld_page (x : Vec Ideal S8x256x128 .f32) (g : Fin 8) (r : Fin 256) (d : Fin 128) :
    View.ld x (page g) (ix3 0 r d) = x (ix3 g r d) :=
  View.ld_unit_apply_of _ _ _ _ _ _ (by intro a; fin_cases a <;> simp)
theorem ld_half0 (x : Vec Ideal S256x2048 .f32) (r : Fin 256) (k : Fin 1024) :
    View.ld x (half 0) (ix2 r k) = x (ix2 r ⟨k.val, by omega⟩) :=
  View.ld_unit_apply_of _ _ _ _ _ _ (by intro a; fin_cases a <;> simp)
theorem ld_half1 (x : Vec Ideal S256x2048 .f32) (r : Fin 256) (k : Fin 1024) :
    View.ld x (half 1) (ix2 r k) = x (ix2 r ⟨1024 + k.val, by omega⟩) :=
  View.ld_unit_apply_of _ _ _ _ _ _ (by intro a; fin_cases a <;> simp)

variable {m} {c : Dev nD} {A B : Branch}
  (H : Cert.Reference20Ideal.NormCatBwd.Args A B (m ((c : Thread nD τ).loc main_arg0)) (m ((c : Thread nD τ).loc main_arg1))
    (m ((c : Thread nD τ).loc main_arg2)) (m ((c : Thread nD τ).loc main_arg3)) (m ((c : Thread nD τ).loc main_arg4)))
include H

theorem holds (t : Fin cfg0.N) : Holds A (row (pt t)) (iblk m c 1 t) (View.ld (iblk m c 0 t) (half 0)) where
  y r k := by rw [blk1, H.ya]
  dn r k := by rw [ld_half0, blk0, H.dna]

theorem heads (t : Fin cfg0.N) : Heads B (row (pt t)) (View.ld (iblk m c 2 t) (page 0)) (View.ld (iblk m c 2 t) (page 1)) (View.ld (iblk m c 2 t) (page 2)) (View.ld (iblk m c 2 t) (page 3)) (View.ld (iblk m c 2 t) (page 4)) (View.ld (iblk m c 2 t) (page 5)) (View.ld (iblk m c 2 t) (page 6)) (View.ld (iblk m c 2 t) (page 7))
    (View.ld (iblk m c 0 t) (half 1)) where
  h0 r d := by rw [ld_page, blk2, H.yb]
  h1 r d := by rw [ld_page, blk2, H.yb]
  h2 r d := by rw [ld_page, blk2, H.yb]
  h3 r d := by rw [ld_page, blk2, H.yb]
  h4 r d := by rw [ld_page, blk2, H.yb]
  h5 r d := by rw [ld_page, blk2, H.yb]
  h6 r d := by rw [ld_page, blk2, H.yb]
  h7 r d := by rw [ld_page, blk2, H.yb]
  dn r k := by rw [ld_half1, blk0, H.dnb]

theorem out_dya (t : Fin cfg0.N) (r : Fin 256) (k : Fin 1024) :
    (outsAt0 m c t.val t.isLt).1 (ix2 r k) = (A.dy (row (pt t) r) k : EReal) := by
  by_cases h0 : t.val % 8 = 0
  · rw [outsAt0_A m c t h0 (by have := t.isLt; have : cfg0.N = 8 := rfl; omega) h0 (by have := t.isLt; have : cfg0.N = 8 := rfl; omega)]
    frame_open
    frame_out
    exact dya_apply (holds H t) (fun k => by rw [blk3, H.ga]) r k
  · rw [outsAt0_B m c t h0 (by omega) h0 (by omega)]
    frame_open
    frame_out
    exact dya_apply (holds H t) (fun k => by rw [blk3, H.ga]) r k

theorem out_dyb (t : Fin cfg0.N) (y : S8x256x128.Idx) :
    (outsAt0 m c t.val t.isLt).2.1 y = (B.dy (row (pt t) (y 1)) (hcol (y 0) (y 2)) : EReal) := by
  by_cases h0 : t.val % 8 = 0
  · rw [outsAt0_A m c t h0 (by have := t.isLt; have : cfg0.N = 8 := rfl; omega) h0 (by have := t.isLt; have : cfg0.N = 8 := rfl; omega)]
    frame_open
    frame_out
    canon_tiles y g <;> idx_vars y
    all_goals obtain rfl : y0 = 0 := Subsingleton.elim _ _
    · obtain rfl := idx3_eq 7 g0 g1 g2; exact (head7 _ _ _).trans (dyb_apply (heads H t) (fun k => by rw [blk4, H.gb]) y1 _)
    · obtain rfl := idx3_eq 6 g0 g1 g2; exact (head6 _ _ _).trans (dyb_apply (heads H t) (fun k => by rw [blk4, H.gb]) y1 _)
    · obtain rfl := idx3_eq 5 g0 g1 g2; exact (head5 _ _ _).trans (dyb_apply (heads H t) (fun k => by rw [blk4, H.gb]) y1 _)
    · obtain rfl := idx3_eq 4 g0 g1 g2; exact (head4 _ _ _).trans (dyb_apply (heads H t) (fun k => by rw [blk4, H.gb]) y1 _)
    · obtain rfl := idx3_eq 3 g0 g1 g2; exact (head3 _ _ _ _ _ _).trans (dyb_apply (heads H t) (fun k => by rw [blk4, H.gb]) y1 _)
    · obtain rfl := idx3_eq 2 g0 g1 g2; exact (head2 _ _ _ _ _ _).trans (dyb_apply (heads H t) (fun k => by rw [blk4, H.gb]) y1 _)
    · obtain rfl := idx3_eq 1 g0 g1 g2; exact (head1 _ _ _ _ _ _).trans (dyb_apply (heads H t) (fun k => by rw [blk4, H.gb]) y1 _)
    · obtain rfl := idx3_eq 0 g0 g1 g2; exact (head0 _ _ _ _ _ _).trans (dyb_apply (heads H t) (fun k => by rw [blk4, H.gb]) y1 _)
  · rw [outsAt0_B m c t h0 (by omega) h0 (by omega)]
    frame_open
    frame_out
    canon_tiles y g <;> idx_vars y
    all_goals obtain rfl : y0 = 0 := Subsingleton.elim _ _
    · obtain rfl := idx3_eq 7 g0 g1 g2; exact (head7 _ _ _).trans (dyb_apply (heads H t) (fun k => by rw [blk4, H.gb]) y1 _)
    · obtain rfl := idx3_eq 6 g0 g1 g2; exact (head6 _ _ _).trans (dyb_apply (heads H t) (fun k => by rw [blk4, H.gb]) y1 _)
    · obtain rfl := idx3_eq 5 g0 g1 g2; exact (head5 _ _ _).trans (dyb_apply (heads H t) (fun k => by rw [blk4, H.gb]) y1 _)
    · obtain rfl := idx3_eq 4 g0 g1 g2; exact (head4 _ _ _).trans (dyb_apply (heads H t) (fun k => by rw [blk4, H.gb]) y1 _)
    · obtain rfl := idx3_eq 3 g0 g1 g2; exact (head3 _ _ _ _ _ _).trans (dyb_apply (heads H t) (fun k => by rw [blk4, H.gb]) y1 _)
    · obtain rfl := idx3_eq 2 g0 g1 g2; exact (head2 _ _ _ _ _ _).trans (dyb_apply (heads H t) (fun k => by rw [blk4, H.gb]) y1 _)
    · obtain rfl := idx3_eq 1 g0 g1 g2; exact (head1 _ _ _ _ _ _).trans (dyb_apply (heads H t) (fun k => by rw [blk4, H.gb]) y1 _)
    · obtain rfl := idx3_eq 0 g0 g1 g2; exact (head0 _ _ _ _ _ _).trans (dyb_apply (heads H t) (fun k => by rw [blk4, H.gb]) y1 _)

/-- After a point the gains' gradient holds the rows up to that point's. -/
theorem out_dga : ∀ (i : ℕ) (hi : i < cfg0.N) (k : Fin 1024),
    (outsAt0 m c i hi).2.2.1 (ix2 0 k) = (upto (fun t => ∑ r, A.dg (row t r) k) (i + 1) : EReal)
  | 0, hi, k => by
    rw [upto_one, outsAt0_A m c ⟨0, hi⟩ rfl (show ¬1 ≤ 0 by decide) rfl (show ¬1 ≤ 0 by decide)]
    frame_open
    frame_out
    exact parta_apply (holds H ⟨0, hi⟩) k
  | i + 1, hi, k => by
    have P := out_dga i (Nat.lt_of_succ_lt hi)
    have h8 : i + 1 < 8 := hi
    rw [upto_succ _ _ h8, outsAt0_B m c ⟨i + 1, hi⟩ (show ¬(i + 1) % 8 = 0 by omega) (show 1 ≤ i + 1 by omega)
      (show ¬(i + 1) % 8 = 0 by omega) (show 1 ≤ i + 1 by omega)]
    frame_open
    frame_out
    exact morea_apply (holds H ⟨i + 1, hi⟩) P k

/-- After a point the gains' gradient holds the rows up to that point's. -/
theorem out_dgb : ∀ (i : ℕ) (hi : i < cfg0.N) (k : Fin 1024),
    (outsAt0 m c i hi).2.2.2 (ix2 0 k) = (upto (fun t => ∑ r, B.dg (row t r) k) (i + 1) : EReal)
  | 0, hi, k => by
    rw [upto_one, outsAt0_A m c ⟨0, hi⟩ rfl (show ¬1 ≤ 0 by decide) rfl (show ¬1 ≤ 0 by decide)]
    frame_open
    frame_out
    exact partb_apply (heads H ⟨0, hi⟩) k
  | i + 1, hi, k => by
    have P := out_dgb i (Nat.lt_of_succ_lt hi)
    have h8 : i + 1 < 8 := hi
    rw [upto_succ _ _ h8, outsAt0_B m c ⟨i + 1, hi⟩ (show ¬(i + 1) % 8 = 0 by omega) (show 1 ≤ i + 1 by omega)
      (show ¬(i + 1) % 8 = 0 by omega) (show 1 ≤ i + 1 by omega)]
    frame_open
    frame_out
    exact moreb_apply (heads H ⟨i + 1, hi⟩) P k

theorem final_dya : (dats m 0 c).arrAt 5 cfg0.N = Cert.Reference20Ideal.Read.val_main_v73 (F := Ideal) (m ((c : Thread nD τ).loc main_arg0))
    (m ((c : Thread nD τ).loc main_arg1)) (m ((c : Thread nD τ).loc main_arg3)) := by
  refine (dats m 0 c).arrAt_eq_of_covers 5 _ (by decide +kernel) fun t hf y => ?_
  blk_simp
  rw [after0_5]
  idx_vars y
  have hy : ((View.whole main_v5_0).slice (win0_5.rect t)).emb (ix2 y0 y1) = ix2 (row (pt t) y0) y1 := by
    blk_ext [idx5 t, row, pt]
  rw [hy, Cert.Reference20Ideal.NormCatBwd.dya_apply H]
  exact out_dya H t y0 y1

theorem final_dyb : (dats m 0 c).arrAt 6 cfg0.N = Cert.Reference20Ideal.Read.val_main_v75 (F := Ideal) (m ((c : Thread nD τ).loc main_arg0))
    (m ((c : Thread nD τ).loc main_arg2)) (m ((c : Thread nD τ).loc main_arg4)) := by
  refine (dats m 0 c).arrAt_eq_of_covers 6 _ (by decide +kernel) fun t hf y => ?_
  blk_simp
  rw [after0_6]
  idx_vars y
  have hy : ((View.whole main_v5_1).slice (win0_6.rect t)).emb (ix3 y0 y1 y2) = ix3 y0 (row (pt t) y1) y2 := by
    blk_ext [idx6 t, row, pt]
  rw [hy, Cert.Reference20Ideal.NormCatBwd.dyb_heads H]
  exact out_dyb H t (ix3 y0 y1 y2)

theorem final_dga : (dats m 0 c).arrAt 7 cfg0.N = Cert.Reference20Ideal.Read.val_main_v57 (F := Ideal) (m ((c : Thread nD τ).loc main_arg0))
    (m ((c : Thread nD τ).loc main_arg1)) := by
  refine (dats m 0 c).arrAt_eq_of_covers 7 _ (by decide +kernel) fun t hf y => ?_
  have h7 := (flush0_7 t).mp hf
  blk_simp
  rw [after0_7]
  idx_vars y
  obtain rfl : y0 = 0 := Subsingleton.elim _ _
  have hy : ((View.whole main_v5_2).slice (win0_7.rect t)).emb (ix2 0 y1) = ix2 0 y1 := by
    blk_ext [idx7 t]
  rw [hy, Cert.Reference20Ideal.NormCatBwd.dga_apply H, ← sum_rows, ← upto_all]
  refine (out_dga H t.val t.isLt y1).trans ?_
  rw [show t.val + 1 = 8 by have := t.isLt; have : cfg0.N = 8 := rfl; omega]

theorem final_dgb : (dats m 0 c).arrAt 8 cfg0.N = Cert.Reference20Ideal.Read.val_main_v38 (F := Ideal) (m ((c : Thread nD τ).loc main_arg0))
    (m ((c : Thread nD τ).loc main_arg2)) := by
  refine (dats m 0 c).arrAt_eq_of_covers 8 _ (by decide +kernel) fun t hf y => ?_
  have h7 := (flush0_8 t).mp hf
  blk_simp
  rw [after0_8]
  idx_vars y
  obtain rfl : y0 = 0 := Subsingleton.elim _ _
  have hy : ((View.whole main_v5_3).slice (win0_8.rect t)).emb (ix2 0 y1) = ix2 0 y1 := by
    blk_ext [idx8 t]
  rw [hy, Cert.Reference20Ideal.NormCatBwd.dgb_apply H, ← sum_rows, ← upto_all]
  refine (out_dgb H t.val t.isLt y1).trans ?_
  rw [show t.val + 1 = 8 by have := t.isLt; have : cfg0.N = 8 := rfl; omega]

end Cert.Kernel20Ideal.NormCatBwd

/-! ## The claims -/

namespace Cert.Proof.NormCatBwdClaims

open Idealize.ShloMosaic Idealize.ShloMosaic.TcCoe Idealize.SL.Sem
open Cert.Kernel20Ideal.NormCatBwd

instance preFacts : Cert.Pre_finite20.Facts := ⟨by decide, by decide, by decide⟩

theorem frame_p : Cert.quiescent_Kernel20 := fun m ρ _ => Cert.Kernel20.Gen.frame m ρ
theorem frame_pi : Cert.quiescent_Kernel20Ideal := fun m ρ _ => Cert.Kernel20Ideal.Gen.frame m ρ
theorem frame_pi' : Cert.quiescent_Kernel20Ideal_pre_finite20 := fun m ρ _ => Cert.Kernel20Ideal.Gen.frame m ρ
theorem frame_ri : Cert.quiescent_Reference20Ideal := fun m ρ _ =>
  (θ_run Cert.Reference20Ideal.defs _ _).mono (fun r h => ⟨fun c => (h c).2.2.2.2,
      Idealize.ShloMosaic.sem_eq_zero_of_no_sems (by decide) r.2⟩)
    (Cert.Reference20Ideal.Value.run (F := Ideal) m ρ)
theorem frame_ri' : Cert.quiescent_Reference20Ideal_pre_finite20 := fun m ρ _ => frame_ri m ρ trivial

/-- From finite arguments the kernel and the reference end with the same gradients. -/
theorem algebraic : Cert.algebraic_Kernel20Ideal_Reference20Ideal_pre_finite20 := by
  intro m ρ m' ρ' hpre hagree
  refine ⟨_, _, _, _, Cert.Kernel20Ideal.Value.run_blocks (F := Ideal) m ρ, ?_⟩
  refine (θ_run Cert.Reference20Ideal.defs _ _).mono
    (fun _ h c => ⟨(h c).1.trans ?_, (h c).2.1.trans ?_, (h c).2.2.1.trans ?_, (h c).2.2.2.1.trans ?_, (h c).2.2.2.2⟩)
    (Cert.Reference20Ideal.Value.run (F := Ideal) m' ρ')
  all_goals
    obtain ⟨p0, p1, p2, p3, p4⟩ := hpre c
    obtain ⟨a0, h0⟩ := Cert.Finite.real_of_pre _ _ _ p0
    obtain ⟨a1, h1⟩ := Cert.Finite.real_of_pre _ _ _ p1
    obtain ⟨a2, h2⟩ := Cert.Finite.real_of_pre _ _ _ p2
    obtain ⟨a3, h3⟩ := Cert.Finite.real_of_pre _ _ _ p3
    obtain ⟨a4, h4⟩ := Cert.Finite.real_of_pre _ _ _ p4
    have H : Cert.Reference20Ideal.NormCatBwd.Args
        ⟨fun r k => a0 (ix3 0 r ⟨k.val, by omega⟩), fun r k => a1 (ix3 0 r k), fun k => a3 (ix2 0 k)⟩
        ⟨fun r k => a0 (ix3 0 r ⟨1024 + k.val, by omega⟩), fun r k => a2 (ix3 0 r k), fun k => a4 (ix2 0 k)⟩ _ _ _ _ _ :=
      ⟨fun _ _ => congrFun h0 _, fun _ _ => congrFun h0 _, fun _ _ => congrFun h1 _, fun _ _ => congrFun h2 _,
        fun _ => congrFun h3 _, fun _ => congrFun h4 _⟩
    obtain ⟨e0, e1, e2, e3, e4⟩ := hagree c
  · refine (Cert.Reference20Ideal.Read.val_main_v73_eq _ _).trans (Eq.trans ?_ (final_dya H).symm)
    exact congr (congr (congrArg _ e0) e1) e3
  · refine (Cert.Reference20Ideal.Read.val_main_v75_eq _ _).trans (Eq.trans ?_ (final_dyb H).symm)
    exact congr (congr (congrArg _ e0) e2) e4
  · refine (Cert.Reference20Ideal.Read.val_main_v57_eq _ _).trans (Eq.trans ?_ (final_dga H).symm)
    exact congr (congrArg _ e0) e1
  · refine (Cert.Reference20Ideal.Read.val_main_v38_eq _ _).trans (Eq.trans ?_ (final_dgb H).symm)
    exact congr (congrArg _ e0) e2

end Cert.Proof.NormCatBwdClaims

end
-- ==== Proof.MemProjection.lean ====
/- The projection of the context into keys and values: the kernel's blocks, one device's columns after another, are read at an index
and are the reference's product. -/
module

public import proofs.«01_k».proof.Defs
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel21Ideal.MemProjection

open Cert.Kernel21Ideal Cert.Kernel21Ideal.Gen Idealize.ShloMosaic Idealize.ShloMosaic.TcCoe Idealize.SL.Sem
open Idealize.ShloMosaic.Pipeline (Dat)

/-- A block's product at a coordinate. -/
theorem pay1_apply (v0 : Vec Ideal S256x2048 .bf16) (v2 : Vec Ideal S1x2048x512 .bf16) (r : Fin 256) (j : Fin 512) :
    k0_pay1 (F := Ideal) v0 v2 (ix2 r j) = ∑ k : Fin 2048, v0 (ix2 r k) * v2 (ix3 0 k j) := by
  pointwise [k0_pay1]

/-- The reference's product at a coordinate. -/
theorem ref_apply (x0 : Vec Ideal S1x256x2048 .f32) (x1 : Vec Ideal S2048x4096 .f32) (s : Fin 256) (n : Fin 4096) :
    Cert.Reference21Ideal.Read.val_main_v2 (F := Ideal) x0 x1 (ix2 s n) = ∑ k : Fin 2048, x0 (ix3 0 s k) * x1 (ix2 k n) := by
  pointwise [Cert.Reference21Ideal.Read.val_main_v2, Cert.Reference21Ideal.Read.val_main_v1, Cert.Reference21Ideal.Read.val_main_v0]

variable (m : (ℓ : Loc nD τ sig) → Buf (Elt Ideal) ℓ)

theorem idx0 : ∀ t : Fin cfg0.N, win0_0.index t = ![0, 0] :=
  (by decide +kernel : ∀ t : Fin grid0.N, win0_0.index t = ![0, 0])
theorem idx1 : ∀ t : Fin cfg0.N, win0_1.index t = ![t.val, 0, 0] :=
  (by decide +kernel : ∀ t : Fin grid0.N, win0_1.index t = ![t.val, 0, 0])
theorem idx2 : ∀ t : Fin cfg0.N, win0_2.index t = ![0, t.val] :=
  (by decide +kernel : ∀ t : Fin grid0.N, win0_2.index t = ![0, t.val])

/-- Column `j` of the tile at point `t`, among all the columns. -/
def col (t : Fin cfg0.N) (j : Fin 512) : Fin 4096 :=
  ⟨t.val * 512 + j.val, by have := t.isLt; have := j.isLt; have : cfg0.N = 8 := rfl; omega⟩

theorem blk0 (c : Dev nD) (t : Fin cfg0.N) (r : Fin 256) (k : Fin 2048) :
    iblk m c 0 t (ix2 r k) = m ((c : Thread nD τ).loc main_arg0) (ix3 0 r k) := by
  blk_simp [iblk, idx0 t]
  entry_read
  pointwise
  blk_ext [idx0 t]

theorem blk1 (c : Dev nD) (t : Fin cfg0.N) (k : Fin 2048) (j : Fin 512) :
    iblk m c 1 t (ix3 0 k j) = m ((c : Thread nD τ).loc main_arg1) (ix2 k (col t j)) := by
  blk_simp [iblk, idx1 t]
  entry_read
  pointwise
  blk_ext [idx1 t, col]

/-- The result array is the reference's. -/
theorem final (c : Dev nD) :
    (dats m 0 c).arrAt 2 cfg0.N = Cert.Reference21Ideal.Read.val_main_v2 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have hy : ((View.whole main_v5).slice (win0_2.rect t)).emb (ix2 y0 y1) = ix2 y0 (col t y1) := by
    blk_ext [idx2 t, col]
  rw [hy, pay1_apply, ref_apply]
  simp only [blk0, blk1]

end Cert.Kernel21Ideal.MemProjection

/-! ## The claims -/

namespace Cert.Proof.MemProjectionClaims

open Idealize.ShloMosaic Idealize.ShloMosaic.TcCoe Idealize.SL.Sem

theorem frame_p : Cert.quiescent_Kernel21 := fun m ρ _ => Cert.Kernel21.Gen.frame m ρ
theorem frame_pi : Cert.quiescent_Kernel21Ideal := fun m ρ _ => Cert.Kernel21Ideal.Gen.frame m ρ
theorem frame_ri : Cert.quiescent_Reference21Ideal := fun m ρ _ =>
  (θ_run Cert.Reference21Ideal.defs _ _).mono (fun r h => ⟨fun c => (h c).2,
      Idealize.ShloMosaic.sem_eq_zero_of_no_sems (by decide) r.2⟩)
    (Cert.Reference21Ideal.Value.run (F := Ideal) m ρ)

/-- The kernel and the reference end with the same product. -/
theorem algebraic : Cert.algebraic_Kernel21Ideal_Reference21Ideal := by
  intro m ρ m' ρ' _ hagree
  refine ⟨_, Cert.Kernel21Ideal.Value.run_blocks (F := Ideal) m ρ, ?_⟩
  refine (θ_run Cert.Reference21Ideal.defs _ _).mono (fun _ h c => ⟨(h c).1.trans ?_, (h c).2⟩)
    (Cert.Reference21Ideal.Value.run (F := Ideal) m' ρ')
  rw [(hagree c).1, (hagree c).2]
  exact (Cert.Kernel21Ideal.MemProjection.final m c).symm

end Cert.Proof.MemProjectionClaims

end
-- ==== Proof.MemWeightGrad.lean ====
/- The weight gradient of the projection of the context into keys and values: the kernel's blocks of `xᵀ · dz`, one device's columns
after another, are read at an index and are the columns of the gradient that the reference differentiates. -/
module

public import proofs.«01_k».proof.Defs
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel22Ideal.MemWeightGrad

open Cert.Kernel22Ideal Cert.Kernel22Ideal.Gen Idealize.ShloMosaic Idealize.ShloMosaic.TcCoe Idealize.SL.Sem
open Idealize.ShloMosaic.Pipeline (Dat)

/-- A block's product at a coordinate: the sum over the tokens. -/
theorem pay1_apply (v0 : Vec Ideal S256x512 .bf16) (v2 : Vec Ideal S256x512 .bf16) (k : Fin 512) (j : Fin 512) :
    k0_pay1 (F := Ideal) v0 v2 (ix3 0 k j) = ∑ s : Fin 256, v0 (ix2 s k) * v2 (ix2 s j) := by
  pointwise [k0_pay1]

/-- Column `j` of device `g`, among all the columns. -/
def gcol (g : Fin 8) (j : Fin 512) : Fin 4096 := ⟨g.val * 512 + j.val, by have := g.isLt; have := j.isLt; omega⟩

/-- The reference's gradient at a coordinate. -/
theorem ref_apply (x0 : Vec Ideal S1x256x2048 .f32) (x1 : Vec Ideal S1x256x4096 .f32) (g : Fin 8) (k : Fin 2048) (j : Fin 512) :
    Cert.Reference22Ideal.Read.val_main_v8 (F := Ideal) x0 x1 (ix3 g k j)
      = ∑ s : Fin 256, x0 (ix3 0 s k) * x1 (ix3 0 s (gcol g j)) := by
  have e : Cert.Reference22Ideal.Read.val_main_v8 (F := Ideal) x0 x1 (ix3 g k j)
      = ∑ s : Fin 256, x1 (ix3 0 s (gcol g j)) * x0 (ix3 0 s k) := by
    rw [show gcol g j = ⟨g.val * 512 + j.val, by have := g.isLt; have := j.isLt; omega⟩ from rfl]
    pointwise [Cert.Reference22Ideal.Read.val_main_v8, Cert.Reference22Ideal.Read.val_main_v7, Cert.Reference22Ideal.Read.val_main_v6, Cert.Reference22Ideal.Read.val_main_v5, Cert.Reference22Ideal.Read.val_main_v4, Cert.Reference22Ideal.Read.val_main_v3, Cert.Reference22Ideal.Read.val_main_v1]
  rw [e]
  exact Finset.sum_congr rfl fun s _ => mul_comm _ _

variable (m : (ℓ : Loc nD τ sig) → Buf (Elt Ideal) ℓ)

theorem idx0 : ∀ t : Fin cfg0.N, win0_0.index t = ![0, t.val % 4] :=
  (by decide +kernel : ∀ t : Fin grid0.N, win0_0.index t = ![0, t.val % 4])
theorem idx1 : ∀ t : Fin cfg0.N, win0_1.index t = ![0, t.val / 4] :=
  (by decide +kernel : ∀ t : Fin grid0.N, win0_1.index t = ![0, t.val / 4])
theorem idx2 : ∀ t : Fin cfg0.N, win0_2.index t = ![t.val / 4, t.val % 4, 0] :=
  (by decide +kernel : ∀ t : Fin grid0.N, win0_2.index t = ![t.val / 4, t.val % 4, 0])

/-- The device whose columns point `t` computes. -/
def dev (t : Fin cfg0.N) : Fin 8 := ⟨t.val / 4, by have := t.isLt; have : cfg0.N = 32 := rfl; omega⟩

/-- Row `k` of the tile at point `t`, among all the channels. -/
def row (t : Fin cfg0.N) (k : Fin 512) : Fin 2048 := ⟨t.val % 4 * 512 + k.val, by have := k.isLt; omega⟩

theorem blk0 (c : Dev nD) (t : Fin cfg0.N) (s : Fin 256) (k : Fin 512) :
    iblk m c 0 t (ix2 s k) = m ((c : Thread nD τ).loc main_arg0) (ix3 0 s (row t k)) := by
  blk_simp [iblk, idx0 t]
  entry_read
  pointwise
  blk_ext [idx0 t, row]

theorem blk1 (c : Dev nD) (t : Fin cfg0.N) (s : Fin 256) (j : Fin 512) :
    iblk m c 1 t (ix2 s j) = m ((c : Thread nD τ).loc main_arg1) (ix3 0 s (gcol (dev t) j)) := by
  blk_simp [iblk, idx1 t]
  entry_read
  pointwise
  blk_ext [idx1 t, gcol, dev]

/-- The result array is the reference's. -/
theorem final (c : Dev nD) :
    (dats m 0 c).arrAt 2 cfg0.N = Cert.Reference22Ideal.Read.val_main_v8 (F := Ideal)
      (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  obtain rfl : y0 = 0 := Subsingleton.elim _ _
  have hy : ((View.whole main_v4).slice (win0_2.rect t)).emb (ix3 0 y1 y2) = ix3 (dev t) (row t y1) y2 := by
    blk_ext [idx2 t, row, dev]
  rw [hy, pay1_apply, ref_apply]
  simp only [blk0, blk1]

end Cert.Kernel22Ideal.MemWeightGrad

/-! ## The claims -/

namespace Cert.Proof.MemWeightGradClaims

open Idealize.ShloMosaic Idealize.ShloMosaic.TcCoe Idealize.SL.Sem

theorem frame_p : Cert.quiescent_Kernel22 := fun m ρ _ => Cert.Kernel22.Gen.frame m ρ
theorem frame_pi : Cert.quiescent_Kernel22Ideal := fun m ρ _ => Cert.Kernel22Ideal.Gen.frame m ρ
theorem frame_ri : Cert.quiescent_Reference22Ideal := fun m ρ _ =>
  (θ_run Cert.Reference22Ideal.defs _ _).mono (fun r h => ⟨fun c => (h c).2,
      Idealize.ShloMosaic.sem_eq_zero_of_no_sems (by decide) r.2⟩)
    (Cert.Reference22Ideal.Value.run (F := Ideal) m ρ)

/-- The kernel and the reference end with the same weight gradient. -/
theorem algebraic : Cert.algebraic_Kernel22Ideal_Reference22Ideal := by
  intro m ρ m' ρ' _ hagree
  refine ⟨_, Cert.Kernel22Ideal.Value.run_blocks (F := Ideal) m ρ, ?_⟩
  refine (θ_run Cert.Reference22Ideal.defs _ _).mono (fun _ h c => ⟨(h c).1.trans ?_, (h c).2⟩)
    (Cert.Reference22Ideal.Value.run (F := Ideal) m' ρ')
  rw [(hagree c).1, (hagree c).2]
  exact (Cert.Kernel22Ideal.MemWeightGrad.final m c).symm

end Cert.Proof.MemWeightGradClaims

end
-- ==== Proof.MemInputGrad.lean ====
/- The input gradient of the projection of the context into keys and values: the kernel adds up one device's columns after another,
`dz · wᵀ` over eight groups of columns, and the sum is the gradient that the reference differentiates. -/
module

public import proofs.«01_k».proof.Defs
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel23Ideal.MemInputGrad

open Cert.Kernel23Ideal Cert.Kernel23Ideal.Gen Idealize.ShloMosaic Idealize.ShloMosaic.TcCoe Idealize.SL.Sem
open Idealize.ShloMosaic.Pipeline (Dat)

/-- One device's share at a coordinate: the sum over its columns. -/
theorem pay1_apply (v0 : Vec Ideal S256x512 .bf16) (v2 : Vec Ideal S1x2048x512 .bf16) (r : Fin 256) (k : Fin 2048) :
    k0_pay1 (F := Ideal) v0 v2 (ix2 r k) = ∑ j : Fin 512, v0 (ix2 r j) * v2 (ix3 0 k j) := by
  pointwise [k0_pay1]

theorem pay2_apply (v0 : Vec Ideal S256x512 .bf16) (v2 : Vec Ideal S1x2048x512 .bf16) (v11 : Vec Ideal S256x2048 .f32)
    (r : Fin 256) (k : Fin 2048) :
    k0_pay2 (F := Ideal) v0 v2 v11 (ix2 r k) = v11 (ix2 r k) + ∑ j : Fin 512, v0 (ix2 r j) * v2 (ix3 0 k j) := by
  pointwise [k0_pay2, k0_pay1]

/-- Column `j` of device `g`, among all the columns. -/
def gcol (g : Fin 8) (j : Fin 512) : Fin 4096 := ⟨g.val * 512 + j.val, by have := g.isLt; have := j.isLt; omega⟩

/-- A sum over the columns, device by device. -/
theorem sum_cols {M : Type*} [AddCommMonoid M] (f : Fin 4096 → M) : ∑ n, f n = ∑ g, ∑ j, f (gcol g j) :=
  Fin.sum_univ_tiles 8 512 rfl f

/-- Device `g`'s share of the gradient at a token and a channel. -/
def share (x0 : Vec Ideal S1x256x4096 .f32) (x1 : Vec Ideal S2048x4096 .f32) (s : Fin 256) (k : Fin 2048) (g : Fin 8) : EReal :=
  ∑ j : Fin 512, x0 (ix3 0 s (gcol g j)) * x1 (ix2 k (gcol g j))

/-- The reference's gradient at a coordinate. -/
theorem ref_apply (x0 : Vec Ideal S1x256x4096 .f32) (x1 : Vec Ideal S2048x4096 .f32) (s : Fin 256) (k : Fin 2048) :
    Cert.Reference23Ideal.Read.val_main_v3 (F := Ideal) x0 x1 (ix2 s k) = ∑ g, share x0 x1 s k g := by
  have e : Cert.Reference23Ideal.Read.val_main_v3 (F := Ideal) x0 x1 (ix2 s k)
      = ∑ n : Fin 4096, x0 (ix3 0 s n) * x1 (ix2 k n) := by
    pointwise [Cert.Reference23Ideal.Read.val_main_v3, Cert.Reference23Ideal.Read.val_main_v2]
  rw [e, sum_cols]
  rfl

variable (m : (ℓ : Loc nD τ sig) → Buf (Elt Ideal) ℓ)

theorem idx0 : ∀ t : Fin cfg0.N, win0_0.index t = ![0, t.val] :=
  (by decide +kernel : ∀ t : Fin grid0.N, win0_0.index t = ![0, t.val])
theorem idx1 : ∀ t : Fin cfg0.N, win0_1.index t = ![t.val, 0, 0] :=
  (by decide +kernel : ∀ t : Fin grid0.N, win0_1.index t = ![t.val, 0, 0])
theorem idx2 : ∀ t : Fin cfg0.N, win0_2.index t = ![0, 0] :=
  (by decide +kernel : ∀ t : Fin grid0.N, win0_2.index t = ![0, 0])

/-- The device whose columns point `t` adds. -/
def dev (t : Fin cfg0.N) : Fin 8 := ⟨t.val % 8, by omega⟩

theorem blk0 (c : Dev nD) (t : Fin cfg0.N) (r : Fin 256) (j : Fin 512) :
    iblk m c 0 t (ix2 r j) = m ((c : Thread nD τ).loc main_arg0) (ix3 0 r (gcol (dev t) j)) := by
  blk_simp [iblk, idx0 t]
  entry_read
  pointwise
  blk_ext [idx0 t, gcol, dev]

theorem blk1 (c : Dev nD) (t : Fin cfg0.N) (k : Fin 2048) (j : Fin 512) :
    iblk m c 1 t (ix3 0 k j) = m ((c : Thread nD τ).loc main_arg1) (ix2 k (gcol (dev t) j)) := by
  blk_simp [iblk, idx1 t]
  entry_read
  pointwise
  blk_ext [idx1 t, gcol, dev]

/-- The first point of a tile stores its device's share. -/
theorem out_A (c : Dev nD) (t : Fin cfg0.N) (h0 : t.val % 8 = 0) (r : Fin 256) (k : Fin 2048) :
    outsAt0 m c t.val t.isLt (ix2 r k)
      = share (m ((c : Thread nD τ).loc main_arg0)) (m ((c : Thread nD τ).loc main_arg1)) r k (dev t) := by
  rw [outsAt0_A m c t h0 (by have := t.isLt; have : cfg0.N = 8 := rfl; omega)]
  frame_open
  frame_out
  rw [pay1_apply]
  simp only [blk0, blk1, share]

/-- A later point adds its device's share to what the point before left. -/
theorem out_B (c : Dev nD) (t : Fin cfg0.N) (h0 : ¬t.val % 8 = 0) (r : Fin 256) (k : Fin 2048) :
    outsAt0 m c t.val t.isLt (ix2 r k)
      = outsAt0 m c (t.val - 1) (Nat.lt_of_le_of_lt (Nat.sub_le _ _) t.isLt) (ix2 r k)
        + share (m ((c : Thread nD τ).loc main_arg0)) (m ((c : Thread nD τ).loc main_arg1)) r k (dev t) := by
  rw [outsAt0_B m c t h0 (by omega)]
  frame_open
  frame_out
  rw [pay2_apply]
  simp only [blk0, blk1, share]

/-- The sum over the devices before the `n`-th. -/
def before (f : Fin 8 → EReal) (n : ℕ) : EReal := ∑ i ∈ Finset.range n, if h : i < 8 then f ⟨i, h⟩ else 0

theorem before_succ (f : Fin 8 → EReal) (n : ℕ) (h : n < 8) : before f (n + 1) = before f n + f ⟨n, h⟩ := by
  rw [before, Finset.sum_range_succ, dif_pos h]; rfl
theorem before_all (f : Fin 8 → EReal) : before f 8 = ∑ g, f g := by
  rw [before, ← Fin.sum_univ_eq_sum_range (fun i => if h : i < 8 then f ⟨i, h⟩ else 0)]
  exact Finset.sum_congr rfl fun g _ => dif_pos g.isLt

/-- After a point the tile holds the shares of the devices up to the point's own. -/
theorem after (c : Dev nD) : ∀ (n : ℕ) (h : n < cfg0.N) (r : Fin 256) (k : Fin 2048),
    outsAt0 m c n h (ix2 r k)
      = before (share (m ((c : Thread nD τ).loc main_arg0)) (m ((c : Thread nD τ).loc main_arg1)) r k) (n % 8 + 1)
  | 0, h, r, k => by
    rw [before_succ _ _ (by omega)]
    refine (out_A m c ⟨0, h⟩ rfl r k).trans ?_
    rw [show before _ (0 % 8) = 0 from Finset.sum_range_zero _, zero_add]
    rfl
  | n + 1, h, r, k => by
    have P := after c n (Nat.lt_of_succ_lt h) r k
    rw [before_succ _ _ (by omega)]
    by_cases h0 : (n + 1) % 8 = 0
    · refine (out_A m c ⟨n + 1, h⟩ h0 r k).trans ?_
      rw [show ∀ f, before f ((n + 1) % 8) = 0 from fun f => by rw [h0]; exact Finset.sum_range_zero _, zero_add]
      rfl
    · refine (out_B m c ⟨n + 1, h⟩ h0 r k).trans ?_
      refine congrArg₂ (fun a b : EReal => a + b) (P.trans ?_) rfl
      rw [show n % 8 + 1 = (n + 1) % 8 by have : cfg0.N = 8 := rfl; omega]

/-- The result array is the reference's. -/
theorem final (c : Dev nD) :
    (dats m 0 c).arrAt 2 cfg0.N = Cert.Reference23Ideal.Read.val_main_v3 (F := Ideal)
      (m ((c : Thread nD τ).loc main_arg0)) (m ((c : Thread nD τ).loc main_arg1)) := by
  refine (dats m 0 c).arrAt_eq_of_covers 2 _ (by decide +kernel) fun t hf y => ?_
  have h7 := (flush0_2 t).mp hf
  blk_simp
  rw [after0_2]
  idx_vars y
  have hy : ((View.whole main_v5).slice (win0_2.rect t)).emb (ix2 y0 y1) = ix2 y0 y1 := by
    blk_ext [idx2 t]
  rw [hy, ref_apply, ← before_all]
  refine (after m c t.val t.isLt y0 y1).trans ?_
  rw [h7]

end Cert.Kernel23Ideal.MemInputGrad

/-! ## The claims -/

namespace Cert.Proof.MemInputGradClaims

open Idealize.ShloMosaic Idealize.ShloMosaic.TcCoe Idealize.SL.Sem

theorem frame_p : Cert.quiescent_Kernel23 := fun m ρ _ => Cert.Kernel23.Gen.frame m ρ
theorem frame_pi : Cert.quiescent_Kernel23Ideal := fun m ρ _ => Cert.Kernel23Ideal.Gen.frame m ρ
theorem frame_ri : Cert.quiescent_Reference23Ideal := fun m ρ _ =>
  (θ_run Cert.Reference23Ideal.defs _ _).mono (fun r h => ⟨fun c => (h c).2,
      Idealize.ShloMosaic.sem_eq_zero_of_no_sems (by decide) r.2⟩)
    (Cert.Reference23Ideal.Value.run (F := Ideal) m ρ)

/-- The kernel and the reference end with the same input gradient. -/
theorem algebraic : Cert.algebraic_Kernel23Ideal_Reference23Ideal := by
  intro m ρ m' ρ' _ hagree
  refine ⟨_, Cert.Kernel23Ideal.Value.run_blocks (F := Ideal) m ρ, ?_⟩
  refine (θ_run Cert.Reference23Ideal.defs _ _).mono (fun _ h c => ⟨(h c).1.trans ?_, (h c).2⟩)
    (Cert.Reference23Ideal.Value.run (F := Ideal) m' ρ')
  rw [(hagree c).1, (hagree c).2]
  exact (Cert.Kernel23Ideal.MemInputGrad.final m c).symm

end Cert.Proof.MemInputGradClaims

end
-- ==== Proof.SguFwd.lean ====
/- The spatial gating unit: a block of 128 tokens and a group of 128 channels is read at an index over the reals and is the
plain unit's. -/
module

public import proofs.«01_k».proof.Defs
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import Idealize.ShloMosaic.Lib.Pipeline.ValueKit
public import Idealize.ShloMosaic.Lib.Pointwise
public import Idealize.ShloMosaic.Lib.Quiescent
public import proofs.«01_k».proof.Proof.SguReal
public import proofs.«01_k».proof.Proof.SguRef
public import proofs.«01_k».proof.Proof.SguPay

@[expose] public section

set_option maxRecDepth 16384

noncomputable section

/-- A gated value: one half's gelu times the other half's mixture over the tokens. -/
def Cert.Sgu.Blk.gated (B : Cert.Sgu.Blk) (r k : Fin 128) : ℝ := Cert.Sgu.gelu (B.zu r k) * B.mixed r k

/-! ## The plain unit -/

namespace Cert.Reference24Ideal.SguFwd

open Cert.Reference24Ideal Cert.Reference24Ideal.Gen Cert.Reference24Ideal.Read Idealize.ShloMosaic Idealize.ShloMosaic.TcCoe
open Cert.Finite Cert.Sgu
open Cert.ReferenceIdeal.SguBwd (row_div row_mod chan_div chan_mod chunk chunk_eq chunk_le)

/-- The arguments hold the reals of `D`. -/
structure Args (D : Data) (x0 : Vec Ideal S1x2048x2048 .f32) (x1 x2 : Vec Ideal S1x1024 .f32)
    (x3 : Vec Ideal S8x128x128 .f32) (x4 : Vec Ideal S8x128 .f32) : Prop where
  z : ∀ r k, x0 (ix3 0 r k) = (D.z r k : EReal)
  lg : ∀ k, x1 (ix2 0 k) = (D.lg k : EReal)
  lb : ∀ k, x2 (ix2 0 k) = (D.lb k : EReal)
  w : ∀ g r s, x3 (ix3 g r s) = (D.w g r s : EReal)
  b : ∀ g r, x4 (ix2 g r) = (D.b g r : EReal)

theorem mask_apply (g : Fin 8) (r s : Fin 128) :
    val_main_call1_v0 (F := Ideal) (ix3 g r s) = if seen r s then 1#1 else 0#1 := by
  pointwise [val_main_call1_v0, val_main_v53, val_main_v52, val_main_v51, val_main_v50, val_main_v49, val_main_v48, val_main_v47, val_main_call0_v13, val_main_call0_v12, val_main_call0_c_0, val_main_call0_v11, val_main_call0_v10, val_main_call0_v9, val_main_call0_c, val_main_call0_v8, val_main_call0_v7, val_main_call0_v6, val_main_call0_v5, val_main_call0_v4, val_main_call0_v3, val_main_call0_v2, val_main_call0_v1, val_main_call0_v0, val_main_c, val_main_v46]
  change IntOp.cmpi .sle (chunk (BitVec.ofNat 32 s.val)) (chunk (BitVec.ofNat 32 r.val)) = _
  rw [chunk_eq, chunk_eq]
  exact chunk_le ⟨s.val / 64, by omega⟩ ⟨r.val / 64, by omega⟩

variable {D : Data} {x0 : Vec Ideal S1x2048x2048 .f32} {x1 x2 : Vec Ideal S1x1024 .f32}
    {x3 : Vec Ideal S8x128x128 .f32} {x4 : Vec Ideal S8x128 .f32} (H : Args D x0 x1 x2 x3 x4)
include H

theorem gelu_apply (R j : Fin 2048) : val_main_v15 (F := Ideal) x0 (ix2 R j) = (gelu (D.z R j) : EReal) := by
  pointwise [val_main_v15, val_main_v14, val_main_v13, val_main_cst_3, val_main_v12, val_main_v11, val_main_cst_2, val_main_v10, val_main_v9, val_main_v8, val_main_cst_1, val_main_v7, val_main_v6, val_main_v5, val_main_cst_0, val_main_v4, val_main_v3, val_main_cst, val_main_v2, val_main_v1, val_main_v0]
  simp only [H.z, c_44715, c_million, c_gc, c_half, r_one, r_mul, r_divm, r_add, r_tanh]
  rw [gelu, th, ← show D.z R j + 44715 * (D.z R j * D.z R j * D.z R j) / 1000000
    = D.z R j + 8943 / 200000 * (D.z R j * D.z R j * D.z R j) by ring]
  exact congrArg _ (by ring)

theorem u_apply (t : Fin 16) (r : Fin 128) (g : Fin 8) (k : Fin 128) :
    val_main_v16 (F := Ideal) x0 (ix2 (row t r) (chan g k)) = (gelu ((D.blk t g).zu r k) : EReal) := by
  pointwise [val_main_v16]
  exact gelu_apply H _ _

theorem v_apply (t : Fin 16) (r : Fin 128) (g : Fin 8) (k : Fin 128) :
    val_main_v18 (F := Ideal) x0 (ix3 (row t r) g k) = ((D.blk t g).v r k : EReal) := by
  pointwise [val_main_v18, val_main_v17]
  exact gelu_apply H _ _

theorem mean_apply (t : Fin 16) (r : Fin 128) (g : Fin 8) :
    val_main_v24 (F := Ideal) x0 (ix3 (row t r) g 0) = (mean ((D.blk t g).v r) : EReal) := by
  pointwise [val_main_v24, val_main_v23, val_main_cst_5, val_main_v22, val_main_v21, val_main_cst_4]
  simp only [v_apply H, c_128, r_sum, r_zero, r_add, r_div128, zero_add]
  rfl

theorem rs_apply (t : Fin 16) (r : Fin 128) (g : Fin 8) :
    val_main_v36 (F := Ideal) x0 (ix3 (row t r) g 0) = (rs ((D.blk t g).v r) : EReal) := by
  pointwise [val_main_v36, val_main_v35, val_main_v34, val_main_cst_8, val_main_v31, val_main_v30, val_main_cst_7, val_main_v29, val_main_v28, val_main_cst_6, val_main_v27, val_main_v26, val_main_v25]
  simp only [v_apply H, mean_apply H, c_128, c_eps, r_sub, r_mul, r_sum, r_zero, r_add, r_div128, zero_add]
  exact r_rs _

theorem vln_apply (t : Fin 16) (r : Fin 128) (g : Fin 8) (k : Fin 128) :
    val_main_v45 (F := Ideal) x0 x1 x2 (ix4 t r g k) = ((D.blk t g).vln r k : EReal) := by
  have e : val_main_v44 (F := Ideal) x0 x1 x2 (ix3 (row t r) g k) = ((D.blk t g).vln r k : EReal) := by
    pointwise [val_main_v44, val_main_v43, val_main_v42, val_main_v41, val_main_v40, val_main_v39, val_main_v38, val_main_v37, val_main_v33, val_main_v32, val_main_v20, val_main_v19]
    simp only [v_apply H, mean_apply H, rs_apply H, r_sub, r_mul]
    rw [show x1 (ix2 0 ⟨g.val * 128 + k.val, by omega⟩) = _ from H.lg (chan g k),
      show x2 (ix2 0 ⟨g.val * 128 + k.val, by omega⟩) = _ from H.lb (chan g k), r_mul, r_add]
    rfl
  pointwise [val_main_v45]
  exact e

theorem wm_apply (t : Fin 16) (g : Fin 8) (r s : Fin 128) :
    val_main_v54 (F := Ideal) x3 (ix3 g r s) = ((D.blk t g).wm r s : EReal) := by
  pointwise [val_main_v54, val_main_call1_v1, val_main_cst_9]
  simp only [mask_apply, H.w, r_zero, r_select]
  rfl

theorem mixed_apply (t : Fin 16) (r : Fin 128) (g : Fin 8) (k : Fin 128) :
    val_main_v61 (F := Ideal) x0 x1 x2 x3 x4 (ix4 t r g k) = ((D.blk t g).mixed r k : EReal) := by
  pointwise [val_main_v61, val_main_v56, val_main_v55, val_main_v60, val_main_v59, val_main_v58, val_main_v57]
  simp only [vln_apply H, wm_apply H t, H.b, r_mul, r_sum, r_add]
  rw [Blk.mixed]
  exact congrArg _ (congrArg (· + _) (Finset.sum_congr rfl fun s _ => mul_comm _ _))

theorem gated_apply (t : Fin 16) (r : Fin 128) (g : Fin 8) (k : Fin 128) :
    val_main_v63 (F := Ideal) x0 x1 x2 x3 x4 (ix2 (row t r) (chan g k)) = ((D.blk t g).gated r k : EReal) := by
  pointwise [val_main_v63, val_main_v62]
  simp only [u_apply H, row_div, row_mod, chan_div, chan_mod, mixed_apply H, r_mul]
  rfl

end Cert.Reference24Ideal.SguFwd

/-! ## The kernel -/

namespace Cert.Kernel24Ideal.SguFwd

open Cert.Kernel24Ideal Cert.Kernel24Ideal.Gen Idealize.ShloMosaic Idealize.ShloMosaic.TcCoe Idealize.SL.Sem
open Idealize.ShloMosaic.Pipeline (Dat)
open Cert.Finite Cert.Sgu
open Cert.KernelIdeal.SguBwd (floorDiv floorDiv_eq le_eq)

theorem cubic : Named.named (F := Ideal) κ "cubic" (φ := .f32) 0x3D372713#32 = ((8943 / 200000 : ℝ) : EReal) := by
  refine (IdealRules.named_const.ideal_named_scalar _ _ _ _ rfl).trans ?_
  norm_num

/-- The kernel's mask of the spatial weights. -/
abbrev mask : IVec S128x128 1 := k0_pay6 k0_pay2 k0_pay3 k0_pay4 k0_pay5

theorem mask_apply (r s : Fin 128) : mask (ix2 r s) = if seen r s then 1#1 else 0#1 := by
  pointwise [mask, k0_pay6, k0_pay2, k0_pay3, k0_pay4, k0_pay5]
  change IntOp.cmpi .sle (floorDiv (BitVec.ofNat 32 s.val)) (floorDiv (BitVec.ofNat 32 r.val)) = _
  rw [floorDiv_eq, floorDiv_eq]
  exact le_eq ⟨s.val / 64, by omega⟩ ⟨r.val / 64, by omega⟩

/-- One group's store, of its loads. -/
abbrev store (zu zv : Vec Ideal S128x128 .f32) (lg lb : Vec Ideal S1x128 .f32) (w : Vec Ideal S1x128x128 .f32)
    (bt : Vec Ideal S128x1 .f32) : Vec Ideal S128x128 .f32 :=
  k0_pay1 (k0_pay44 zu) (k0_pay46 mask (k0_pay45 zv) lg lb w) (k0_pay47 bt)

/-- The loads of one group hold the reals of `B`. -/
structure Holds (B : Blk) (zu zv : Vec Ideal S128x128 .f32) (lg lb : Vec Ideal S1x128 .f32) (w : Vec Ideal S1x128x128 .f32)
    (bt : Vec Ideal S128x1 .f32) : Prop where
  zu : ∀ r k, zu (ix2 r k) = (B.zu r k : EReal)
  zv : ∀ r k, zv (ix2 r k) = (B.zv r k : EReal)
  lg : ∀ k, lg (ix2 0 k) = (B.lg k : EReal)
  lb : ∀ k, lb (ix2 0 k) = (B.lb k : EReal)
  w : ∀ r s, w (ix3 0 r s) = (B.w r s : EReal)
  bt : ∀ r, bt (ix2 r 0) = (B.bt r : EReal)

theorem gelu_apply {z : Vec Ideal S128x128 .f32} {x : Fin 128 → Fin 128 → ℝ} (h : ∀ r k, z (ix2 r k) = (x r k : EReal))
    (r k : Fin 128) : k0_pay44 z (ix2 r k) = (gelu (x r k) : EReal) := by
  pointwise [k0_pay44]
  simp only [h, cubic, c_gc, c_half, r_one, r_mul, r_add, r_tanh]
  rfl

/-- The mixture over the tokens of a normalized and weighted group, from the group's gelu. -/
theorem mix_apply {B : Blk} {v : Vec Ideal S128x128 .f32} {lg lb : Vec Ideal S1x128 .f32} {w : Vec Ideal S1x128x128 .f32}
    (hv : ∀ r k, v (ix2 r k) = (B.v r k : EReal)) (hg : ∀ k, lg (ix2 0 k) = (B.lg k : EReal))
    (hb : ∀ k, lb (ix2 0 k) = (B.lb k : EReal)) (hw : ∀ r s, w (ix3 0 r s) = (B.w r s : EReal)) (r k : Fin 128) :
    k0_pay46 mask v lg lb w (ix2 r k) = (∑ s, B.wm r s * B.vln s k : ℝ) := by
  pointwise [k0_pay46]
  have hr : ∀ s, Ideal.rsqrt (((∑ j, (B.v s j - (∑ i, B.v s i) / 128) * (B.v s j - (∑ i, B.v s i) / 128)) / 128 + eps : ℝ) : EReal)
      = ((rs (B.v s) : ℝ) : EReal) := fun s => r_rs _
  simp only [hv, hg, hb, hw, mask_apply, c_128, c_eps, r_zero, r_select, r_sub, r_mul, r_sum, r_add, r_div128, hr, zero_add]
  exact congrArg _ (Finset.sum_congr rfl fun s _ => by rw [Blk.wm, ite_mul, zero_mul]; rfl)

theorem store_apply {B : Blk} {zu zv : Vec Ideal S128x128 .f32} {lg lb : Vec Ideal S1x128 .f32} {w : Vec Ideal S1x128x128 .f32}
    {bt : Vec Ideal S128x1 .f32} (H : Holds B zu zv lg lb w bt) (r k : Fin 128) :
    store zu zv lg lb w bt (ix2 r k) = (B.gated r k : EReal) := by
  pointwise [store, k0_pay1, k0_pay47]
  rw [gelu_apply H.zu, mix_apply (v := k0_pay45 zv) (gelu_apply H.zv) H.lg H.lb H.w, H.bt, r_add, r_mul]
  rfl

variable (m : (ℓ : Loc nD τ sig) → Buf (Elt Ideal) ℓ)

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 1] :=
  (by decide +kernel : ∀ t : Fin grid0.N, win0_1.index t = ![t.val, 1])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0, 0] :=
  (by decide +kernel : ∀ t : Fin grid0.N, win0_4.index t = ![0, 0, 0])
theorem idx5 : ∀ t : Fin cfg0.N, win0_5.index t = ![0, 0] :=
  (by decide +kernel : ∀ t : Fin grid0.N, win0_5.index t = ![0, 0])
theorem idx6 : ∀ t : Fin cfg0.N, win0_6.index t = ![t.val, 0] :=
  (by decide +kernel : ∀ t : Fin grid0.N, win0_6.index t = ![t.val, 0])

/-- A grid point as the number of its block of tokens. -/
abbrev pt (t : Fin cfg0.N) : Fin 16 := ⟨t.val, t.isLt⟩

theorem inb_cols (g : Fin 8) : ∀ a, (![0, g.val * 128] : Fin 2 → ℕ) a + S128x128.size a ≤ S128x1024.size a := by
  revert g; decide
theorem inb_row (g : Fin 8) : ∀ a, (![0, g.val * 128] : Fin 2 → ℕ) a + S1x128.size a ≤ S1x1024.size a := by
  revert g; decide
theorem inb_page (g : Fin 8) : ∀ a, (![g.val, 0, 0] : Fin 3 → ℕ) a + S1x128x128.size a ≤ S8x128x128.size a := by
  revert g; decide
theorem inb_bias (g : Fin 8) : ∀ a, (![0, g.val] : Fin 2 → ℕ) a + S128x1.size a ≤ S128x8.size a := by
  revert g; decide
abbrev cols (g : Fin 8) : Rect S128x1024 := Rect.unit ![0, g.val * 128] S128x128.size (inb_cols g)
abbrev lanes (g : Fin 8) : Rect S1x1024 := Rect.unit ![0, g.val * 128] S1x128.size (inb_row g)
abbrev page (g : Fin 8) : Rect S8x128x128 := Rect.unit ![g.val, 0, 0] S1x128x128.size (inb_page g)
abbrev bias (g : Fin 8) : Rect S128x8 := Rect.unit ![0, g.val] S128x1.size (inb_bias g)

theorem ld_cols (x : Vec Ideal S128x1024 .f32) (g : Fin 8) (r k : Fin 128) :
    View.ld x (cols g) (ix2 r k) = x (ix2 r (chan g k)) :=
  View.ld_unit_apply_of _ _ _ _ _ _ (by intro a; fin_cases a <;> simp [chan])
theorem ld_lanes (x : Vec Ideal S1x1024 .f32) (g : Fin 8) (k : Fin 128) :
    View.ld x (lanes g) (ix2 0 k) = x (ix2 0 (chan g k)) :=
  View.ld_unit_apply_of _ _ _ _ _ _ (by intro a; fin_cases a <;> simp [chan])
theorem ld_page (x : Vec Ideal S8x128x128 .f32) (g : Fin 8) (r s : Fin 128) :
    View.ld x (page g) (ix3 0 r s) = x (ix3 g r s) :=
  View.ld_unit_apply_of _ _ _ _ _ _ (by intro a; fin_cases a <;> simp)
theorem ld_bias (x : Vec Ideal S128x8 .f32) (g : Fin 8) (r : Fin 128) :
    View.ld x (bias g) (ix2 r 0) = x (ix2 r g) :=
  View.ld_unit_apply_of _ _ _ _ _ _ (by intro a; fin_cases a <;> simp)

theorem idx2_eq {y : S128x1024.Idx} (g : Fin 8) {r k : Fin 128} (e0 : (y 0).val = r.val)
    (e1 : (y 1).val = g.val * 128 + k.val) : y = ix2 r (chan g k) := by
  funext i; fin_cases i
  · exact Fin.ext e0
  · exact Fin.ext e1

variable {m} {c : Dev nD} {D : Data}
  (A : Cert.Reference24Ideal.SguFwd.Args D (m ((c : Thread nD τ).loc main_arg0)) (m ((c : Thread nD τ).loc main_arg1))
    (m ((c : Thread nD τ).loc main_arg2)) (m ((c : Thread nD τ).loc main_arg3)) (m ((c : Thread nD τ).loc main_arg4)))
include A

theorem blk0 (t : Fin cfg0.N) (r : Fin 128) (j : Fin 1024) :
    iblk m c 0 t (ix2 r j) = (D.z (row (pt t) r) ⟨j.val, by omega⟩ : EReal) := by
  rw [← A.z]
  blk_simp [iblk, idx0 t]
  entry_read
  pointwise
  blk_ext [idx0 t, row, pt]
theorem blk1 (t : Fin cfg0.N) (r : Fin 128) (j : Fin 1024) :
    iblk m c 1 t (ix2 r j) = (D.z (row (pt t) r) ⟨1024 + j.val, by omega⟩ : EReal) := by
  rw [← A.z]
  blk_simp [iblk, idx1 t]
  entry_read
  pointwise
  blk_ext [idx1 t, row, pt]
theorem blk2 (t : Fin cfg0.N) (j : Fin 1024) : iblk m c 2 t (ix2 0 j) = (D.lg j : EReal) := by
  rw [← A.lg]
  blk_simp [iblk, idx2 t]
  entry_read
  blk_ext [idx2 t]
theorem blk3 (t : Fin cfg0.N) (j : Fin 1024) : iblk m c 3 t (ix2 0 j) = (D.lb j : EReal) := by
  rw [← A.lb]
  blk_simp [iblk, idx3 t]
  entry_read
  blk_ext [idx3 t]
theorem blk4 (t : Fin cfg0.N) (g : Fin 8) (r s : Fin 128) : iblk m c 4 t (ix3 g r s) = (D.w g r s : EReal) := by
  rw [← A.w]
  blk_simp [iblk, idx4 t]
  entry_read
  blk_ext [idx4 t]
theorem blk5 (t : Fin cfg0.N) (r : Fin 128) (g : Fin 8) : iblk m c 5 t (ix2 r g) = (D.b g r : EReal) := by
  rw [← A.b]
  blk_simp [iblk, idx5 t]
  entry_read
  pointwise
  blk_ext [idx5 t]

/-- What the body loads for group `g` at point `t` holds that block's reals. -/
theorem holds (t : Fin cfg0.N) (g : Fin 8) :
    Holds (D.blk (pt t) g) (View.ld (iblk m c 0 t) (cols g)) (View.ld (iblk m c 1 t) (cols g)) (View.ld (iblk m c 2 t) (lanes g))
      (View.ld (iblk m c 3 t) (lanes g)) (View.ld (iblk m c 4 t) (page g)) (View.ld (iblk m c 5 t) (bias g)) where
  zu r k := by rw [ld_cols, blk0 A]; rfl
  zv r k := by rw [ld_cols, blk1 A]; rfl
  lg k := by rw [ld_lanes, blk2 A]; rfl
  lb k := by rw [ld_lanes, blk3 A]; rfl
  w r s := by rw [ld_page, blk4 A]; rfl
  bt r := by rw [ld_bias, blk5 A]; rfl

/-- The result array is the plain unit's: the eight groups' stores are one computation. -/
theorem final : (dats m 0 c).arrAt 6 cfg0.N = Cert.Reference24Ideal.Read.val_main_v63 (F := Ideal) (m ((c : Thread nD τ).loc main_arg0))
    (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  frame_out
  have hy : ∀ r k, ((View.whole main_v2).slice (win0_6.rect t)).emb (ix2 r k) = ix2 (row (pt t) r) k := by
    intro r k
    blk_ext [idx6 t, row, pt]
  canon_tiles y g <;> idx_vars y
  · obtain rfl := idx2_eq 7 (r := y0) (k := y1) g0 g1
    rw [hy, Cert.Reference24Ideal.SguFwd.gated_apply A]
    exact store_apply (holds A t 7) y0 y1
  · obtain rfl := idx2_eq 6 (r := y0) (k := y1) g0 g1
    rw [hy, Cert.Reference24Ideal.SguFwd.gated_apply A]
    exact store_apply (holds A t 6) y0 y1
  · obtain rfl := idx2_eq 5 (r := y0) (k := y1) g0 g1
    rw [hy, Cert.Reference24Ideal.SguFwd.gated_apply A]
    exact store_apply (holds A t 5) y0 y1
  · obtain rfl := idx2_eq 4 (r := y0) (k := y1) g0 g1
    rw [hy, Cert.Reference24Ideal.SguFwd.gated_apply A]
    exact store_apply (holds A t 4) y0 y1
  · obtain rfl := idx2_eq 3 (r := y0) (k := y1) g0 g1
    rw [hy, Cert.Reference24Ideal.SguFwd.gated_apply A]
    exact store_apply (holds A t 3) y0 y1
  · obtain rfl := idx2_eq 2 (r := y0) (k := y1) g0 g1
    rw [hy, Cert.Reference24Ideal.SguFwd.gated_apply A]
    exact store_apply (holds A t 2) y0 y1
  · obtain rfl := idx2_eq 1 (r := y0) (k := y1) g0 g1
    rw [hy, Cert.Reference24Ideal.SguFwd.gated_apply A]
    exact store_apply (holds A t 1) y0 y1
  · obtain rfl := idx2_eq 0 (r := y0) (k := y1) g0 (by simpa using g1)
    rw [hy, Cert.Reference24Ideal.SguFwd.gated_apply A]
    exact store_apply (holds A t 0) y0 y1

end Cert.Kernel24Ideal.SguFwd

/-! ## The claims -/

namespace Cert.Proof.SguFwdClaims

open Idealize.ShloMosaic Idealize.ShloMosaic.TcCoe Idealize.SL.Sem
open Cert.Kernel24Ideal.SguFwd

instance preFacts : Cert.Pre_finite24.Facts := ⟨by decide, by decide, by decide, by decide⟩

theorem frame_p : Cert.quiescent_Kernel24 := fun m ρ _ => Cert.Kernel24.Gen.frame m ρ
theorem frame_pi : Cert.quiescent_Kernel24Ideal := fun m ρ _ => Cert.Kernel24Ideal.Gen.frame m ρ
theorem frame_pi' : Cert.quiescent_Kernel24Ideal_pre_finite24 := fun m ρ _ => Cert.Kernel24Ideal.Gen.frame m ρ
theorem frame_ri : Cert.quiescent_Reference24Ideal := fun m ρ _ =>
  (θ_run Cert.Reference24Ideal.defs _ _).mono (fun r h => ⟨fun c => (h c).2,
      Idealize.ShloMosaic.sem_eq_zero_of_no_sems (by decide) r.2⟩)
    (Cert.Reference24Ideal.Value.run (F := Ideal) m ρ)
theorem frame_ri' : Cert.quiescent_Reference24Ideal_pre_finite24 := fun m ρ _ => frame_ri m ρ trivial

/-- The constant of the gelu denotes the decimal it is written as. -/
theorem preserves : Cert.preserves_Kernel24_Kernel24Ideal :=
  IdealRules.named_const.statement Cert.Kernel24Ideal.κ "cubic" .f32 0x3D372713#32 ((8943 / 200000 : ℝ) : EReal) rfl

/-- From finite arguments the kernel and the reference end with the same gated values. -/
theorem algebraic : Cert.algebraic_Kernel24Ideal_Reference24Ideal_pre_finite24 := by
  intro m ρ m' ρ' hpre hagree
  refine ⟨_, Cert.Kernel24Ideal.Value.run_blocks (F := Ideal) m ρ, ?_⟩
  refine (θ_run Cert.Reference24Ideal.defs _ _).mono (fun _ h c => ⟨(h c).1.trans ?_, (h c).2⟩)
    (Cert.Reference24Ideal.Value.run (F := Ideal) m' ρ')
  obtain ⟨p0, p1, p2, p3, p4⟩ := hpre c
  obtain ⟨a0, h0⟩ := Cert.Finite.real_of_pre _ _ _ p0
  obtain ⟨a1, h1⟩ := Cert.Finite.real_of_pre _ _ _ p1
  obtain ⟨a2, h2⟩ := Cert.Finite.real_of_pre _ _ _ p2
  obtain ⟨a3, h3⟩ := Cert.Finite.real_of_pre _ _ _ p3
  obtain ⟨a4, h4⟩ := Cert.Finite.real_of_pre _ _ _ p4
  have A : Cert.Reference24Ideal.SguFwd.Args ⟨fun r k => a0 (ix3 0 r k), fun _ _ => 0, fun k => a1 (ix2 0 k), fun k => a2 (ix2 0 k),
      fun g r s => a3 (ix3 g r s), fun g r => a4 (ix2 g r)⟩ _ _ _ _ _ :=
    ⟨fun _ _ => congrFun h0 _, fun _ => congrFun h1 _, fun _ => congrFun h2 _, fun _ _ _ => congrFun h3 _,
      fun _ _ => congrFun h4 _⟩
  obtain ⟨e0, e1, e2, e3, e4⟩ := hagree c
  refine (Cert.Reference24Ideal.Read.val_main_v63_eq _ _).trans (Eq.trans ?_ (final A).symm)
  exact congr (congr (congr (congr (congrArg _ e0) e1) e2) e3) e4

end Cert.Proof.SguFwdClaims

end
-- ==== Proof.XattnFwd.lean ====
/- The memory cross-attention: a block of 256 queries against the memory, four heads, is read at an index over the reals
and is the plain softmax attention's. -/
module

public import proofs.«01_k».proof.Defs
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import Idealize.ShloMosaic.Lib.Pipeline.ValueKit
public import Idealize.ShloMosaic.Lib.Pointwise
public import Idealize.ShloMosaic.Lib.Quiescent
public import proofs.«01_k».proof.Proof.XattnReal

@[expose] public section

set_option maxRecDepth 16384

noncomputable section

/-- A query's attention output in one head. -/
def Cert.Xattn.Blk.o (B : Cert.Xattn.Blk) (r : Fin 256) (d : Fin 512) : ℝ := ∑ m, Cert.Xattn.prob (B.s r) m * B.v m d

/-! ## The plain attention -/

namespace Cert.Reference25Ideal.XattnFwd

open Cert.Reference25Ideal Cert.Reference25Ideal.Gen Cert.Reference25Ideal.Read Idealize.ShloMosaic Idealize.ShloMosaic.TcCoe
open Cert.Finite Cert.Xattn

/-- The arguments hold the reals of `D`. -/
structure Args (D : Data) (x0 : Vec Ideal S1x2048x2048 .f32) (x1 : Vec Ideal S1x256x4096 .f32) : Prop where
  q : ∀ r k, x0 (ix3 0 r k) = (D.q r k : EReal)
  kv : ∀ r k, x1 (ix3 0 r k) = (D.kv r k : EReal)

/-- The largest score along the last axis. -/
theorem fold_scores (x : Vec Ideal S1x4x2048x256 .f32) (init : Vec Ideal S_ .f32) (h : Fin 4) (r : Fin 2048) :
    Host.reduce (FloatOps.maximumf : Ideal .f32 → Ideal .f32 → Ideal .f32) x init reducesTo_S1x4x2048x256_S1x4x2048_d3 h_S_ (ix3 0 h r)
      = Finset.univ.fold max (init (Shape.Idx.first (by decide))) fun k => x (ix4 0 h r k) := by
  pointwise

variable {D : Data} {x0 : Vec Ideal S1x2048x2048 .f32} {x1 : Vec Ideal S1x256x4096 .f32} (H : Args D x0 x1)
include H

theorem q_apply (t : Fin 8) (h : Fin 4) (r : Fin 256) (d : Fin 512) :
    val_main_v2 (F := Ideal) x0 (ix4 0 (row t r) h d) = ((D.blk t h).q r d : EReal) := by
  pointwise [val_main_v2, val_main_v0, val_main_v1, val_main_cst]
  have e := H.q (row t r) (chan h d)
  rw [chan] at e
  rw [e, c_sc, r_mul]
  rfl

theorem k_apply (t : Fin 8) (h : Fin 4) (m : Fin 256) (d : Fin 512) :
    val_main_v5 (F := Ideal) x1 (ix4 0 m h d) = ((D.blk t h).k m d : EReal) := by
  pointwise [val_main_v5, val_main_v3]
  exact H.kv m (colk h d)

theorem v_apply (t : Fin 8) (h : Fin 4) (m : Fin 256) (d : Fin 512) :
    val_main_v6 (F := Ideal) x1 (ix4 0 m h d) = ((D.blk t h).v m d : EReal) := by
  pointwise [val_main_v6, val_main_v4]
  exact H.kv m (colv h d)

theorem s_apply (t : Fin 8) (h : Fin 4) (r m : Fin 256) :
    val_main_v7 (F := Ideal) x0 x1 (ix4 0 h (row t r) m) = ((D.blk t h).s r m : EReal) := by
  pointwise [val_main_v7]
  simp only [q_apply H, k_apply H t h, r_mul, r_sum]
  rfl

theorem mx_apply (t : Fin 8) (h : Fin 4) (r : Fin 256) :
    val_main_v10 (F := Ideal) x0 x1 (ix3 0 h (row t r)) = (mx ((D.blk t h).s r) : EReal) := by
  have e : val_main_v8 (F := Ideal) x0 x1 (ix3 0 h (row t r)) = (mx ((D.blk t h).s r) : EReal) := by
    rw [val_main_v8]
    refine (fold_scores _ _ _ _).trans ?_
    simp only [s_apply H, val_main_cst_0_apply]
    rw [show FloatOps.ofBits (F := Ideal) .f32 0xFF800000#32 = ⊥ from c_bot]
    exact r_max _
  rw [val_main_v10_apply, val_main_v9_apply, val_main_cst_1_apply, e,
    show FloatOps.ofBits (F := Ideal) .f32 0xFF800000#32 = (⊥ : EReal) from c_bot]
  exact max_eq_right bot_le

theorem ex_apply (t : Fin 8) (h : Fin 4) (r m : Fin 256) :
    val_main_v14 (F := Ideal) x0 x1 (ix4 0 h (row t r) m) = (ex ((D.blk t h).s r) m : EReal) := by
  pointwise [val_main_v14, val_main_v13, val_main_v12, val_main_v11]
  simp only [s_apply H, mx_apply H, r_sub, r_exp]
  rfl

theorem prob_apply (t : Fin 8) (h : Fin 4) (r m : Fin 256) :
    val_main_v18 (F := Ideal) x0 x1 (ix4 0 h (row t r) m) = (prob ((D.blk t h).s r) m : EReal) := by
  pointwise [val_main_v18, val_main_v17, val_main_v16, val_main_v15, val_main_cst_2]
  simp only [ex_apply H, r_sum, r_zero, r_add, zero_add]
  exact r_div _ _ (tot_pos _).ne'

theorem o_apply (t : Fin 8) (h : Fin 4) (r : Fin 256) (d : Fin 512) :
    val_main_v23 (F := Ideal) x0 x1 (ix2 (row t r) (chan h d)) = ((D.blk t h).o r d : EReal) := by
  rw [row, chan]
  pointwise [val_main_v23, val_main_v22, val_main_v21, val_main_v20, val_main_v19]
  have e : ∀ m, val_main_v6 (F := Ideal) x1 (ix4 0 m h d) * val_main_v18 (F := Ideal) x0 x1 (ix4 0 h (row t r) m)
      = (prob ((D.blk t h).s r) m * (D.blk t h).v m d : ℝ) := fun m => by
    rw [v_apply H t, prob_apply H, r_mul, mul_comm]
  refine (Finset.sum_congr rfl fun m _ => e m).trans ?_
  rw [r_sum]
  rfl

end Cert.Reference25Ideal.XattnFwd

/-! ## The kernel -/

namespace Cert.Kernel25Ideal.XattnFwd

open Cert.Kernel25Ideal Cert.Kernel25Ideal.Gen Idealize.ShloMosaic Idealize.ShloMosaic.TcCoe Idealize.SL.Sem
open Idealize.ShloMosaic.Pipeline (Dat)
open Cert.Finite Cert.Xattn

/-- The loads of one head hold the reals of `B`. -/
structure Holds (B : Blk) (q k v : Vec Ideal S256x512 .bf16) : Prop where
  q : ∀ r d, q (ix2 r d) = (B.q r d : EReal)
  k : ∀ r d, k (ix2 r d) = (B.k r d : EReal)
  v : ∀ r d, v (ix2 r d) = (B.v r d : EReal)

theorem prob_apply {B : Blk} {q k v : Vec Ideal S256x512 .bf16} (H : Holds B q k v) (r m : Fin 256) :
    k0_pay3 q k (ix2 r m) = (prob (B.s r) m : EReal) := by
  pointwise [k0_pay3]
  simp only [H.q, H.k, r_mul, r_sum, r_add, r_zero, zero_add]
  have e : Finset.univ.fold max ⊥ (fun m => ((∑ d, B.q r d * B.k m d : ℝ) : EReal)) = _ := r_max (B.s r)
  simp only [c_bot, e, r_sub, r_exp, r_sum]
  exact r_div _ _ (tot_pos (B.s r)).ne'

theorem o_apply {B : Blk} {q k v : Vec Ideal S256x512 .bf16} (H : Holds B q k v) (r : Fin 256) (d : Fin 512) :
    k0_pay5 (k0_pay3 q k) (k0_pay4 v) (ix2 r d) = (B.o r d : EReal) := by
  pointwise [k0_pay5, k0_pay4]
  simp only [prob_apply H, H.v, r_mul, r_sum, r_add, r_zero, zero_add]
  rfl

/-- The four heads' stores are one computation. -/
theorem head0 (q k v : Vec Ideal S256x512 .bf16) : k0_pay2 q k v = k0_pay5 (k0_pay3 q k) (k0_pay4 v) := rfl
theorem head2 (q k v : Vec Ideal S256x512 .bf16) : k0_pay6 q k v = k0_pay5 (k0_pay3 q k) (k0_pay4 v) := rfl
theorem head3 (q k v : Vec Ideal S256x512 .bf16) :
    k0_pay1 (k0_pay7 q k) (k0_pay8 q k) v = k0_pay5 (k0_pay3 q k) (k0_pay4 v) := rfl

variable (m : (ℓ : Loc nD τ sig) → Buf (Elt Ideal) ℓ)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])

/-- A grid point as the number of its block of queries. -/
abbrev pt (t : Fin cfg0.N) : Fin 8 := ⟨t.val, t.isLt⟩

theorem inb_chan (h : Fin 4) : ∀ a, (![0, h.val * 512] : Fin 2 → ℕ) a + S256x512.size a ≤ S256x2048.size a := by
  revert h; decide
theorem inb_colk (h : Fin 4) : ∀ a, (![0, h.val * 512] : Fin 2 → ℕ) a + S256x512.size a ≤ S256x4096.size a := by
  revert h; decide
theorem inb_colv (h : Fin 4) : ∀ a, (![0, 2048 + h.val * 512] : Fin 2 → ℕ) a + S256x512.size a ≤ S256x4096.size a := by
  revert h; decide
abbrev chans (h : Fin 4) : Rect S256x2048 := Rect.unit ![0, h.val * 512] S256x512.size (inb_chan h)
abbrev colks (h : Fin 4) : Rect S256x4096 := Rect.unit ![0, h.val * 512] S256x512.size (inb_colk h)
abbrev colvs (h : Fin 4) : Rect S256x4096 := Rect.unit ![0, 2048 + h.val * 512] S256x512.size (inb_colv h)

theorem ld_chans (x : Vec Ideal S256x2048 .bf16) (h : Fin 4) (r : Fin 256) (d : Fin 512) :
    View.ld x (chans h) (ix2 r d) = x (ix2 r (chan h d)) :=
  View.ld_unit_apply_of _ _ _ _ _ _ (by intro a; fin_cases a <;> simp [chan])
theorem ld_colks (x : Vec Ideal S256x4096 .bf16) (h : Fin 4) (r : Fin 256) (d : Fin 512) :
    View.ld x (colks h) (ix2 r d) = x (ix2 r (colk h d)) :=
  View.ld_unit_apply_of _ _ _ _ _ _ (by intro a; fin_cases a <;> simp [colk])
theorem ld_colvs (x : Vec Ideal S256x4096 .bf16) (h : Fin 4) (r : Fin 256) (d : Fin 512) :
    View.ld x (colvs h) (ix2 r d) = x (ix2 r (colv h d)) :=
  View.ld_unit_apply_of _ _ _ _ _ _ (by intro a; fin_cases a <;> simp [colv, Nat.add_assoc])

theorem idx2_eq {y : S256x2048.Idx} (h : Fin 4) {r : Fin 256} {d : Fin 512} (e0 : (y 0).val = r.val)
    (e1 : (y 1).val = h.val * 512 + d.val) : y = ix2 r (chan h d) := by
  funext i; fin_cases i
  · exact Fin.ext e0
  · exact Fin.ext e1

variable {m} {c : Dev nD} {D : Data} (A : Cert.Reference25Ideal.XattnFwd.Args D (m ((c : Thread nD τ).loc main_arg0)) (m ((c : Thread nD τ).loc main_arg1)))
include A

theorem blk0 (t : Fin cfg0.N) (r : Fin 256) (j : Fin 2048) :
    iblk m c 0 t (ix2 r j) = ((D.q (row (pt t) r) j * sc : ℝ) : EReal) := by
  blk_simp [iblk, idx0 t]
  entry_read
  pointwise
  refine (congrArg₂ (fun x y : EReal => x * y) ((congrArg _ ?_).trans (A.q (row (pt t) r) j)) c_sc).trans (r_mul _ _)
  blk_ext [idx0 t, row, pt]
theorem blk1 (t : Fin cfg0.N) (r : Fin 256) (j : Fin 4096) : iblk m c 1 t (ix2 r j) = (D.kv r j : EReal) := by
  rw [← A.kv]
  blk_simp [iblk, idx1 t]
  entry_read
  pointwise
  blk_ext [idx1 t]

theorem holds (t : Fin cfg0.N) (h : Fin 4) :
    Holds (D.blk (pt t) h) (View.ld (iblk m c 0 t) (chans h)) (View.ld (iblk m c 1 t) (colks h))
      (View.ld (iblk m c 1 t) (colvs h)) where
  q r d := by rw [ld_chans, blk0 A]; rfl
  k r d := by rw [ld_colks, blk1 A]; rfl
  v r d := by rw [ld_colvs, blk1 A]; rfl

/-- The result array is the plain attention's. -/
theorem final : (dats m 0 c).arrAt 2 cfg0.N = Cert.Reference25Ideal.Read.val_main_v23 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  have hy : ∀ r k, ((View.whole main_v6).slice (win0_2.rect t)).emb (ix2 r k) = ix2 (row (pt t) r) k := by
    intro r k
    blk_ext [idx2 t, row, pt]
  canon_tiles y g <;> idx_vars y
  · obtain rfl := idx2_eq 3 (r := y0) (d := y1) g0 g1
    rw [hy, Cert.Reference25Ideal.XattnFwd.o_apply A]
    exact (congrFun (head3 _ _ _) _).trans (o_apply (holds A t 3) y0 y1)
  · obtain rfl := idx2_eq 2 (r := y0) (d := y1) g0 g1
    rw [hy, Cert.Reference25Ideal.XattnFwd.o_apply A]
    exact (congrFun (head2 _ _ _) _).trans (o_apply (holds A t 2) y0 y1)
  · obtain rfl := idx2_eq 1 (r := y0) (d := y1) g0 g1
    rw [hy, Cert.Reference25Ideal.XattnFwd.o_apply A]
    exact (o_apply (holds A t 1) y0 y1)
  · obtain rfl := idx2_eq 0 (r := y0) (d := y1) g0 (by simpa using g1)
    rw [hy, Cert.Reference25Ideal.XattnFwd.o_apply A]
    exact (congrFun (head0 _ _ _) _).trans (o_apply (holds A t 0) y0 y1)

end Cert.Kernel25Ideal.XattnFwd

/-! ## The claims -/

namespace Cert.Proof.XattnFwdClaims

open Idealize.ShloMosaic Idealize.ShloMosaic.TcCoe Idealize.SL.Sem
open Cert.Kernel25Ideal.XattnFwd

instance preFacts : Cert.Pre_finite25.Facts := ⟨by decide, by decide, by decide⟩

theorem frame_p : Cert.quiescent_Kernel25 := fun m ρ _ => Cert.Kernel25.Gen.frame m ρ
theorem frame_pi : Cert.quiescent_Kernel25Ideal := fun m ρ _ => Cert.Kernel25Ideal.Gen.frame m ρ
theorem frame_pi' : Cert.quiescent_Kernel25Ideal_pre_finite25 := fun m ρ _ => Cert.Kernel25Ideal.Gen.frame m ρ
theorem frame_ri : Cert.quiescent_Reference25Ideal := fun m ρ _ =>
  (θ_run Cert.Reference25Ideal.defs _ _).mono (fun r h => ⟨fun c => (h c).2,
      Idealize.ShloMosaic.sem_eq_zero_of_no_sems (by decide) r.2⟩)
    (Cert.Reference25Ideal.Value.run (F := Ideal) m ρ)
theorem frame_ri' : Cert.quiescent_Reference25Ideal_pre_finite25 := fun m ρ _ => frame_ri m ρ trivial

/-- From finite arguments the kernel and the reference end with the same attention output. -/
theorem algebraic : Cert.algebraic_Kernel25Ideal_Reference25Ideal_pre_finite25 := by
  intro m ρ m' ρ' hpre hagree
  refine ⟨_, Cert.Kernel25Ideal.Value.run_blocks (F := Ideal) m ρ, ?_⟩
  refine (θ_run Cert.Reference25Ideal.defs _ _).mono (fun _ h c => ⟨(h c).1.trans ?_, (h c).2⟩)
    (Cert.Reference25Ideal.Value.run (F := Ideal) m' ρ')
  obtain ⟨p0, p1⟩ := hpre c
  obtain ⟨a0, h0⟩ := Cert.Finite.real_of_pre _ _ _ p0
  obtain ⟨a1, h1⟩ := Cert.Finite.real_of_pre _ _ _ p1
  have A : Cert.Reference25Ideal.XattnFwd.Args ⟨fun r k => a0 (ix3 0 r k), fun r k => a1 (ix3 0 r k), fun _ _ => 0⟩ _ _ :=
    ⟨fun _ _ => congrFun h0 _, fun _ _ => congrFun h1 _⟩
  obtain ⟨e0, e1⟩ := hagree c
  refine (Cert.Reference25Ideal.Read.val_main_v23_eq _ _).trans (Eq.trans ?_ (final A).symm)
  exact congr (congrArg _ e0) e1

end Cert.Proof.XattnFwdClaims

end
-- ==== Proof.NormRows.lean ====
/- The root-mean-square norm of the residual stream's rows: the kernel's blocks are read at an index and are the
reference's rows. -/
module

public import proofs.«01_k».proof.Defs
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import Idealize.ShloMosaic.Lib.Pipeline.ValueKit
public import Idealize.ShloMosaic.Lib.Pointwise
public import Idealize.ShloMosaic.Lib.Quiescent
public import proofs.«01_k».proof.Proof.NormReal

@[expose] public section

set_option maxRecDepth 16384

noncomputable section

namespace Cert.Kernel26Ideal.NormRows

open Cert.Kernel26Ideal Cert.Kernel26Ideal.Gen Idealize.ShloMosaic Idealize.ShloMosaic.TcCoe Idealize.SL.Sem
open Idealize.ShloMosaic.Pipeline (Dat)

/-- A row's entry over the root of the row's mean square, times its gain. -/
def nrm (x g : Fin 2048 → EReal) (k : Fin 2048) : EReal :=
  x k * Ideal.rsqrt (Ideal.div (∑ j, x j * x j) (Ideal.ofBits .f32 0x45000000#32) + Ideal.ofBits .f32 0x358637BD#32) * g k

theorem pay1_apply (v0 : Vec Ideal S256x2048 .f32) (v12 : Vec Ideal S1x2048 .f32) (r : Fin 256) (k : Fin 2048) :
    k0_pay1 (F := Ideal) v0 v12 (ix2 r k) = nrm (fun k => v0 (ix2 r k)) (fun k => v12 (ix2 0 k)) k := by
  pointwise [k0_pay1]
  rfl

/-- The reference's row at a coordinate. -/
theorem ref_apply (x0 : Vec Ideal S1x2048x2048 .f32) (x1 : Vec Ideal S1x2048 .f32) (s k : Fin 2048) :
    Cert.Reference26Ideal.Read.val_main_v13 (F := Ideal) x0 x1 (ix2 s k) = nrm (fun k => x0 (ix3 0 s k)) (fun k => x1 (ix2 0 k)) k := by
  pointwise [Cert.Reference26Ideal.Read.val_main_v13, Cert.Reference26Ideal.Read.val_main_v12, Cert.Reference26Ideal.Read.val_main_v11, Cert.Reference26Ideal.Read.val_main_v10, Cert.Reference26Ideal.Read.val_main_v9, Cert.Reference26Ideal.Read.val_main_v8, Cert.Reference26Ideal.Read.val_main_v7, Cert.Reference26Ideal.Read.val_main_v6, Cert.Reference26Ideal.Read.val_main_cst_1, Cert.Reference26Ideal.Read.val_main_v5, Cert.Reference26Ideal.Read.val_main_v4, Cert.Reference26Ideal.Read.val_main_cst_0, Cert.Reference26Ideal.Read.val_main_v3, Cert.Reference26Ideal.Read.val_main_v2, Cert.Reference26Ideal.Read.val_main_cst, Cert.Reference26Ideal.Read.val_main_v1, Cert.Reference26Ideal.Read.val_main_v0]
  rfl

variable (m : (ℓ : Loc nD τ sig) → Buf (Elt Ideal) ℓ)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, 0] :=
  (by decide +kernel : ∀ t : Fin grid0.N, win0_1.index t = ![0, 0])
theorem idx2 : ∀ t : Fin cfg0.N, win0_2.index t = ![t.val, 0] :=
  (by decide +kernel : ∀ t : Fin grid0.N, win0_2.index t = ![t.val, 0])

/-- A grid point as the number of its tile of tokens. -/
abbrev pt (t : Fin cfg0.N) : Fin 8 := ⟨t.val, t.isLt⟩

theorem blk0 (c : Dev nD) (t : Fin cfg0.N) (r : Fin 256) (k : Fin 2048) :
    iblk m c 0 t (ix2 r k) = m ((c : Thread nD τ).loc main_arg0) (ix3 0 (Cert.Norm.row (pt t) r) k) := by
  blk_simp [iblk, idx0 t]
  entry_read
  pointwise
  blk_ext [idx0 t, Cert.Norm.row, pt]
theorem blk1 (c : Dev nD) (t : Fin cfg0.N) (k : Fin 2048) :
    iblk m c 1 t (ix2 0 k) = m ((c : Thread nD τ).loc main_arg1) (ix2 0 k) := by
  blk_simp [iblk, idx1 t]
  entry_read
  blk_ext [idx1 t]

/-- The result array is the reference's. -/
theorem final (c : Dev nD) : (dats m 0 c).arrAt 2 cfg0.N = Cert.Reference26Ideal.Read.val_main_v13 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have hy : ((View.whole main_v1).slice (win0_2.rect t)).emb (ix2 y0 y1) = ix2 (Cert.Norm.row (pt t) y0) y1 := by
    blk_ext [idx2 t, Cert.Norm.row, pt]
  rw [hy, pay1_apply, ref_apply]
  simp only [blk0, blk1]

end Cert.Kernel26Ideal.NormRows

/-! ## The claims -/

namespace Cert.Proof.NormRowsClaims

open Idealize.ShloMosaic Idealize.ShloMosaic.TcCoe Idealize.SL.Sem

theorem frame_p : Cert.quiescent_Kernel26 := fun m ρ _ => Cert.Kernel26.Gen.frame m ρ
theorem frame_pi : Cert.quiescent_Kernel26Ideal := fun m ρ _ => Cert.Kernel26Ideal.Gen.frame m ρ
theorem frame_ri : Cert.quiescent_Reference26Ideal := fun m ρ _ =>
  (θ_run Cert.Reference26Ideal.defs _ _).mono (fun r h => ⟨fun c => (h c).2,
      Idealize.ShloMosaic.sem_eq_zero_of_no_sems (by decide) r.2⟩)
    (Cert.Reference26Ideal.Value.run (F := Ideal) m ρ)

/-- The kernel and the reference end with the same normalized rows. -/
theorem algebraic : Cert.algebraic_Kernel26Ideal_Reference26Ideal := by
  intro m ρ m' ρ' _ hagree
  refine ⟨_, Cert.Kernel26Ideal.Value.run_blocks (F := Ideal) m ρ, ?_⟩
  refine (θ_run Cert.Reference26Ideal.defs _ _).mono (fun _ h c => ⟨(h c).1.trans ?_, (h c).2⟩)
    (Cert.Reference26Ideal.Value.run (F := Ideal) m' ρ')
  rw [(hagree c).1, (hagree c).2]
  exact (Cert.Reference26Ideal.Read.val_main_v13_eq _ _).trans (Cert.Kernel26Ideal.NormRows.final m c).symm

end Cert.Proof.NormRowsClaims

end
-- ==== Proof.NormCat.lean ====
/- The norm of two branches side by side, each normalized by itself, the second held head by head: the kernel's blocks are
read at an index and are the reference's rows. -/
module

public import proofs.«01_k».proof.Defs
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import Idealize.ShloMosaic.Lib.Pipeline.ValueKit
public import Idealize.ShloMosaic.Lib.Pointwise
public import Idealize.ShloMosaic.Lib.Quiescent

@[expose] public section

set_option maxRecDepth 16384

noncomputable section

namespace Cert.Kernel27Ideal.NormCat

open Cert.Kernel27Ideal Cert.Kernel27Ideal.Gen Idealize.ShloMosaic Idealize.ShloMosaic.TcCoe Idealize.SL.Sem
open Idealize.ShloMosaic.Pipeline (Dat)

/-- A row's entry over the root of the row's mean square, times its gain. -/
def nrm (x g : Fin 1024 → EReal) (k : Fin 1024) : EReal :=
  x k * Ideal.rsqrt (Ideal.div (∑ j, x j * x j) (Ideal.ofBits .f32 0x44800000#32) + Ideal.ofBits .f32 0x358637BD#32) * g k

/-- Column `d` of head `g`, among all the columns of a branch. -/
def hcol (g : Fin 8) (d : Fin 128) : Fin 1024 := ⟨g.val * 128 + d.val, by omega⟩

theorem paya_apply (v0 : Vec Ideal S256x1024 .f32) (v29 : Vec Ideal S1x1024 .f32) (r : Fin 256) (k : Fin 1024) :
    k0_pay1 (F := Ideal) (k0_pay4 v0) v29 (ix2 r k) = nrm (fun k => v0 (ix2 r k)) (fun k => v29 (ix2 0 k)) k := by
  pointwise [k0_pay1, k0_pay4]
  rfl

theorem payb_apply (v18 : Vec Ideal S256x1024 .f32) (v44 : Vec Ideal S1x1024 .f32) (r : Fin 256) (k : Fin 1024) :
    k0_pay2 (F := Ideal) v18 v44 (ix2 r k) = nrm (fun k => v18 (ix2 r k)) (fun k => v44 (ix2 0 k)) k := by
  pointwise [k0_pay2]
  rfl

/-- The heads side by side are the row. -/
theorem cat_apply (p0 p1 p2 p3 p4 p5 p6 p7 : Vec Ideal S1x256x128 .f32) (y : Fin 256 → Fin 1024 → EReal)
    (h0 : ∀ r d, p0 (ix3 0 r d) = y r (hcol 0 d))
    (h1 : ∀ r d, p1 (ix3 0 r d) = y r (hcol 1 d))
    (h2 : ∀ r d, p2 (ix3 0 r d) = y r (hcol 2 d))
    (h3 : ∀ r d, p3 (ix3 0 r d) = y r (hcol 3 d))
    (h4 : ∀ r d, p4 (ix3 0 r d) = y r (hcol 4 d))
    (h5 : ∀ r d, p5 (ix3 0 r d) = y r (hcol 5 d))
    (h6 : ∀ r d, p6 (ix3 0 r d) = y r (hcol 6 d))
    (h7 : ∀ r d, p7 (ix3 0 r d) = y r (hcol 7 d))
    (r : Fin 256) (k : Fin 1024) : k0_pay3 (F := Ideal) p0 p1 p2 p3 p4 p5 p6 p7 (ix2 r k) = y r k := by
  have hk := k.isLt
  pointwise [k0_pay3]
  split_ifs
  all_goals
    first
    | (simp only [h0, h1, h2, h3, h4, h5, h6, h7]
       exact congrArg (y r) (Fin.ext (by simp [hcol] <;> omega)))
    | omega

/-- A column of the first branch, and of the second, among the columns of both. -/
def lo (k : Fin 1024) : Fin 2048 := ⟨k.val, by omega⟩
def hi (k : Fin 1024) : Fin 2048 := ⟨1024 + k.val, by omega⟩

/-- The reference's row at a coordinate of the first branch. -/
theorem refa_apply (x0 x1 : Vec Ideal S1x2048x1024 .f32) (x2 x3 : Vec Ideal S1x1024 .f32) (s : Fin 2048) (k : Fin 1024) :
    Cert.Reference27Ideal.Read.val_main_v27 (F := Ideal) x0 x1 x2 x3 (ix2 s (lo k)) = nrm (fun k => x0 (ix3 0 s k)) (fun k => x2 (ix2 0 k)) k := by
  have hk := k.isLt
  rw [show lo k = ⟨k.val, by omega⟩ from rfl]
  pointwise [Cert.Reference27Ideal.Read.val_main_v27, Cert.Reference27Ideal.Read.val_main_v26, Cert.Reference27Ideal.Read.val_main_v13, Cert.Reference27Ideal.Read.val_main_v12, Cert.Reference27Ideal.Read.val_main_v11, Cert.Reference27Ideal.Read.val_main_v10, Cert.Reference27Ideal.Read.val_main_v9, Cert.Reference27Ideal.Read.val_main_v8, Cert.Reference27Ideal.Read.val_main_v7, Cert.Reference27Ideal.Read.val_main_cst_1, Cert.Reference27Ideal.Read.val_main_v6, Cert.Reference27Ideal.Read.val_main_v5, Cert.Reference27Ideal.Read.val_main_cst_0, Cert.Reference27Ideal.Read.val_main_v4, Cert.Reference27Ideal.Read.val_main_v3, Cert.Reference27Ideal.Read.val_main_cst, Cert.Reference27Ideal.Read.val_main_v2, Cert.Reference27Ideal.Read.val_main_v0]
  rfl

/-- The reference's row at a coordinate of the second. -/
theorem refb_apply (x0 x1 : Vec Ideal S1x2048x1024 .f32) (x2 x3 : Vec Ideal S1x1024 .f32) (s : Fin 2048) (k : Fin 1024) :
    Cert.Reference27Ideal.Read.val_main_v27 (F := Ideal) x0 x1 x2 x3 (ix2 s (hi k)) = nrm (fun k => x1 (ix3 0 s k)) (fun k => x3 (ix2 0 k)) k := by
  have hk := k.isLt
  rw [show hi k = ⟨1024 + k.val, by omega⟩ from rfl]
  pointwise [Cert.Reference27Ideal.Read.val_main_v27, Cert.Reference27Ideal.Read.val_main_v26, Cert.Reference27Ideal.Read.val_main_v25, Cert.Reference27Ideal.Read.val_main_v24, Cert.Reference27Ideal.Read.val_main_v23, Cert.Reference27Ideal.Read.val_main_v22, Cert.Reference27Ideal.Read.val_main_v21, Cert.Reference27Ideal.Read.val_main_v20, Cert.Reference27Ideal.Read.val_main_v19, Cert.Reference27Ideal.Read.val_main_cst_4, Cert.Reference27Ideal.Read.val_main_v18, Cert.Reference27Ideal.Read.val_main_v17, Cert.Reference27Ideal.Read.val_main_cst_3, Cert.Reference27Ideal.Read.val_main_v16, Cert.Reference27Ideal.Read.val_main_v15, Cert.Reference27Ideal.Read.val_main_cst_2, Cert.Reference27Ideal.Read.val_main_v14, Cert.Reference27Ideal.Read.val_main_v1]
  rfl

variable (m : (ℓ : Loc nD τ sig) → Buf (Elt Ideal) ℓ)

theorem idx0 : ∀ t : Fin cfg0.N, win0_0.index t = ![t.val, 0] :=
  (by decide +kernel : ∀ t : Fin grid0.N, win0_0.index t = ![t.val, 0])
theorem idx1 : ∀ t : Fin cfg0.N, win0_1.index t = ![0, t.val, 0] :=
  (by decide +kernel : ∀ t : Fin grid0.N, win0_1.index t = ![0, t.val, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0] :=
  (by decide +kernel : ∀ t : Fin grid0.N, win0_4.index t = ![t.val, 0])

/-- Row `r` of the tile at point `t`, among all the tokens. -/
def row (t : Fin cfg0.N) (r : Fin 256) : Fin 2048 :=
  ⟨t.val * 256 + r.val, by have := t.isLt; have : cfg0.N = 8 := rfl; omega⟩

theorem blk0 (c : Dev nD) (t : Fin cfg0.N) (r : Fin 256) (k : Fin 1024) :
    iblk m c 0 t (ix2 r k) = m ((c : Thread nD τ).loc main_arg0) (ix3 0 (row t r) k) := by
  blk_simp [iblk, idx0 t]
  entry_read
  pointwise
  blk_ext [idx0 t, row]
theorem blk1 (c : Dev nD) (t : Fin cfg0.N) (g : Fin 8) (r : Fin 256) (d : Fin 128) :
    iblk m c 1 t (ix3 g r d) = m ((c : Thread nD τ).loc main_arg1) (ix3 0 (row t r) (hcol g d)) := by
  blk_simp [iblk, idx1 t]
  entry_read
  pointwise
  blk_ext [idx1 t, row, hcol]
theorem blk2 (c : Dev nD) (t : Fin cfg0.N) (k : Fin 1024) :
    iblk m c 2 t (ix2 0 k) = m ((c : Thread nD τ).loc main_arg2) (ix2 0 k) := by
  blk_simp [iblk, idx2 t]
  entry_read
  blk_ext [idx2 t]
theorem blk3 (c : Dev nD) (t : Fin cfg0.N) (k : Fin 1024) :
    iblk m c 3 t (ix2 0 k) = m ((c : Thread nD τ).loc main_arg3) (ix2 0 k) := by
  blk_simp [iblk, idx3 t]
  entry_read
  blk_ext [idx3 t]

/-! ## The loads -/

theorem inb_page (g : Fin 8) : ∀ a, (![g.val, 0, 0] : Fin 3 → ℕ) a + S1x256x128.size a ≤ S8x256x128.size a := by
  revert g; decide
abbrev page (g : Fin 8) : Rect S8x256x128 := Rect.unit ![g.val, 0, 0] S1x256x128.size (inb_page g)

theorem ld_page (x : Vec Ideal S8x256x128 .f32) (g : Fin 8) (r : Fin 256) (d : Fin 128) :
    View.ld x (page g) (ix3 0 r d) = x (ix3 g r d) :=
  View.ld_unit_apply_of _ _ _ _ _ _ (by intro a; fin_cases a <;> simp)

theorem page_apply (c : Dev nD) (t : Fin cfg0.N) (g : Fin 8) (r : Fin 256) (d : Fin 128) :
    View.ld (iblk m c 1 t) (page g) (ix3 0 r d) = m ((c : Thread nD τ).loc main_arg1) (ix3 0 (row t r) (hcol g d)) := by
  rw [ld_page, blk1]

theorem heads (c : Dev nD) (t : Fin cfg0.N) (r : Fin 256) (k : Fin 1024) :
    k0_pay3 (F := Ideal) (View.ld (iblk m c 1 t) (page 0)) (View.ld (iblk m c 1 t) (page 1)) (View.ld (iblk m c 1 t) (page 2)) (View.ld (iblk m c 1 t) (page 3)) (View.ld (iblk m c 1 t) (page 4)) (View.ld (iblk m c 1 t) (page 5)) (View.ld (iblk m c 1 t) (page 6)) (View.ld (iblk m c 1 t) (page 7)) (ix2 r k)
      = m ((c : Thread nD τ).loc main_arg1) (ix3 0 (row t r) k) :=
  cat_apply _ _ _ _ _ _ _ _ (fun r k => m ((c : Thread nD τ).loc main_arg1) (ix3 0 (row t r) k)) (page_apply m c t 0) (page_apply m c t 1) (page_apply m c t 2) (page_apply m c t 3) (page_apply m c t 4) (page_apply m c t 5) (page_apply m c t 6) (page_apply m c t 7) r k

theorem idx2_eq {y : S256x2048.Idx} {r : Fin 256} {k : Fin 2048} (e0 : (y 0).val = r.val) (e1 : (y 1).val = k.val) : y = ix2 r k := by
  funext i; fin_cases i
  · exact Fin.ext e0
  · exact Fin.ext e1

/-- The result array is the reference's. -/
theorem final (c : Dev nD) : (dats m 0 c).arrAt 4 cfg0.N = Cert.Reference27Ideal.Read.val_main_v27 (F := Ideal)
    (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  frame_out
  have hy : ∀ r k, ((View.whole main_v4).slice (win0_4.rect t)).emb (ix2 r k) = ix2 (row t r) k := by
    intro r k
    blk_ext [idx4 t, row]
  canon_tiles y g <;> idx_vars y
  · obtain rfl := idx2_eq (k := hi y1) g0 g1
    rw [hy, payb_apply, refb_apply]
    simp only [blk3]
    exact congrArg (fun f => nrm f _ y1) (funext fun k => heads m c t y0 k)
  · obtain rfl := idx2_eq (k := lo y1) g0 g1
    rw [hy, paya_apply, refa_apply]
    simp only [blk0, blk2]

end Cert.Kernel27Ideal.NormCat

/-! ## The claims -/

namespace Cert.Proof.NormCatClaims

open Idealize.ShloMosaic Idealize.ShloMosaic.TcCoe Idealize.SL.Sem

theorem frame_p : Cert.quiescent_Kernel27 := fun m ρ _ => Cert.Kernel27.Gen.frame m ρ
theorem frame_pi : Cert.quiescent_Kernel27Ideal := fun m ρ _ => Cert.Kernel27Ideal.Gen.frame m ρ
theorem frame_ri : Cert.quiescent_Reference27Ideal := fun m ρ _ =>
  (θ_run Cert.Reference27Ideal.defs _ _).mono (fun r h => ⟨fun c => (h c).2,
      Idealize.ShloMosaic.sem_eq_zero_of_no_sems (by decide) r.2⟩)
    (Cert.Reference27Ideal.Value.run (F := Ideal) m ρ)

/-- The kernel and the reference end with the same normalized rows. -/
theorem algebraic : Cert.algebraic_Kernel27Ideal_Reference27Ideal := by
  intro m ρ m' ρ' _ hagree
  refine ⟨_, Cert.Kernel27Ideal.Value.run_blocks (F := Ideal) m ρ, ?_⟩
  refine (θ_run Cert.Reference27Ideal.defs _ _).mono (fun _ h c => ⟨(h c).1.trans ?_, (h c).2⟩)
    (Cert.Reference27Ideal.Value.run (F := Ideal) m' ρ')
  obtain ⟨e0, e1, e2, e3⟩ := hagree c
  refine (Cert.Reference27Ideal.Read.val_main_v27_eq _ _ _ _).trans (Eq.trans ?_ (Cert.Kernel27Ideal.NormCat.final m c).symm)
  exact congr (congr (congr (congrArg _ e0) e1) e2) e3

end Cert.Proof.NormCatClaims

end
-- ==== Proof.LossHead.lean ====
/- The loss of the normalized rows against the targets, with its gradients: the kernel's blocks are read at an index over the
reals and are the plain loss's. -/
module

public import proofs.«01_k».proof.Defs
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import Idealize.ShloMosaic.Lib.Pipeline.ValueKit
public import Idealize.ShloMosaic.Lib.Pointwise
public import Idealize.ShloMosaic.Lib.Quiescent
public import proofs.«01_k».proof.Proof.NormReal

@[expose] public section

set_option maxRecDepth 16384

noncomputable section

namespace Cert.Norm

open Idealize.ShloMosaic

/-- The call's arguments: the rows, their targets, the gains. -/
structure Loss where
  h : Fin 2048 → Fin 2048 → ℝ
  y : Fin 2048 → Fin 2048 → ℝ
  g : Fin 2048 → ℝ

namespace Loss
variable (D : Loss)
/-- A normalized row's distance from its target. -/
def diff (s k : Fin 2048) : ℝ := D.h s k * rs 2048 (D.h s) * D.g k - D.y s k
/-- The gradient of the normalized row, and of the row over its root. -/
def ct (s k : Fin 2048) : ℝ := D.diff s k * (1 / 2048)
def cg (s k : Fin 2048) : ℝ := D.ct s k * D.g k
/-- A row's loss: half the mean of the squares. -/
def loss (s : Fin 2048) : ℝ := (∑ k, D.diff s k * D.diff s k) * (1 / 4096)
def dh (s k : Fin 2048) : ℝ := bwd 2048 (D.h s) (D.cg s) k
def dg (s k : Fin 2048) : ℝ := D.ct s k * (D.h s k * rs 2048 (D.h s))
end Loss

theorem c_one : Ideal.ofBits .f32 0x3F800000#32 = ((1 : ℝ) : EReal) := by
  simp [Ideal.ofBits, Ideal.ieee, -EReal.coe_mul]; norm_num
theorem c_4096 : Ideal.ofBits .f32 0x39800000#32 = ((1 / 4096 : ℝ) : EReal) := by
  simp [Ideal.ofBits, Ideal.ieee, -EReal.coe_mul]; norm_num
theorem c_over : Ideal.ofBits .f32 0x3A000000#32 = ((1 / 2048 : ℝ) : EReal) := by
  simp [Ideal.ofBits, Ideal.ieee, -EReal.coe_mul]; norm_num

end Cert.Norm

/-! ## The plain loss -/

namespace Cert.Reference28Ideal.LossHead

open Cert.Reference28Ideal Cert.Reference28Ideal.Gen Cert.Reference28Ideal.Read Idealize.ShloMosaic Idealize.ShloMosaic.TcCoe
open Cert.Finite Cert.Norm
open Cert.Sgu (c_eps c_half c_neg_half c_two)

/-- The arguments hold the reals of `D`. -/
structure Args (D : Loss) (x0 x1 : Vec Ideal S1x2048x2048 .f32) (x2 : Vec Ideal S1x2048 .f32) : Prop where
  h : ∀ r k, x0 (ix3 0 r k) = (D.h r k : EReal)
  y : ∀ r k, x1 (ix3 0 r k) = (D.y r k : EReal)
  g : ∀ k, x2 (ix2 0 k) = (D.g k : EReal)

variable {D : Loss} {x0 x1 : Vec Ideal S1x2048x2048 .f32} {x2 : Vec Ideal S1x2048 .f32} (H : Args D x0 x1 x2)
include H

theorem ms_apply (s : Fin 2048) : val_main_v7 (F := Ideal) x0 (ix2 s 0) = (ms 2048 (D.h s) : EReal) := by
  pointwise [val_main_v7, val_main_v5, val_main_v3, val_main_v2, val_main_v1, val_main_v0, val_main_cst, val_main_v4, val_main_cst_0, val_main_v6, val_main_cst_1]
  simp only [H.h, c_2048, c_eps, r_mul, r_sum, r_div2048, r_add]
  rfl

theorem rs_apply (s : Fin 2048) : val_main_v8 (F := Ideal) x0 (ix2 s 0) = (rs 2048 (D.h s) : EReal) := by
  pointwise [val_main_v8]
  rw [ms_apply H, r_rs (by norm_num)]

theorem diff_apply (s k : Fin 2048) : val_main_v17 (F := Ideal) x0 x1 x2 (ix2 s k) = (D.diff s k : EReal) := by
  pointwise [val_main_v17, val_main_v16, val_main_v15, val_main_v14, val_main_v13, val_main_v12, val_main_v0]
  simp only [H.h, H.y, H.g, rs_apply H, r_mul, r_sub]
  rfl

theorem loss_apply (i : Fin 8) (j : Fin 128) : val_main_v51 (F := Ideal) x0 x1 x2 (ix2 i j) = (∑ s, D.loss s : ℝ) := by
  pointwise [val_main_v51, val_main_v25, val_main_cst_7, val_main_v24, val_main_cst_6, val_main_v23, val_main_v22, val_main_cst_5, val_main_v21, val_main_cst_4, val_main_v18]
  simp only [diff_apply H, c_2048, c_half, r_mul, r_sum, r_div2048]
  rw [Finset.mul_sum]
  exact congrArg _ (Finset.sum_congr rfl fun s _ => by rw [Loss.loss]; ring)

theorem ct_apply (s k : Fin 2048) : val_main_v31 (F := Ideal) x0 x1 x2 (ix2 s k) = (D.ct s k : EReal) := by
  pointwise [val_main_v31, val_main_v30, val_main_v29, val_main_v28, val_main_cst_10, val_main_v27, val_main_v26, val_main_cst_9, val_main_cst_8, val_main_v20, val_main_v19, val_main_cst_3]
  simp only [diff_apply H, c_2048, c_half, c_one, c_two, r_mul, r_div2048]
  exact congrArg _ (by rw [Loss.ct]; ring)

theorem cg_apply (s k : Fin 2048) : val_main_v36 (F := Ideal) x0 x1 x2 (ix2 s k) = (D.cg s k : EReal) := by
  pointwise [val_main_v36, val_main_v35]
  simp only [ct_apply H, H.g, r_mul]
  rfl

theorem tail_apply (s k : Fin 2048) :
    val_main_v46 (F := Ideal) x0 x1 x2 (ix2 s k) = (tail 2048 (D.h s) (D.cg s) : EReal) := by
  pointwise [val_main_v46, val_main_v45, val_main_cst_14, val_main_v44, val_main_v43, val_main_cst_13, val_main_v42, val_main_v39, val_main_v38, val_main_cst_12, val_main_v37, val_main_v0, val_main_v11, val_main_v10, val_main_cst_2, val_main_v9]
  simp only [cg_apply H, H.h, rs_apply H, ms_apply H, Fin.sum_univ_one, c_2048, c_neg_half, r_div_ms (N := 2048) (by norm_num),
    r_mul, r_sum, r_div2048]
  rfl

theorem dh_apply (s k : Fin 2048) : val_main_v50 (F := Ideal) x0 x1 x2 (ix2 s k) = (D.dh s k : EReal) := by
  pointwise [val_main_v50, val_main_v49, val_main_v48, val_main_v47, val_main_v41, val_main_v40, val_main_v0]
  simp only [cg_apply H, tail_apply H, H.h, rs_apply H, r_mul, r_add]
  rw [Loss.dh, ← add_zero (bwd _ _ _ _), ← bwd_eq (by norm_num), zero_add]

theorem dhb_apply (s k : Fin 2048) : val_main_v54 (F := Ideal) x0 x1 x2 (ix2 s k) = (1 / 2 * D.dh s k : ℝ) := by
  pointwise [val_main_v54, val_main_v53, val_main_v52, val_main_cst_15]
  simp only [dh_apply H, c_half, r_mul]

theorem dg_apply (k : Fin 2048) : val_main_v34 (F := Ideal) x0 x1 x2 (ix2 0 k) = (∑ s, D.dg s k : ℝ) := by
  pointwise [val_main_v34, val_main_v33, val_main_cst_11, val_main_v32, val_main_v13, val_main_v12, val_main_v0]
  simp only [H.h, ct_apply H, rs_apply H, r_mul, r_sum]
  exact congrArg _ (Finset.sum_congr rfl fun s _ => mul_comm _ _)

end Cert.Reference28Ideal.LossHead

/-! ## The kernel -/

namespace Cert.Kernel28Ideal.LossHead

open Cert.Kernel28Ideal Cert.Kernel28Ideal.Gen Idealize.ShloMosaic Idealize.ShloMosaic.TcCoe Idealize.SL.Sem
open Idealize.ShloMosaic.Pipeline (Dat)
open Cert.Finite Cert.Norm
open Cert.Sgu (c_eps c_half)

/-- A tile's arrays hold the reals of the rows of `D` that `s` names. -/
structure Holds (D : Loss) (s : Fin 256 → Fin 2048) (h y : Vec Ideal S256x2048 .f32) (g : Vec Ideal S1x2048 .f32) : Prop where
  h : ∀ r k, h (ix2 r k) = (D.h (s r) k : EReal)
  y : ∀ r k, y (ix2 r k) = (D.y (s r) k : EReal)
  g : ∀ k, g (ix2 0 k) = (D.g k : EReal)

section
variable {D : Loss} {s : Fin 256 → Fin 2048} {h y : Vec Ideal S256x2048 .f32} {g : Vec Ideal S1x2048 .f32} (H : Holds D s h y g)
include H

theorem rs_apply (r : Fin 256) : k0_pay4 h (ix2 r 0) = (rs 2048 (D.h (s r)) : EReal) := by
  pointwise [k0_pay4, k0_pay3]
  simp only [H.h, c_2048, c_eps, r_mul, r_sum, r_div2048, r_add]
  exact r_rs (by norm_num) _

theorem xhat_apply (r : Fin 256) (k : Fin 2048) : k0_pay5 h (ix2 r k) = (D.h (s r) k * rs 2048 (D.h (s r)) : ℝ) := by
  pointwise [k0_pay5, k0_pay3]
  simp only [H.h, rs_apply H, r_mul]

theorem diff_apply (r : Fin 256) (k : Fin 2048) : k0_pay6 h g y (ix2 r k) = (D.diff (s r) k : EReal) := by
  pointwise [k0_pay6]
  simp only [xhat_apply H, H.y, H.g, r_mul, r_sub]
  rfl

theorem part_loss : k0_pay7 h g y (ix2 0 0) = (∑ r, D.loss (s r) : ℝ) := by
  pointwise [k0_pay7]
  simp only [diff_apply H, c_4096, r_mul, r_sum]
  rw [Finset.sum_mul]
  rfl

theorem ct_apply (r : Fin 256) (k : Fin 2048) : k0_pay8 h g y (ix2 r k) = (D.ct (s r) k : EReal) := by
  pointwise [k0_pay8]
  simp only [diff_apply H, c_over, r_mul]
  rfl

theorem first_loss (i : Fin 8) (j : Fin 128) : k0_pay10 h g y (ix2 i j) = (∑ r, D.loss (s r) : ℝ) := by
  pointwise [k0_pay10]
  simp only [part_loss H, zero_add]

theorem more_loss {acc : Vec Ideal S8x128 .f32} {a : ℝ} (ha : ∀ i j, acc (ix2 i j) = (a : EReal)) (i : Fin 8) (j : Fin 128) :
    k0_pay12 h g y acc (ix2 i j) = (a + ∑ r, D.loss (s r) : ℝ) := by
  pointwise [k0_pay12]
  simp only [part_loss H, ha, r_add]

theorem part_dg (k : Fin 2048) : k0_pay9 h g y (ix2 0 k) = (∑ r, D.dg (s r) k : ℝ) := by
  pointwise [k0_pay9]
  simp only [ct_apply H, xhat_apply H, r_mul, r_sum]
  rfl

theorem more_dg {acc : Vec Ideal S1x2048 .f32} {a : Fin 2048 → ℝ} (ha : ∀ k, acc (ix2 0 k) = (a k : EReal)) (k : Fin 2048) :
    k0_pay11 h g y acc (ix2 0 k) = (a k + ∑ r, D.dg (s r) k : ℝ) := by
  pointwise [k0_pay11]
  simp only [part_dg H, ha, r_add]

theorem cg_apply (r : Fin 256) (k : Fin 2048) : k0_pay13 h g y (ix2 r k) = (D.cg (s r) k : EReal) := by
  pointwise [k0_pay13]
  simp only [ct_apply H, H.g, r_mul]
  rfl

theorem dh_apply (r : Fin 256) (k : Fin 2048) :
    k0_pay1 (k0_pay4 h) (k0_pay5 h) (k0_pay13 h g y) (k0_pay14 h g y) (ix2 r k) = (D.dh (s r) k : EReal) := by
  pointwise [k0_pay1, k0_pay14]
  simp only [cg_apply H, xhat_apply H, rs_apply H, c_2048, r_mul, r_sum, r_div2048, r_sub]
  rfl

theorem dhb_apply (r : Fin 256) (k : Fin 2048) :
    k0_pay2 (k0_pay4 h) (k0_pay5 h) (k0_pay13 h g y) (k0_pay14 h g y) (ix2 r k) = (1 / 2 * D.dh (s r) k : ℝ) := by
  pointwise [k0_pay2]
  simp only [dh_apply H, c_half, r_mul]

end

variable (m : (ℓ : Loc nD τ sig) → Buf (Elt Ideal) ℓ)

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![0, 0] :=
  (by decide +kernel : ∀ t : Fin grid0.N, win0_6.index t = ![0, 0])

/-- A grid point as the number of its tile of tokens. -/
abbrev pt (t : Fin cfg0.N) : Fin 8 := ⟨t.val, t.isLt⟩

theorem blk0 (c : Dev nD) (t : Fin cfg0.N) (r : Fin 256) (k : Fin 2048) :
    iblk m c 0 t (ix2 r k) = m ((c : Thread nD τ).loc main_arg0) (ix3 0 (row (pt t) r) k) := by
  blk_simp [iblk, idx0 t]
  entry_read
  pointwise
  blk_ext [idx0 t, row, pt]
theorem blk1 (c : Dev nD) (t : Fin cfg0.N) (r : Fin 256) (k : Fin 2048) :
    iblk m c 1 t (ix2 r k) = m ((c : Thread nD τ).loc main_arg1) (ix3 0 (row (pt t) r) k) := by
  blk_simp [iblk, idx1 t]
  entry_read
  pointwise
  blk_ext [idx1 t, row, pt]
theorem blk2 (c : Dev nD) (t : Fin cfg0.N) (k : Fin 2048) :
    iblk m c 2 t (ix2 0 k) = m ((c : Thread nD τ).loc main_arg2) (ix2 0 k) := by
  blk_simp [iblk, idx2 t]
  entry_read
  blk_ext [idx2 t]

variable {m} {c : Dev nD} {D : Loss}
  (A : Cert.Reference28Ideal.LossHead.Args D (m ((c : Thread nD τ).loc main_arg0)) (m ((c : Thread nD τ).loc main_arg1)) (m ((c : Thread nD τ).loc main_arg2)))
include A

theorem holds (t : Fin cfg0.N) : Holds D (row (pt t)) (iblk m c 0 t) (iblk m c 1 t) (iblk m c 2 t) where
  h r k := by rw [blk0, A.h]
  y r k := by rw [blk1, A.y]
  g k := by rw [blk2, A.g]

theorem out_dh (t : Fin cfg0.N) (r : Fin 256) (k : Fin 2048) :
    (outsAt0 m c t.val t.isLt).2.1 (ix2 r k) = (D.dh (row (pt t) r) k : EReal) := by
  by_cases h0 : t.val % 8 = 0
  · rw [outsAt0_A m c t h0 (by have := t.isLt; have : cfg0.N = 8 := rfl; omega)]
    frame_open
    frame_out
    exact dh_apply (holds A t) r k
  · rw [outsAt0_B m c t h0 (by omega)]
    frame_open
    frame_out
    exact dh_apply (holds A t) r k

theorem out_dhb (t : Fin cfg0.N) (r : Fin 256) (k : Fin 2048) :
    (outsAt0 m c t.val t.isLt).2.2.1 (ix2 r k) = (1 / 2 * D.dh (row (pt t) r) k : ℝ) := by
  by_cases h0 : t.val % 8 = 0
  · rw [outsAt0_A m c t h0 (by have := t.isLt; have : cfg0.N = 8 := rfl; omega)]
    frame_open
    frame_out
    exact dhb_apply (holds A t) r k
  · rw [outsAt0_B m c t h0 (by omega)]
    frame_open
    frame_out
    exact dhb_apply (holds A t) r k

/-- After a point the loss holds the rows up to that point's. -/
theorem out_loss : ∀ (i : ℕ) (hi : i < cfg0.N) (a : Fin 8) (b : Fin 128),
    (outsAt0 m c i hi).1 (ix2 a b) = (upto (fun t => ∑ r, D.loss (row t r)) (i + 1) : EReal)
  | 0, hi, a, b => by
    rw [upto_one, outsAt0_A m c ⟨0, hi⟩ rfl (show ¬1 ≤ 0 by decide)]
    frame_open
    frame_out
    exact first_loss (holds A ⟨0, hi⟩) a  b
  | i + 1, hi, a, b => by
    have P := out_loss i (Nat.lt_of_succ_lt hi)
    have h8 : i + 1 < 8 := hi
    rw [upto_succ _ _ h8, outsAt0_B m c ⟨i + 1, hi⟩ (show ¬(i + 1) % 8 = 0 by omega) (show 1 ≤ i + 1 by omega)]
    frame_open
    frame_out
    exact more_loss (holds A ⟨i + 1, hi⟩) P a  b

/-- After a point the gains' gradient holds the rows up to that point's. -/
theorem out_dg : ∀ (i : ℕ) (hi : i < cfg0.N) (k : Fin 2048),
    (outsAt0 m c i hi).2.2.2 (ix2 0 k) = (upto (fun t => ∑ r, D.dg (row t r) k) (i + 1) : EReal)
  | 0, hi, k => by
    rw [upto_one, outsAt0_A m c ⟨0, hi⟩ rfl (show ¬1 ≤ 0 by decide)]
    frame_open
    frame_out
    exact part_dg (holds A ⟨0, hi⟩) k
  | i + 1, hi, k => by
    have P := out_dg i (Nat.lt_of_succ_lt hi)
    have h8 : i + 1 < 8 := hi
    rw [upto_succ _ _ h8, outsAt0_B m c ⟨i + 1, hi⟩ (show ¬(i + 1) % 8 = 0 by omega) (show 1 ≤ i + 1 by omega)]
    frame_open
    frame_out
    exact more_dg (holds A ⟨i + 1, hi⟩) P k

theorem final_dh : (dats m 0 c).arrAt 4 cfg0.N = Cert.Reference28Ideal.Read.val_main_v50 (F := Ideal) (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp
  rw [after0_4]
  idx_vars y
  have hy : ((View.whole main_v2_1).slice (win0_4.rect t)).emb (ix2 y0 y1) = ix2 (row (pt t) y0) y1 := by
    blk_ext [idx4 t, row, pt]
  rw [hy, Cert.Reference28Ideal.LossHead.dh_apply A]
  exact out_dh A t y0 y1

theorem final_dhb : (dats m 0 c).arrAt 5 cfg0.N = Cert.Reference28Ideal.Read.val_main_v54 (F := Ideal) (m ((c : Thread nD τ).loc main_arg0))
    (m ((c : Thread nD τ).loc main_arg1)) (m ((c : Thread nD τ).loc main_arg2)) := by
  refine (dats m 0 c).arrAt_eq_of_covers 5 _ (by decide +kernel) fun t hf y => ?_
  blk_simp
  rw [after0_5]
  idx_vars y
  have hy : ((View.whole main_v2_2).slice (win0_5.rect t)).emb (ix2 y0 y1) = ix2 (row (pt t) y0) y1 := by
    blk_ext [idx5 t, row, pt]
  rw [hy, Cert.Reference28Ideal.LossHead.dhb_apply A]
  exact out_dhb A t y0 y1

theorem final_loss : (dats m 0 c).arrAt 3 cfg0.N = Cert.Reference28Ideal.Read.val_main_v51 (F := Ideal) (m ((c : Thread nD τ).loc main_arg0))
    (m ((c : Thread nD τ).loc main_arg1)) (m ((c : Thread nD τ).loc main_arg2)) := by
  refine (dats m 0 c).arrAt_eq_of_covers 3 _ (by decide +kernel) fun t hf y => ?_
  have h7 := (flush0_3 t).mp hf
  blk_simp
  rw [after0_3]
  idx_vars y
  have hy : ((View.whole main_v2_0).slice (win0_3.rect t)).emb (ix2 y0 y1) = ix2 y0 y1 := by
    blk_ext [idx3 t]
  rw [hy, Cert.Reference28Ideal.LossHead.loss_apply A, ← sum_rows, ← upto_all]
  refine (out_loss A t.val t.isLt y0 y1).trans ?_
  rw [show t.val + 1 = 8 by have := t.isLt; have : cfg0.N = 8 := rfl; omega]

theorem final_dg : (dats m 0 c).arrAt 6 cfg0.N = Cert.Reference28Ideal.Read.val_main_v34 (F := Ideal) (m ((c : Thread nD τ).loc main_arg0))
    (m ((c : Thread nD τ).loc main_arg1)) (m ((c : Thread nD τ).loc main_arg2)) := by
  refine (dats m 0 c).arrAt_eq_of_covers 6 _ (by decide +kernel) fun t hf y => ?_
  have h7 := (flush0_6 t).mp hf
  blk_simp
  rw [after0_6]
  idx_vars y
  obtain rfl : y0 = 0 := Subsingleton.elim _ _
  have hy : ((View.whole main_v2_3).slice (win0_6.rect t)).emb (ix2 0 y1) = ix2 0 y1 := by
    blk_ext [idx6 t]
  rw [hy, Cert.Reference28Ideal.LossHead.dg_apply A, ← sum_rows, ← upto_all]
  refine (out_dg A t.val t.isLt y1).trans ?_
  rw [show t.val + 1 = 8 by have := t.isLt; have : cfg0.N = 8 := rfl; omega]

end Cert.Kernel28Ideal.LossHead

/-! ## The claims -/

namespace Cert.Proof.LossHeadClaims

open Idealize.ShloMosaic Idealize.ShloMosaic.TcCoe Idealize.SL.Sem
open Cert.Kernel28Ideal.LossHead

instance preFacts : Cert.Pre_finite28.Facts := ⟨by decide, by decide, by decide⟩

theorem frame_p : Cert.quiescent_Kernel28 := fun m ρ _ => Cert.Kernel28.Gen.frame m ρ
theorem frame_pi : Cert.quiescent_Kernel28Ideal := fun m ρ _ => Cert.Kernel28Ideal.Gen.frame m ρ
theorem frame_pi' : Cert.quiescent_Kernel28Ideal_pre_finite28 := fun m ρ _ => Cert.Kernel28Ideal.Gen.frame m ρ
theorem frame_ri : Cert.quiescent_Reference28Ideal := fun m ρ _ =>
  (θ_run Cert.Reference28Ideal.defs _ _).mono (fun r h => ⟨fun c => (h c).2.2.2.2,
      Idealize.ShloMosaic.sem_eq_zero_of_no_sems (by decide) r.2⟩)
    (Cert.Reference28Ideal.Value.run (F := Ideal) m ρ)
theorem frame_ri' : Cert.quiescent_Reference28Ideal_pre_finite28 := fun m ρ _ => frame_ri m ρ trivial

/-- From finite arguments the kernel and the reference end with the same loss and gradients. -/
theorem algebraic : Cert.algebraic_Kernel28Ideal_Reference28Ideal_pre_finite28 := by
  intro m ρ m' ρ' hpre hagree
  refine ⟨_, _, _, _, Cert.Kernel28Ideal.Value.run_blocks (F := Ideal) m ρ, ?_⟩
  refine (θ_run Cert.Reference28Ideal.defs _ _).mono
    (fun _ h c => ⟨(h c).1.trans ?_, (h c).2.1.trans ?_, (h c).2.2.1.trans ?_, (h c).2.2.2.1.trans ?_, (h c).2.2.2.2⟩)
    (Cert.Reference28Ideal.Value.run (F := Ideal) m' ρ')
  all_goals
    obtain ⟨p0, p1, p2⟩ := hpre c
    obtain ⟨a0, h0⟩ := Cert.Finite.real_of_pre _ _ _ p0
    obtain ⟨a1, h1⟩ := Cert.Finite.real_of_pre _ _ _ p1
    obtain ⟨a2, h2⟩ := Cert.Finite.real_of_pre _ _ _ p2
    have A : Cert.Reference28Ideal.LossHead.Args ⟨fun r k => a0 (ix3 0 r k), fun r k => a1 (ix3 0 r k), fun k => a2 (ix2 0 k)⟩ _ _ _ :=
      ⟨fun _ _ => congrFun h0 _, fun _ _ => congrFun h1 _, fun _ => congrFun h2 _⟩
    obtain ⟨e0, e1, e2⟩ := hagree c
  · refine (Cert.Reference28Ideal.Read.val_main_v51_eq _ _ _).trans (Eq.trans ?_ (final_loss A).symm)
    exact congr (congr (congrArg _ e0) e1) e2
  · refine (Cert.Reference28Ideal.Read.val_main_v50_eq _ _).trans (Eq.trans ?_ (final_dh A).symm)
    exact congr (congr (congrArg _ e0) e1) e2
  · refine (Cert.Reference28Ideal.Read.val_main_v54_eq _ _).trans (Eq.trans ?_ (final_dhb A).symm)
    exact congr (congr (congrArg _ e0) e1) e2
  · refine (Cert.Reference28Ideal.Read.val_main_v34_eq _ _ _).trans (Eq.trans ?_ (final_dg A).symm)
    exact congr (congr (congrArg _ e0) e1) e2

end Cert.Proof.LossHeadClaims

end
-- ==== Proof.Adam.lean ====
/- One AdamW step of one number, over the extended reals: what every weight's step is at an index. -/
module

public import proofs.«01_k».proof.Defs
public import Idealize.ShloMosaic.Lib.Pipeline.ValueKit
public import Idealize.ShloMosaic.Lib.Pointwise

@[expose] public section

noncomputable section

namespace Cert.Adam

open Idealize.ShloMosaic

/-- The gradient is the sum of its four parts. -/
def grad (p : Fin 4 → EReal) : EReal := p 0 + p 1 + p 2 + p 3

theorem grad_eq (p : Fin 4 → EReal) : grad p = ∑ i, p i := by
  rw [Fin.sum_univ_four]
  rfl

/-- The first moment moves to the gradient `g` by a tenth of the way. -/
def mom (m g : EReal) : EReal := Ideal.ofBits .f32 0x3F666666#32 * m + Ideal.ofBits .f32 0x3DCCCCCD#32 * g

/-- The second moment moves to the gradient's square by a thousandth of the way. -/
def var (v g : EReal) : EReal := Ideal.ofBits .f32 0x3F7FBE77#32 * v + Ideal.ofBits .f32 0x3A83126F#32 * (g * g)

/-- The weight's change, from its new moments and itself: the corrected moment over the root of the corrected square and
the decay, times the negated rate. -/
def change (m v w : EReal) : EReal :=
  Ideal.ofBits .f32 0xBA83126F#32
    * (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

end Cert.Adam

end
-- ==== Proof.AdamUp.lean ====
/- The AdamW step of a feed-forward block's up weights, a device's columns of them,
at an index, and by it the kernel's blocks are the reference's rows. -/
module

public import proofs.«01_k».proof.Proof.Adam
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import Idealize.ShloMosaic.Lib.Quiescent

@[expose] public section

set_option maxRecDepth 16384

noncomputable section

/-! ## The reference at an index -/

namespace Cert.Reference29Ideal.AdamUp

open Cert.Reference29Ideal Cert.Reference29Ideal.Read Idealize.ShloMosaic Idealize.ShloMosaic.TcCoe
open Cert.Adam

variable (x0 : Vec Ideal S4x2048x1408 .f32) (x1 x2 x3 : Vec Ideal S1x2048x1408 .f32) (s : Fin 2048) (k : Fin 1408)

theorem g_apply : val_main_v3 (F := Ideal) x0 (ix2 s k) = (grad fun p => x0 (ix3 p s k)) := by
  rw [grad_eq]
  pointwise [val_main_v3, val_main_cst]

theorem m_apply : val_main_v8 (F := Ideal) x0 x2 (ix2 s k) = mom (x2 (ix3 0 s k)) (grad fun p => x0 (ix3 p s k)) := by
  pointwise [val_main_v8, val_main_v5, val_main_v7, val_main_v4, val_main_v6, val_main_cst_0, val_main_cst_1, val_main_v1]
  rw [g_apply]
  rfl

theorem v_apply : val_main_v14 (F := Ideal) x0 x3 (ix2 s k) = var (x3 (ix3 0 s k)) (grad fun p => x0 (ix3 p s k)) := by
  pointwise [val_main_v14, val_main_v10, val_main_v13, val_main_v9, val_main_v11, val_main_v12, val_main_cst_2, val_main_cst_3, val_main_v2]
  rw [g_apply]
  rfl

theorem d_apply : val_main_v27 (F := Ideal) x0 x1 x2 x3 (ix2 s k)
    = change (mom (x2 (ix3 0 s k)) (grad fun p => x0 (ix3 p s k))) (var (x3 (ix3 0 s k)) (grad fun p => x0 (ix3 p s k))) (x1 (ix3 0 s k)) := by
  pointwise [val_main_v27, val_main_v26, val_main_cst_8, val_main_v25, val_main_v24, val_main_v23, val_main_cst_7, val_main_v22, val_main_v21, val_main_v20, val_main_cst_6, val_main_v19, val_main_v18, val_main_v17, val_main_cst_5, val_main_v16, val_main_v15, val_main_cst_4, val_main_v0]
  rw [m_apply, v_apply]
  rfl

end Cert.Reference29Ideal.AdamUp

/-! ## The kernel -/

namespace Cert.Kernel29Ideal.AdamUp

open Cert.Kernel29Ideal Cert.Kernel29Ideal.Gen Idealize.ShloMosaic Idealize.ShloMosaic.TcCoe Idealize.SL.Sem
open Idealize.ShloMosaic.Pipeline (Dat)
open Cert.Adam

section
variable (p0 p1 p2 p3 : Vec Ideal S1x256x1408 .bf16) (r : Fin 256) (k : Fin 1408)

theorem g_apply : k0_pay2 (F := Ideal) p0 p1 p2 p3 (ix2 r k) = p0 (ix3 0 r k) + p1 (ix3 0 r k) + p2 (ix3 0 r k) + p3 (ix3 0 r k) := by
  pointwise [k0_pay2]

theorem m_apply (x : Vec Ideal S256x1408 .f32) :
    k0_pay3 (F := Ideal) p0 p1 p2 p3 x (ix2 r k) = mom (x (ix2 r k)) (k0_pay2 (F := Ideal) p0 p1 p2 p3 (ix2 r k)) := by
  pointwise [k0_pay3]
  rfl

theorem v_apply (x : Vec Ideal S256x1408 .f32) :
    k0_pay4 (F := Ideal) p0 p1 p2 p3 x (ix2 r k) = var (x (ix2 r k)) (k0_pay2 (F := Ideal) p0 p1 p2 p3 (ix2 r k)) := by
  pointwise [k0_pay4]
  rfl

end

theorem d_apply (a b w : Vec Ideal S256x1408 .f32) (r : Fin 256) (k : Fin 1408) :
    k0_pay1 (F := Ideal) a b w (ix2 r k) = change (a (ix2 r k)) (b (ix2 r k)) (w (ix2 r k)) := by
  pointwise [k0_pay1]
  rfl

variable (m : (ℓ : Loc nD τ sig) → Buf (Elt Ideal) ℓ)

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])

/-- Row `r` of the tile at point `t`, among all the weight's rows. -/
def row (t : Fin cfg0.N) (r : Fin 256) : Fin 2048 :=
  ⟨t.val * 256 + r.val, by have := t.isLt; have : cfg0.N = 8 := rfl; omega⟩

theorem blk0 (c : Dev nD) (t : Fin cfg0.N) (p : Fin 4) (r : Fin 256) (k : Fin 1408) :
    iblk m c 0 t (ix3 p r k) = m ((c : Thread nD τ).loc main_arg0) (ix3 p (row t r) k) := by
  blk_simp [iblk, idx0 t]
  entry_read
  pointwise
  blk_ext [idx0 t, row]
theorem blk1 (c : Dev nD) (t : Fin cfg0.N) (r : Fin 256) (k : Fin 1408) :
    iblk m c 1 t (ix2 r k) = m ((c : Thread nD τ).loc main_arg1) (ix3 0 (row t r) k) := by
  blk_simp [iblk, idx1 t]
  entry_read
  pointwise
  blk_ext [idx1 t, row]
theorem blk2 (c : Dev nD) (t : Fin cfg0.N) (r : Fin 256) (k : Fin 1408) :
    iblk m c 2 t (ix2 r k) = m ((c : Thread nD τ).loc main_arg2) (ix3 0 (row t r) k) := by
  blk_simp [iblk, idx2 t]
  entry_read
  pointwise
  blk_ext [idx2 t, row]
theorem blk3 (c : Dev nD) (t : Fin cfg0.N) (r : Fin 256) (k : Fin 1408) :
    iblk m c 3 t (ix2 r k) = m ((c : Thread nD τ).loc main_arg3) (ix3 0 (row t r) k) := by
  blk_simp [iblk, idx3 t]
  entry_read
  pointwise
  blk_ext [idx3 t, row]

theorem inb_page (p : Fin 4) : ∀ a, (![p.val, 0, 0] : Fin 3 → ℕ) a + S1x256x1408.size a ≤ S4x256x1408.size a := by
  revert p; decide
abbrev page (p : Fin 4) : Rect S4x256x1408 := Rect.unit ![p.val, 0, 0] S1x256x1408.size (inb_page p)

theorem page_apply (c : Dev nD) (t : Fin cfg0.N) (p : Fin 4) (r : Fin 256) (k : Fin 1408) :
    View.ld (iblk m c 0 t) (page p) (ix3 0 r k) = m ((c : Thread nD τ).loc main_arg0) (ix3 p (row t r) k) := by
  rw [View.ld_unit_apply_of _ _ _ _ _ (ix3 p r k) (by intro a; fin_cases a <;> simp), blk0]

/-- The tile's gradient is the sum of the four parts' rows. -/
theorem out_g (c : Dev nD) (t : Fin cfg0.N) (r : Fin 256) (k : Fin 1408) :
    k0_pay2 (F := Ideal) (View.ld (iblk m c 0 t) (page 0)) (View.ld (iblk m c 0 t) (page 1)) (View.ld (iblk m c 0 t) (page 2)) (View.ld (iblk m c 0 t) (page 3)) (ix2 r k)
      = grad fun p => m ((c : Thread nD τ).loc main_arg0) (ix3 p (row t r) k) := by
  rw [g_apply, page_apply, page_apply, page_apply, page_apply]
  rfl

theorem out_m (c : Dev nD) (t : Fin cfg0.N) (r : Fin 256) (k : Fin 1408) :
    k0_pay3 (F := Ideal) (View.ld (iblk m c 0 t) (page 0)) (View.ld (iblk m c 0 t) (page 1)) (View.ld (iblk m c 0 t) (page 2)) (View.ld (iblk m c 0 t) (page 3)) (iblk m c 2 t) (ix2 r k)
      = mom (m ((c : Thread nD τ).loc main_arg2) (ix3 0 (row t r) k)) (grad fun p => m ((c : Thread nD τ).loc main_arg0) (ix3 p (row t r) k)) := by
  rw [m_apply, out_g, blk2]

theorem out_v (c : Dev nD) (t : Fin cfg0.N) (r : Fin 256) (k : Fin 1408) :
    k0_pay5 (F := Ideal) (iblk m c 0 t) (iblk m c 1 t) (iblk m c 2 t) (iblk m c 3 t) (ix2 r k)
      = var (m ((c : Thread nD τ).loc main_arg3) (ix3 0 (row t r) k)) (grad fun p => m ((c : Thread nD τ).loc main_arg0) (ix3 p (row t r) k)) := by
  unfold k0_pay5
  refine (v_apply _ _ _ _ r k _).trans ?_
  exact congrArg₂ var ((View.ld_unit_apply_of _ _ _ _ _ (ix2 r k) (by intro a; fin_cases a <;> simp)).trans (blk3 m c t r k))
    (out_g m c t r k)

theorem final_g (c : Dev nD) : (dats m 0 c).arrAt 4 cfg0.N = Cert.Reference29Ideal.Read.val_main_v3 (F := Ideal)
    (m ((c : Thread nD τ).loc main_arg0)) := by
  refine (dats m 0 c).arrAt_eq_of_covers 4 _ (by decide +kernel) fun t hf y => ?_
  blk_simp
  rw [after0_4]
  idx_vars y
  have hy : ((View.whole main_v4_0).slice (win0_4.rect t)).emb (ix2 y0 y1) = ix2 (row t y0) y1 := by
    blk_ext [idx4 t, row]
  rw [hy, Cert.Reference29Ideal.AdamUp.g_apply]
  frame_out
  exact out_g m c t y0 y1

theorem final_d (c : Dev nD) : (dats m 0 c).arrAt 5 cfg0.N = Cert.Reference29Ideal.Read.val_main_v27 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  have hy : ((View.whole main_v4_1).slice (win0_5.rect t)).emb (ix2 y0 y1) = ix2 (row t y0) y1 := by
    blk_ext [idx5 t, row]
  rw [hy, Cert.Reference29Ideal.AdamUp.d_apply]
  frame_out
  refine (d_apply _ _ _ y0 y1).trans ?_
  rw [blk1]
  exact congrArg₂ (fun a b => change a b (m ((c : Thread nD τ).loc main_arg1) (ix3 0 (row t y0) y1))) (out_m m c t y0 y1) (out_v m c t y0 y1)

theorem final_m (c : Dev nD) : (dats m 0 c).arrAt 6 cfg0.N = Cert.Reference29Ideal.Read.val_main_v8 (F := Ideal)
    (m ((c : Thread nD τ).loc main_arg0)) (m ((c : Thread nD τ).loc main_arg2)) := by
  refine (dats m 0 c).arrAt_eq_of_covers 6 _ (by decide +kernel) fun t hf y => ?_
  blk_simp
  rw [after0_6]
  idx_vars y
  have hy : ((View.whole main_v4_2).slice (win0_6.rect t)).emb (ix2 y0 y1) = ix2 (row t y0) y1 := by
    blk_ext [idx6 t, row]
  rw [hy, Cert.Reference29Ideal.AdamUp.m_apply]
  frame_out
  exact out_m m c t y0 y1

theorem final_v (c : Dev nD) : (dats m 0 c).arrAt 7 cfg0.N = Cert.Reference29Ideal.Read.val_main_v14 (F := Ideal)
    (m ((c : Thread nD τ).loc main_arg0)) (m ((c : Thread nD τ).loc main_arg3)) := by
  refine (dats m 0 c).arrAt_eq_of_covers 7 _ (by decide +kernel) fun t hf y => ?_
  blk_simp
  rw [after0_7]
  idx_vars y
  have hy : ((View.whole main_v4_3).slice (win0_7.rect t)).emb (ix2 y0 y1) = ix2 (row t y0) y1 := by
    blk_ext [idx7 t, row]
  rw [hy, Cert.Reference29Ideal.AdamUp.v_apply]
  frame_out
  exact out_v m c t y0 y1

end Cert.Kernel29Ideal.AdamUp

/-! ## The claims -/

namespace Cert.Proof.AdamUpClaims

open Idealize.ShloMosaic Idealize.ShloMosaic.TcCoe Idealize.SL.Sem
open Cert.Kernel29Ideal.AdamUp

theorem frame_p : Cert.quiescent_Kernel29 := fun m ρ _ => Cert.Kernel29.Gen.frame m ρ
theorem frame_pi : Cert.quiescent_Kernel29Ideal := fun m ρ _ => Cert.Kernel29Ideal.Gen.frame m ρ
theorem frame_ri : Cert.quiescent_Reference29Ideal := fun m ρ _ =>
  (θ_run Cert.Reference29Ideal.defs _ _).mono (fun r h => ⟨fun c => (h c).2.2.2.2,
      Idealize.ShloMosaic.sem_eq_zero_of_no_sems (by decide) r.2⟩)
    (Cert.Reference29Ideal.Value.run (F := Ideal) m ρ)

/-- The kernel and the reference end with the same gradient, change and moments. -/
theorem algebraic : Cert.algebraic_Kernel29Ideal_Reference29Ideal := by
  intro m ρ m' ρ' _ hagree
  refine ⟨_, _, _, _, Cert.Kernel29Ideal.Value.run_blocks (F := Ideal) m ρ, ?_⟩
  refine (θ_run Cert.Reference29Ideal.defs _ _).mono
    (fun _ h c => ⟨(h c).1.trans ?_, (h c).2.1.trans ?_, (h c).2.2.1.trans ?_, (h c).2.2.2.1.trans ?_, (h c).2.2.2.2⟩)
    (Cert.Reference29Ideal.Value.run (F := Ideal) m' ρ')
  all_goals obtain ⟨e0, e1, e2, e3⟩ := hagree c
  · refine (Cert.Reference29Ideal.Read.val_main_v3_eq _).trans (Eq.trans ?_ (final_g m c).symm)
    exact congrArg _ e0
  · refine (Cert.Reference29Ideal.Read.val_main_v27_eq _ _ _ _).trans (Eq.trans ?_ (final_d m c).symm)
    exact congr (congr (congr (congrArg _ e0) e1) e2) e3
  · refine (Cert.Reference29Ideal.Read.val_main_v8_eq _ _).trans (Eq.trans ?_ (final_m m c).symm)
    exact congr (congrArg _ e0) e2
  · refine (Cert.Reference29Ideal.Read.val_main_v14_eq _ _).trans (Eq.trans ?_ (final_v m c).symm)
    exact congr (congrArg _ e0) e3

end Cert.Proof.AdamUpClaims

end
-- ==== Proof.AdamDown.lean ====
/- The AdamW step of a feed-forward block's down weights, a device's rows of them,
at an index, and by it the kernel's blocks are the reference's rows. -/
module

public import proofs.«01_k».proof.Proof.Adam
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import Idealize.ShloMosaic.Lib.Quiescent

@[expose] public section

set_option maxRecDepth 16384

noncomputable section

/-! ## The reference at an index -/

namespace Cert.Reference30Ideal.AdamDown

open Cert.Reference30Ideal Cert.Reference30Ideal.Read Idealize.ShloMosaic Idealize.ShloMosaic.TcCoe
open Cert.Adam

variable (x0 : Vec Ideal S4x704x2048 .f32) (x1 x2 x3 : Vec Ideal S1x704x2048 .f32) (s : Fin 704) (k : Fin 2048)

theorem g_apply : val_main_v3 (F := Ideal) x0 (ix2 s k) = (grad fun p => x0 (ix3 p s k)) := by
  rw [grad_eq]
  pointwise [val_main_v3, val_main_cst]

theorem m_apply : val_main_v8 (F := Ideal) x0 x2 (ix2 s k) = mom (x2 (ix3 0 s k)) (grad fun p => x0 (ix3 p s k)) := by
  pointwise [val_main_v8, val_main_v5, val_main_v7, val_main_v4, val_main_v6, val_main_cst_0, val_main_cst_1, val_main_v1]
  rw [g_apply]
  rfl

theorem v_apply : val_main_v14 (F := Ideal) x0 x3 (ix2 s k) = var (x3 (ix3 0 s k)) (grad fun p => x0 (ix3 p s k)) := by
  pointwise [val_main_v14, val_main_v10, val_main_v13, val_main_v9, val_main_v11, val_main_v12, val_main_cst_2, val_main_cst_3, val_main_v2]
  rw [g_apply]
  rfl

theorem d_apply : val_main_v27 (F := Ideal) x0 x1 x2 x3 (ix2 s k)
    = change (mom (x2 (ix3 0 s k)) (grad fun p => x0 (ix3 p s k))) (var (x3 (ix3 0 s k)) (grad fun p => x0 (ix3 p s k))) (x1 (ix3 0 s k)) := by
  pointwise [val_main_v27, val_main_v26, val_main_cst_8, val_main_v25, val_main_v24, val_main_v23, val_main_cst_7, val_main_v22, val_main_v21, val_main_v20, val_main_cst_6, val_main_v19, val_main_v18, val_main_v17, val_main_cst_5, val_main_v16, val_main_v15, val_main_cst_4, val_main_v0]
  rw [m_apply, v_apply]
  rfl

end Cert.Reference30Ideal.AdamDown

/-! ## The kernel -/

namespace Cert.Kernel30Ideal.AdamDown

open Cert.Kernel30Ideal Cert.Kernel30Ideal.Gen Idealize.ShloMosaic Idealize.ShloMosaic.TcCoe Idealize.SL.Sem
open Idealize.ShloMosaic.Pipeline (Dat)
open Cert.Adam

section
variable (p0 p1 p2 p3 : Vec Ideal S1x176x2048 .bf16) (r : Fin 176) (k : Fin 2048)

theorem g_apply : k0_pay2 (F := Ideal) p0 p1 p2 p3 (ix2 r k) = p0 (ix3 0 r k) + p1 (ix3 0 r k) + p2 (ix3 0 r k) + p3 (ix3 0 r k) := by
  pointwise [k0_pay2]

theorem m_apply (x : Vec Ideal S176x2048 .f32) :
    k0_pay3 (F := Ideal) p0 p1 p2 p3 x (ix2 r k) = mom (x (ix2 r k)) (k0_pay2 (F := Ideal) p0 p1 p2 p3 (ix2 r k)) := by
  pointwise [k0_pay3]
  rfl

theorem v_apply (x : Vec Ideal S176x2048 .f32) :
    k0_pay4 (F := Ideal) p0 p1 p2 p3 x (ix2 r k) = var (x (ix2 r k)) (k0_pay2 (F := Ideal) p0 p1 p2 p3 (ix2 r k)) := by
  pointwise [k0_pay4]
  rfl

end

theorem d_apply (a b w : Vec Ideal S176x2048 .f32) (r : Fin 176) (k : Fin 2048) :
    k0_pay1 (F := Ideal) a b w (ix2 r k) = change (a (ix2 r k)) (b (ix2 r k)) (w (ix2 r k)) := by
  pointwise [k0_pay1]
  rfl

variable (m : (ℓ : Loc nD τ sig) → Buf (Elt Ideal) ℓ)

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])

/-- Row `r` of the tile at point `t`, among all the weight's rows. -/
def row (t : Fin cfg0.N) (r : Fin 176) : Fin 704 :=
  ⟨t.val * 176 + r.val, by have := t.isLt; have : cfg0.N = 4 := rfl; omega⟩

theorem blk0 (c : Dev nD) (t : Fin cfg0.N) (p : Fin 4) (r : Fin 176) (k : Fin 2048) :
    iblk m c 0 t (ix3 p r k) = m ((c : Thread nD τ).loc main_arg0) (ix3 p (row t r) k) := by
  blk_simp [iblk, idx0 t]
  entry_read
  pointwise
  blk_ext [idx0 t, row]
theorem blk1 (c : Dev nD) (t : Fin cfg0.N) (r : Fin 176) (k : Fin 2048) :
    iblk m c 1 t (ix2 r k) = m ((c : Thread nD τ).loc main_arg1) (ix3 0 (row t r) k) := by
  blk_simp [iblk, idx1 t]
  entry_read
  pointwise
  blk_ext [idx1 t, row]
theorem blk2 (c : Dev nD) (t : Fin cfg0.N) (r : Fin 176) (k : Fin 2048) :
    iblk m c 2 t (ix2 r k) = m ((c : Thread nD τ).loc main_arg2) (ix3 0 (row t r) k) := by
  blk_simp [iblk, idx2 t]
  entry_read
  pointwise
  blk_ext [idx2 t, row]
theorem blk3 (c : Dev nD) (t : Fin cfg0.N) (r : Fin 176) (k : Fin 2048) :
    iblk m c 3 t (ix2 r k) = m ((c : Thread nD τ).loc main_arg3) (ix3 0 (row t r) k) := by
  blk_simp [iblk, idx3 t]
  entry_read
  pointwise
  blk_ext [idx3 t, row]

theorem inb_page (p : Fin 4) : ∀ a, (![p.val, 0, 0] : Fin 3 → ℕ) a + S1x176x2048.size a ≤ S4x176x2048.size a := by
  revert p; decide
abbrev page (p : Fin 4) : Rect S4x176x2048 := Rect.unit ![p.val, 0, 0] S1x176x2048.size (inb_page p)

theorem page_apply (c : Dev nD) (t : Fin cfg0.N) (p : Fin 4) (r : Fin 176) (k : Fin 2048) :
    View.ld (iblk m c 0 t) (page p) (ix3 0 r k) = m ((c : Thread nD τ).loc main_arg0) (ix3 p (row t r) k) := by
  rw [View.ld_unit_apply_of _ _ _ _ _ (ix3 p r k) (by intro a; fin_cases a <;> simp), blk0]

/-- The tile's gradient is the sum of the four parts' rows. -/
theorem out_g (c : Dev nD) (t : Fin cfg0.N) (r : Fin 176) (k : Fin 2048) :
    k0_pay2 (F := Ideal) (View.ld (iblk m c 0 t) (page 0)) (View.ld (iblk m c 0 t) (page 1)) (View.ld (iblk m c 0 t) (page 2)) (View.ld (iblk m c 0 t) (page 3)) (ix2 r k)
      = grad fun p => m ((c : Thread nD τ).loc main_arg0) (ix3 p (row t r) k) := by
  rw [g_apply, page_apply, page_apply, page_apply, page_apply]
  rfl

theorem out_m (c : Dev nD) (t : Fin cfg0.N) (r : Fin 176) (k : Fin 2048) :
    k0_pay3 (F := Ideal) (View.ld (iblk m c 0 t) (page 0)) (View.ld (iblk m c 0 t) (page 1)) (View.ld (iblk m c 0 t) (page 2)) (View.ld (iblk m c 0 t) (page 3)) (iblk m c 2 t) (ix2 r k)
      = mom (m ((c : Thread nD τ).loc main_arg2) (ix3 0 (row t r) k)) (grad fun p => m ((c : Thread nD τ).loc main_arg0) (ix3 p (row t r) k)) := by
  rw [m_apply, out_g, blk2]

theorem out_v (c : Dev nD) (t : Fin cfg0.N) (r : Fin 176) (k : Fin 2048) :
    k0_pay5 (F := Ideal) (iblk m c 0 t) (iblk m c 1 t) (iblk m c 2 t) (iblk m c 3 t) (ix2 r k)
      = var (m ((c : Thread nD τ).loc main_arg3) (ix3 0 (row t r) k)) (grad fun p => m ((c : Thread nD τ).loc main_arg0) (ix3 p (row t r) k)) := by
  unfold k0_pay5
  refine (v_apply _ _ _ _ r k _).trans ?_
  exact congrArg₂ var ((View.ld_unit_apply_of _ _ _ _ _ (ix2 r k) (by intro a; fin_cases a <;> simp)).trans (blk3 m c t r k))
    (out_g m c t r k)

theorem final_g (c : Dev nD) : (dats m 0 c).arrAt 4 cfg0.N = Cert.Reference30Ideal.Read.val_main_v3 (F := Ideal)
    (m ((c : Thread nD τ).loc main_arg0)) := by
  refine (dats m 0 c).arrAt_eq_of_covers 4 _ (by decide +kernel) fun t hf y => ?_
  blk_simp
  rw [after0_4]
  idx_vars y
  have hy : ((View.whole main_v4_0).slice (win0_4.rect t)).emb (ix2 y0 y1) = ix2 (row t y0) y1 := by
    blk_ext [idx4 t, row]
  rw [hy, Cert.Reference30Ideal.AdamDown.g_apply]
  frame_out
  exact out_g m c t y0 y1

theorem final_d (c : Dev nD) : (dats m 0 c).arrAt 5 cfg0.N = Cert.Reference30Ideal.Read.val_main_v27 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  have hy : ((View.whole main_v4_1).slice (win0_5.rect t)).emb (ix2 y0 y1) = ix2 (row t y0) y1 := by
    blk_ext [idx5 t, row]
  rw [hy, Cert.Reference30Ideal.AdamDown.d_apply]
  frame_out
  refine (d_apply _ _ _ y0 y1).trans ?_
  rw [blk1]
  exact congrArg₂ (fun a b => change a b (m ((c : Thread nD τ).loc main_arg1) (ix3 0 (row t y0) y1))) (out_m m c t y0 y1) (out_v m c t y0 y1)

theorem final_m (c : Dev nD) : (dats m 0 c).arrAt 6 cfg0.N = Cert.Reference30Ideal.Read.val_main_v8 (F := Ideal)
    (m ((c : Thread nD τ).loc main_arg0)) (m ((c : Thread nD τ).loc main_arg2)) := by
  refine (dats m 0 c).arrAt_eq_of_covers 6 _ (by decide +kernel) fun t hf y => ?_
  blk_simp
  rw [after0_6]
  idx_vars y
  have hy : ((View.whole main_v4_2).slice (win0_6.rect t)).emb (ix2 y0 y1) = ix2 (row t y0) y1 := by
    blk_ext [idx6 t, row]
  rw [hy, Cert.Reference30Ideal.AdamDown.m_apply]
  frame_out
  exact out_m m c t y0 y1

theorem final_v (c : Dev nD) : (dats m 0 c).arrAt 7 cfg0.N = Cert.Reference30Ideal.Read.val_main_v14 (F := Ideal)
    (m ((c : Thread nD τ).loc main_arg0)) (m ((c : Thread nD τ).loc main_arg3)) := by
  refine (dats m 0 c).arrAt_eq_of_covers 7 _ (by decide +kernel) fun t hf y => ?_
  blk_simp
  rw [after0_7]
  idx_vars y
  have hy : ((View.whole main_v4_3).slice (win0_7.rect t)).emb (ix2 y0 y1) = ix2 (row t y0) y1 := by
    blk_ext [idx7 t, row]
  rw [hy, Cert.Reference30Ideal.AdamDown.v_apply]
  frame_out
  exact out_v m c t y0 y1

end Cert.Kernel30Ideal.AdamDown

/-! ## The claims -/

namespace Cert.Proof.AdamDownClaims

open Idealize.ShloMosaic Idealize.ShloMosaic.TcCoe Idealize.SL.Sem
open Cert.Kernel30Ideal.AdamDown

theorem frame_p : Cert.quiescent_Kernel30 := fun m ρ _ => Cert.Kernel30.Gen.frame m ρ
theorem frame_pi : Cert.quiescent_Kernel30Ideal := fun m ρ _ => Cert.Kernel30Ideal.Gen.frame m ρ
theorem frame_ri : Cert.quiescent_Reference30Ideal := fun m ρ _ =>
  (θ_run Cert.Reference30Ideal.defs _ _).mono (fun r h => ⟨fun c => (h c).2.2.2.2,
      Idealize.ShloMosaic.sem_eq_zero_of_no_sems (by decide) r.2⟩)
    (Cert.Reference30Ideal.Value.run (F := Ideal) m ρ)

/-- The kernel and the reference end with the same gradient, change and moments. -/
theorem algebraic : Cert.algebraic_Kernel30Ideal_Reference30Ideal := by
  intro m ρ m' ρ' _ hagree
  refine ⟨_, _, _, _, Cert.Kernel30Ideal.Value.run_blocks (F := Ideal) m ρ, ?_⟩
  refine (θ_run Cert.Reference30Ideal.defs _ _).mono
    (fun _ h c => ⟨(h c).1.trans ?_, (h c).2.1.trans ?_, (h c).2.2.1.trans ?_, (h c).2.2.2.1.trans ?_, (h c).2.2.2.2⟩)
    (Cert.Reference30Ideal.Value.run (F := Ideal) m' ρ')
  all_goals obtain ⟨e0, e1, e2, e3⟩ := hagree c
  · refine (Cert.Reference30Ideal.Read.val_main_v3_eq _).trans (Eq.trans ?_ (final_g m c).symm)
    exact congrArg _ e0
  · refine (Cert.Reference30Ideal.Read.val_main_v27_eq _ _ _ _).trans (Eq.trans ?_ (final_d m c).symm)
    exact congr (congr (congr (congrArg _ e0) e1) e2) e3
  · refine (Cert.Reference30Ideal.Read.val_main_v8_eq _ _).trans (Eq.trans ?_ (final_m m c).symm)
    exact congr (congrArg _ e0) e2
  · refine (Cert.Reference30Ideal.Read.val_main_v14_eq _ _).trans (Eq.trans ?_ (final_v m c).symm)
    exact congr (congrArg _ e0) e3

end Cert.Proof.AdamDownClaims

end
-- ==== Proof.AdamMix.lean ====
/- The AdamW step of the weights into the mixing branches, a device's columns of them,
at an index, and by it the kernel's blocks are the reference's rows. -/
module

public import proofs.«01_k».proof.Proof.Adam
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import Idealize.ShloMosaic.Lib.Quiescent

@[expose] public section

set_option maxRecDepth 16384

noncomputable section

/-! ## The reference at an index -/

namespace Cert.Reference31Ideal.AdamMix

open Cert.Reference31Ideal Cert.Reference31Ideal.Read Idealize.ShloMosaic Idealize.ShloMosaic.TcCoe
open Cert.Adam

variable (x0 : Vec Ideal S4x2048x640 .f32) (x1 x2 x3 : Vec Ideal S1x2048x640 .f32) (s : Fin 2048) (k : Fin 640)

theorem g_apply : val_main_v3 (F := Ideal) x0 (ix2 s k) = (grad fun p => x0 (ix3 p s k)) := by
  rw [grad_eq]
  pointwise [val_main_v3, val_main_cst]

theorem m_apply : val_main_v8 (F := Ideal) x0 x2 (ix2 s k) = mom (x2 (ix3 0 s k)) (grad fun p => x0 (ix3 p s k)) := by
  pointwise [val_main_v8, val_main_v5, val_main_v7, val_main_v4, val_main_v6, val_main_cst_0, val_main_cst_1, val_main_v1]
  rw [g_apply]
  rfl

theorem v_apply : val_main_v14 (F := Ideal) x0 x3 (ix2 s k) = var (x3 (ix3 0 s k)) (grad fun p => x0 (ix3 p s k)) := by
  pointwise [val_main_v14, val_main_v10, val_main_v13, val_main_v9, val_main_v11, val_main_v12, val_main_cst_2, val_main_cst_3, val_main_v2]
  rw [g_apply]
  rfl

theorem d_apply : val_main_v27 (F := Ideal) x0 x1 x2 x3 (ix2 s k)
    = change (mom (x2 (ix3 0 s k)) (grad fun p => x0 (ix3 p s k))) (var (x3 (ix3 0 s k)) (grad fun p => x0 (ix3 p s k))) (x1 (ix3 0 s k)) := by
  pointwise [val_main_v27, val_main_v26, val_main_cst_8, val_main_v25, val_main_v24, val_main_v23, val_main_cst_7, val_main_v22, val_main_v21, val_main_v20, val_main_cst_6, val_main_v19, val_main_v18, val_main_v17, val_main_cst_5, val_main_v16, val_main_v15, val_main_cst_4, val_main_v0]
  rw [m_apply, v_apply]
  rfl

end Cert.Reference31Ideal.AdamMix

/-! ## The kernel -/

namespace Cert.Kernel31Ideal.AdamMix

open Cert.Kernel31Ideal Cert.Kernel31Ideal.Gen Idealize.ShloMosaic Idealize.ShloMosaic.TcCoe Idealize.SL.Sem
open Idealize.ShloMosaic.Pipeline (Dat)
open Cert.Adam

section
variable (p0 p1 p2 p3 : Vec Ideal S1x256x640 .bf16) (r : Fin 256) (k : Fin 640)

theorem g_apply : k0_pay2 (F := Ideal) p0 p1 p2 p3 (ix2 r k) = p0 (ix3 0 r k) + p1 (ix3 0 r k) + p2 (ix3 0 r k) + p3 (ix3 0 r k) := by
  pointwise [k0_pay2]

theorem m_apply (x : Vec Ideal S256x640 .f32) :
    k0_pay3 (F := Ideal) p0 p1 p2 p3 x (ix2 r k) = mom (x (ix2 r k)) (k0_pay2 (F := Ideal) p0 p1 p2 p3 (ix2 r k)) := by
  pointwise [k0_pay3]
  rfl

theorem v_apply (x : Vec Ideal S256x640 .f32) :
    k0_pay4 (F := Ideal) p0 p1 p2 p3 x (ix2 r k) = var (x (ix2 r k)) (k0_pay2 (F := Ideal) p0 p1 p2 p3 (ix2 r k)) := by
  pointwise [k0_pay4]
  rfl

end

theorem d_apply (a b w : Vec Ideal S256x640 .f32) (r : Fin 256) (k : Fin 640) :
    k0_pay1 (F := Ideal) a b w (ix2 r k) = change (a (ix2 r k)) (b (ix2 r k)) (w (ix2 r k)) := by
  pointwise [k0_pay1]
  rfl

variable (m : (ℓ : Loc nD τ sig) → Buf (Elt Ideal) ℓ)

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])

/-- Row `r` of the tile at point `t`, among all the weight's rows. -/
def row (t : Fin cfg0.N) (r : Fin 256) : Fin 2048 :=
  ⟨t.val * 256 + r.val, by have := t.isLt; have : cfg0.N = 8 := rfl; omega⟩

theorem blk0 (c : Dev nD) (t : Fin cfg0.N) (p : Fin 4) (r : Fin 256) (k : Fin 640) :
    iblk m c 0 t (ix3 p r k) = m ((c : Thread nD τ).loc main_arg0) (ix3 p (row t r) k) := by
  blk_simp [iblk, idx0 t]
  entry_read
  pointwise
  blk_ext [idx0 t, row]
theorem blk1 (c : Dev nD) (t : Fin cfg0.N) (r : Fin 256) (k : Fin 640) :
    iblk m c 1 t (ix2 r k) = m ((c : Thread nD τ).loc main_arg1) (ix3 0 (row t r) k) := by
  blk_simp [iblk, idx1 t]
  entry_read
  pointwise
  blk_ext [idx1 t, row]
theorem blk2 (c : Dev nD) (t : Fin cfg0.N) (r : Fin 256) (k : Fin 640) :
    iblk m c 2 t (ix2 r k) = m ((c : Thread nD τ).loc main_arg2) (ix3 0 (row t r) k) := by
  blk_simp [iblk, idx2 t]
  entry_read
  pointwise
  blk_ext [idx2 t, row]
theorem blk3 (c : Dev nD) (t : Fin cfg0.N) (r : Fin 256) (k : Fin 640) :
    iblk m c 3 t (ix2 r k) = m ((c : Thread nD τ).loc main_arg3) (ix3 0 (row t r) k) := by
  blk_simp [iblk, idx3 t]
  entry_read
  pointwise
  blk_ext [idx3 t, row]

theorem inb_page (p : Fin 4) : ∀ a, (![p.val, 0, 0] : Fin 3 → ℕ) a + S1x256x640.size a ≤ S4x256x640.size a := by
  revert p; decide
abbrev page (p : Fin 4) : Rect S4x256x640 := Rect.unit ![p.val, 0, 0] S1x256x640.size (inb_page p)

theorem page_apply (c : Dev nD) (t : Fin cfg0.N) (p : Fin 4) (r : Fin 256) (k : Fin 640) :
    View.ld (iblk m c 0 t) (page p) (ix3 0 r k) = m ((c : Thread nD τ).loc main_arg0) (ix3 p (row t r) k) := by
  rw [View.ld_unit_apply_of _ _ _ _ _ (ix3 p r k) (by intro a; fin_cases a <;> simp), blk0]

/-- The tile's gradient is the sum of the four parts' rows. -/
theorem out_g (c : Dev nD) (t : Fin cfg0.N) (r : Fin 256) (k : Fin 640) :
    k0_pay2 (F := Ideal) (View.ld (iblk m c 0 t) (page 0)) (View.ld (iblk m c 0 t) (page 1)) (View.ld (iblk m c 0 t) (page 2)) (View.ld (iblk m c 0 t) (page 3)) (ix2 r k)
      = grad fun p => m ((c : Thread nD τ).loc main_arg0) (ix3 p (row t r) k) := by
  rw [g_apply, page_apply, page_apply, page_apply, page_apply]
  rfl

theorem out_m (c : Dev nD) (t : Fin cfg0.N) (r : Fin 256) (k : Fin 640) :
    k0_pay3 (F := Ideal) (View.ld (iblk m c 0 t) (page 0)) (View.ld (iblk m c 0 t) (page 1)) (View.ld (iblk m c 0 t) (page 2)) (View.ld (iblk m c 0 t) (page 3)) (iblk m c 2 t) (ix2 r k)
      = mom (m ((c : Thread nD τ).loc main_arg2) (ix3 0 (row t r) k)) (grad fun p => m ((c : Thread nD τ).loc main_arg0) (ix3 p (row t r) k)) := by
  rw [m_apply, out_g, blk2]

theorem out_v (c : Dev nD) (t : Fin cfg0.N) (r : Fin 256) (k : Fin 640) :
    k0_pay5 (F := Ideal) (iblk m c 0 t) (iblk m c 1 t) (iblk m c 2 t) (iblk m c 3 t) (ix2 r k)
      = var (m ((c : Thread nD τ).loc main_arg3) (ix3 0 (row t r) k)) (grad fun p => m ((c : Thread nD τ).loc main_arg0) (ix3 p (row t r) k)) := by
  unfold k0_pay5
  refine (v_apply _ _ _ _ r k _).trans ?_
  exact congrArg₂ var ((View.ld_unit_apply_of _ _ _ _ _ (ix2 r k) (by intro a; fin_cases a <;> simp)).trans (blk3 m c t r k))
    (out_g m c t r k)

theorem final_g (c : Dev nD) : (dats m 0 c).arrAt 4 cfg0.N = Cert.Reference31Ideal.Read.val_main_v3 (F := Ideal)
    (m ((c : Thread nD τ).loc main_arg0)) := by
  refine (dats m 0 c).arrAt_eq_of_covers 4 _ (by decide +kernel) fun t hf y => ?_
  blk_simp
  rw [after0_4]
  idx_vars y
  have hy : ((View.whole main_v4_0).slice (win0_4.rect t)).emb (ix2 y0 y1) = ix2 (row t y0) y1 := by
    blk_ext [idx4 t, row]
  rw [hy, Cert.Reference31Ideal.AdamMix.g_apply]
  frame_out
  exact out_g m c t y0 y1

theorem final_d (c : Dev nD) : (dats m 0 c).arrAt 5 cfg0.N = Cert.Reference31Ideal.Read.val_main_v27 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  have hy : ((View.whole main_v4_1).slice (win0_5.rect t)).emb (ix2 y0 y1) = ix2 (row t y0) y1 := by
    blk_ext [idx5 t, row]
  rw [hy, Cert.Reference31Ideal.AdamMix.d_apply]
  frame_out
  refine (d_apply _ _ _ y0 y1).trans ?_
  rw [blk1]
  exact congrArg₂ (fun a b => change a b (m ((c : Thread nD τ).loc main_arg1) (ix3 0 (row t y0) y1))) (out_m m c t y0 y1) (out_v m c t y0 y1)

theorem final_m (c : Dev nD) : (dats m 0 c).arrAt 6 cfg0.N = Cert.Reference31Ideal.Read.val_main_v8 (F := Ideal)
    (m ((c : Thread nD τ).loc main_arg0)) (m ((c : Thread nD τ).loc main_arg2)) := by
  refine (dats m 0 c).arrAt_eq_of_covers 6 _ (by decide +kernel) fun t hf y => ?_
  blk_simp
  rw [after0_6]
  idx_vars y
  have hy : ((View.whole main_v4_2).slice (win0_6.rect t)).emb (ix2 y0 y1) = ix2 (row t y0) y1 := by
    blk_ext [idx6 t, row]
  rw [hy, Cert.Reference31Ideal.AdamMix.m_apply]
  frame_out
  exact out_m m c t y0 y1

theorem final_v (c : Dev nD) : (dats m 0 c).arrAt 7 cfg0.N = Cert.Reference31Ideal.Read.val_main_v14 (F := Ideal)
    (m ((c : Thread nD τ).loc main_arg0)) (m ((c : Thread nD τ).loc main_arg3)) := by
  refine (dats m 0 c).arrAt_eq_of_covers 7 _ (by decide +kernel) fun t hf y => ?_
  blk_simp
  rw [after0_7]
  idx_vars y
  have hy : ((View.whole main_v4_3).slice (win0_7.rect t)).emb (ix2 y0 y1) = ix2 (row t y0) y1 := by
    blk_ext [idx7 t, row]
  rw [hy, Cert.Reference31Ideal.AdamMix.v_apply]
  frame_out
  exact out_v m c t y0 y1

end Cert.Kernel31Ideal.AdamMix

/-! ## The claims -/

namespace Cert.Proof.AdamMixClaims

open Idealize.ShloMosaic Idealize.ShloMosaic.TcCoe Idealize.SL.Sem
open Cert.Kernel31Ideal.AdamMix

theorem frame_p : Cert.quiescent_Kernel31 := fun m ρ _ => Cert.Kernel31.Gen.frame m ρ
theorem frame_pi : Cert.quiescent_Kernel31Ideal := fun m ρ _ => Cert.Kernel31Ideal.Gen.frame m ρ
theorem frame_ri : Cert.quiescent_Reference31Ideal := fun m ρ _ =>
  (θ_run Cert.Reference31Ideal.defs _ _).mono (fun r h => ⟨fun c => (h c).2.2.2.2,
      Idealize.ShloMosaic.sem_eq_zero_of_no_sems (by decide) r.2⟩)
    (Cert.Reference31Ideal.Value.run (F := Ideal) m ρ)

/-- The kernel and the reference end with the same gradient, change and moments. -/
theorem algebraic : Cert.algebraic_Kernel31Ideal_Reference31Ideal := by
  intro m ρ m' ρ' _ hagree
  refine ⟨_, _, _, _, Cert.Kernel31Ideal.Value.run_blocks (F := Ideal) m ρ, ?_⟩
  refine (θ_run Cert.Reference31Ideal.defs _ _).mono
    (fun _ h c => ⟨(h c).1.trans ?_, (h c).2.1.trans ?_, (h c).2.2.1.trans ?_, (h c).2.2.2.1.trans ?_, (h c).2.2.2.2⟩)
    (Cert.Reference31Ideal.Value.run (F := Ideal) m' ρ')
  all_goals obtain ⟨e0, e1, e2, e3⟩ := hagree c
  · refine (Cert.Reference31Ideal.Read.val_main_v3_eq _).trans (Eq.trans ?_ (final_g m c).symm)
    exact congrArg _ e0
  · refine (Cert.Reference31Ideal.Read.val_main_v27_eq _ _ _ _).trans (Eq.trans ?_ (final_d m c).symm)
    exact congr (congr (congr (congrArg _ e0) e1) e2) e3
  · refine (Cert.Reference31Ideal.Read.val_main_v8_eq _ _).trans (Eq.trans ?_ (final_m m c).symm)
    exact congr (congrArg _ e0) e2
  · refine (Cert.Reference31Ideal.Read.val_main_v14_eq _ _).trans (Eq.trans ?_ (final_v m c).symm)
    exact congr (congrArg _ e0) e3

end Cert.Proof.AdamMixClaims

end
-- ==== Proof.AdamSquare.lean ====
/- The AdamW step of a square weight, a device's rows of it,
at an index, and by it the kernel's blocks are the reference's rows. -/
module

public import proofs.«01_k».proof.Proof.Adam
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import Idealize.ShloMosaic.Lib.Quiescent

@[expose] public section

set_option maxRecDepth 16384

noncomputable section

/-! ## The reference at an index -/

namespace Cert.Reference32Ideal.AdamSquare

open Cert.Reference32Ideal Cert.Reference32Ideal.Read Idealize.ShloMosaic Idealize.ShloMosaic.TcCoe
open Cert.Adam

variable (x0 : Vec Ideal S4x256x2048 .f32) (x1 x2 x3 : Vec Ideal S1x256x2048 .f32) (s : Fin 256) (k : Fin 2048)

theorem g_apply : val_main_v3 (F := Ideal) x0 (ix2 s k) = (grad fun p => x0 (ix3 p s k)) := by
  rw [grad_eq]
  pointwise [val_main_v3, val_main_cst]

theorem m_apply : val_main_v8 (F := Ideal) x0 x2 (ix2 s k) = mom (x2 (ix3 0 s k)) (grad fun p => x0 (ix3 p s k)) := by
  pointwise [val_main_v8, val_main_v5, val_main_v7, val_main_v4, val_main_v6, val_main_cst_0, val_main_cst_1, val_main_v1]
  rw [g_apply]
  rfl

theorem v_apply : val_main_v14 (F := Ideal) x0 x3 (ix2 s k) = var (x3 (ix3 0 s k)) (grad fun p => x0 (ix3 p s k)) := by
  pointwise [val_main_v14, val_main_v10, val_main_v13, val_main_v9, val_main_v11, val_main_v12, val_main_cst_2, val_main_cst_3, val_main_v2]
  rw [g_apply]
  rfl

theorem d_apply : val_main_v27 (F := Ideal) x0 x1 x2 x3 (ix2 s k)
    = change (mom (x2 (ix3 0 s k)) (grad fun p => x0 (ix3 p s k))) (var (x3 (ix3 0 s k)) (grad fun p => x0 (ix3 p s k))) (x1 (ix3 0 s k)) := by
  pointwise [val_main_v27, val_main_v26, val_main_cst_8, val_main_v25, val_main_v24, val_main_v23, val_main_cst_7, val_main_v22, val_main_v21, val_main_v20, val_main_cst_6, val_main_v19, val_main_v18, val_main_v17, val_main_cst_5, val_main_v16, val_main_v15, val_main_cst_4, val_main_v0]
  rw [m_apply, v_apply]
  rfl

end Cert.Reference32Ideal.AdamSquare

/-! ## The kernel -/

namespace Cert.Kernel32Ideal.AdamSquare

open Cert.Kernel32Ideal Cert.Kernel32Ideal.Gen Idealize.ShloMosaic Idealize.ShloMosaic.TcCoe Idealize.SL.Sem
open Idealize.ShloMosaic.Pipeline (Dat)
open Cert.Adam

section
variable (p0 p1 p2 p3 : Vec Ideal S1x256x2048 .bf16) (r : Fin 256) (k : Fin 2048)

theorem g_apply : k0_pay2 (F := Ideal) p0 p1 p2 p3 (ix2 r k) = p0 (ix3 0 r k) + p1 (ix3 0 r k) + p2 (ix3 0 r k) + p3 (ix3 0 r k) := by
  pointwise [k0_pay2]

theorem m_apply (x : Vec Ideal S256x2048 .f32) :
    k0_pay3 (F := Ideal) p0 p1 p2 p3 x (ix2 r k) = mom (x (ix2 r k)) (k0_pay2 (F := Ideal) p0 p1 p2 p3 (ix2 r k)) := by
  pointwise [k0_pay3]
  rfl

theorem v_apply (x : Vec Ideal S256x2048 .f32) :
    k0_pay4 (F := Ideal) p0 p1 p2 p3 x (ix2 r k) = var (x (ix2 r k)) (k0_pay2 (F := Ideal) p0 p1 p2 p3 (ix2 r k)) := by
  pointwise [k0_pay4]
  rfl

end

theorem d_apply (a b w : Vec Ideal S256x2048 .f32) (r : Fin 256) (k : Fin 2048) :
    k0_pay1 (F := Ideal) a b w (ix2 r k) = change (a (ix2 r k)) (b (ix2 r k)) (w (ix2 r k)) := by
  pointwise [k0_pay1]
  rfl

variable (m : (ℓ : Loc nD τ sig) → Buf (Elt Ideal) ℓ)

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])

/-- Row `r` of the tile at point `t`, among all the weight's rows. -/
def row (t : Fin cfg0.N) (r : Fin 256) : Fin 256 :=
  ⟨t.val * 256 + r.val, by have := t.isLt; have : cfg0.N = 1 := rfl; omega⟩

theorem blk0 (c : Dev nD) (t : Fin cfg0.N) (p : Fin 4) (r : Fin 256) (k : Fin 2048) :
    iblk m c 0 t (ix3 p r k) = m ((c : Thread nD τ).loc main_arg0) (ix3 p (row t r) k) := by
  blk_simp [iblk, idx0 t]
  entry_read
  pointwise
  blk_ext [idx0 t, row]
theorem blk1 (c : Dev nD) (t : Fin cfg0.N) (r : Fin 256) (k : Fin 2048) :
    iblk m c 1 t (ix2 r k) = m ((c : Thread nD τ).loc main_arg1) (ix3 0 (row t r) k) := by
  blk_simp [iblk, idx1 t]
  entry_read
  pointwise
  blk_ext [idx1 t, row]
theorem blk2 (c : Dev nD) (t : Fin cfg0.N) (r : Fin 256) (k : Fin 2048) :
    iblk m c 2 t (ix2 r k) = m ((c : Thread nD τ).loc main_arg2) (ix3 0 (row t r) k) := by
  blk_simp [iblk, idx2 t]
  entry_read
  pointwise
  blk_ext [idx2 t, row]
theorem blk3 (c : Dev nD) (t : Fin cfg0.N) (r : Fin 256) (k : Fin 2048) :
    iblk m c 3 t (ix2 r k) = m ((c : Thread nD τ).loc main_arg3) (ix3 0 (row t r) k) := by
  blk_simp [iblk, idx3 t]
  entry_read
  pointwise
  blk_ext [idx3 t, row]

theorem inb_page (p : Fin 4) : ∀ a, (![p.val, 0, 0] : Fin 3 → ℕ) a + S1x256x2048.size a ≤ S4x256x2048.size a := by
  revert p; decide
abbrev page (p : Fin 4) : Rect S4x256x2048 := Rect.unit ![p.val, 0, 0] S1x256x2048.size (inb_page p)

theorem page_apply (c : Dev nD) (t : Fin cfg0.N) (p : Fin 4) (r : Fin 256) (k : Fin 2048) :
    View.ld (iblk m c 0 t) (page p) (ix3 0 r k) = m ((c : Thread nD τ).loc main_arg0) (ix3 p (row t r) k) := by
  rw [View.ld_unit_apply_of _ _ _ _ _ (ix3 p r k) (by intro a; fin_cases a <;> simp), blk0]

/-- The tile's gradient is the sum of the four parts' rows. -/
theorem out_g (c : Dev nD) (t : Fin cfg0.N) (r : Fin 256) (k : Fin 2048) :
    k0_pay2 (F := Ideal) (View.ld (iblk m c 0 t) (page 0)) (View.ld (iblk m c 0 t) (page 1)) (View.ld (iblk m c 0 t) (page 2)) (View.ld (iblk m c 0 t) (page 3)) (ix2 r k)
      = grad fun p => m ((c : Thread nD τ).loc main_arg0) (ix3 p (row t r) k) := by
  rw [g_apply, page_apply, page_apply, page_apply, page_apply]
  rfl

theorem out_m (c : Dev nD) (t : Fin cfg0.N) (r : Fin 256) (k : Fin 2048) :
    k0_pay3 (F := Ideal) (View.ld (iblk m c 0 t) (page 0)) (View.ld (iblk m c 0 t) (page 1)) (View.ld (iblk m c 0 t) (page 2)) (View.ld (iblk m c 0 t) (page 3)) (iblk m c 2 t) (ix2 r k)
      = mom (m ((c : Thread nD τ).loc main_arg2) (ix3 0 (row t r) k)) (grad fun p => m ((c : Thread nD τ).loc main_arg0) (ix3 p (row t r) k)) := by
  rw [m_apply, out_g, blk2]

theorem out_v (c : Dev nD) (t : Fin cfg0.N) (r : Fin 256) (k : Fin 2048) :
    k0_pay5 (F := Ideal) (iblk m c 0 t) (iblk m c 1 t) (iblk m c 2 t) (iblk m c 3 t) (ix2 r k)
      = var (m ((c : Thread nD τ).loc main_arg3) (ix3 0 (row t r) k)) (grad fun p => m ((c : Thread nD τ).loc main_arg0) (ix3 p (row t r) k)) := by
  unfold k0_pay5
  refine (v_apply _ _ _ _ r k _).trans ?_
  exact congrArg₂ var ((View.ld_unit_apply_of _ _ _ _ _ (ix2 r k) (by intro a; fin_cases a <;> simp)).trans (blk3 m c t r k))
    (out_g m c t r k)

theorem final_g (c : Dev nD) : (dats m 0 c).arrAt 4 cfg0.N = Cert.Reference32Ideal.Read.val_main_v3 (F := Ideal)
    (m ((c : Thread nD τ).loc main_arg0)) := by
  refine (dats m 0 c).arrAt_eq_of_covers 4 _ (by decide +kernel) fun t hf y => ?_
  blk_simp
  rw [after0_4]
  idx_vars y
  have hy : ((View.whole main_v4_0).slice (win0_4.rect t)).emb (ix2 y0 y1) = ix2 (row t y0) y1 := by
    blk_ext [idx4 t, row]
  rw [hy, Cert.Reference32Ideal.AdamSquare.g_apply]
  frame_out
  exact out_g m c t y0 y1

theorem final_d (c : Dev nD) : (dats m 0 c).arrAt 5 cfg0.N = Cert.Reference32Ideal.Read.val_main_v27 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  have hy : ((View.whole main_v4_1).slice (win0_5.rect t)).emb (ix2 y0 y1) = ix2 (row t y0) y1 := by
    blk_ext [idx5 t, row]
  rw [hy, Cert.Reference32Ideal.AdamSquare.d_apply]
  frame_out
  refine (d_apply _ _ _ y0 y1).trans ?_
  rw [blk1]
  exact congrArg₂ (fun a b => change a b (m ((c : Thread nD τ).loc main_arg1) (ix3 0 (row t y0) y1))) (out_m m c t y0 y1) (out_v m c t y0 y1)

theorem final_m (c : Dev nD) : (dats m 0 c).arrAt 6 cfg0.N = Cert.Reference32Ideal.Read.val_main_v8 (F := Ideal)
    (m ((c : Thread nD τ).loc main_arg0)) (m ((c : Thread nD τ).loc main_arg2)) := by
  refine (dats m 0 c).arrAt_eq_of_covers 6 _ (by decide +kernel) fun t hf y => ?_
  blk_simp
  rw [after0_6]
  idx_vars y
  have hy : ((View.whole main_v4_2).slice (win0_6.rect t)).emb (ix2 y0 y1) = ix2 (row t y0) y1 := by
    blk_ext [idx6 t, row]
  rw [hy, Cert.Reference32Ideal.AdamSquare.m_apply]
  frame_out
  exact out_m m c t y0 y1

theorem final_v (c : Dev nD) : (dats m 0 c).arrAt 7 cfg0.N = Cert.Reference32Ideal.Read.val_main_v14 (F := Ideal)
    (m ((c : Thread nD τ).loc main_arg0)) (m ((c : Thread nD τ).loc main_arg3)) := by
  refine (dats m 0 c).arrAt_eq_of_covers 7 _ (by decide +kernel) fun t hf y => ?_
  blk_simp
  rw [after0_7]
  idx_vars y
  have hy : ((View.whole main_v4_3).slice (win0_7.rect t)).emb (ix2 y0 y1) = ix2 (row t y0) y1 := by
    blk_ext [idx7 t, row]
  rw [hy, Cert.Reference32Ideal.AdamSquare.v_apply]
  frame_out
  exact out_v m c t y0 y1

end Cert.Kernel32Ideal.AdamSquare

/-! ## The claims -/

namespace Cert.Proof.AdamSquareClaims

open Idealize.ShloMosaic Idealize.ShloMosaic.TcCoe Idealize.SL.Sem
open Cert.Kernel32Ideal.AdamSquare

theorem frame_p : Cert.quiescent_Kernel32 := fun m ρ _ => Cert.Kernel32.Gen.frame m ρ
theorem frame_pi : Cert.quiescent_Kernel32Ideal := fun m ρ _ => Cert.Kernel32Ideal.Gen.frame m ρ
theorem frame_ri : Cert.quiescent_Reference32Ideal := fun m ρ _ =>
  (θ_run Cert.Reference32Ideal.defs _ _).mono (fun r h => ⟨fun c => (h c).2.2.2.2,
      Idealize.ShloMosaic.sem_eq_zero_of_no_sems (by decide) r.2⟩)
    (Cert.Reference32Ideal.Value.run (F := Ideal) m ρ)

/-- The kernel and the reference end with the same gradient, change and moments. -/
theorem algebraic : Cert.algebraic_Kernel32Ideal_Reference32Ideal := by
  intro m ρ m' ρ' _ hagree
  refine ⟨_, _, _, _, Cert.Kernel32Ideal.Value.run_blocks (F := Ideal) m ρ, ?_⟩
  refine (θ_run Cert.Reference32Ideal.defs _ _).mono
    (fun _ h c => ⟨(h c).1.trans ?_, (h c).2.1.trans ?_, (h c).2.2.1.trans ?_, (h c).2.2.2.1.trans ?_, (h c).2.2.2.2⟩)
    (Cert.Reference32Ideal.Value.run (F := Ideal) m' ρ')
  all_goals obtain ⟨e0, e1, e2, e3⟩ := hagree c
  · refine (Cert.Reference32Ideal.Read.val_main_v3_eq _).trans (Eq.trans ?_ (final_g m c).symm)
    exact congrArg _ e0
  · refine (Cert.Reference32Ideal.Read.val_main_v27_eq _ _ _ _).trans (Eq.trans ?_ (final_d m c).symm)
    exact congr (congr (congr (congrArg _ e0) e1) e2) e3
  · refine (Cert.Reference32Ideal.Read.val_main_v8_eq _ _).trans (Eq.trans ?_ (final_m m c).symm)
    exact congr (congrArg _ e0) e2
  · refine (Cert.Reference32Ideal.Read.val_main_v14_eq _ _).trans (Eq.trans ?_ (final_v m c).symm)
    exact congr (congrArg _ e0) e3

end Cert.Proof.AdamSquareClaims

end
-- ==== Proof.AdamMemory.lean ====
/- The AdamW step of the memory's keys-and-values weights, a device's columns of them,
at an index, and by it the kernel's blocks are the reference's rows. -/
module

public import proofs.«01_k».proof.Proof.Adam
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import Idealize.ShloMosaic.Lib.Quiescent

@[expose] public section

set_option maxRecDepth 16384

noncomputable section

/-! ## The reference at an index -/

namespace Cert.Reference33Ideal.AdamMemory

open Cert.Reference33Ideal Cert.Reference33Ideal.Read Idealize.ShloMosaic Idealize.ShloMosaic.TcCoe
open Cert.Adam

variable (x0 : Vec Ideal S4x2048x512 .f32) (x1 x2 x3 : Vec Ideal S1x2048x512 .f32) (s : Fin 2048) (k : Fin 512)

theorem g_apply : val_main_v3 (F := Ideal) x0 (ix2 s k) = (grad fun p => x0 (ix3 p s k)) := by
  rw [grad_eq]
  pointwise [val_main_v3, val_main_cst]

theorem m_apply : val_main_v8 (F := Ideal) x0 x2 (ix2 s k) = mom (x2 (ix3 0 s k)) (grad fun p => x0 (ix3 p s k)) := by
  pointwise [val_main_v8, val_main_v5, val_main_v7, val_main_v4, val_main_v6, val_main_cst_0, val_main_cst_1, val_main_v1]
  rw [g_apply]
  rfl

theorem v_apply : val_main_v14 (F := Ideal) x0 x3 (ix2 s k) = var (x3 (ix3 0 s k)) (grad fun p => x0 (ix3 p s k)) := by
  pointwise [val_main_v14, val_main_v10, val_main_v13, val_main_v9, val_main_v11, val_main_v12, val_main_cst_2, val_main_cst_3, val_main_v2]
  rw [g_apply]
  rfl

theorem d_apply : val_main_v27 (F := Ideal) x0 x1 x2 x3 (ix2 s k)
    = change (mom (x2 (ix3 0 s k)) (grad fun p => x0 (ix3 p s k))) (var (x3 (ix3 0 s k)) (grad fun p => x0 (ix3 p s k))) (x1 (ix3 0 s k)) := by
  pointwise [val_main_v27, val_main_v26, val_main_cst_8, val_main_v25, val_main_v24, val_main_v23, val_main_cst_7, val_main_v22, val_main_v21, val_main_v20, val_main_cst_6, val_main_v19, val_main_v18, val_main_v17, val_main_cst_5, val_main_v16, val_main_v15, val_main_cst_4, val_main_v0]
  rw [m_apply, v_apply]
  rfl

end Cert.Reference33Ideal.AdamMemory

/-! ## The kernel -/

namespace Cert.Kernel33Ideal.AdamMemory

open Cert.Kernel33Ideal Cert.Kernel33Ideal.Gen Idealize.ShloMosaic Idealize.ShloMosaic.TcCoe Idealize.SL.Sem
open Idealize.ShloMosaic.Pipeline (Dat)
open Cert.Adam

section
variable (p0 p1 p2 p3 : Vec Ideal S1x256x512 .bf16) (r : Fin 256) (k : Fin 512)

theorem g_apply : k0_pay2 (F := Ideal) p0 p1 p2 p3 (ix2 r k) = p0 (ix3 0 r k) + p1 (ix3 0 r k) + p2 (ix3 0 r k) + p3 (ix3 0 r k) := by
  pointwise [k0_pay2]

theorem m_apply (x : Vec Ideal S256x512 .f32) :
    k0_pay3 (F := Ideal) p0 p1 p2 p3 x (ix2 r k) = mom (x (ix2 r k)) (k0_pay2 (F := Ideal) p0 p1 p2 p3 (ix2 r k)) := by
  pointwise [k0_pay3]
  rfl

theorem v_apply (x : Vec Ideal S256x512 .f32) :
    k0_pay4 (F := Ideal) p0 p1 p2 p3 x (ix2 r k) = var (x (ix2 r k)) (k0_pay2 (F := Ideal) p0 p1 p2 p3 (ix2 r k)) := by
  pointwise [k0_pay4]
  rfl

end

theorem d_apply (a b w : Vec Ideal S256x512 .f32) (r : Fin 256) (k : Fin 512) :
    k0_pay1 (F := Ideal) a b w (ix2 r k) = change (a (ix2 r k)) (b (ix2 r k)) (w (ix2 r k)) := by
  pointwise [k0_pay1]
  rfl

variable (m : (ℓ : Loc nD τ sig) → Buf (Elt Ideal) ℓ)

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])

/-- Row `r` of the tile at point `t`, among all the weight's rows. -/
def row (t : Fin cfg0.N) (r : Fin 256) : Fin 2048 :=
  ⟨t.val * 256 + r.val, by have := t.isLt; have : cfg0.N = 8 := rfl; omega⟩

theorem blk0 (c : Dev nD) (t : Fin cfg0.N) (p : Fin 4) (r : Fin 256) (k : Fin 512) :
    iblk m c 0 t (ix3 p r k) = m ((c : Thread nD τ).loc main_arg0) (ix3 p (row t r) k) := by
  blk_simp [iblk, idx0 t]
  entry_read
  pointwise
  blk_ext [idx0 t, row]
theorem blk1 (c : Dev nD) (t : Fin cfg0.N) (r : Fin 256) (k : Fin 512) :
    iblk m c 1 t (ix2 r k) = m ((c : Thread nD τ).loc main_arg1) (ix3 0 (row t r) k) := by
  blk_simp [iblk, idx1 t]
  entry_read
  pointwise
  blk_ext [idx1 t, row]
theorem blk2 (c : Dev nD) (t : Fin cfg0.N) (r : Fin 256) (k : Fin 512) :
    iblk m c 2 t (ix2 r k) = m ((c : Thread nD τ).loc main_arg2) (ix3 0 (row t r) k) := by
  blk_simp [iblk, idx2 t]
  entry_read
  pointwise
  blk_ext [idx2 t, row]
theorem blk3 (c : Dev nD) (t : Fin cfg0.N) (r : Fin 256) (k : Fin 512) :
    iblk m c 3 t (ix2 r k) = m ((c : Thread nD τ).loc main_arg3) (ix3 0 (row t r) k) := by
  blk_simp [iblk, idx3 t]
  entry_read
  pointwise
  blk_ext [idx3 t, row]

theorem inb_page (p : Fin 4) : ∀ a, (![p.val, 0, 0] : Fin 3 → ℕ) a + S1x256x512.size a ≤ S4x256x512.size a := by
  revert p; decide
abbrev page (p : Fin 4) : Rect S4x256x512 := Rect.unit ![p.val, 0, 0] S1x256x512.size (inb_page p)

theorem page_apply (c : Dev nD) (t : Fin cfg0.N) (p : Fin 4) (r : Fin 256) (k : Fin 512) :
    View.ld (iblk m c 0 t) (page p) (ix3 0 r k) = m ((c : Thread nD τ).loc main_arg0) (ix3 p (row t r) k) := by
  rw [View.ld_unit_apply_of _ _ _ _ _ (ix3 p r k) (by intro a; fin_cases a <;> simp), blk0]

/-- The tile's gradient is the sum of the four parts' rows. -/
theorem out_g (c : Dev nD) (t : Fin cfg0.N) (r : Fin 256) (k : Fin 512) :
    k0_pay2 (F := Ideal) (View.ld (iblk m c 0 t) (page 0)) (View.ld (iblk m c 0 t) (page 1)) (View.ld (iblk m c 0 t) (page 2)) (View.ld (iblk m c 0 t) (page 3)) (ix2 r k)
      = grad fun p => m ((c : Thread nD τ).loc main_arg0) (ix3 p (row t r) k) := by
  rw [g_apply, page_apply, page_apply, page_apply, page_apply]
  rfl

theorem out_m (c : Dev nD) (t : Fin cfg0.N) (r : Fin 256) (k : Fin 512) :
    k0_pay3 (F := Ideal) (View.ld (iblk m c 0 t) (page 0)) (View.ld (iblk m c 0 t) (page 1)) (View.ld (iblk m c 0 t) (page 2)) (View.ld (iblk m c 0 t) (page 3)) (iblk m c 2 t) (ix2 r k)
      = mom (m ((c : Thread nD τ).loc main_arg2) (ix3 0 (row t r) k)) (grad fun p => m ((c : Thread nD τ).loc main_arg0) (ix3 p (row t r) k)) := by
  rw [m_apply, out_g, blk2]

theorem out_v (c : Dev nD) (t : Fin cfg0.N) (r : Fin 256) (k : Fin 512) :
    k0_pay5 (F := Ideal) (iblk m c 0 t) (iblk m c 1 t) (iblk m c 2 t) (iblk m c 3 t) (ix2 r k)
      = var (m ((c : Thread nD τ).loc main_arg3) (ix3 0 (row t r) k)) (grad fun p => m ((c : Thread nD τ).loc main_arg0) (ix3 p (row t r) k)) := by
  unfold k0_pay5
  refine (v_apply _ _ _ _ r k _).trans ?_
  exact congrArg₂ var ((View.ld_unit_apply_of _ _ _ _ _ (ix2 r k) (by intro a; fin_cases a <;> simp)).trans (blk3 m c t r k))
    (out_g m c t r k)

theorem final_g (c : Dev nD) : (dats m 0 c).arrAt 4 cfg0.N = Cert.Reference33Ideal.Read.val_main_v3 (F := Ideal)
    (m ((c : Thread nD τ).loc main_arg0)) := by
  refine (dats m 0 c).arrAt_eq_of_covers 4 _ (by decide +kernel) fun t hf y => ?_
  blk_simp
  rw [after0_4]
  idx_vars y
  have hy : ((View.whole main_v4_0).slice (win0_4.rect t)).emb (ix2 y0 y1) = ix2 (row t y0) y1 := by
    blk_ext [idx4 t, row]
  rw [hy, Cert.Reference33Ideal.AdamMemory.g_apply]
  frame_out
  exact out_g m c t y0 y1

theorem final_d (c : Dev nD) : (dats m 0 c).arrAt 5 cfg0.N = Cert.Reference33Ideal.Read.val_main_v27 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  have hy : ((View.whole main_v4_1).slice (win0_5.rect t)).emb (ix2 y0 y1) = ix2 (row t y0) y1 := by
    blk_ext [idx5 t, row]
  rw [hy, Cert.Reference33Ideal.AdamMemory.d_apply]
  frame_out
  refine (d_apply _ _ _ y0 y1).trans ?_
  rw [blk1]
  exact congrArg₂ (fun a b => change a b (m ((c : Thread nD τ).loc main_arg1) (ix3 0 (row t y0) y1))) (out_m m c t y0 y1) (out_v m c t y0 y1)

theorem final_m (c : Dev nD) : (dats m 0 c).arrAt 6 cfg0.N = Cert.Reference33Ideal.Read.val_main_v8 (F := Ideal)
    (m ((c : Thread nD τ).loc main_arg0)) (m ((c : Thread nD τ).loc main_arg2)) := by
  refine (dats m 0 c).arrAt_eq_of_covers 6 _ (by decide +kernel) fun t hf y => ?_
  blk_simp
  rw [after0_6]
  idx_vars y
  have hy : ((View.whole main_v4_2).slice (win0_6.rect t)).emb (ix2 y0 y1) = ix2 (row t y0) y1 := by
    blk_ext [idx6 t, row]
  rw [hy, Cert.Reference33Ideal.AdamMemory.m_apply]
  frame_out
  exact out_m m c t y0 y1

theorem final_v (c : Dev nD) : (dats m 0 c).arrAt 7 cfg0.N = Cert.Reference33Ideal.Read.val_main_v14 (F := Ideal)
    (m ((c : Thread nD τ).loc main_arg0)) (m ((c : Thread nD τ).loc main_arg3)) := by
  refine (dats m 0 c).arrAt_eq_of_covers 7 _ (by decide +kernel) fun t hf y => ?_
  blk_simp
  rw [after0_7]
  idx_vars y
  have hy : ((View.whole main_v4_3).slice (win0_7.rect t)).emb (ix2 y0 y1) = ix2 (row t y0) y1 := by
    blk_ext [idx7 t, row]
  rw [hy, Cert.Reference33Ideal.AdamMemory.v_apply]
  frame_out
  exact out_v m c t y0 y1

end Cert.Kernel33Ideal.AdamMemory

/-! ## The claims -/

namespace Cert.Proof.AdamMemoryClaims

open Idealize.ShloMosaic Idealize.ShloMosaic.TcCoe Idealize.SL.Sem
open Cert.Kernel33Ideal.AdamMemory

theorem frame_p : Cert.quiescent_Kernel33 := fun m ρ _ => Cert.Kernel33.Gen.frame m ρ
theorem frame_pi : Cert.quiescent_Kernel33Ideal := fun m ρ _ => Cert.Kernel33Ideal.Gen.frame m ρ
theorem frame_ri : Cert.quiescent_Reference33Ideal := fun m ρ _ =>
  (θ_run Cert.Reference33Ideal.defs _ _).mono (fun r h => ⟨fun c => (h c).2.2.2.2,
      Idealize.ShloMosaic.sem_eq_zero_of_no_sems (by decide) r.2⟩)
    (Cert.Reference33Ideal.Value.run (F := Ideal) m ρ)

/-- The kernel and the reference end with the same gradient, change and moments. -/
theorem algebraic : Cert.algebraic_Kernel33Ideal_Reference33Ideal := by
  intro m ρ m' ρ' _ hagree
  refine ⟨_, _, _, _, Cert.Kernel33Ideal.Value.run_blocks (F := Ideal) m ρ, ?_⟩
  refine (θ_run Cert.Reference33Ideal.defs _ _).mono
    (fun _ h c => ⟨(h c).1.trans ?_, (h c).2.1.trans ?_, (h c).2.2.1.trans ?_, (h c).2.2.2.1.trans ?_, (h c).2.2.2.2⟩)
    (Cert.Reference33Ideal.Value.run (F := Ideal) m' ρ')
  all_goals obtain ⟨e0, e1, e2, e3⟩ := hagree c
  · refine (Cert.Reference33Ideal.Read.val_main_v3_eq _).trans (Eq.trans ?_ (final_g m c).symm)
    exact congrArg _ e0
  · refine (Cert.Reference33Ideal.Read.val_main_v27_eq _ _ _ _).trans (Eq.trans ?_ (final_d m c).symm)
    exact congr (congr (congr (congrArg _ e0) e1) e2) e3
  · refine (Cert.Reference33Ideal.Read.val_main_v8_eq _ _).trans (Eq.trans ?_ (final_m m c).symm)
    exact congr (congrArg _ e0) e2
  · refine (Cert.Reference33Ideal.Read.val_main_v14_eq _ _).trans (Eq.trans ?_ (final_v m c).symm)
    exact congr (congrArg _ e0) e3

end Cert.Proof.AdamMemoryClaims

end
-- ==== Proof.AdamSmall.lean ====
/- The AdamW step of the gains, biases and spatial weights, packed into rows of 128,
at an index, and by it the kernel's blocks are the reference's rows. -/
module

public import proofs.«01_k».proof.Proof.Adam
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import Idealize.ShloMosaic.Lib.Quiescent

@[expose] public section

set_option maxRecDepth 16384

noncomputable section

/-! ## The reference at an index -/

namespace Cert.Reference34Ideal.AdamSmall

open Cert.Reference34Ideal Cert.Reference34Ideal.Read Idealize.ShloMosaic Idealize.ShloMosaic.TcCoe
open Cert.Adam

variable (x0 : Vec Ideal S4x1296x128 .f32) (x1 x2 x3 : Vec Ideal S1296x128 .f32) (s : Fin 1296) (k : Fin 128)

theorem g_apply : val_main_v0 (F := Ideal) x0 (ix2 s k) = (grad fun p => x0 (ix3 p s k)) := by
  rw [grad_eq]
  pointwise [val_main_v0, val_main_cst]

theorem m_apply : val_main_v5 (F := Ideal) x0 x2 (ix2 s k) = mom (x2 (ix2 s k)) (grad fun p => x0 (ix3 p s k)) := by
  pointwise [val_main_v5, val_main_v2, val_main_v4, val_main_v1, val_main_v3, val_main_cst_0, val_main_cst_1]
  rw [g_apply]
  rfl

theorem v_apply : val_main_v11 (F := Ideal) x0 x3 (ix2 s k) = var (x3 (ix2 s k)) (grad fun p => x0 (ix3 p s k)) := by
  pointwise [val_main_v11, val_main_v7, val_main_v10, val_main_v6, val_main_v8, val_main_v9, val_main_cst_2, val_main_cst_3]
  rw [g_apply]
  rfl

theorem d_apply : val_main_v24 (F := Ideal) x0 x1 x2 x3 (ix2 s k)
    = change (mom (x2 (ix2 s k)) (grad fun p => x0 (ix3 p s k))) (var (x3 (ix2 s k)) (grad fun p => x0 (ix3 p s k))) (x1 (ix2 s k)) := by
  pointwise [val_main_v24, val_main_v23, val_main_cst_8, val_main_v22, val_main_v21, val_main_v20, val_main_cst_7, val_main_v19, val_main_v18, val_main_v17, val_main_cst_6, val_main_v16, val_main_v15, val_main_v14, val_main_cst_5, val_main_v13, val_main_v12, val_main_cst_4]
  rw [m_apply, v_apply]
  rfl

end Cert.Reference34Ideal.AdamSmall

/-! ## The kernel -/

namespace Cert.Kernel34Ideal.AdamSmall

open Cert.Kernel34Ideal Cert.Kernel34Ideal.Gen Idealize.ShloMosaic Idealize.ShloMosaic.TcCoe Idealize.SL.Sem
open Idealize.ShloMosaic.Pipeline (Dat)
open Cert.Adam

section
variable (p0 p1 p2 p3 : Vec Ideal S1x144x128 .f32) (r : Fin 144) (k : Fin 128)

theorem g_apply : k0_pay2 (F := Ideal) p0 p1 p2 p3 (ix2 r k) = p0 (ix3 0 r k) + p1 (ix3 0 r k) + p2 (ix3 0 r k) + p3 (ix3 0 r k) := by
  pointwise [k0_pay2]

theorem m_apply (x : Vec Ideal S144x128 .f32) :
    k0_pay3 (F := Ideal) p0 p1 p2 p3 x (ix2 r k) = mom (x (ix2 r k)) (k0_pay2 (F := Ideal) p0 p1 p2 p3 (ix2 r k)) := by
  pointwise [k0_pay3]
  rfl

theorem v_apply (x : Vec Ideal S144x128 .f32) :
    k0_pay4 (F := Ideal) p0 p1 p2 p3 x (ix2 r k) = var (x (ix2 r k)) (k0_pay2 (F := Ideal) p0 p1 p2 p3 (ix2 r k)) := by
  pointwise [k0_pay4]
  rfl

theorem n_apply (x : Vec Ideal S144x128 .f32) :
    k0_pay5 (F := Ideal) p0 p1 p2 p3 x (ix2 r k)
      = Ideal.div (mom (x (ix2 r k)) (k0_pay2 (F := Ideal) p0 p1 p2 p3 (ix2 r k))) (Ideal.ofBits .f32 0x3F26BD02#32) := by
  pointwise [k0_pay5]
  rw [m_apply]

end

/-- The change from the new second moment and the corrected first. -/
def tail (v m w : EReal) : EReal :=
  Ideal.ofBits .f32 0xBA83126F#32
    * (Ideal.div m (Ideal.sqrt (Ideal.div v (Ideal.ofBits .f32 0x3C231ACC#32)) + Ideal.ofBits .f32 0x322BCC77#32)
      + Ideal.ofBits .f32 0x3C23D70A#32 * w)

theorem d_apply (a b w : Vec Ideal S144x128 .f32) (r : Fin 144) (k : Fin 128) :
    k0_pay1 (F := Ideal) a b w (ix2 r k) = tail (a (ix2 r k)) (b (ix2 r k)) (w (ix2 r k)) := by
  pointwise [k0_pay1]
  rfl

variable (m : (ℓ : Loc nD τ sig) → Buf (Elt Ideal) ℓ)

theorem idx0 : ∀ t : Fin cfg0.N, win0_0.index t = ![0, t.val, 0] :=
  (by decide +kernel : ∀ t : Fin grid0.N, win0_0.index t = ![0, t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![t.val, 0] :=
  (by decide +kernel : ∀ t : Fin grid0.N, win0_6.index t = ![t.val, 0])
theorem idx7 : ∀ t : Fin cfg0.N, win0_7.index t = ![t.val, 0] :=
  (by decide +kernel : ∀ t : Fin grid0.N, win0_7.index t = ![t.val, 0])

/-- Row `r` of the tile at point `t`, among all the weight's rows. -/
def row (t : Fin cfg0.N) (r : Fin 144) : Fin 1296 :=
  ⟨t.val * 144 + r.val, by have := t.isLt; have : cfg0.N = 9 := rfl; omega⟩

theorem blk0 (c : Dev nD) (t : Fin cfg0.N) (p : Fin 4) (r : Fin 144) (k : Fin 128) :
    iblk m c 0 t (ix3 p r k) = m ((c : Thread nD τ).loc main_arg0) (ix3 p (row t r) k) := by
  blk_simp [iblk, idx0 t]
  entry_read
  blk_ext [idx0 t, row]
theorem blk1 (c : Dev nD) (t : Fin cfg0.N) (r : Fin 144) (k : Fin 128) :
    iblk m c 1 t (ix2 r k) = m ((c : Thread nD τ).loc main_arg1) (ix2 (row t r) k) := by
  blk_simp [iblk, idx1 t]
  entry_read
  blk_ext [idx1 t, row]
theorem blk2 (c : Dev nD) (t : Fin cfg0.N) (r : Fin 144) (k : Fin 128) :
    iblk m c 2 t (ix2 r k) = m ((c : Thread nD τ).loc main_arg2) (ix2 (row t r) k) := by
  blk_simp [iblk, idx2 t]
  entry_read
  blk_ext [idx2 t, row]
theorem blk3 (c : Dev nD) (t : Fin cfg0.N) (r : Fin 144) (k : Fin 128) :
    iblk m c 3 t (ix2 r k) = m ((c : Thread nD τ).loc main_arg3) (ix2 (row t r) k) := by
  blk_simp [iblk, idx3 t]
  entry_read
  blk_ext [idx3 t, row]

theorem inb_page (p : Fin 4) : ∀ a, (![p.val, 0, 0] : Fin 3 → ℕ) a + S1x144x128.size a ≤ S4x144x128.size a := by
  revert p; decide
abbrev page (p : Fin 4) : Rect S4x144x128 := Rect.unit ![p.val, 0, 0] S1x144x128.size (inb_page p)

theorem page_apply (c : Dev nD) (t : Fin cfg0.N) (p : Fin 4) (r : Fin 144) (k : Fin 128) :
    View.ld (iblk m c 0 t) (page p) (ix3 0 r k) = m ((c : Thread nD τ).loc main_arg0) (ix3 p (row t r) k) := by
  rw [View.ld_unit_apply_of _ _ _ _ _ (ix3 p r k) (by intro a; fin_cases a <;> simp), blk0]

/-- The tile's gradient is the sum of the four parts' rows. -/
theorem out_g (c : Dev nD) (t : Fin cfg0.N) (r : Fin 144) (k : Fin 128) :
    k0_pay2 (F := Ideal) (View.ld (iblk m c 0 t) (page 0)) (View.ld (iblk m c 0 t) (page 1)) (View.ld (iblk m c 0 t) (page 2)) (View.ld (iblk m c 0 t) (page 3)) (ix2 r k)
      = grad fun p => m ((c : Thread nD τ).loc main_arg0) (ix3 p (row t r) k) := by
  rw [g_apply, page_apply, page_apply, page_apply, page_apply]
  rfl

theorem out_m (c : Dev nD) (t : Fin cfg0.N) (r : Fin 144) (k : Fin 128) :
    k0_pay3 (F := Ideal) (View.ld (iblk m c 0 t) (page 0)) (View.ld (iblk m c 0 t) (page 1)) (View.ld (iblk m c 0 t) (page 2)) (View.ld (iblk m c 0 t) (page 3)) (iblk m c 2 t) (ix2 r k)
      = mom (m ((c : Thread nD τ).loc main_arg2) (ix2 (row t r) k)) (grad fun p => m ((c : Thread nD τ).loc main_arg0) (ix3 p (row t r) k)) := by
  rw [m_apply, out_g, blk2]

theorem out_v (c : Dev nD) (t : Fin cfg0.N) (r : Fin 144) (k : Fin 128) :
    k0_pay4 (F := Ideal) (View.ld (iblk m c 0 t) (page 0)) (View.ld (iblk m c 0 t) (page 1)) (View.ld (iblk m c 0 t) (page 2)) (View.ld (iblk m c 0 t) (page 3)) (iblk m c 3 t) (ix2 r k)
      = var (m ((c : Thread nD τ).loc main_arg3) (ix2 (row t r) k)) (grad fun p => m ((c : Thread nD τ).loc main_arg0) (ix3 p (row t r) k)) := by
  rw [v_apply, out_g, blk3]

theorem out_n (c : Dev nD) (t : Fin cfg0.N) (r : Fin 144) (k : Fin 128) :
    k0_pay5 (F := Ideal) (View.ld (iblk m c 0 t) (page 0)) (View.ld (iblk m c 0 t) (page 1)) (View.ld (iblk m c 0 t) (page 2)) (View.ld (iblk m c 0 t) (page 3)) (iblk m c 2 t) (ix2 r k)
      = Ideal.div (mom (m ((c : Thread nD τ).loc main_arg2) (ix2 (row t r) k)) (grad fun p => m ((c : Thread nD τ).loc main_arg0) (ix3 p (row t r) k)))
          (Ideal.ofBits .f32 0x3F26BD02#32) := by
  rw [n_apply, out_g, blk2]

theorem final_g (c : Dev nD) : (dats m 0 c).arrAt 4 cfg0.N = Cert.Reference34Ideal.Read.val_main_v0 (F := Ideal)
    (m ((c : Thread nD τ).loc main_arg0)) := by
  refine (dats m 0 c).arrAt_eq_of_covers 4 _ (by decide +kernel) fun t hf y => ?_
  blk_simp
  rw [after0_4]
  idx_vars y
  have hy : ((View.whole main_v0_0).slice (win0_4.rect t)).emb (ix2 y0 y1) = ix2 (row t y0) y1 := by
    blk_ext [idx4 t, row]
  rw [hy, Cert.Reference34Ideal.AdamSmall.g_apply]
  frame_out
  exact out_g m c t y0 y1

theorem final_d (c : Dev nD) : (dats m 0 c).arrAt 5 cfg0.N = Cert.Reference34Ideal.Read.val_main_v24 (F := Ideal)
    (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  have hy : ((View.whole main_v0_1).slice (win0_5.rect t)).emb (ix2 y0 y1) = ix2 (row t y0) y1 := by
    blk_ext [idx5 t, row]
  rw [hy, Cert.Reference34Ideal.AdamSmall.d_apply]
  frame_out
  refine (d_apply _ _ _ y0 y1).trans ?_
  rw [blk1]
  exact congrArg₂ (fun a b => tail a b (m ((c : Thread nD τ).loc main_arg1) (ix2 (row t y0) y1))) (out_v m c t y0 y1) (out_n m c t y0 y1)

theorem final_m (c : Dev nD) : (dats m 0 c).arrAt 6 cfg0.N = Cert.Reference34Ideal.Read.val_main_v5 (F := Ideal)
    (m ((c : Thread nD τ).loc main_arg0)) (m ((c : Thread nD τ).loc main_arg2)) := by
  refine (dats m 0 c).arrAt_eq_of_covers 6 _ (by decide +kernel) fun t hf y => ?_
  blk_simp
  rw [after0_6]
  idx_vars y
  have hy : ((View.whole main_v0_2).slice (win0_6.rect t)).emb (ix2 y0 y1) = ix2 (row t y0) y1 := by
    blk_ext [idx6 t, row]
  rw [hy, Cert.Reference34Ideal.AdamSmall.m_apply]
  frame_out
  exact out_m m c t y0 y1

theorem final_v (c : Dev nD) : (dats m 0 c).arrAt 7 cfg0.N = Cert.Reference34Ideal.Read.val_main_v11 (F := Ideal)
    (m ((c : Thread nD τ).loc main_arg0)) (m ((c : Thread nD τ).loc main_arg3)) := by
  refine (dats m 0 c).arrAt_eq_of_covers 7 _ (by decide +kernel) fun t hf y => ?_
  blk_simp
  rw [after0_7]
  idx_vars y
  have hy : ((View.whole main_v0_3).slice (win0_7.rect t)).emb (ix2 y0 y1) = ix2 (row t y0) y1 := by
    blk_ext [idx7 t, row]
  rw [hy, Cert.Reference34Ideal.AdamSmall.v_apply]
  frame_out
  exact out_v m c t y0 y1

end Cert.Kernel34Ideal.AdamSmall

/-! ## The claims -/

namespace Cert.Proof.AdamSmallClaims

open Idealize.ShloMosaic Idealize.ShloMosaic.TcCoe Idealize.SL.Sem
open Cert.Kernel34Ideal.AdamSmall

theorem frame_p : Cert.quiescent_Kernel34 := fun m ρ _ => Cert.Kernel34.Gen.frame m ρ
theorem frame_pi : Cert.quiescent_Kernel34Ideal := fun m ρ _ => Cert.Kernel34Ideal.Gen.frame m ρ
theorem frame_ri : Cert.quiescent_Reference34Ideal := fun m ρ _ =>
  (θ_run Cert.Reference34Ideal.defs _ _).mono (fun r h => ⟨fun c => (h c).2.2.2.2,
      Idealize.ShloMosaic.sem_eq_zero_of_no_sems (by decide) r.2⟩)
    (Cert.Reference34Ideal.Value.run (F := Ideal) m ρ)

/-- The kernel and the reference end with the same gradient, change and moments. -/
theorem algebraic : Cert.algebraic_Kernel34Ideal_Reference34Ideal := by
  intro m ρ m' ρ' _ hagree
  refine ⟨_, _, _, _, Cert.Kernel34Ideal.Value.run_blocks (F := Ideal) m ρ, ?_⟩
  refine (θ_run Cert.Reference34Ideal.defs _ _).mono
    (fun _ h c => ⟨(h c).1.trans ?_, (h c).2.1.trans ?_, (h c).2.2.1.trans ?_, (h c).2.2.2.1.trans ?_, (h c).2.2.2.2⟩)
    (Cert.Reference34Ideal.Value.run (F := Ideal) m' ρ')
  all_goals obtain ⟨e0, e1, e2, e3⟩ := hagree c
  · refine (Cert.Reference34Ideal.Read.val_main_v0_eq _).trans (Eq.trans ?_ (final_g m c).symm)
    exact congrArg _ e0
  · refine (Cert.Reference34Ideal.Read.val_main_v24_eq _ _ _ _).trans (Eq.trans ?_ (final_d m c).symm)
    exact congr (congr (congr (congrArg _ e0) e1) e2) e3
  · refine (Cert.Reference34Ideal.Read.val_main_v5_eq _ _).trans (Eq.trans ?_ (final_m m c).symm)
    exact congr (congrArg _ e0) e2
  · refine (Cert.Reference34Ideal.Read.val_main_v11_eq _ _).trans (Eq.trans ?_ (final_v m c).symm)
    exact congr (congrArg _ e0) e3

end Cert.Proof.AdamSmallClaims

end
-- ==== Proof.NormInputGrad.lean ====
/- The gradient of the first norm's rows, which with the residual's is the gradient of the step's own argument: the call is
that of `NormBwd` with an unscaled rounded copy, and its blocks are read by the lemmas there. -/
module

public import proofs.«01_k».proof.Defs
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import Idealize.ShloMosaic.Lib.Pipeline.ValueKit
public import Idealize.ShloMosaic.Lib.Pointwise
public import Idealize.ShloMosaic.Lib.Quiescent
public import proofs.«01_k».proof.Proof.NormBwd

@[expose] public section

set_option maxRecDepth 16384

noncomputable section

namespace Cert.Kernel35Ideal.NormInputGrad

open Cert.Kernel35Ideal Cert.Kernel35Ideal.Gen Idealize.ShloMosaic Idealize.ShloMosaic.TcCoe Idealize.SL.Sem
open Idealize.ShloMosaic.Pipeline (Dat)
open Cert.Finite Cert.Norm

variable (m : (ℓ : Loc nD τ sig) → Buf (Elt Ideal) ℓ)

theorem idx0 : ∀ t : Fin cfg0.N, win0_0.index t = ![t.val, 0] :=
  (by decide +kernel : ∀ t : Fin grid0.N, win0_0.index t = ![t.val, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val, 0] :=
  (by decide +kernel : ∀ t : Fin grid0.N, win0_3.index t = ![t.val, 0])
theorem idx4 : ∀ t : Fin cfg0.N, win0_4.index t = ![t.val, 0] :=
  (by decide +kernel : ∀ t : Fin grid0.N, win0_4.index t = ![t.val, 0])
theorem idx5 : ∀ t : Fin cfg0.N, win0_5.index t = ![t.val, 0] :=
  (by decide +kernel : ∀ t : Fin grid0.N, win0_5.index t = ![t.val, 0])
theorem idx6 : ∀ t : Fin cfg0.N, win0_6.index t = ![0, 0] :=
  (by decide +kernel : ∀ t : Fin grid0.N, win0_6.index t = ![0, 0])

/-- A grid point as the number of its tile of tokens. -/
abbrev pt (t : Fin cfg0.N) : Fin 8 := ⟨t.val, t.isLt⟩

theorem blk0 (c : Dev nD) (t : Fin cfg0.N) (r : Fin 256) (k : Fin 2048) :
    iblk m c 0 t (ix2 r k) = m ((c : Thread nD τ).loc main_arg0) (ix3 0 (row (pt t) r) k) := by
  blk_simp [iblk, idx0 t]
  entry_read
  pointwise
  blk_ext [idx0 t, row, pt]
theorem blk1 (c : Dev nD) (t : Fin cfg0.N) (r : Fin 256) (k : Fin 2048) :
    iblk m c 1 t (ix2 r k) = m ((c : Thread nD τ).loc main_arg1) (ix3 0 (row (pt t) r) k) := by
  blk_simp [iblk, idx1 t]
  entry_read
  pointwise
  blk_ext [idx1 t, row, pt]
theorem blk3 (c : Dev nD) (t : Fin cfg0.N) (r : Fin 256) (k : Fin 2048) :
    iblk m c 3 t (ix2 r k) = m ((c : Thread nD τ).loc main_arg3) (ix3 0 (row (pt t) r) k) := by
  blk_simp [iblk, idx3 t]
  entry_read
  pointwise
  blk_ext [idx3 t, row, pt]
theorem blk2 (c : Dev nD) (t : Fin cfg0.N) (k : Fin 2048) :
    iblk m c 2 t (ix2 0 k) = m ((c : Thread nD τ).loc main_arg2) (ix2 0 k) := by
  blk_simp [iblk, idx2 t]
  entry_read
  blk_ext [idx2 t]

variable {m} {c : Dev nD} {D : Data}
  (A : Cert.Reference19Ideal.NormBwd.Args D (m ((c : Thread nD τ).loc main_arg0)) (m ((c : Thread nD τ).loc main_arg1))
    (m ((c : Thread nD τ).loc main_arg2)) (m ((c : Thread nD τ).loc main_arg3)))
include A

theorem holds (t : Fin cfg0.N) : Cert.Kernel19Ideal.NormBwd.Holds D (row (pt t)) (iblk m c 1 t) (iblk m c 0 t) where
  h r k := (blk1 m c t r k).trans (A.h _ k)
  dn r k := (blk0 m c t r k).trans (A.dn _ k)

theorem out_dh (t : Fin cfg0.N) (r : Fin 256) (k : Fin 2048) :
    (outsAt0 m c t.val t.isLt).1 (ix2 r k) = (D.dh (row (pt t) r) k : EReal) := by
  by_cases h0 : t.val % 8 = 0
  · rw [outsAt0_A m c t h0 (by have := t.isLt; have : cfg0.N = 8 := rfl; omega)]
    frame_open
    frame_out
    exact Cert.Kernel19Ideal.NormBwd.dh_apply (holds A t) (fun k => (blk2 m c t k).trans (A.g k)) (fun r k => (blk3 m c t r k).trans (A.dres _ k)) r k
  · rw [outsAt0_B m c t h0 (by omega)]
    frame_open
    frame_out
    exact Cert.Kernel19Ideal.NormBwd.dh_apply (holds A t) (fun k => (blk2 m c t k).trans (A.g k)) (fun r k => (blk3 m c t r k).trans (A.dres _ k)) r k

theorem out_dhb (t : Fin cfg0.N) (r : Fin 256) (k : Fin 2048) :
    (outsAt0 m c t.val t.isLt).2.1 (ix2 r k) = (D.dh (row (pt t) r) k : EReal) := by
  by_cases h0 : t.val % 8 = 0
  · rw [outsAt0_A m c t h0 (by have := t.isLt; have : cfg0.N = 8 := rfl; omega)]
    frame_open
    frame_out
    exact Cert.Kernel19Ideal.NormBwd.dh_apply (holds A t) (fun k => (blk2 m c t k).trans (A.g k)) (fun r k => (blk3 m c t r k).trans (A.dres _ k)) r k
  · rw [outsAt0_B m c t h0 (by omega)]
    frame_open
    frame_out
    exact Cert.Kernel19Ideal.NormBwd.dh_apply (holds A t) (fun k => (blk2 m c t k).trans (A.g k)) (fun r k => (blk3 m c t r k).trans (A.dres _ k)) r k

/-- After a point the gains' gradient holds the rows up to that point's. -/
theorem out_dg : ∀ (i : ℕ) (hi : i < cfg0.N) (k : Fin 2048),
    (outsAt0 m c i hi).2.2 (ix2 0 k) = (upto (fun t => ∑ r, D.dg (row t r) k) (i + 1) : EReal)
  | 0, hi, k => by
    rw [upto_one, outsAt0_A m c ⟨0, hi⟩ rfl (show ¬1 ≤ 0 by decide)]
    frame_open
    frame_out
    exact Cert.Kernel19Ideal.NormBwd.part_apply (holds A ⟨0, hi⟩) k
  | i + 1, hi, k => by
    have P := out_dg i (Nat.lt_of_succ_lt hi)
    have h8 : i + 1 < 8 := hi
    rw [upto_succ _ _ h8, outsAt0_B m c ⟨i + 1, hi⟩ (show ¬(i + 1) % 8 = 0 by omega) (show 1 ≤ i + 1 by omega)]
    frame_open
    frame_out
    exact Cert.Kernel19Ideal.NormBwd.more_apply (holds A ⟨i + 1, hi⟩) P k

theorem final_dh : (dats m 0 c).arrAt 4 cfg0.N = Cert.Reference35Ideal.Read.val_main_v37 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 4 _ (by decide +kernel) fun t hf y => ?_
  blk_simp
  rw [after0_4]
  idx_vars y
  have hy : ((View.whole main_v3_0).slice (win0_4.rect t)).emb (ix2 y0 y1) = ix2 (row (pt t) y0) y1 := by
    blk_ext [idx4 t, row, pt]
  refine Eq.trans ?_ ((congrArg _ hy).trans (Cert.Reference19Ideal.NormBwd.dh_apply A _ _)).symm
  exact out_dh A t y0 y1

theorem final_dhb : (dats m 0 c).arrAt 5 cfg0.N = Cert.Reference35Ideal.Read.val_main_v38 (F := Ideal)
    (m ((c : Thread nD τ).loc main_arg0)) (m ((c : Thread nD τ).loc main_arg1)) (m ((c : Thread nD τ).loc main_arg2))
    (m ((c : Thread nD τ).loc main_arg3)) := by
  refine (dats m 0 c).arrAt_eq_of_covers 5 _ (by decide +kernel) fun t hf y => ?_
  blk_simp
  rw [after0_5]
  idx_vars y
  have hy : ((View.whole main_v3_1).slice (win0_5.rect t)).emb (ix2 y0 y1) = ix2 (row (pt t) y0) y1 := by
    blk_ext [idx5 t, row, pt]
  refine Eq.trans ?_ ((congrArg _ hy).trans (Cert.Reference19Ideal.NormBwd.dh_apply A _ _)).symm
  exact out_dhb A t y0 y1

theorem final_dg : (dats m 0 c).arrAt 6 cfg0.N = Cert.Reference35Ideal.Read.val_main_v20 (F := Ideal)
    (m ((c : Thread nD τ).loc main_arg0)) (m ((c : Thread nD τ).loc main_arg1)) := by
  refine (dats m 0 c).arrAt_eq_of_covers 6 _ (by decide +kernel) fun t hf y => ?_
  have h7 := (flush0_6 t).mp hf
  blk_simp
  rw [after0_6]
  idx_vars y
  obtain rfl : y0 = 0 := Subsingleton.elim _ _
  have hy : ((View.whole main_v3_2).slice (win0_6.rect t)).emb (ix2 0 y1) = ix2 0 y1 := by
    blk_ext [idx6 t]
  refine Eq.trans ?_ ((congrArg _ hy).trans (Cert.Reference19Ideal.NormBwd.dg_apply A _)).symm
  rw [← sum_rows, ← upto_all]
  refine (out_dg A t.val t.isLt y1).trans ?_
  rw [show t.val + 1 = 8 by have := t.isLt; have : cfg0.N = 8 := rfl; omega]

end Cert.Kernel35Ideal.NormInputGrad

/-! ## The claims -/

namespace Cert.Proof.NormInputGradClaims

open Idealize.ShloMosaic Idealize.ShloMosaic.TcCoe Idealize.SL.Sem
open Cert.Kernel35Ideal.NormInputGrad

instance preFacts : Cert.Pre_finite35.Facts := ⟨by decide, by decide, by decide⟩

theorem frame_p : Cert.quiescent_Kernel35 := fun m ρ _ => Cert.Kernel35.Gen.frame m ρ
theorem frame_pi : Cert.quiescent_Kernel35Ideal := fun m ρ _ => Cert.Kernel35Ideal.Gen.frame m ρ
theorem frame_pi' : Cert.quiescent_Kernel35Ideal_pre_finite35 := fun m ρ _ => Cert.Kernel35Ideal.Gen.frame m ρ
theorem frame_ri : Cert.quiescent_Reference35Ideal := fun m ρ _ =>
  (θ_run Cert.Reference35Ideal.defs _ _).mono (fun r h => ⟨fun c => (h c).2.2.2,
      Idealize.ShloMosaic.sem_eq_zero_of_no_sems (by decide) r.2⟩)
    (Cert.Reference35Ideal.Value.run (F := Ideal) m ρ)
theorem frame_ri' : Cert.quiescent_Reference35Ideal_pre_finite35 := fun m ρ _ => frame_ri m ρ trivial

/-- From finite arguments the kernel and the reference end with the same gradients. -/
theorem algebraic : Cert.algebraic_Kernel35Ideal_Reference35Ideal_pre_finite35 := by
  intro m ρ m' ρ' hpre hagree
  refine ⟨_, _, _, Cert.Kernel35Ideal.Value.run_blocks (F := Ideal) m ρ, ?_⟩
  refine (θ_run Cert.Reference35Ideal.defs _ _).mono
    (fun _ h c => ⟨(h c).1.trans ?_, (h c).2.1.trans ?_, (h c).2.2.1.trans ?_, (h c).2.2.2⟩)
    (Cert.Reference35Ideal.Value.run (F := Ideal) m' ρ')
  all_goals
    obtain ⟨p0, p1, p2, p3⟩ := hpre c
    obtain ⟨a0, h0⟩ := Cert.Finite.real_of_pre _ _ _ p0
    obtain ⟨a1, h1⟩ := Cert.Finite.real_of_pre _ _ _ p1
    obtain ⟨a2, h2⟩ := Cert.Finite.real_of_pre _ _ _ p2
    obtain ⟨a3, h3⟩ := Cert.Finite.real_of_pre _ _ _ p3
    have A : Cert.Reference19Ideal.NormBwd.Args ⟨fun r k => a0 (ix3 0 r k), fun r k => a1 (ix3 0 r k), fun k => a2 (ix2 0 k),
        fun r k => a3 (ix3 0 r k)⟩ _ _ _ _ :=
      ⟨fun _ _ => congrFun h0 _, fun _ _ => congrFun h1 _, fun _ => congrFun h2 _, fun _ _ => congrFun h3 _⟩
    obtain ⟨e0, e1, e2, e3⟩ := hagree c
  · refine (Cert.Reference35Ideal.Read.val_main_v37_eq _ _).trans (Eq.trans ?_ (final_dh A).symm)
    exact congr (congr (congr (congrArg _ e0) e1) e2) e3
  · refine (Cert.Reference35Ideal.Read.val_main_v38_eq _ _).trans (Eq.trans ?_ (final_dhb A).symm)
    exact congr (congr (congr (congrArg _ e0) e1) e2) e3
  · refine (Cert.Reference35Ideal.Read.val_main_v20_eq _ _).trans (Eq.trans ?_ (final_dg A).symm)
    exact congr (congrArg _ e0) e1

end Cert.Proof.NormInputGradClaims

end
-- ==== Proof.MemNormBwd.lean ====
/- The gradient of the memory's norm: the kernel's one block is read at an index over the reals and is the plain
gradient's. -/
module

public import proofs.«01_k».proof.Defs
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import Idealize.ShloMosaic.Lib.Pipeline.ValueKit
public import Idealize.ShloMosaic.Lib.Pointwise
public import Idealize.ShloMosaic.Lib.Quiescent
public import proofs.«01_k».proof.Proof.NormReal

@[expose] public section

set_option maxRecDepth 16384

noncomputable section

namespace Cert.Norm

/-- The call's arguments: the gradient of the normalized rows of the memory, its rows, and the gains. -/
structure MemData where
  dn : Fin 256 → Fin 2048 → ℝ
  h : Fin 256 → Fin 2048 → ℝ
  g : Fin 2048 → ℝ

namespace MemData
variable (D : MemData)
/-- The gradient of a row. -/
def dh (s : Fin 256) (k : Fin 2048) : ℝ := bwd 2048 (D.h s) (fun k => D.dn s k * D.g k) k
/-- What a row gives to the gradient of the gains. -/
def dg (s : Fin 256) (k : Fin 2048) : ℝ := D.dn s k * (D.h s k * rs 2048 (D.h s))
end MemData

end Cert.Norm

/-! ## The plain gradient -/

namespace Cert.Reference36Ideal.MemNormBwd

open Cert.Reference36Ideal Cert.Reference36Ideal.Gen Cert.Reference36Ideal.Read Idealize.ShloMosaic Idealize.ShloMosaic.TcCoe
open Cert.Finite Cert.Norm
open Cert.Sgu (c_eps c_neg_half)

/-- The arguments hold the reals of `D`. -/
structure Args (D : MemData) (x0 x1 : Vec Ideal S1x256x2048 .f32) (x2 : Vec Ideal S1x2048 .f32) : Prop where
  dn : ∀ r k, x0 (ix3 0 r k) = (D.dn r k : EReal)
  h : ∀ r k, x1 (ix3 0 r k) = (D.h r k : EReal)
  g : ∀ k, x2 (ix2 0 k) = (D.g k : EReal)

variable {D : MemData} {x0 x1 : Vec Ideal S1x256x2048 .f32} {x2 : Vec Ideal S1x2048 .f32}
  (H : Args D x0 x1 x2)
include H

theorem ms_apply (s : Fin 256) : val_main_v7 (F := Ideal) x1 (ix2 s 0) = (ms 2048 (D.h s) : EReal) := by
  pointwise [val_main_v7, val_main_v5, val_main_v3, val_main_v2, val_main_v1, val_main_v0, val_main_cst, val_main_v4, val_main_cst_0, val_main_v6, val_main_cst_1]
  simp only [H.h, c_2048, c_eps, r_mul, r_sum, r_div2048, r_add]
  rfl

theorem rs_apply (s : Fin 256) : val_main_v8 (F := Ideal) x1 (ix2 s 0) = (rs 2048 (D.h s) : EReal) := by
  pointwise [val_main_v8]
  rw [ms_apply H, r_rs (by norm_num)]

theorem dy_apply (s : Fin 256) (k : Fin 2048) : val_main_v21 (F := Ideal) x0 x2 (ix2 s k) = (D.dn s k * D.g k : ℝ) := by
  pointwise [val_main_v21, val_main_v16, val_main_v20]
  simp only [H.dn, H.g, r_mul]

theorem tail_apply (s : Fin 256) (k : Fin 2048) :
    val_main_v31 (F := Ideal) x0 x1 x2 (ix2 s k) = (tail 2048 (D.h s) (fun k => D.dn s k * D.g k) : EReal) := by
  pointwise [val_main_v31, val_main_v30, val_main_cst_6, val_main_v29, val_main_v28, val_main_cst_5, val_main_v27, val_main_v24, val_main_v23, val_main_cst_4, val_main_v22, val_main_v0, val_main_v11, val_main_v10, val_main_cst_2, val_main_v9]
  simp only [dy_apply H, H.h, rs_apply H, ms_apply H, Fin.sum_univ_one, c_2048, c_neg_half, r_div_ms (N := 2048) (by norm_num), r_mul, r_sum,
    r_div2048]
  rfl

theorem dh_apply (s : Fin 256) (k : Fin 2048) : val_main_v35 (F := Ideal) x0 x1 x2 (ix2 s k) = (D.dh s k : EReal) := by
  pointwise [val_main_v35, val_main_v34, val_main_v33, val_main_v32, val_main_v26, val_main_v25, val_main_v0]
  simp only [dy_apply H, tail_apply H, H.h, rs_apply H, r_mul, r_add]
  refine congrArg _ ?_
  have e := bwd_eq (N := 2048) (by norm_num) (D.h s) (fun k => D.dn s k * D.g k) k 0
  rw [zero_add, add_zero] at e
  exact e

theorem dhb_apply (s : Fin 256) (k : Fin 2048) : val_main_v36 (F := Ideal) x0 x1 x2 (ix2 s k) = (D.dh s k : EReal) :=
  dh_apply H s k

theorem dg_apply (k : Fin 2048) : val_main_v19 (F := Ideal) x0 x1 (ix2 0 k) = (∑ s, D.dg s k : ℝ) := by
  pointwise [val_main_v19, val_main_v18, val_main_cst_3, val_main_v17, val_main_v16, val_main_v13, val_main_v12, val_main_v0]
  simp only [H.h, H.dn, rs_apply H, r_mul, r_sum]
  exact congrArg _ (Finset.sum_congr rfl fun s _ => mul_comm _ _)

end Cert.Reference36Ideal.MemNormBwd

/-! ## The kernel -/

namespace Cert.Kernel36Ideal.MemNormBwd

open Cert.Kernel36Ideal Cert.Kernel36Ideal.Gen Idealize.ShloMosaic Idealize.ShloMosaic.TcCoe Idealize.SL.Sem
open Idealize.ShloMosaic.Pipeline (Dat)
open Cert.Finite Cert.Norm
open Cert.Sgu (c_eps)

/-- The block's arrays hold the reals of `D`. -/
structure Holds (D : MemData) (h dn : Vec Ideal S256x2048 .f32) : Prop where
  h : ∀ r k, h (ix2 r k) = (D.h r k : EReal)
  dn : ∀ r k, dn (ix2 r k) = (D.dn r k : EReal)

section
variable {D : MemData} {h dn : Vec Ideal S256x2048 .f32} (H : Holds D h dn)
include H

theorem rs_apply (r : Fin 256) : k0_pay2 h (ix2 r 0) = (rs 2048 (D.h r) : EReal) := by
  pointwise [k0_pay2, k0_pay1]
  simp only [H.h, c_2048, c_eps, r_mul, r_sum, r_div2048, r_add]
  exact r_rs (by norm_num) _

theorem xhat_apply (r : Fin 256) (k : Fin 2048) : k0_pay3 h (ix2 r k) = (D.h r k * rs 2048 (D.h r) : ℝ) := by
  pointwise [k0_pay3, k0_pay1]
  simp only [H.h, rs_apply H, r_mul]

theorem part_apply (k : Fin 2048) : k0_pay5 h dn (ix2 0 k) = (∑ r, D.dg r k : ℝ) := by
  pointwise [k0_pay5, k0_pay4]
  simp only [H.dn, xhat_apply H, r_mul, r_sum]
  rfl

theorem dh_apply {g : Vec Ideal S1x2048 .f32} (hg : ∀ k, g (ix2 0 k) = (D.g k : EReal)) (r : Fin 256) (k : Fin 2048) :
    k0_pay7 h dn g (ix2 r k) = (D.dh r k : EReal) := by
  pointwise [k0_pay7, k0_pay4]
  simp only [xhat_apply H, rs_apply H, H.dn, hg, c_2048, r_mul, r_sum, r_div2048, r_sub]
  rfl

theorem dhb_apply {g : Vec Ideal S1x2048 .f32} (hg : ∀ k, g (ix2 0 k) = (D.g k : EReal)) (r : Fin 256) (k : Fin 2048) :
    k0_pay8 h dn g (ix2 r k) = (D.dh r k : EReal) := dh_apply H hg r k

end

variable (m : (ℓ : Loc nD τ sig) → Buf (Elt Ideal) ℓ)

theorem idx0 : ∀ t : Fin cfg0.N, win0_0.index t = ![0, 0] :=
  (by decide +kernel : ∀ t : Fin grid0.N, win0_0.index t = ![0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])

theorem blk0 (c : Dev nD) (t : Fin cfg0.N) (r : Fin 256) (k : Fin 2048) :
    iblk m c 0 t (ix2 r k) = m ((c : Thread nD τ).loc main_arg0) (ix3 0 r k) := by
  blk_simp [iblk, idx0 t]
  entry_read
  pointwise
  blk_ext [idx0 t]
theorem blk1 (c : Dev nD) (t : Fin cfg0.N) (r : Fin 256) (k : Fin 2048) :
    iblk m c 1 t (ix2 r k) = m ((c : Thread nD τ).loc main_arg1) (ix3 0 r k) := by
  blk_simp [iblk, idx1 t]
  entry_read
  pointwise
  blk_ext [idx1 t]
theorem blk2 (c : Dev nD) (t : Fin cfg0.N) (k : Fin 2048) :
    iblk m c 2 t (ix2 0 k) = m ((c : Thread nD τ).loc main_arg2) (ix2 0 k) := by
  blk_simp [iblk, idx2 t]
  entry_read
  blk_ext [idx2 t]

variable {m} {c : Dev nD} {D : MemData}
  (A : Cert.Reference36Ideal.MemNormBwd.Args D (m ((c : Thread nD τ).loc main_arg0)) (m ((c : Thread nD τ).loc main_arg1))
    (m ((c : Thread nD τ).loc main_arg2)))
include A

theorem holds (t : Fin cfg0.N) : Holds D (iblk m c 1 t) (iblk m c 0 t) where
  h r k := by rw [blk1, A.h]
  dn r k := by rw [blk0, A.dn]

theorem gains (t : Fin cfg0.N) (k : Fin 2048) : iblk m c 2 t (ix2 0 k) = (D.g k : EReal) := by rw [blk2, A.g]

theorem final_dh : (dats m 0 c).arrAt 3 cfg0.N = Cert.Reference36Ideal.Read.val_main_v35 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  idx_vars y
  have hy : ((View.whole main_v2_0).slice (win0_3.rect t)).emb (ix2 y0 y1) = ix2 y0 y1 := by
    blk_ext [idx3 t]
  rw [hy, Cert.Reference36Ideal.MemNormBwd.dh_apply A]
  unfold outsAt0
  frame_out
  exact dh_apply (holds A t) (gains A t) y0 y1

theorem final_dhb : (dats m 0 c).arrAt 4 cfg0.N = Cert.Reference36Ideal.Read.val_main_v36 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  idx_vars y
  have hy : ((View.whole main_v2_1).slice (win0_4.rect t)).emb (ix2 y0 y1) = ix2 y0 y1 := by
    blk_ext [idx4 t]
  rw [hy, Cert.Reference36Ideal.MemNormBwd.dhb_apply A]
  unfold outsAt0
  frame_out
  exact dhb_apply (holds A t) (gains A t) y0 y1

theorem final_dg : (dats m 0 c).arrAt 5 cfg0.N = Cert.Reference36Ideal.Read.val_main_v19 (F := Ideal)
    (m ((c : Thread nD τ).loc main_arg0)) (m ((c : Thread nD τ).loc main_arg1)) := by
  refine (dats m 0 c).arrAt_eq_of_covers 5 _ (by decide +kernel) fun t hf y => ?_
  blk_simp
  rw [after0_5]
  idx_vars y
  obtain rfl : y0 = 0 := Subsingleton.elim _ _
  have hy : ((View.whole main_v2_2).slice (win0_5.rect t)).emb (ix2 0 y1) = ix2 0 y1 := by
    blk_ext [idx5 t]
  rw [hy, Cert.Reference36Ideal.MemNormBwd.dg_apply A]
  unfold outsAt0
  frame_out
  exact part_apply (holds A t) y1

end Cert.Kernel36Ideal.MemNormBwd

/-! ## The claims -/

namespace Cert.Proof.MemNormBwdClaims

open Idealize.ShloMosaic Idealize.ShloMosaic.TcCoe Idealize.SL.Sem
open Cert.Kernel36Ideal.MemNormBwd

instance preFacts : Cert.Pre_finite36.Facts := ⟨by decide, by decide, by decide⟩

theorem frame_p : Cert.quiescent_Kernel36 := fun m ρ _ => Cert.Kernel36.Gen.frame m ρ
theorem frame_pi : Cert.quiescent_Kernel36Ideal := fun m ρ _ => Cert.Kernel36Ideal.Gen.frame m ρ
theorem frame_pi' : Cert.quiescent_Kernel36Ideal_pre_finite36 := fun m ρ _ => Cert.Kernel36Ideal.Gen.frame m ρ
theorem frame_ri : Cert.quiescent_Reference36Ideal := fun m ρ _ =>
  (θ_run Cert.Reference36Ideal.defs _ _).mono (fun r h => ⟨fun c => (h c).2.2.2,
      Idealize.ShloMosaic.sem_eq_zero_of_no_sems (by decide) r.2⟩)
    (Cert.Reference36Ideal.Value.run (F := Ideal) m ρ)
theorem frame_ri' : Cert.quiescent_Reference36Ideal_pre_finite36 := fun m ρ _ => frame_ri m ρ trivial

/-- From finite arguments the kernel and the reference end with the same gradients. -/
theorem algebraic : Cert.algebraic_Kernel36Ideal_Reference36Ideal_pre_finite36 := by
  intro m ρ m' ρ' hpre hagree
  refine ⟨_, _, _, Cert.Kernel36Ideal.Value.run_blocks (F := Ideal) m ρ, ?_⟩
  refine (θ_run Cert.Reference36Ideal.defs _ _).mono
    (fun _ h c => ⟨(h c).1.trans ?_, (h c).2.1.trans ?_, (h c).2.2.1.trans ?_, (h c).2.2.2⟩)
    (Cert.Reference36Ideal.Value.run (F := Ideal) m' ρ')
  all_goals
    obtain ⟨p0, p1, p2⟩ := hpre c
    obtain ⟨a0, h0⟩ := Cert.Finite.real_of_pre _ _ _ p0
    obtain ⟨a1, h1⟩ := Cert.Finite.real_of_pre _ _ _ p1
    obtain ⟨a2, h2⟩ := Cert.Finite.real_of_pre _ _ _ p2
    have A : Cert.Reference36Ideal.MemNormBwd.Args ⟨fun r k => a0 (ix3 0 r k), fun r k => a1 (ix3 0 r k), fun k => a2 (ix2 0 k)⟩ _ _ _ :=
      ⟨fun _ _ => congrFun h0 _, fun _ _ => congrFun h1 _, fun _ => congrFun h2 _⟩
    obtain ⟨e0, e1, e2⟩ := hagree c
  · refine (Cert.Reference36Ideal.Read.val_main_v35_eq _ _).trans (Eq.trans ?_ (final_dh A).symm)
    exact congr (congr (congrArg _ e0) e1) e2
  · refine (Cert.Reference36Ideal.Read.val_main_v36_eq _ _).trans (Eq.trans ?_ (final_dhb A).symm)
    exact congr (congr (congrArg _ e0) e1) e2
  · refine (Cert.Reference36Ideal.Read.val_main_v19_eq _ _).trans (Eq.trans ?_ (final_dg A).symm)
    exact congr (congrArg _ e0) e1

end Cert.Proof.MemNormBwdClaims

end
-- ==== Proof.MemNorm.lean ====
/- The root-mean-square norm of the memory's rows: the kernel's one block is read at an index and is the reference's
rows. -/
module

public import proofs.«01_k».proof.Defs
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import Idealize.ShloMosaic.Lib.Pipeline.ValueKit
public import Idealize.ShloMosaic.Lib.Pointwise
public import Idealize.ShloMosaic.Lib.Quiescent
public import proofs.«01_k».proof.Proof.NormRows

@[expose] public section

set_option maxRecDepth 16384

noncomputable section

namespace Cert.Kernel37Ideal.MemNorm

open Cert.Kernel37Ideal Cert.Kernel37Ideal.Gen Idealize.ShloMosaic Idealize.ShloMosaic.TcCoe Idealize.SL.Sem
open Idealize.ShloMosaic.Pipeline (Dat)

theorem pay1_apply (v0 : Vec Ideal S256x2048 .f32) (v12 : Vec Ideal S1x2048 .f32) (r : Fin 256) (k : Fin 2048) :
    k0_pay1 (F := Ideal) v0 v12 (ix2 r k) = Cert.Kernel26Ideal.NormRows.nrm (fun k => v0 (ix2 r k)) (fun k => v12 (ix2 0 k)) k := by
  pointwise [k0_pay1]
  rfl

/-- The reference's row at a coordinate. -/
theorem ref_apply (x0 : Vec Ideal S1x256x2048 .f32) (x1 : Vec Ideal S1x2048 .f32) (s : Fin 256) (k : Fin 2048) :
    Cert.Reference37Ideal.Read.val_main_v13 (F := Ideal) x0 x1 (ix2 s k) = Cert.Kernel26Ideal.NormRows.nrm (fun k => x0 (ix3 0 s k)) (fun k => x1 (ix2 0 k)) k := by
  pointwise [Cert.Reference37Ideal.Read.val_main_v13, Cert.Reference37Ideal.Read.val_main_v12, Cert.Reference37Ideal.Read.val_main_v11, Cert.Reference37Ideal.Read.val_main_v10, Cert.Reference37Ideal.Read.val_main_v9, Cert.Reference37Ideal.Read.val_main_v8, Cert.Reference37Ideal.Read.val_main_v7, Cert.Reference37Ideal.Read.val_main_v6, Cert.Reference37Ideal.Read.val_main_cst_1, Cert.Reference37Ideal.Read.val_main_v5, Cert.Reference37Ideal.Read.val_main_v4, Cert.Reference37Ideal.Read.val_main_cst_0, Cert.Reference37Ideal.Read.val_main_v3, Cert.Reference37Ideal.Read.val_main_v2, Cert.Reference37Ideal.Read.val_main_cst, Cert.Reference37Ideal.Read.val_main_v1, Cert.Reference37Ideal.Read.val_main_v0]
  rfl

variable (m : (ℓ : Loc nD τ sig) → Buf (Elt Ideal) ℓ)

theorem idx0 : ∀ t : Fin cfg0.N, win0_0.index t = ![0, 0] :=
  (by decide +kernel : ∀ t : Fin grid0.N, win0_0.index t = ![0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])

theorem blk0 (c : Dev nD) (t : Fin cfg0.N) (r : Fin 256) (k : Fin 2048) :
    iblk m c 0 t (ix2 r k) = m ((c : Thread nD τ).loc main_arg0) (ix3 0 r k) := by
  blk_simp [iblk, idx0 t]
  entry_read
  pointwise
  blk_ext [idx0 t]
theorem blk1 (c : Dev nD) (t : Fin cfg0.N) (k : Fin 2048) :
    iblk m c 1 t (ix2 0 k) = m ((c : Thread nD τ).loc main_arg1) (ix2 0 k) := by
  blk_simp [iblk, idx1 t]
  entry_read
  blk_ext [idx1 t]

/-- The result array is the reference's. -/
theorem final (c : Dev nD) : (dats m 0 c).arrAt 2 cfg0.N = Cert.Reference37Ideal.Read.val_main_v13 (F := Ideal)
    (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  have hy : ((View.whole main_v1).slice (win0_2.rect t)).emb (ix2 y0 y1) = ix2 y0 y1 := by
    blk_ext [idx2 t]
  rw [hy, pay1_apply, ref_apply]
  simp only [blk0, blk1]

end Cert.Kernel37Ideal.MemNorm

/-! ## The claims -/

namespace Cert.Proof.MemNormClaims

open Idealize.ShloMosaic Idealize.ShloMosaic.TcCoe Idealize.SL.Sem

theorem frame_p : Cert.quiescent_Kernel37 := fun m ρ _ => Cert.Kernel37.Gen.frame m ρ
theorem frame_pi : Cert.quiescent_Kernel37Ideal := fun m ρ _ => Cert.Kernel37Ideal.Gen.frame m ρ
theorem frame_ri : Cert.quiescent_Reference37Ideal := fun m ρ _ =>
  (θ_run Cert.Reference37Ideal.defs _ _).mono (fun r h => ⟨fun c => (h c).2,
      Idealize.ShloMosaic.sem_eq_zero_of_no_sems (by decide) r.2⟩)
    (Cert.Reference37Ideal.Value.run (F := Ideal) m ρ)

/-- The kernel and the reference end with the same normalized rows. -/
theorem algebraic : Cert.algebraic_Kernel37Ideal_Reference37Ideal := by
  intro m ρ m' ρ' _ hagree
  refine ⟨_, Cert.Kernel37Ideal.Value.run_blocks (F := Ideal) m ρ, ?_⟩
  refine (θ_run Cert.Reference37Ideal.defs _ _).mono (fun _ h c => ⟨(h c).1.trans ?_, (h c).2⟩)
    (Cert.Reference37Ideal.Value.run (F := Ideal) m' ρ')
  rw [(hagree c).1, (hagree c).2]
  exact (Cert.Reference37Ideal.Read.val_main_v13_eq _ _).trans (Cert.Kernel37Ideal.MemNorm.final m c).symm

end Cert.Proof.MemNormClaims

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read

public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Frames
public import proofs.«01_k».proof.Proof.SwigluBwd
public import proofs.«01_k».proof.Proof.SguBwd
public import proofs.«01_k».proof.Proof.XattnBwd
public import proofs.«01_k».proof.Proof.UpWeightGrad
public import proofs.«01_k».proof.Proof.UpInputGrad
public import proofs.«01_k».proof.Proof.DownWeightGrad
public import proofs.«01_k».proof.Proof.UpProjection
public import proofs.«01_k».proof.Proof.DownProjection
public import proofs.«01_k».proof.Proof.UpWeightGradLow
public import proofs.«01_k».proof.Proof.UpWeightGradHigh
public import proofs.«01_k».proof.Proof.MixProjection
public import proofs.«01_k».proof.Proof.MixWeightGrad
public import proofs.«01_k».proof.Proof.MixInputGrad
public import proofs.«01_k».proof.Proof.SquareWeightGrad
public import proofs.«01_k».proof.Proof.SquareInputGrad
public import proofs.«01_k».proof.Proof.SquareProjection
public import proofs.«01_k».proof.Proof.QueryProjection
public import proofs.«01_k».proof.Proof.SquareInputGradRounded
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.NormBwd
public import proofs.«01_k».proof.Proof.NormCatBwd
public import proofs.«01_k».proof.Proof.MemProjection
public import proofs.«01_k».proof.Proof.MemWeightGrad
public import proofs.«01_k».proof.Proof.MemInputGrad
public import proofs.«01_k».proof.Proof.SguFwd
public import proofs.«01_k».proof.Proof.XattnFwd
public import proofs.«01_k».proof.Proof.NormRows
public import proofs.«01_k».proof.Proof.NormCat
public import proofs.«01_k».proof.Proof.LossHead
public import proofs.«01_k».proof.Proof.AdamUp
public import proofs.«01_k».proof.Proof.AdamDown
public import proofs.«01_k».proof.Proof.AdamMix
public import proofs.«01_k».proof.Proof.AdamSquare
public import proofs.«01_k».proof.Proof.AdamMemory
public import proofs.«01_k».proof.Proof.AdamSmall
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.NormInputGrad
public import proofs.«01_k».proof.Proof.MemNormBwd
public import proofs.«01_k».proof.Proof.MemNorm

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    SguBwdClaims.preFacts, XattnBwdClaims.preFacts, SwigluBwdClaims.preFacts, NormBwdClaims.preFacts, NormCatBwdClaims.preFacts, SguFwdClaims.preFacts, XattnFwdClaims.preFacts, LossHeadClaims.preFacts, NormInputGradClaims.preFacts, MemNormBwdClaims.preFacts,
    Frames.frame_p1, Frames.frame_pi1, SguBwdClaims.frame_pi', Frames.frame_ri1, SguBwdClaims.frame_ri',
    Frames.frame_p2, Frames.frame_pi2, XattnBwdClaims.frame_pi', Frames.frame_ri2, XattnBwdClaims.frame_ri',
    SwigluBwdClaims.frame_p, SwigluBwdClaims.frame_pi, SwigluBwdClaims.frame_pi', SwigluBwdClaims.frame_ri, SwigluBwdClaims.frame_ri',
    UpWeightGradClaims.frame_p, UpWeightGradClaims.frame_pi, UpWeightGradClaims.frame_ri,
    UpInputGradClaims.frame_p, UpInputGradClaims.frame_pi, UpInputGradClaims.frame_ri,
    DownWeightGradClaims.frame_p, DownWeightGradClaims.frame_pi, DownWeightGradClaims.frame_ri,
    UpProjectionClaims.frame_p, UpProjectionClaims.frame_pi, UpProjectionClaims.frame_ri,
    DownProjectionClaims.frame_p, DownProjectionClaims.frame_pi, DownProjectionClaims.frame_ri,
    UpWeightGradLowClaims.frame_p, UpWeightGradLowClaims.frame_pi, UpWeightGradLowClaims.frame_ri,
    UpWeightGradHighClaims.frame_p, UpWeightGradHighClaims.frame_pi, UpWeightGradHighClaims.frame_ri,
    MixProjectionClaims.frame_p, MixProjectionClaims.frame_pi, MixProjectionClaims.frame_ri,
    MixWeightGradClaims.frame_p, MixWeightGradClaims.frame_pi, MixWeightGradClaims.frame_ri,
    MixInputGradClaims.frame_p, MixInputGradClaims.frame_pi, MixInputGradClaims.frame_ri,
    SquareWeightGradClaims.frame_p, SquareWeightGradClaims.frame_pi, SquareWeightGradClaims.frame_ri,
    SquareInputGradClaims.frame_p, SquareInputGradClaims.frame_pi, SquareInputGradClaims.frame_ri,
    SquareProjectionClaims.frame_p, SquareProjectionClaims.frame_pi, SquareProjectionClaims.frame_ri,
    QueryProjectionClaims.frame_p, QueryProjectionClaims.frame_pi, QueryProjectionClaims.frame_ri,
    SquareInputGradRoundedClaims.frame_p, SquareInputGradRoundedClaims.frame_pi, SquareInputGradRoundedClaims.frame_ri,
    NormBwdClaims.frame_p, NormBwdClaims.frame_pi, NormBwdClaims.frame_pi', NormBwdClaims.frame_ri, NormBwdClaims.frame_ri',
    NormCatBwdClaims.frame_p, NormCatBwdClaims.frame_pi, NormCatBwdClaims.frame_pi', NormCatBwdClaims.frame_ri, NormCatBwdClaims.frame_ri',
    MemProjectionClaims.frame_p, MemProjectionClaims.frame_pi, MemProjectionClaims.frame_ri,
    MemWeightGradClaims.frame_p, MemWeightGradClaims.frame_pi, MemWeightGradClaims.frame_ri,
    MemInputGradClaims.frame_p, MemInputGradClaims.frame_pi, MemInputGradClaims.frame_ri,
    SguFwdClaims.frame_p, SguFwdClaims.frame_pi, SguFwdClaims.frame_pi', SguFwdClaims.frame_ri, SguFwdClaims.frame_ri',
    XattnFwdClaims.frame_p, XattnFwdClaims.frame_pi, XattnFwdClaims.frame_pi', XattnFwdClaims.frame_ri, XattnFwdClaims.frame_ri',
    NormRowsClaims.frame_p, NormRowsClaims.frame_pi, NormRowsClaims.frame_ri,
    NormCatClaims.frame_p, NormCatClaims.frame_pi, NormCatClaims.frame_ri,
    LossHeadClaims.frame_p, LossHeadClaims.frame_pi, LossHeadClaims.frame_pi', LossHeadClaims.frame_ri, LossHeadClaims.frame_ri',
    AdamUpClaims.frame_p, AdamUpClaims.frame_pi, AdamUpClaims.frame_ri,
    AdamDownClaims.frame_p, AdamDownClaims.frame_pi, AdamDownClaims.frame_ri,
    AdamMixClaims.frame_p, AdamMixClaims.frame_pi, AdamMixClaims.frame_ri,
    AdamSquareClaims.frame_p, AdamSquareClaims.frame_pi, AdamSquareClaims.frame_ri,
    AdamMemoryClaims.frame_p, AdamMemoryClaims.frame_pi, AdamMemoryClaims.frame_ri,
    AdamSmallClaims.frame_p, AdamSmallClaims.frame_pi, AdamSmallClaims.frame_ri,
    NormInputGradClaims.frame_p, NormInputGradClaims.frame_pi, NormInputGradClaims.frame_pi', NormInputGradClaims.frame_ri, NormInputGradClaims.frame_ri',
    MemNormBwdClaims.frame_p, MemNormBwdClaims.frame_pi, MemNormBwdClaims.frame_pi', MemNormBwdClaims.frame_ri, MemNormBwdClaims.frame_ri',
    MemNormClaims.frame_p, MemNormClaims.frame_pi, MemNormClaims.frame_ri,
    Frames.preserves1, SguBwdClaims.algebraic, trivial, XattnBwdClaims.algebraic, trivial,
    SwigluBwdClaims.algebraic,
    trivial, UpWeightGradClaims.algebraic,
    trivial, UpInputGradClaims.algebraic,
    trivial, DownWeightGradClaims.algebraic,
    trivial, UpProjectionClaims.algebraic,
    trivial, DownProjectionClaims.algebraic,
    trivial, UpWeightGradLowClaims.algebraic,
    trivial, UpWeightGradHighClaims.algebraic,
    trivial, MixProjectionClaims.algebraic,
    trivial, MixWeightGradClaims.algebraic,
    trivial, MixInputGradClaims.algebraic,
    trivial, SquareWeightGradClaims.algebraic,
    trivial, SquareInputGradClaims.algebraic,
    trivial, SquareProjectionClaims.algebraic,
    trivial, QueryProjectionClaims.algebraic,
    trivial, SquareInputGradRoundedClaims.algebraic,
    trivial, NormBwdClaims.algebraic,
    trivial, NormCatBwdClaims.algebraic,
    trivial, MemProjectionClaims.algebraic,
    trivial, MemWeightGradClaims.algebraic,
    trivial, MemInputGradClaims.algebraic,
    SguFwdClaims.preserves, SguFwdClaims.algebraic,
    trivial, XattnFwdClaims.algebraic,
    trivial, NormRowsClaims.algebraic,
    trivial, NormCatClaims.algebraic,
    trivial, LossHeadClaims.algebraic,
    trivial, AdamUpClaims.algebraic,
    trivial, AdamDownClaims.algebraic,
    trivial, AdamMixClaims.algebraic,
    trivial, AdamSquareClaims.algebraic,
    trivial, AdamMemoryClaims.algebraic,
    trivial, AdamSmallClaims.algebraic,
    trivial, NormInputGradClaims.algebraic,
    trivial, MemNormBwdClaims.algebraic,
    trivial, MemNormClaims.algebraic⟩

end Cert.Proof

end
